-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_InM (m : (ℓ : Loc Cert.InM.nD Cert.InM.τ Cert.InM.sig) → Buf (Elt Bits) ℓ) : Prop :=
  True

def Pre_InMIdeal (m : (ℓ : Loc Cert.InMIdeal.nD Cert.InMIdeal.τ Cert.InMIdeal.sig) → Buf (Elt Ideal) ℓ) : Prop :=
  True

def Pre_InMRefIdeal (m : (ℓ : Loc Cert.InMRefIdeal.nD Cert.InMRefIdeal.τ Cert.InMRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownN (m : (ℓ : Loc Cert.DownN.nD Cert.DownN.τ Cert.DownN.sig) → Buf (Elt Bits) ℓ) : Prop :=
  True

def Pre_DownNIdeal (m : (ℓ : Loc Cert.DownNIdeal.nD Cert.DownNIdeal.τ Cert.DownNIdeal.sig) → Buf (Elt Ideal) ℓ) : Prop :=
  True

def Pre_DownNRefIdeal (m : (ℓ : Loc Cert.DownNRefIdeal.nD Cert.DownNRefIdeal.τ Cert.DownNRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_FoxF (m : (ℓ : Loc Cert.FoxF.nD Cert.FoxF.τ Cert.FoxF.sig) → Buf (Elt Bits) ℓ) : Prop :=
  True

def Pre_FoxFIdeal (m : (ℓ : Loc Cert.FoxFIdeal.nD Cert.FoxFIdeal.τ Cert.FoxFIdeal.sig) → Buf (Elt Ideal) ℓ) : Prop :=
  True

def Pre_FoxFIdeal_finite_fwd [hPre_finite_fwd : Cert.Pre_finite_fwd.Facts] (m : (ℓ : Loc Cert.FoxFIdeal.nD Cert.FoxFIdeal.τ Cert.FoxFIdeal.sig) → Buf (Elt Ideal) ℓ) : Prop :=
  ∀ c : Dev Cert.FoxFIdeal.nD,
    (Cert.Pre_finite_fwd.fn (F := Ideal) (m ((c.tc : Thread Cert.FoxFIdeal.nD Cert.FoxFIdeal.τ).loc Cert.FoxFIdeal.main_arg0)) (m ((c.tc : Thread Cert.FoxFIdeal.nD Cert.FoxFIdeal.τ).loc Cert.FoxFIdeal.main_arg1)) (m ((c.tc : Thread Cert.FoxFIdeal.nD Cert.FoxFIdeal.τ).loc Cert.FoxFIdeal.main_arg2)) (m ((c.tc : Thread Cert.FoxFIdeal.nD Cert.FoxFIdeal.τ).loc Cert.FoxFIdeal.main_arg3))).1 = (fun _ => 1#1)
    ∧ (Cert.Pre_finite_fwd.fn (F := Ideal) (m ((c.tc : Thread Cert.FoxFIdeal.nD Cert.FoxFIdeal.τ).loc Cert.FoxFIdeal.main_arg0)) (m ((c.tc : Thread Cert.FoxFIdeal.nD Cert.FoxFIdeal.τ).loc Cert.FoxFIdeal.main_arg1)) (m ((c.tc : Thread Cert.FoxFIdeal.nD Cert.FoxFIdeal.τ).loc Cert.FoxFIdeal.main_arg2)) (m ((c.tc : Thread Cert.FoxFIdeal.nD Cert.FoxFIdeal.τ).loc Cert.FoxFIdeal.main_arg3))).2.1 = (fun _ => 1#1)
    ∧ (Cert.Pre_finite_fwd.fn (F := Ideal) (m ((c.tc : Thread Cert.FoxFIdeal.nD Cert.FoxFIdeal.τ).loc Cert.FoxFIdeal.main_arg0)) (m ((c.tc : Thread Cert.FoxFIdeal.nD Cert.FoxFIdeal.τ).loc Cert.FoxFIdeal.main_arg1)) (m ((c.tc : Thread Cert.FoxFIdeal.nD Cert.FoxFIdeal.τ).loc Cert.FoxFIdeal.main_arg2)) (m ((c.tc : Thread Cert.FoxFIdeal.nD Cert.FoxFIdeal.τ).loc Cert.FoxFIdeal.main_arg3))).2.2 = (fun _ => 1#1)

def Pre_FoxFRefIdeal (m : (ℓ : Loc Cert.FoxFRefIdeal.nD Cert.FoxFRefIdeal.τ Cert.FoxFRefIdeal.sig) → Buf (Elt Ideal) ℓ) : Prop :=
  True

def Pre_FoxFRefIdeal_finite_fwd [hPre_finite_fwd : Cert.Pre_finite_fwd.Facts] (m : (ℓ : Loc Cert.FoxFRefIdeal.nD Cert.FoxFRefIdeal.τ Cert.FoxFRefIdeal.sig) → Buf (Elt Ideal) ℓ) : Prop :=
  ∀ c : Dev Cert.FoxFRefIdeal.nD,
    (Cert.Pre_finite_fwd.fn (F := Ideal) (m ((c.tc : Thread Cert.FoxFRefIdeal.nD Cert.FoxFRefIdeal.τ).loc Cert.FoxFRefIdeal.main_arg0)) (m ((c.tc : Thread Cert.FoxFRefIdeal.nD Cert.FoxFRefIdeal.τ).loc Cert.FoxFRefIdeal.main_arg1)) (m ((c.tc : Thread Cert.FoxFRefIdeal.nD Cert.FoxFRefIdeal.τ).loc Cert.FoxFRefIdeal.main_arg2)) (m ((c.tc : Thread Cert.FoxFRefIdeal.nD Cert.FoxFRefIdeal.τ).loc Cert.FoxFRefIdeal.main_arg3))).1 = (fun _ => 1#1)
    ∧ (Cert.Pre_finite_fwd.fn (F := Ideal) (m ((c.tc : Thread Cert.FoxFRefIdeal.nD Cert.FoxFRefIdeal.τ).loc Cert.FoxFRefIdeal.main_arg0)) (m ((c.tc : Thread Cert.FoxFRefIdeal.nD Cert.FoxFRefIdeal.τ).loc Cert.FoxFRefIdeal.main_arg1)) (m ((c.tc : Thread Cert.FoxFRefIdeal.nD Cert.FoxFRefIdeal.τ).loc Cert.FoxFRefIdeal.main_arg2)) (m ((c.tc : Thread Cert.FoxFRefIdeal.nD Cert.FoxFRefIdeal.τ).loc Cert.FoxFRefIdeal.main_arg3))).2.1 = (fun _ => 1#1)
    ∧ (Cert.Pre_finite_fwd.fn (F := Ideal) (m ((c.tc : Thread Cert.FoxFRefIdeal.nD Cert.FoxFRefIdeal.τ).loc Cert.FoxFRefIdeal.main_arg0)) (m ((c.tc : Thread Cert.FoxFRefIdeal.nD Cert.FoxFRefIdeal.τ).loc Cert.FoxFRefIdeal.main_arg1)) (m ((c.tc : Thread Cert.FoxFRefIdeal.nD Cert.FoxFRefIdeal.τ).loc Cert.FoxFRefIdeal.main_arg2)) (m ((c.tc : Thread Cert.FoxFRefIdeal.nD Cert.FoxFRefIdeal.τ).loc Cert.FoxFRefIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2)
      ∧ r.2.mem ((c.tc : Thread Cert.UpX.nD Cert.UpX.τ).loc Cert.UpX.main_arg3) = m ((c.tc : Thread Cert.UpX.nD Cert.UpX.τ).loc Cert.UpX.main_arg3)
      ∧ r.2.mem ((c.tc : Thread Cert.UpX.nD Cert.UpX.τ).loc Cert.UpX.main_arg4) = m ((c.tc : Thread Cert.UpX.nD Cert.UpX.τ).loc Cert.UpX.main_arg4))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
      ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3)
      ∧ r.2.mem ((c.tc : Thread Cert.UpXIdeal.nD Cert.UpXIdeal.τ).loc Cert.UpXIdeal.main_arg4) = m ((c.tc : Thread Cert.UpXIdeal.nD Cert.UpXIdeal.τ).loc Cert.UpXIdeal.main_arg4))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3)
      ∧ r.2.mem ((c.tc : Thread Cert.UpXRefIdeal.nD Cert.UpXRefIdeal.τ).loc Cert.UpXRefIdeal.main_arg4) = m ((c.tc : Thread Cert.UpXRefIdeal.nD Cert.UpXRefIdeal.τ).loc Cert.UpXRefIdeal.main_arg4))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2)
      ∧ r.2.mem ((c.tc : Thread Cert.UpW.nD Cert.UpW.τ).loc Cert.UpW.main_arg3) = m ((c.tc : Thread Cert.UpW.nD Cert.UpW.τ).loc Cert.UpW.main_arg3))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2)
      ∧ r.2.mem ((c.tc : Thread Cert.UpWIdeal.nD Cert.UpWIdeal.τ).loc Cert.UpWIdeal.main_arg3) = m ((c.tc : Thread Cert.UpWIdeal.nD Cert.UpWIdeal.τ).loc Cert.UpWIdeal.main_arg3))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2)
      ∧ r.2.mem ((c.tc : Thread Cert.UpWRefIdeal.nD Cert.UpWRefIdeal.τ).loc Cert.UpWRefIdeal.main_arg3) = m ((c.tc : Thread Cert.UpWRefIdeal.nD Cert.UpWRefIdeal.τ).loc Cert.UpWRefIdeal.main_arg3))
      ∧ r.2.sem = fun _ => 0)

def quiescent_InM [hInM : Cert.InM.Facts] : Prop :=
  ∀ (m : (ℓ : Loc Cert.InM.nD Cert.InM.τ Cert.InM.sig) → Buf (Elt Bits) ℓ) (g : Dev Cert.InM.nD → PrngReg), Pre_InM m →
    θ_run (Cert.InM.defs (F := Bits)) (onTc (τ := Cert.InM.τ) (Cert.InM.main (F := Bits))) ⟨m, fun _ => 0, g⟩ (fun r => (∀ c : Dev Cert.InM.nD,
      r.2.mem ((c.tc : Thread Cert.InM.nD Cert.InM.τ).loc Cert.InM.main_arg0) = m ((c.tc : Thread Cert.InM.nD Cert.InM.τ).loc Cert.InM.main_arg0)
      ∧ r.2.mem ((c.tc : Thread Cert.InM.nD Cert.InM.τ).loc Cert.InM.main_arg1) = m ((c.tc : Thread Cert.InM.nD Cert.InM.τ).loc Cert.InM.main_arg1)
      ∧ r.2.mem ((c.tc : Thread Cert.InM.nD Cert.InM.τ).loc Cert.InM.main_arg2) = m ((c.tc : Thread Cert.InM.nD Cert.InM.τ).loc Cert.InM.main_arg2))
      ∧ r.2.sem = fun _ => 0)

def quiescent_InMIdeal [hInMIdeal : Cert.InMIdeal.Facts] : Prop :=
  ∀ (m : (ℓ : Loc Cert.InMIdeal.nD Cert.InMIdeal.τ Cert.InMIdeal.sig) → Buf (Elt Ideal) ℓ) (g : Dev Cert.InMIdeal.nD → PrngReg), Pre_InMIdeal m →
    θ_run (Cert.InMIdeal.defs (F := Ideal)) (onTc (τ := Cert.InMIdeal.τ) (Cert.InMIdeal.main (F := Ideal))) ⟨m, fun _ => 0, g⟩ (fun r => (∀ c : Dev Cert.InMIdeal.nD,
      r.2.mem ((c.tc : Thread Cert.InMIdeal.nD Cert.InMIdeal.τ).loc Cert.InMIdeal.main_arg0) = m ((c.tc : Thread Cert.InMIdeal.nD Cert.InMIdeal.τ).loc Cert.InMIdeal.main_arg0)
      ∧ r.2.mem ((c.tc : Thread Cert.InMIdeal.nD Cert.InMIdeal.τ).loc Cert.InMIdeal.main_arg1) = m ((c.tc : Thread Cert.InMIdeal.nD Cert.InMIdeal.τ).loc Cert.InMIdeal.main_arg1)
      ∧ r.2.mem ((c.tc : Thread Cert.InMIdeal.nD Cert.InMIdeal.τ).loc Cert.InMIdeal.main_arg2) = m ((c.tc : Thread Cert.InMIdeal.nD Cert.InMIdeal.τ).loc Cert.InMIdeal.main_arg2))
      ∧ r.2.sem = fun _ => 0)

def quiescent_InMRefIdeal [hInMRefIdeal : Cert.InMRefIdeal.Facts] : Prop :=
  ∀ (m : (ℓ : Loc Cert.InMRefIdeal.nD Cert.InMRefIdeal.τ Cert.InMRefIdeal.sig) → Buf (Elt Ideal) ℓ) (g : Dev Cert.InMRefIdeal.nD → PrngReg), Pre_InMRefIdeal m →
    θ_run (Cert.InMRefIdeal.defs (F := Ideal)) (onTc (τ := Cert.InMRefIdeal.τ) (Cert.InMRefIdeal.main (F := Ideal))) ⟨m, fun _ => 0, g⟩ (fun r => (∀ c : Dev Cert.InMRefIdeal.nD,
      r.2.mem ((c.tc : Thread Cert.InMRefIdeal.nD Cert.InMRefIdeal.τ).loc Cert.InMRefIdeal.main_arg0) = m ((c.tc : Thread Cert.InMRefIdeal.nD Cert.InMRefIdeal.τ).loc Cert.InMRefIdeal.main_arg0)
      ∧ r.2.mem ((c.tc : Thread Cert.InMRefIdeal.nD Cert.InMRefIdeal.τ).loc Cert.InMRefIdeal.main_arg1) = m ((c.tc : Thread Cert.InMRefIdeal.nD Cert.InMRefIdeal.τ).loc Cert.InMRefIdeal.main_arg1)
      ∧ r.2.mem ((c.tc : Thread Cert.InMRefIdeal.nD Cert.InMRefIdeal.τ).loc Cert.InMRefIdeal.main_arg2) = m ((c.tc : Thread Cert.InMRefIdeal.nD Cert.InMRefIdeal.τ).loc Cert.InMRefIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1)
      ∧ r.2.mem ((c.tc : Thread Cert.UpF.nD Cert.UpF.τ).loc Cert.UpF.main_arg2) = m ((c.tc : Thread Cert.UpF.nD Cert.UpF.τ).loc Cert.UpF.main_arg2))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1)
      ∧ r.2.mem ((c.tc : Thread Cert.UpFIdeal.nD Cert.UpFIdeal.τ).loc Cert.UpFIdeal.main_arg2) = m ((c.tc : Thread Cert.UpFIdeal.nD Cert.UpFIdeal.τ).loc Cert.UpFIdeal.main_arg2))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1)
      ∧ r.2.mem ((c.tc : Thread Cert.UpFRefIdeal.nD Cert.UpFRefIdeal.τ).loc Cert.UpFRefIdeal.main_arg2) = m ((c.tc : Thread Cert.UpFRefIdeal.nD Cert.UpFRefIdeal.τ).loc Cert.UpFRefIdeal.main_arg2))
      ∧ r.2.sem = fun _ => 0)

def quiescent_DownN [hDownN : Cert.DownN.Facts] : Prop :=
  ∀ (m : (ℓ : Loc Cert.DownN.nD Cert.DownN.τ Cert.DownN.sig) → Buf (Elt Bits) ℓ) (g : Dev Cert.DownN.nD → PrngReg), Pre_DownN m →
    θ_run (Cert.DownN.defs (F := Bits)) (onTc (τ := Cert.DownN.τ) (Cert.DownN.main (F := Bits))) ⟨m, fun _ => 0, g⟩ (fun r => (∀ c : Dev Cert.DownN.nD,
      r.2.mem ((c.tc : Thread Cert.DownN.nD Cert.DownN.τ).loc Cert.DownN.main_arg0) = m ((c.tc : Thread Cert.DownN.nD Cert.DownN.τ).loc Cert.DownN.main_arg0)
      ∧ r.2.mem ((c.tc : Thread Cert.DownN.nD Cert.DownN.τ).loc Cert.DownN.main_arg1) = m ((c.tc : Thread Cert.DownN.nD Cert.DownN.τ).loc Cert.DownN.main_arg1)
      ∧ r.2.mem ((c.tc : Thread Cert.DownN.nD Cert.DownN.τ).loc Cert.DownN.main_arg2) = m ((c.tc : Thread Cert.DownN.nD Cert.DownN.τ).loc Cert.DownN.main_arg2)
      ∧ r.2.mem ((c.tc : Thread Cert.DownN.nD Cert.DownN.τ).loc Cert.DownN.main_arg3) = m ((c.tc : Thread Cert.DownN.nD Cert.DownN.τ).loc Cert.DownN.main_arg3))
      ∧ r.2.sem = fun _ => 0)

def quiescent_DownNIdeal [hDownNIdeal : Cert.DownNIdeal.Facts] : Prop :=
  ∀ (m : (ℓ : Loc Cert.DownNIdeal.nD Cert.DownNIdeal.τ Cert.DownNIdeal.sig) → Buf (Elt Ideal) ℓ) (g : Dev Cert.DownNIdeal.nD → PrngReg), Pre_DownNIdeal m →
    θ_run (Cert.DownNIdeal.defs (F := Ideal)) (onTc (τ := Cert.DownNIdeal.τ) (Cert.DownNIdeal.main (F := Ideal))) ⟨m, fun _ => 0, g⟩ (fun r => (∀ c : Dev Cert.DownNIdeal.nD,
      r.2.mem ((c.tc : Thread Cert.DownNIdeal.nD Cert.DownNIdeal.τ).loc Cert.DownNIdeal.main_arg0) = m ((c.tc : Thread Cert.DownNIdeal.nD Cert.DownNIdeal.τ).loc Cert.DownNIdeal.main_arg0)
      ∧ r.2.mem ((c.tc : Thread Cert.DownNIdeal.nD Cert.DownNIdeal.τ).loc Cert.DownNIdeal.main_arg1) = m ((c.tc : Thread Cert.DownNIdeal.nD Cert.DownNIdeal.τ).loc Cert.DownNIdeal.main_arg1)
      ∧ r.2.mem ((c.tc : Thread Cert.DownNIdeal.nD Cert.DownNIdeal.τ).loc Cert.DownNIdeal.main_arg2) = m ((c.tc : Thread Cert.DownNIdeal.nD Cert.DownNIdeal.τ).loc Cert.DownNIdeal.main_arg2)
      ∧ r.2.mem ((c.tc : Thread Cert.DownNIdeal.nD Cert.DownNIdeal.τ).loc Cert.DownNIdeal.main_arg3) = m ((c.tc : Thread Cert.DownNIdeal.nD Cert.DownNIdeal.τ).loc Cert.DownNIdeal.main_arg3))
      ∧ r.2.sem = fun _ => 0)

def quiescent_DownNRefIdeal [hDownNRefIdeal : Cert.DownNRefIdeal.Facts] : Prop :=
  ∀ (m : (ℓ : Loc Cert.DownNRefIdeal.nD Cert.DownNRefIdeal.τ Cert.DownNRefIdeal.sig) → Buf (Elt Ideal) ℓ) (g : Dev Cert.DownNRefIdeal.nD → PrngReg), Pre_DownNRefIdeal m →
    θ_run (Cert.DownNRefIdeal.defs (F := Ideal)) (onTc (τ := Cert.DownNRefIdeal.τ) (Cert.DownNRefIdeal.main (F := Ideal))) ⟨m, fun _ => 0, g⟩ (fun r => (∀ c : Dev Cert.DownNRefIdeal.nD,
      r.2.mem ((c.tc : Thread Cert.DownNRefIdeal.nD Cert.DownNRefIdeal.τ).loc Cert.DownNRefIdeal.main_arg0) = m ((c.tc : Thread Cert.DownNRefIdeal.nD Cert.DownNRefIdeal.τ).loc Cert.DownNRefIdeal.main_arg0)
      ∧ r.2.mem ((c.tc : Thread Cert.DownNRefIdeal.nD Cert.DownNRefIdeal.τ).loc Cert.DownNRefIdeal.main_arg1) = m ((c.tc : Thread Cert.DownNRefIdeal.nD Cert.DownNRefIdeal.τ).loc Cert.DownNRefIdeal.main_arg1)
      ∧ r.2.mem ((c.tc : Thread Cert.DownNRefIdeal.nD Cert.DownNRefIdeal.τ).loc Cert.DownNRefIdeal.main_arg2) = m ((c.tc : Thread Cert.DownNRefIdeal.nD Cert.DownNRefIdeal.τ).loc Cert.DownNRefIdeal.main_arg2)
      ∧ r.2.mem ((c.tc : Thread Cert.DownNRefIdeal.nD Cert.DownNRefIdeal.τ).loc Cert.DownNRefIdeal.main_arg3) = m ((c.tc : Thread Cert.DownNRefIdeal.nD Cert.DownNRefIdeal.τ).loc Cert.DownNRefIdeal.main_arg3))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2)
      ∧ r.2.mem ((c.tc : Thread Cert.DownF.nD Cert.DownF.τ).loc Cert.DownF.main_arg3) = m ((c.tc : Thread Cert.DownF.nD Cert.DownF.τ).loc Cert.DownF.main_arg3))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
      ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2)
      ∧ r.2.mem ((c.tc : Thread Cert.DownFRefIdeal.nD Cert.DownFRefIdeal.τ).loc Cert.DownFRefIdeal.main_arg3) = m ((c.tc : Thread Cert.DownFRefIdeal.nD Cert.DownFRefIdeal.τ).loc Cert.DownFRefIdeal.main_arg3))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1)
      ∧ r.2.mem ((c.tc : Thread Cert.InG.nD Cert.InG.τ).loc Cert.InG.main_arg2) = m ((c.tc : Thread Cert.InG.nD Cert.InG.τ).loc Cert.InG.main_arg2))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1)
      ∧ r.2.mem ((c.tc : Thread Cert.InGIdeal.nD Cert.InGIdeal.τ).loc Cert.InGIdeal.main_arg2) = m ((c.tc : Thread Cert.InGIdeal.nD Cert.InGIdeal.τ).loc Cert.InGIdeal.main_arg2))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1)
      ∧ r.2.mem ((c.tc : Thread Cert.InGRefIdeal.nD Cert.InGRefIdeal.τ).loc Cert.InGRefIdeal.main_arg2) = m ((c.tc : Thread Cert.InGRefIdeal.nD Cert.InGRefIdeal.τ).loc Cert.InGRefIdeal.main_arg2))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3))
      ∧ r.2.sem = fun _ => 0)

def quiescent_FoxF [hFoxF : Cert.FoxF.Facts] : Prop :=
  ∀ (m : (ℓ : Loc Cert.FoxF.nD Cert.FoxF.τ Cert.FoxF.sig) → Buf (Elt Bits) ℓ) (g : Dev Cert.FoxF.nD → PrngReg), Pre_FoxF m →
    θ_run (Cert.FoxF.defs (F := Bits)) (onTc (τ := Cert.FoxF.τ) (Cert.FoxF.main (F := Bits))) ⟨m, fun _ => 0, g⟩ (fun r => (∀ c : Dev Cert.FoxF.nD,
      r.2.mem ((c.tc : Thread Cert.FoxF.nD Cert.FoxF.τ).loc Cert.FoxF.main_arg0) = m ((c.tc : Thread Cert.FoxF.nD Cert.FoxF.τ).loc Cert.FoxF.main_arg0)
      ∧ r.2.mem ((c.tc : Thread Cert.FoxF.nD Cert.FoxF.τ).loc Cert.FoxF.main_arg1) = m ((c.tc : Thread Cert.FoxF.nD Cert.FoxF.τ).loc Cert.FoxF.main_arg1)
      ∧ r.2.mem ((c.tc : Thread Cert.FoxF.nD Cert.FoxF.τ).loc Cert.FoxF.main_arg2) = m ((c.tc : Thread Cert.FoxF.nD Cert.FoxF.τ).loc Cert.FoxF.main_arg2)
      ∧ r.2.mem ((c.tc : Thread Cert.FoxF.nD Cert.FoxF.τ).loc Cert.FoxF.main_arg3) = m ((c.tc : Thread Cert.FoxF.nD Cert.FoxF.τ).loc Cert.FoxF.main_arg3))
      ∧ r.2.sem = fun _ => 0)

def quiescent_FoxFIdeal [hFoxFIdeal : Cert.FoxFIdeal.Facts] : Prop :=
  ∀ (m : (ℓ : Loc Cert.FoxFIdeal.nD Cert.FoxFIdeal.τ Cert.FoxFIdeal.sig) → Buf (Elt Ideal) ℓ) (g : Dev Cert.FoxFIdeal.nD → PrngReg), Pre_FoxFIdeal m →
    θ_run (Cert.FoxFIdeal.defs (F := Ideal)) (onTc (τ := Cert.FoxFIdeal.τ) (Cert.FoxFIdeal.main (F := Ideal))) ⟨m, fun _ => 0, g⟩ (fun r => (∀ c : Dev Cert.FoxFIdeal.nD,
      r.2.mem ((c.tc : Thread Cert.FoxFIdeal.nD Cert.FoxFIdeal.τ).loc Cert.FoxFIdeal.main_arg0) = m ((c.tc : Thread Cert.FoxFIdeal.nD Cert.FoxFIdeal.τ).loc Cert.FoxFIdeal.main_arg0)
      ∧ r.2.mem ((c.tc : Thread Cert.FoxFIdeal.nD Cert.FoxFIdeal.τ).loc Cert.FoxFIdeal.main_arg1) = m ((c.tc : Thread Cert.FoxFIdeal.nD Cert.FoxFIdeal.τ).loc Cert.FoxFIdeal.main_arg1)
      ∧ r.2.mem ((c.tc : Thread Cert.FoxFIdeal.nD Cert.FoxFIdeal.τ).loc Cert.FoxFIdeal.main_arg2) = m ((c.tc : Thread Cert.FoxFIdeal.nD Cert.FoxFIdeal.τ).loc Cert.FoxFIdeal.main_arg2)
      ∧ r.2.mem ((c.tc : Thread Cert.FoxFIdeal.nD Cert.FoxFIdeal.τ).loc Cert.FoxFIdeal.main_arg3) = m ((c.tc : Thread Cert.FoxFIdeal.nD Cert.FoxFIdeal.τ).loc Cert.FoxFIdeal.main_arg3))
      ∧ r.2.sem = fun _ => 0)

def quiescent_FoxFIdeal_pre_finite_fwd [hFoxFIdeal : Cert.FoxFIdeal.Facts] [hPre_finite_fwd : Cert.Pre_finite_fwd.Facts] : Prop :=
  ∀ (m : (ℓ : Loc Cert.FoxFIdeal.nD Cert.FoxFIdeal.τ Cert.FoxFIdeal.sig) → Buf (Elt Ideal) ℓ) (g : Dev Cert.FoxFIdeal.nD → PrngReg), Pre_FoxFIdeal_finite_fwd m →
    θ_run (Cert.FoxFIdeal.defs (F := Ideal)) (onTc (τ := Cert.FoxFIdeal.τ) (Cert.FoxFIdeal.main (F := Ideal))) ⟨m, fun _ => 0, g⟩ (fun r => (∀ c : Dev Cert.FoxFIdeal.nD,
      r.2.mem ((c.tc : Thread Cert.FoxFIdeal.nD Cert.FoxFIdeal.τ).loc Cert.FoxFIdeal.main_arg0) = m ((c.tc : Thread Cert.FoxFIdeal.nD Cert.FoxFIdeal.τ).loc Cert.FoxFIdeal.main_arg0)
      ∧ r.2.mem ((c.tc : Thread Cert.FoxFIdeal.nD Cert.FoxFIdeal.τ).loc Cert.FoxFIdeal.main_arg1) = m ((c.tc : Thread Cert.FoxFIdeal.nD Cert.FoxFIdeal.τ).loc Cert.FoxFIdeal.main_arg1)
      ∧ r.2.mem ((c.tc : Thread Cert.FoxFIdeal.nD Cert.FoxFIdeal.τ).loc Cert.FoxFIdeal.main_arg2) = m ((c.tc : Thread Cert.FoxFIdeal.nD Cert.FoxFIdeal.τ).loc Cert.FoxFIdeal.main_arg2)
      ∧ r.2.mem ((c.tc : Thread Cert.FoxFIdeal.nD Cert.FoxFIdeal.τ).loc Cert.FoxFIdeal.main_arg3) = m ((c.tc : Thread Cert.FoxFIdeal.nD Cert.FoxFIdeal.τ).loc Cert.FoxFIdeal.main_arg3))
      ∧ r.2.sem = fun _ => 0)

def quiescent_FoxFRefIdeal [hFoxFRefIdeal : Cert.FoxFRefIdeal.Facts] : Prop :=
  ∀ (m : (ℓ : Loc Cert.FoxFRefIdeal.nD Cert.FoxFRefIdeal.τ Cert.FoxFRefIdeal.sig) → Buf (Elt Ideal) ℓ) (g : Dev Cert.FoxFRefIdeal.nD → PrngReg), Pre_FoxFRefIdeal m →
    θ_run (Cert.FoxFRefIdeal.defs (F := Ideal)) (onTc (τ := Cert.FoxFRefIdeal.τ) (Cert.FoxFRefIdeal.main (F := Ideal))) ⟨m, fun _ => 0, g⟩ (fun r => (∀ c : Dev Cert.FoxFRefIdeal.nD,
      r.2.mem ((c.tc : Thread Cert.FoxFRefIdeal.nD Cert.FoxFRefIdeal.τ).loc Cert.FoxFRefIdeal.main_arg0) = m ((c.tc : Thread Cert.FoxFRefIdeal.nD Cert.FoxFRefIdeal.τ).loc Cert.FoxFRefIdeal.main_arg0)
      ∧ r.2.mem ((c.tc : Thread Cert.FoxFRefIdeal.nD Cert.FoxFRefIdeal.τ).loc Cert.FoxFRefIdeal.main_arg1) = m ((c.tc : Thread Cert.FoxFRefIdeal.nD Cert.FoxFRefIdeal.τ).loc Cert.FoxFRefIdeal.main_arg1)
      ∧ r.2.mem ((c.tc : Thread Cert.FoxFRefIdeal.nD Cert.FoxFRefIdeal.τ).loc Cert.FoxFRefIdeal.main_arg2) = m ((c.tc : Thread Cert.FoxFRefIdeal.nD Cert.FoxFRefIdeal.τ).loc Cert.FoxFRefIdeal.main_arg2)
      ∧ r.2.mem ((c.tc : Thread Cert.FoxFRefIdeal.nD Cert.FoxFRefIdeal.τ).loc Cert.FoxFRefIdeal.main_arg3) = m ((c.tc : Thread Cert.FoxFRefIdeal.nD Cert.FoxFRefIdeal.τ).loc Cert.FoxFRefIdeal.main_arg3))
      ∧ r.2.sem = fun _ => 0)

def quiescent_FoxFRefIdeal_pre_finite_fwd [hFoxFRefIdeal : Cert.FoxFRefIdeal.Facts] [hPre_finite_fwd : Cert.Pre_finite_fwd.Facts] : Prop :=
  ∀ (m : (ℓ : Loc Cert.FoxFRefIdeal.nD Cert.FoxFRefIdeal.τ Cert.FoxFRefIdeal.sig) → Buf (Elt Ideal) ℓ) (g : Dev Cert.FoxFRefIdeal.nD → PrngReg), Pre_FoxFRefIdeal_finite_fwd m →
    θ_run (Cert.FoxFRefIdeal.defs (F := Ideal)) (onTc (τ := Cert.FoxFRefIdeal.τ) (Cert.FoxFRefIdeal.main (F := Ideal))) ⟨m, fun _ => 0, g⟩ (fun r => (∀ c : Dev Cert.FoxFRefIdeal.nD,
      r.2.mem ((c.tc : Thread Cert.FoxFRefIdeal.nD Cert.FoxFRefIdeal.τ).loc Cert.FoxFRefIdeal.main_arg0) = m ((c.tc : Thread Cert.FoxFRefIdeal.nD Cert.FoxFRefIdeal.τ).loc Cert.FoxFRefIdeal.main_arg0)
      ∧ r.2.mem ((c.tc : Thread Cert.FoxFRefIdeal.nD Cert.FoxFRefIdeal.τ).loc Cert.FoxFRefIdeal.main_arg1) = m ((c.tc : Thread Cert.FoxFRefIdeal.nD Cert.FoxFRefIdeal.τ).loc Cert.FoxFRefIdeal.main_arg1)
      ∧ r.2.mem ((c.tc : Thread Cert.FoxFRefIdeal.nD Cert.FoxFRefIdeal.τ).loc Cert.FoxFRefIdeal.main_arg2) = m ((c.tc : Thread Cert.FoxFRefIdeal.nD Cert.FoxFRefIdeal.τ).loc Cert.FoxFRefIdeal.main_arg2)
      ∧ r.2.mem ((c.tc : Thread Cert.FoxFRefIdeal.nD Cert.FoxFRefIdeal.τ).loc Cert.FoxFRefIdeal.main_arg3) = m ((c.tc : Thread Cert.FoxFRefIdeal.nD Cert.FoxFRefIdeal.τ).loc Cert.FoxFRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)
      ∧ m' ((c.tc : Thread Cert.DownXRefIdeal.nD Cert.DownXRefIdeal.τ).loc Cert.DownXRefIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v2)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v2) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v12) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1)
          ∧ r.2.mem ((c.tc : Thread Cert.DownXRefIdeal.nD Cert.DownXRefIdeal.τ).loc Cert.DownXRefIdeal.main_arg2) = m' ((c.tc : Thread Cert.DownXRefIdeal.nD Cert.DownXRefIdeal.τ).loc Cert.DownXRefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v5)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v5) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)
      ∧ m' ((c.tc : Thread Cert.UpXRefIdeal.nD Cert.UpXRefIdeal.τ).loc Cert.UpXRefIdeal.main_arg3) = m ((c.tc : Thread Cert.UpXIdeal.nD Cert.UpXIdeal.τ).loc Cert.UpXIdeal.main_arg3)
      ∧ m' ((c.tc : Thread Cert.UpXRefIdeal.nD Cert.UpXRefIdeal.τ).loc Cert.UpXRefIdeal.main_arg4) = m ((c.tc : Thread Cert.UpXIdeal.nD Cert.UpXIdeal.τ).loc Cert.UpXIdeal.main_arg4)) →
    ∃ (v0 : (c : Dev Cert.UpXIdeal.nD) → Buf (Elt Ideal) ((c.tc : Thread Cert.UpXIdeal.nD Cert.UpXIdeal.τ).loc Cert.UpXIdeal.main_v5_0)) (v1 : (c : Dev Cert.UpXIdeal.nD) → Buf (Elt Ideal) ((c.tc : Thread Cert.UpXIdeal.nD Cert.UpXIdeal.τ).loc Cert.UpXIdeal.main_v5_1)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v5_0) = v0 c
          ∧ r.2.mem ((c.tc : Thread Cert.UpXIdeal.nD Cert.UpXIdeal.τ).loc Cert.UpXIdeal.main_v5_1) = v1 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
          ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3)
          ∧ r.2.mem ((c.tc : Thread Cert.UpXIdeal.nD Cert.UpXIdeal.τ).loc Cert.UpXIdeal.main_arg4) = m ((c.tc : Thread Cert.UpXIdeal.nD Cert.UpXIdeal.τ).loc Cert.UpXIdeal.main_arg4))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v38) = v0 c
          ∧ r.2.mem ((c.tc : Thread Cert.UpXRefIdeal.nD Cert.UpXRefIdeal.τ).loc Cert.UpXRefIdeal.main_v39) = v1 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2)
          ∧ r.2.mem ((c.tc : Thread Cert.UpXRefIdeal.nD Cert.UpXRefIdeal.τ).loc Cert.UpXRefIdeal.main_arg3) = m' ((c.tc : Thread Cert.UpXRefIdeal.nD Cert.UpXRefIdeal.τ).loc Cert.UpXRefIdeal.main_arg3)
          ∧ r.2.mem ((c.tc : Thread Cert.UpXRefIdeal.nD Cert.UpXRefIdeal.τ).loc Cert.UpXRefIdeal.main_arg4) = m' ((c.tc : Thread Cert.UpXRefIdeal.nD Cert.UpXRefIdeal.τ).loc Cert.UpXRefIdeal.main_arg4))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)
      ∧ m' ((c.tc : Thread Cert.UpWRefIdeal.nD Cert.UpWRefIdeal.τ).loc Cert.UpWRefIdeal.main_arg3) = m ((c.tc : Thread Cert.UpWIdeal.nD Cert.UpWIdeal.τ).loc Cert.UpWIdeal.main_arg3)) →
    ∃ (v0 : (c : Dev Cert.UpWIdeal.nD) → Buf (Elt Ideal) ((c.tc : Thread Cert.UpWIdeal.nD Cert.UpWIdeal.τ).loc Cert.UpWIdeal.main_v18)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v18) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2)
          ∧ r.2.mem ((c.tc : Thread Cert.UpWIdeal.nD Cert.UpWIdeal.τ).loc Cert.UpWIdeal.main_arg3) = m ((c.tc : Thread Cert.UpWIdeal.nD Cert.UpWIdeal.τ).loc Cert.UpWIdeal.main_arg3))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v18) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2)
          ∧ r.2.mem ((c.tc : Thread Cert.UpWRefIdeal.nD Cert.UpWRefIdeal.τ).loc Cert.UpWRefIdeal.main_arg3) = m' ((c.tc : Thread Cert.UpWRefIdeal.nD Cert.UpWRefIdeal.τ).loc Cert.UpWRefIdeal.main_arg3))

def preserves_InM_InMIdeal : Prop :=
  True

def algebraic_InMIdeal_InMRefIdeal [hInMIdeal : Cert.InMIdeal.Facts] [hInMRefIdeal : Cert.InMRefIdeal.Facts] : Prop :=
  ∀ (m : (ℓ : Loc Cert.InMIdeal.nD Cert.InMIdeal.τ Cert.InMIdeal.sig) → Buf (Elt Ideal) ℓ) (g : Dev Cert.InMIdeal.nD → PrngReg)
    (m' : (ℓ : Loc Cert.InMRefIdeal.nD Cert.InMRefIdeal.τ Cert.InMRefIdeal.sig) → Buf (Elt Ideal) ℓ) (g' : Dev Cert.InMRefIdeal.nD → PrngReg), Pre_InMIdeal m →
    (∀ c : Dev Cert.InMIdeal.nD,
      m' ((c.tc : Thread Cert.InMRefIdeal.nD Cert.InMRefIdeal.τ).loc Cert.InMRefIdeal.main_arg0) = m ((c.tc : Thread Cert.InMIdeal.nD Cert.InMIdeal.τ).loc Cert.InMIdeal.main_arg0)
      ∧ m' ((c.tc : Thread Cert.InMRefIdeal.nD Cert.InMRefIdeal.τ).loc Cert.InMRefIdeal.main_arg1) = m ((c.tc : Thread Cert.InMIdeal.nD Cert.InMIdeal.τ).loc Cert.InMIdeal.main_arg1)
      ∧ m' ((c.tc : Thread Cert.InMRefIdeal.nD Cert.InMRefIdeal.τ).loc Cert.InMRefIdeal.main_arg2) = m ((c.tc : Thread Cert.InMIdeal.nD Cert.InMIdeal.τ).loc Cert.InMIdeal.main_arg2)) →
    ∃ (v0 : (c : Dev Cert.InMIdeal.nD) → Buf (Elt Ideal) ((c.tc : Thread Cert.InMIdeal.nD Cert.InMIdeal.τ).loc Cert.InMIdeal.main_v2)),
      θ_run (Cert.InMIdeal.defs (F := Ideal)) (onTc (τ := Cert.InMIdeal.τ) (Cert.InMIdeal.main (F := Ideal))) ⟨m, fun _ => 0, g⟩ (fun r => ∀ c : Dev Cert.InMIdeal.nD,
          r.2.mem ((c.tc : Thread Cert.InMIdeal.nD Cert.InMIdeal.τ).loc Cert.InMIdeal.main_v2) = v0 c
          ∧ r.2.mem ((c.tc : Thread Cert.InMIdeal.nD Cert.InMIdeal.τ).loc Cert.InMIdeal.main_arg0) = m ((c.tc : Thread Cert.InMIdeal.nD Cert.InMIdeal.τ).loc Cert.InMIdeal.main_arg0)
          ∧ r.2.mem ((c.tc : Thread Cert.InMIdeal.nD Cert.InMIdeal.τ).loc Cert.InMIdeal.main_arg1) = m ((c.tc : Thread Cert.InMIdeal.nD Cert.InMIdeal.τ).loc Cert.InMIdeal.main_arg1)
          ∧ r.2.mem ((c.tc : Thread Cert.InMIdeal.nD Cert.InMIdeal.τ).loc Cert.InMIdeal.main_arg2) = m ((c.tc : Thread Cert.InMIdeal.nD Cert.InMIdeal.τ).loc Cert.InMIdeal.main_arg2))
      ∧ θ_run (Cert.InMRefIdeal.defs (F := Ideal)) (onTc (τ := Cert.InMRefIdeal.τ) (Cert.InMRefIdeal.main (F := Ideal))) ⟨m', fun _ => 0, g'⟩ (fun r => ∀ c : Dev Cert.InMRefIdeal.nD,
          r.2.mem ((c.tc : Thread Cert.InMRefIdeal.nD Cert.InMRefIdeal.τ).loc Cert.InMRefIdeal.main_v1) = v0 c
          ∧ r.2.mem ((c.tc : Thread Cert.InMRefIdeal.nD Cert.InMRefIdeal.τ).loc Cert.InMRefIdeal.main_arg0) = m' ((c.tc : Thread Cert.InMRefIdeal.nD Cert.InMRefIdeal.τ).loc Cert.InMRefIdeal.main_arg0)
          ∧ r.2.mem ((c.tc : Thread Cert.InMRefIdeal.nD Cert.InMRefIdeal.τ).loc Cert.InMRefIdeal.main_arg1) = m' ((c.tc : Thread Cert.InMRefIdeal.nD Cert.InMRefIdeal.τ).loc Cert.InMRefIdeal.main_arg1)
          ∧ r.2.mem ((c.tc : Thread Cert.InMRefIdeal.nD Cert.InMRefIdeal.τ).loc Cert.InMRefIdeal.main_arg2) = m' ((c.tc : Thread Cert.InMRefIdeal.nD Cert.InMRefIdeal.τ).loc Cert.InMRefIdeal.main_arg2))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)) →
    ∃ (v0 : (c : Dev Cert.InXIdeal.nD) → Buf (Elt Ideal) ((c.tc : Thread Cert.InXIdeal.nD Cert.InXIdeal.τ).loc Cert.InXIdeal.main_v2_0)) (v1 : (c : Dev Cert.InXIdeal.nD) → Buf (Elt Ideal) ((c.tc : Thread Cert.InXIdeal.nD Cert.InXIdeal.τ).loc Cert.InXIdeal.main_v2_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v2_0) = v0 c
          ∧ r.2.mem ((c.tc : Thread Cert.InXIdeal.nD Cert.InXIdeal.τ).loc Cert.InXIdeal.main_v2_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v39) = v0 c
          ∧ r.2.mem ((c.tc : Thread Cert.InXRefIdeal.nD Cert.InXRefIdeal.τ).loc Cert.InXRefIdeal.main_v40) = v1 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)) →
    ∃ (v0 : (c : Dev Cert.InWIdeal.nD) → Buf (Elt Ideal) ((c.tc : Thread Cert.InWIdeal.nD Cert.InWIdeal.τ).loc Cert.InWIdeal.main_v15)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v15) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v16) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)) →
    ∃ (v0 : (c : Dev Cert.InSIdeal.nD) → Buf (Elt Ideal) ((c.tc : Thread Cert.InSIdeal.nD Cert.InSIdeal.τ).loc Cert.InSIdeal.main_v14)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v14) = v0 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v16) = v0 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v1)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v1) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v1) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v1)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v1) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v3) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)
      ∧ m' ((c.tc : Thread Cert.UpFRefIdeal.nD Cert.UpFRefIdeal.τ).loc Cert.UpFRefIdeal.main_arg2) = m ((c.tc : Thread Cert.UpFIdeal.nD Cert.UpFIdeal.τ).loc Cert.UpFIdeal.main_arg2)) →
    ∃ (v0 : (c : Dev Cert.UpFIdeal.nD) → Buf (Elt Ideal) ((c.tc : Thread Cert.UpFIdeal.nD Cert.UpFIdeal.τ).loc Cert.UpFIdeal.main_v17_0)) (v1 : (c : Dev Cert.UpFIdeal.nD) → Buf (Elt Ideal) ((c.tc : Thread Cert.UpFIdeal.nD Cert.UpFIdeal.τ).loc Cert.UpFIdeal.main_v17_1)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v17_0) = v0 c
          ∧ r.2.mem ((c.tc : Thread Cert.UpFIdeal.nD Cert.UpFIdeal.τ).loc Cert.UpFIdeal.main_v17_1) = v1 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1)
          ∧ r.2.mem ((c.tc : Thread Cert.UpFIdeal.nD Cert.UpFIdeal.τ).loc Cert.UpFIdeal.main_arg2) = m ((c.tc : Thread Cert.UpFIdeal.nD Cert.UpFIdeal.τ).loc Cert.UpFIdeal.main_arg2))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v13) = v0 c
          ∧ r.2.mem ((c.tc : Thread Cert.UpFRefIdeal.nD Cert.UpFRefIdeal.τ).loc Cert.UpFRefIdeal.main_v16) = v1 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1)
          ∧ r.2.mem ((c.tc : Thread Cert.UpFRefIdeal.nD Cert.UpFRefIdeal.τ).loc Cert.UpFRefIdeal.main_arg2) = m' ((c.tc : Thread Cert.UpFRefIdeal.nD Cert.UpFRefIdeal.τ).loc Cert.UpFRefIdeal.main_arg2))

def preserves_DownN_DownNIdeal : Prop :=
  True

def algebraic_DownNIdeal_DownNRefIdeal [hDownNIdeal : Cert.DownNIdeal.Facts] [hDownNRefIdeal : Cert.DownNRefIdeal.Facts] : Prop :=
  ∀ (m : (ℓ : Loc Cert.DownNIdeal.nD Cert.DownNIdeal.τ Cert.DownNIdeal.sig) → Buf (Elt Ideal) ℓ) (g : Dev Cert.DownNIdeal.nD → PrngReg)
    (m' : (ℓ : Loc Cert.DownNRefIdeal.nD Cert.DownNRefIdeal.τ Cert.DownNRefIdeal.sig) → Buf (Elt Ideal) ℓ) (g' : Dev Cert.DownNRefIdeal.nD → PrngReg), Pre_DownNIdeal m →
    (∀ c : Dev Cert.DownNIdeal.nD,
      m' ((c.tc : Thread Cert.DownNRefIdeal.nD Cert.DownNRefIdeal.τ).loc Cert.DownNRefIdeal.main_arg0) = m ((c.tc : Thread Cert.DownNIdeal.nD Cert.DownNIdeal.τ).loc Cert.DownNIdeal.main_arg0)
      ∧ m' ((c.tc : Thread Cert.DownNRefIdeal.nD Cert.DownNRefIdeal.τ).loc Cert.DownNRefIdeal.main_arg1) = m ((c.tc : Thread Cert.DownNIdeal.nD Cert.DownNIdeal.τ).loc Cert.DownNIdeal.main_arg1)
      ∧ m' ((c.tc : Thread Cert.DownNRefIdeal.nD Cert.DownNRefIdeal.τ).loc Cert.DownNRefIdeal.main_arg2) = m ((c.tc : Thread Cert.DownNIdeal.nD Cert.DownNIdeal.τ).loc Cert.DownNIdeal.main_arg2)
      ∧ m' ((c.tc : Thread Cert.DownNRefIdeal.nD Cert.DownNRefIdeal.τ).loc Cert.DownNRefIdeal.main_arg3) = m ((c.tc : Thread Cert.DownNIdeal.nD Cert.DownNIdeal.τ).loc Cert.DownNIdeal.main_arg3)) →
    ∃ (v0 : (c : Dev Cert.DownNIdeal.nD) → Buf (Elt Ideal) ((c.tc : Thread Cert.DownNIdeal.nD Cert.DownNIdeal.τ).loc Cert.DownNIdeal.main_v6_0)) (v1 : (c : Dev Cert.DownNIdeal.nD) → Buf (Elt Ideal) ((c.tc : Thread Cert.DownNIdeal.nD Cert.DownNIdeal.τ).loc Cert.DownNIdeal.main_v6_1)),
      θ_run (Cert.DownNIdeal.defs (F := Ideal)) (onTc (τ := Cert.DownNIdeal.τ) (Cert.DownNIdeal.main (F := Ideal))) ⟨m, fun _ => 0, g⟩ (fun r => ∀ c : Dev Cert.DownNIdeal.nD,
          r.2.mem ((c.tc : Thread Cert.DownNIdeal.nD Cert.DownNIdeal.τ).loc Cert.DownNIdeal.main_v6_0) = v0 c
          ∧ r.2.mem ((c.tc : Thread Cert.DownNIdeal.nD Cert.DownNIdeal.τ).loc Cert.DownNIdeal.main_v6_1) = v1 c
          ∧ r.2.mem ((c.tc : Thread Cert.DownNIdeal.nD Cert.DownNIdeal.τ).loc Cert.DownNIdeal.main_arg0) = m ((c.tc : Thread Cert.DownNIdeal.nD Cert.DownNIdeal.τ).loc Cert.DownNIdeal.main_arg0)
          ∧ r.2.mem ((c.tc : Thread Cert.DownNIdeal.nD Cert.DownNIdeal.τ).loc Cert.DownNIdeal.main_arg1) = m ((c.tc : Thread Cert.DownNIdeal.nD Cert.DownNIdeal.τ).loc Cert.DownNIdeal.main_arg1)
          ∧ r.2.mem ((c.tc : Thread Cert.DownNIdeal.nD Cert.DownNIdeal.τ).loc Cert.DownNIdeal.main_arg2) = m ((c.tc : Thread Cert.DownNIdeal.nD Cert.DownNIdeal.τ).loc Cert.DownNIdeal.main_arg2)
          ∧ r.2.mem ((c.tc : Thread Cert.DownNIdeal.nD Cert.DownNIdeal.τ).loc Cert.DownNIdeal.main_arg3) = m ((c.tc : Thread Cert.DownNIdeal.nD Cert.DownNIdeal.τ).loc Cert.DownNIdeal.main_arg3))
      ∧ θ_run (Cert.DownNRefIdeal.defs (F := Ideal)) (onTc (τ := Cert.DownNRefIdeal.τ) (Cert.DownNRefIdeal.main (F := Ideal))) ⟨m', fun _ => 0, g'⟩ (fun r => ∀ c : Dev Cert.DownNRefIdeal.nD,
          r.2.mem ((c.tc : Thread Cert.DownNRefIdeal.nD Cert.DownNRefIdeal.τ).loc Cert.DownNRefIdeal.main_v3) = v0 c
          ∧ r.2.mem ((c.tc : Thread Cert.DownNRefIdeal.nD Cert.DownNRefIdeal.τ).loc Cert.DownNRefIdeal.main_v17) = v1 c
          ∧ r.2.mem ((c.tc : Thread Cert.DownNRefIdeal.nD Cert.DownNRefIdeal.τ).loc Cert.DownNRefIdeal.main_arg0) = m' ((c.tc : Thread Cert.DownNRefIdeal.nD Cert.DownNRefIdeal.τ).loc Cert.DownNRefIdeal.main_arg0)
          ∧ r.2.mem ((c.tc : Thread Cert.DownNRefIdeal.nD Cert.DownNRefIdeal.τ).loc Cert.DownNRefIdeal.main_arg1) = m' ((c.tc : Thread Cert.DownNRefIdeal.nD Cert.DownNRefIdeal.τ).loc Cert.DownNRefIdeal.main_arg1)
          ∧ r.2.mem ((c.tc : Thread Cert.DownNRefIdeal.nD Cert.DownNRefIdeal.τ).loc Cert.DownNRefIdeal.main_arg2) = m' ((c.tc : Thread Cert.DownNRefIdeal.nD Cert.DownNRefIdeal.τ).loc Cert.DownNRefIdeal.main_arg2)
          ∧ r.2.mem ((c.tc : Thread Cert.DownNRefIdeal.nD Cert.DownNRefIdeal.τ).loc Cert.DownNRefIdeal.main_arg3) = m' ((c.tc : Thread Cert.DownNRefIdeal.nD Cert.DownNRefIdeal.τ).loc Cert.DownNRefIdeal.main_arg3))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)
      ∧ m' ((c.tc : Thread Cert.DownFRefIdeal.nD Cert.DownFRefIdeal.τ).loc Cert.DownFRefIdeal.main_arg3) = m ((c.tc : Thread Cert.DownFIdeal.nD Cert.DownFIdeal.τ).loc Cert.DownFIdeal.main_arg3)) →
    ∃ (v0 : (c : Dev Cert.DownFIdeal.nD) → Buf (Elt Ideal) ((c.tc : Thread Cert.DownFIdeal.nD Cert.DownFIdeal.τ).loc Cert.DownFIdeal.main_v5_0)) (v1 : (c : Dev Cert.DownFIdeal.nD) → Buf (Elt Ideal) ((c.tc : Thread Cert.DownFIdeal.nD Cert.DownFIdeal.τ).loc Cert.DownFIdeal.main_v5_1)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v5_0) = v0 c
          ∧ r.2.mem ((c.tc : Thread Cert.DownFIdeal.nD Cert.DownFIdeal.τ).loc Cert.DownFIdeal.main_v5_1) = v1 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
          ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v18) = v0 c
          ∧ r.2.mem ((c.tc : Thread Cert.DownFRefIdeal.nD Cert.DownFRefIdeal.τ).loc Cert.DownFRefIdeal.main_v22) = v1 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2)
          ∧ r.2.mem ((c.tc : Thread Cert.DownFRefIdeal.nD Cert.DownFRefIdeal.τ).loc Cert.DownFRefIdeal.main_arg3) = m' ((c.tc : Thread Cert.DownFRefIdeal.nD Cert.DownFRefIdeal.τ).loc Cert.DownFRefIdeal.main_arg3))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v15)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v15) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v13) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)
      ∧ m' ((c.tc : Thread Cert.InGRefIdeal.nD Cert.InGRefIdeal.τ).loc Cert.InGRefIdeal.main_arg2) = m ((c.tc : Thread Cert.InGIdeal.nD Cert.InGIdeal.τ).loc Cert.InGIdeal.main_arg2)) →
    ∃ (v0 : (c : Dev Cert.InGIdeal.nD) → Buf (Elt Ideal) ((c.tc : Thread Cert.InGIdeal.nD Cert.InGIdeal.τ).loc Cert.InGIdeal.main_v15)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v15) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1)
          ∧ r.2.mem ((c.tc : Thread Cert.InGIdeal.nD Cert.InGIdeal.τ).loc Cert.InGIdeal.main_arg2) = m ((c.tc : Thread Cert.InGIdeal.nD Cert.InGIdeal.τ).loc Cert.InGIdeal.main_arg2))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v13) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1)
          ∧ r.2.mem ((c.tc : Thread Cert.InGRefIdeal.nD Cert.InGRefIdeal.τ).loc Cert.InGRefIdeal.main_arg2) = m' ((c.tc : Thread Cert.InGRefIdeal.nD Cert.InGRefIdeal.τ).loc Cert.InGRefIdeal.main_arg2))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)) →
    ∃ (v0 : (c : Dev Cert.OutFIdeal.nD) → Buf (Elt Ideal) ((c.tc : Thread Cert.OutFIdeal.nD Cert.OutFIdeal.τ).loc Cert.OutFIdeal.main_v3_0)) (v1 : (c : Dev Cert.OutFIdeal.nD) → Buf (Elt Ideal) ((c.tc : Thread Cert.OutFIdeal.nD Cert.OutFIdeal.τ).loc Cert.OutFIdeal.main_v3_1)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v3_0) = v0 c
          ∧ r.2.mem ((c.tc : Thread Cert.OutFIdeal.nD Cert.OutFIdeal.τ).loc Cert.OutFIdeal.main_v3_1) = v1 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v1) = v0 c
          ∧ r.2.mem ((c.tc : Thread Cert.OutFRefIdeal.nD Cert.OutFRefIdeal.τ).loc Cert.OutFRefIdeal.main_v15) = v1 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3))

def preserves_FoxF_FoxFIdeal : Prop :=
  True

def algebraic_FoxFIdeal_FoxFRefIdeal_pre_finite_fwd [hFoxFIdeal : Cert.FoxFIdeal.Facts] [hFoxFRefIdeal : Cert.FoxFRefIdeal.Facts] [hPre_finite_fwd : Cert.Pre_finite_fwd.Facts] : Prop :=
  ∀ (m : (ℓ : Loc Cert.FoxFIdeal.nD Cert.FoxFIdeal.τ Cert.FoxFIdeal.sig) → Buf (Elt Ideal) ℓ) (g : Dev Cert.FoxFIdeal.nD → PrngReg)
    (m' : (ℓ : Loc Cert.FoxFRefIdeal.nD Cert.FoxFRefIdeal.τ Cert.FoxFRefIdeal.sig) → Buf (Elt Ideal) ℓ) (g' : Dev Cert.FoxFRefIdeal.nD → PrngReg), Pre_FoxFIdeal_finite_fwd m →
    (∀ c : Dev Cert.FoxFIdeal.nD,
      m' ((c.tc : Thread Cert.FoxFRefIdeal.nD Cert.FoxFRefIdeal.τ).loc Cert.FoxFRefIdeal.main_arg0) = m ((c.tc : Thread Cert.FoxFIdeal.nD Cert.FoxFIdeal.τ).loc Cert.FoxFIdeal.main_arg0)
      ∧ m' ((c.tc : Thread Cert.FoxFRefIdeal.nD Cert.FoxFRefIdeal.τ).loc Cert.FoxFRefIdeal.main_arg1) = m ((c.tc : Thread Cert.FoxFIdeal.nD Cert.FoxFIdeal.τ).loc Cert.FoxFIdeal.main_arg1)
      ∧ m' ((c.tc : Thread Cert.FoxFRefIdeal.nD Cert.FoxFRefIdeal.τ).loc Cert.FoxFRefIdeal.main_arg2) = m ((c.tc : Thread Cert.FoxFIdeal.nD Cert.FoxFIdeal.τ).loc Cert.FoxFIdeal.main_arg2)
      ∧ m' ((c.tc : Thread Cert.FoxFRefIdeal.nD Cert.FoxFRefIdeal.τ).loc Cert.FoxFRefIdeal.main_arg3) = m ((c.tc : Thread Cert.FoxFIdeal.nD Cert.FoxFIdeal.τ).loc Cert.FoxFIdeal.main_arg3)) →
    ∃ (v0 : (c : Dev Cert.FoxFIdeal.nD) → Buf (Elt Ideal) ((c.tc : Thread Cert.FoxFIdeal.nD Cert.FoxFIdeal.τ).loc Cert.FoxFIdeal.main_v3)),
      θ_run (Cert.FoxFIdeal.defs (F := Ideal)) (onTc (τ := Cert.FoxFIdeal.τ) (Cert.FoxFIdeal.main (F := Ideal))) ⟨m, fun _ => 0, g⟩ (fun r => ∀ c : Dev Cert.FoxFIdeal.nD,
          r.2.mem ((c.tc : Thread Cert.FoxFIdeal.nD Cert.FoxFIdeal.τ).loc Cert.FoxFIdeal.main_v3) = v0 c
          ∧ r.2.mem ((c.tc : Thread Cert.FoxFIdeal.nD Cert.FoxFIdeal.τ).loc Cert.FoxFIdeal.main_arg0) = m ((c.tc : Thread Cert.FoxFIdeal.nD Cert.FoxFIdeal.τ).loc Cert.FoxFIdeal.main_arg0)
          ∧ r.2.mem ((c.tc : Thread Cert.FoxFIdeal.nD Cert.FoxFIdeal.τ).loc Cert.FoxFIdeal.main_arg1) = m ((c.tc : Thread Cert.FoxFIdeal.nD Cert.FoxFIdeal.τ).loc Cert.FoxFIdeal.main_arg1)
          ∧ r.2.mem ((c.tc : Thread Cert.FoxFIdeal.nD Cert.FoxFIdeal.τ).loc Cert.FoxFIdeal.main_arg2) = m ((c.tc : Thread Cert.FoxFIdeal.nD Cert.FoxFIdeal.τ).loc Cert.FoxFIdeal.main_arg2)
          ∧ r.2.mem ((c.tc : Thread Cert.FoxFIdeal.nD Cert.FoxFIdeal.τ).loc Cert.FoxFIdeal.main_arg3) = m ((c.tc : Thread Cert.FoxFIdeal.nD Cert.FoxFIdeal.τ).loc Cert.FoxFIdeal.main_arg3))
      ∧ θ_run (Cert.FoxFRefIdeal.defs (F := Ideal)) (onTc (τ := Cert.FoxFRefIdeal.τ) (Cert.FoxFRefIdeal.main (F := Ideal))) ⟨m', fun _ => 0, g'⟩ (fun r => ∀ c : Dev Cert.FoxFRefIdeal.nD,
          r.2.mem ((c.tc : Thread Cert.FoxFRefIdeal.nD Cert.FoxFRefIdeal.τ).loc Cert.FoxFRefIdeal.main_v34) = v0 c
          ∧ r.2.mem ((c.tc : Thread Cert.FoxFRefIdeal.nD Cert.FoxFRefIdeal.τ).loc Cert.FoxFRefIdeal.main_arg0) = m' ((c.tc : Thread Cert.FoxFRefIdeal.nD Cert.FoxFRefIdeal.τ).loc Cert.FoxFRefIdeal.main_arg0)
          ∧ r.2.mem ((c.tc : Thread Cert.FoxFRefIdeal.nD Cert.FoxFRefIdeal.τ).loc Cert.FoxFRefIdeal.main_arg1) = m' ((c.tc : Thread Cert.FoxFRefIdeal.nD Cert.FoxFRefIdeal.τ).loc Cert.FoxFRefIdeal.main_arg1)
          ∧ r.2.mem ((c.tc : Thread Cert.FoxFRefIdeal.nD Cert.FoxFRefIdeal.τ).loc Cert.FoxFRefIdeal.main_arg2) = m' ((c.tc : Thread Cert.FoxFRefIdeal.nD Cert.FoxFRefIdeal.τ).loc Cert.FoxFRefIdeal.main_arg2)
          ∧ r.2.mem ((c.tc : Thread Cert.FoxFRefIdeal.nD Cert.FoxFRefIdeal.τ).loc Cert.FoxFRefIdeal.main_arg3) = m' ((c.tc : Thread Cert.FoxFRefIdeal.nD Cert.FoxFRefIdeal.τ).loc Cert.FoxFRefIdeal.main_arg3))

def Claim : Prop :=
  ∃ (hKernel : Cert.Kernel.Facts) (hKernelIdeal : Cert.KernelIdeal.Facts) (hReferenceIdeal : Cert.ReferenceIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hUpX : Cert.UpX.Facts) (hUpXIdeal : Cert.UpXIdeal.Facts) (hUpXRefIdeal : Cert.UpXRefIdeal.Facts) (hUpW : Cert.UpW.Facts) (hUpWIdeal : Cert.UpWIdeal.Facts) (hUpWRefIdeal : Cert.UpWRefIdeal.Facts) (hInM : Cert.InM.Facts) (hInMIdeal : Cert.InMIdeal.Facts) (hInMRefIdeal : Cert.InMRefIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hInS : Cert.InS.Facts) (hInSIdeal : Cert.InSIdeal.Facts) (hInSRefIdeal : Cert.InSRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hUpF : Cert.UpF.Facts) (hUpFIdeal : Cert.UpFIdeal.Facts) (hUpFRefIdeal : Cert.UpFRefIdeal.Facts) (hDownN : Cert.DownN.Facts) (hDownNIdeal : Cert.DownNIdeal.Facts) (hDownNRefIdeal : Cert.DownNRefIdeal.Facts) (hDownF : Cert.DownF.Facts) (hDownFIdeal : Cert.DownFIdeal.Facts) (hDownFRefIdeal : Cert.DownFRefIdeal.Facts) (hInF : Cert.InF.Facts) (hInFIdeal : Cert.InFIdeal.Facts) (hInFRefIdeal : Cert.InFRefIdeal.Facts) (hInG : Cert.InG.Facts) (hInGIdeal : Cert.InGIdeal.Facts) (hInGRefIdeal : Cert.InGRefIdeal.Facts) (hOutF : Cert.OutF.Facts) (hOutFIdeal : Cert.OutFIdeal.Facts) (hOutFRefIdeal : Cert.OutFRefIdeal.Facts) (hFoxF : Cert.FoxF.Facts) (hFoxFIdeal : Cert.FoxFIdeal.Facts) (hFoxFRefIdeal : Cert.FoxFRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpW (hUpW := hUpW)
    ∧ quiescent_UpWIdeal (hUpWIdeal := hUpWIdeal)
    ∧ quiescent_UpWRefIdeal (hUpWRefIdeal := hUpWRefIdeal)
    ∧ quiescent_InM (hInM := hInM)
    ∧ quiescent_InMIdeal (hInMIdeal := hInMIdeal)
    ∧ quiescent_InMRefIdeal (hInMRefIdeal := hInMRefIdeal)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_InS (hInS := hInS)
    ∧ quiescent_InSIdeal (hInSIdeal := hInSIdeal)
    ∧ quiescent_InSRefIdeal (hInSRefIdeal := hInSRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownN (hDownN := hDownN)
    ∧ quiescent_DownNIdeal (hDownNIdeal := hDownNIdeal)
    ∧ quiescent_DownNRefIdeal (hDownNRefIdeal := hDownNRefIdeal)
    ∧ quiescent_DownF (hDownF := hDownF)
    ∧ quiescent_DownFIdeal (hDownFIdeal := hDownFIdeal)
    ∧ quiescent_DownFRefIdeal (hDownFRefIdeal := hDownFRefIdeal)
    ∧ quiescent_InF (hInF := hInF)
    ∧ quiescent_InFIdeal (hInFIdeal := hInFIdeal)
    ∧ quiescent_InFRefIdeal (hInFRefIdeal := hInFRefIdeal)
    ∧ quiescent_InG (hInG := hInG)
    ∧ quiescent_InGIdeal (hInGIdeal := hInGIdeal)
    ∧ quiescent_InGRefIdeal (hInGRefIdeal := hInGRefIdeal)
    ∧ quiescent_OutF (hOutF := hOutF)
    ∧ quiescent_OutFIdeal (hOutFIdeal := hOutFIdeal)
    ∧ quiescent_OutFRefIdeal (hOutFRefIdeal := hOutFRefIdeal)
    ∧ quiescent_FoxF (hFoxF := hFoxF)
    ∧ quiescent_FoxFIdeal (hFoxFIdeal := hFoxFIdeal)
    ∧ quiescent_FoxFIdeal_pre_finite_fwd (hFoxFIdeal := hFoxFIdeal) (hPre_finite_fwd := hPre_finite_fwd)
    ∧ quiescent_FoxFRefIdeal (hFoxFRefIdeal := hFoxFRefIdeal)
    ∧ quiescent_FoxFRefIdeal_pre_finite_fwd (hFoxFRefIdeal := hFoxFRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_UpX_UpXIdeal
    ∧ algebraic_UpXIdeal_UpXRefIdeal (hUpXIdeal := hUpXIdeal) (hUpXRefIdeal := hUpXRefIdeal)
    ∧ preserves_UpW_UpWIdeal
    ∧ algebraic_UpWIdeal_UpWRefIdeal (hUpWIdeal := hUpWIdeal) (hUpWRefIdeal := hUpWRefIdeal)
    ∧ preserves_InM_InMIdeal
    ∧ algebraic_InMIdeal_InMRefIdeal (hInMIdeal := hInMIdeal) (hInMRefIdeal := hInMRefIdeal)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_InS_InSIdeal
    ∧ algebraic_InSIdeal_InSRefIdeal (hInSIdeal := hInSIdeal) (hInSRefIdeal := hInSRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_UpF_UpFIdeal
    ∧ algebraic_UpFIdeal_UpFRefIdeal (hUpFIdeal := hUpFIdeal) (hUpFRefIdeal := hUpFRefIdeal)
    ∧ preserves_DownN_DownNIdeal
    ∧ algebraic_DownNIdeal_DownNRefIdeal (hDownNIdeal := hDownNIdeal) (hDownNRefIdeal := hDownNRefIdeal)
    ∧ preserves_DownF_DownFIdeal
    ∧ algebraic_DownFIdeal_DownFRefIdeal (hDownFIdeal := hDownFIdeal) (hDownFRefIdeal := hDownFRefIdeal)
    ∧ preserves_InF_InFIdeal
    ∧ algebraic_InFIdeal_InFRefIdeal (hInFIdeal := hInFIdeal) (hInFRefIdeal := hInFRefIdeal)
    ∧ preserves_InG_InGIdeal
    ∧ algebraic_InGIdeal_InGRefIdeal (hInGIdeal := hInGIdeal) (hInGRefIdeal := hInGRefIdeal)
    ∧ preserves_OutF_OutFIdeal
    ∧ algebraic_OutFIdeal_OutFRefIdeal (hOutFIdeal := hOutFIdeal) (hOutFRefIdeal := hOutFRefIdeal)
    ∧ preserves_FoxF_FoxFIdeal
    ∧ algebraic_FoxFIdeal_FoxFRefIdeal_pre_finite_fwd (hFoxFIdeal := hFoxFIdeal) (hFoxFRefIdeal := hFoxFRefIdeal) (hPre_finite_fwd := hPre_finite_fwd)
-- ==== Pre_finite.lean ====
abbrev S2048x1024 : Shape := ⟨2, ![2048, 1024]⟩
abbrev S2048x4608 : Shape := ⟨2, ![2048, 4608]⟩
abbrev S2048x128 : Shape := ⟨2, ![2048, 128]⟩
abbrev S2048x8 : Shape := ⟨2, ![2048, 8]⟩
abbrev S_ : Shape := ⟨0, ![]⟩

class Facts : Prop where
  slices_S2048x4608_S2048x1024_0_2048 : S2048x4608.Slices ![0, 2048] S2048x1024
  slices_S2048x128_S2048x8_0_0 : S2048x128.Slices ![0, 0] S2048x8
  bcast_S_S2048x1024 : S_.BroadcastsInDim S2048x1024 (![] : Fin 0 → Fin S2048x1024.rank)
  bcast_S_S2048x8 : S_.BroadcastsInDim S2048x8 (![] : Fin 0 → Fin S2048x8.rank)

variable [Facts]

def fn {F : FTy → Type} [FloatOps F] (main_arg0 : FVec F S2048x1024 .f32) (main_arg1 : FVec F S2048x1024 .f32) (main_arg2 : FVec F S2048x4608 .f32) (main_arg3 : FVec F S2048x128 .f32) (main_arg4 : FVec F S2048x1024 .f32) : IVec S2048x1024 1 × IVec S2048x1024 1 × IVec S2048x1024 1 × IVec S2048x8 1 × IVec S2048x1024 1 :=
  let main_v0 : FVec F S2048x1024 .f32 := (extractStridedSlice S2048x1024 ![0, 2048] · slices_S2048x4608_S2048x1024_0_2048) main_arg2
  let main_v1 : FVec F S2048x8 .f32 := (extractStridedSlice S2048x8 ![0, 0] · slices_S2048x128_S2048x8_0_0) main_arg3
  let main_v2 : FVec F S2048x1024 .f32 := Host.absf main_arg0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S2048x1024 .f32 := Host.absf main_v0
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S2048x8 .f32 := Host.absf main_v1
  let main_cst_2 : FVec F S_ .f32 := constant S_ .f32 0x7F800000#32
  let main_v12 : FVec F S2048x8 .f32 := broadcastInDim S2048x8 ![] bcast_S_S2048x8 main_cst_2
  let main_v13 : IVec S2048x8 1 := cmpf .olt main_v11 main_v12
  let main_v14 : FVec F S2048x1024 .f32 := Host.absf main_arg4
  let main_cst_3 : FVec F S_ .f32 := constant S_ .f32 0x7F800000#32
  let main_v15 : FVec F S2048x1024 .f32 := broadcastInDim S2048x1024 ![] bcast_S_S2048x1024 main_cst_3
  let main_v16 : IVec S2048x1024 1 := cmpf .olt main_v14 main_v15
  (main_v4, main_v7, main_v10, main_v13, main_v16)
-- ==== Pre_finite_fwd.lean ====
abbrev S2048x1024 : Shape := ⟨2, ![2048, 1024]⟩
abbrev S2048x4608 : Shape := ⟨2, ![2048, 4608]⟩
abbrev S2048x128 : Shape := ⟨2, ![2048, 128]⟩
abbrev S2048x8 : Shape := ⟨2, ![2048, 8]⟩
abbrev S_ : Shape := ⟨0, ![]⟩

class Facts : Prop where
  slices_S2048x128_S2048x8_0_0 : S2048x128.Slices ![0, 0] S2048x8
  bcast_S_S2048x1024 : S_.BroadcastsInDim S2048x1024 (![] : Fin 0 → Fin S2048x1024.rank)
  bcast_S_S2048x8 : S_.BroadcastsInDim S2048x8 (![] : Fin 0 → Fin S2048x8.rank)

variable [Facts]

def fn {F : FTy → Type} [FloatOps F] (main_arg0 : FVec F S2048x1024 .f32) (main_arg1 : FVec F S2048x1024 .f32) (main_arg2 : FVec F S2048x4608 .f32) (main_arg3 : FVec F S2048x128 .f32) : IVec S2048x1024 1 × IVec S2048x1024 1 × IVec S2048x8 1 :=
  let main_v0 : FVec F S2048x8 .f32 := (extractStridedSlice S2048x8 ![0, 0] · slices_S2048x128_S2048x8_0_0) main_arg3
  let main_v1 : FVec F S2048x1024 .f32 := Host.absf main_arg0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S2048x8 .f32 := Host.absf main_v0
  let main_cst_1 : FVec F S_ .f32 := constant S_ .f32 0x7F800000#32
  let main_v8 : FVec F S2048x8 .f32 := broadcastInDim S2048x8 ![] bcast_S_S2048x8 main_cst_1
  let main_v9 : IVec S2048x8 1 := cmpf .olt main_v7 main_v8
  (main_v3, main_v6, main_v9)
-- ==== Kernel.lean ====
abbrev S2048x1024 : Shape := ⟨2, ![2048, 1024]⟩
abbrev S2048x4608 : Shape := ⟨2, ![2048, 4608]⟩
abbrev S2048x128 : Shape := ⟨2, ![2048, 128]⟩
abbrev S2048x8 : Shape := ⟨2, ![2048, 8]⟩
abbrev S8x2048 : Shape := ⟨2, ![8, 2048]⟩
abbrev S8x1x2048 : Shape := ⟨3, ![8, 1, 2048]⟩
abbrev S1x1x2048 : Shape := ⟨3, ![1, 1, 2048]⟩
abbrev S1x2048 : Shape := ⟨2, ![1, 2048]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S128x256 : Shape := ⟨2, ![128, 256]⟩
abbrev S256 : Shape := ⟨1, ![256]⟩
abbrev S384x128 : Shape := ⟨2, ![384, 128]⟩
abbrev S1x1x384 : Shape := ⟨3, ![1, 1, 384]⟩
abbrev S1x384 : Shape := ⟨2, ![1, 384]⟩
abbrev S128x384 : Shape := ⟨2, ![128, 384]⟩
abbrev S384 : Shape := ⟨1, ![384]⟩
abbrev S512x128 : Shape := ⟨2, ![512, 128]⟩
abbrev S1x1x512 : Shape := ⟨3, ![1, 1, 512]⟩
abbrev S1x512 : Shape := ⟨2, ![1, 512]⟩
abbrev S128x512 : Shape := ⟨2, ![128, 512]⟩
abbrev S512 : Shape := ⟨1, ![512]⟩
abbrev S640x128 : Shape := ⟨2, ![640, 128]⟩
abbrev S1x1x640 : Shape := ⟨3, ![1, 1, 640]⟩
abbrev S1x640 : Shape := ⟨2, ![1, 640]⟩
abbrev S128x640 : Shape := ⟨2, ![128, 640]⟩
abbrev S640 : Shape := ⟨1, ![640]⟩
abbrev S768x128 : Shape := ⟨2, ![768, 128]⟩
abbrev S1x1x768 : Shape := ⟨3, ![1, 1, 768]⟩
abbrev S1x768 : Shape := ⟨2, ![1, 768]⟩
abbrev S128x768 : Shape := ⟨2, ![128, 768]⟩
abbrev S768 : Shape := ⟨1, ![768]⟩
abbrev S896x128 : Shape := ⟨2, ![896, 128]⟩
abbrev S1x1x896 : Shape := ⟨3, ![1, 1, 896]⟩
abbrev S1x896 : Shape := ⟨2, ![1, 896]⟩
abbrev S128x896 : Shape := ⟨2, ![128, 896]⟩
abbrev S896 : Shape := ⟨1, ![896]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S1024 : Shape := ⟨1, ![1024]⟩
abbrev S1152x128 : Shape := ⟨2, ![1152, 128]⟩
abbrev S1x1x1152 : Shape := ⟨3, ![1, 1, 1152]⟩
abbrev S1x1152 : Shape := ⟨2, ![1, 1152]⟩
abbrev S128x1152 : Shape := ⟨2, ![128, 1152]⟩
abbrev S1152 : Shape := ⟨1, ![1152]⟩
abbrev S1280x128 : Shape := ⟨2, ![1280, 128]⟩
abbrev S1x1x1280 : Shape := ⟨3, ![1, 1, 1280]⟩
abbrev S1x1280 : Shape := ⟨2, ![1, 1280]⟩
abbrev S128x1280 : Shape := ⟨2, ![128, 1280]⟩
abbrev S1280 : Shape := ⟨1, ![1280]⟩
abbrev S1408x128 : Shape := ⟨2, ![1408, 128]⟩
abbrev S1x1x1408 : Shape := ⟨3, ![1, 1, 1408]⟩
abbrev S1x1408 : Shape := ⟨2, ![1, 1408]⟩
abbrev S128x1408 : Shape := ⟨2, ![128, 1408]⟩
abbrev S1408 : Shape := ⟨1, ![1408]⟩
abbrev S1536x128 : Shape := ⟨2, ![1536, 128]⟩
abbrev S1x1x1536 : Shape := ⟨3, ![1, 1, 1536]⟩
abbrev S1x1536 : Shape := ⟨2, ![1, 1536]⟩
abbrev S128x1536 : Shape := ⟨2, ![128, 1536]⟩
abbrev S1536 : Shape := ⟨1, ![1536]⟩
abbrev S1664x128 : Shape := ⟨2, ![1664, 128]⟩
abbrev S1x1x1664 : Shape := ⟨3, ![1, 1, 1664]⟩
abbrev S1x1664 : Shape := ⟨2, ![1, 1664]⟩
abbrev S128x1664 : Shape := ⟨2, ![128, 1664]⟩
abbrev S1664 : Shape := ⟨1, ![1664]⟩
abbrev S1792x128 : Shape := ⟨2, ![1792, 128]⟩
abbrev S1x1x1792 : Shape := ⟨3, ![1, 1, 1792]⟩
abbrev S1x1792 : Shape := ⟨2, ![1, 1792]⟩
abbrev S128x1792 : Shape := ⟨2, ![128, 1792]⟩
abbrev S1792 : Shape := ⟨1, ![1792]⟩
abbrev S1920x128 : Shape := ⟨2, ![1920, 128]⟩
abbrev S1x1x1920 : Shape := ⟨3, ![1, 1, 1920]⟩
abbrev S1x1920 : Shape := ⟨2, ![1, 1920]⟩
abbrev S128x1920 : Shape := ⟨2, ![128, 1920]⟩
abbrev S1920 : Shape := ⟨1, ![1920]⟩
abbrev S128x2048 : Shape := ⟨2, ![128, 2048]⟩
abbrev S2048 : Shape := ⟨1, ![2048]⟩

abbrev nBuf : Space → Nat
  | .hbm => 13
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4608, .f32⟩
  | .hbm, ⟨3, _⟩ => ⟨S2048x128, .f32⟩
  | .hbm, ⟨4, _⟩ => ⟨S2048x1024, .f32⟩
  | .hbm, ⟨5, _⟩ => ⟨S2048x8, .f32⟩
  | .hbm, ⟨6, _⟩ => ⟨S8x2048, .f32⟩
  | .hbm, ⟨7, _⟩ => ⟨S8x1x2048, .f32⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S2048x128, .f32⟩
  | .hbm, ⟨12, _⟩ => ⟨S8x1x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x1x2048, .f32⟩
  | .local _ .vmem, ⟨8, _⟩ => ⟨S1x1x2048, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .bf16⟩
  | .local _ .vmem, ⟨16, _⟩ => ⟨S2048x128, .bf16⟩
  | .local _ .vmem, ⟨17, _⟩ => ⟨S2048x128, .f32⟩
  | .local _ .vmem, ⟨18, _⟩ => ⟨S1x1x2048, .f32⟩
  | .local _ .vmem, ⟨19, _⟩ => ⟨S1x1x2048, .f32⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x1024 : Shape := ⟨2, ![2048, 1024]⟩
abbrev S2048x4608 : Shape := ⟨2, ![2048, 4608]⟩
abbrev S2048x128 : Shape := ⟨2, ![2048, 128]⟩
abbrev S2048x8 : Shape := ⟨2, ![2048, 8]⟩
abbrev S8x2048 : Shape := ⟨2, ![8, 2048]⟩
abbrev S2048x8x128 : Shape := ⟨3, ![2048, 8, 128]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x128x2048 : Shape := ⟨3, ![8, 128, 2048]⟩
abbrev S8x2048x128 : Shape := ⟨3, ![8, 2048, 128]⟩

abbrev nBuf : Space → Nat
  | .hbm => 119
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4608, .f32⟩
  | .hbm, ⟨3, _⟩ => ⟨S2048x128, .f32⟩
  | .hbm, ⟨4, _⟩ => ⟨S2048x1024, .f32⟩
  | .hbm, ⟨5, _⟩ => ⟨S2048x1024, .f32⟩
  | .hbm, ⟨6, _⟩ => ⟨S2048x8, .f32⟩
  | .hbm, ⟨7, _⟩ => ⟨S8x2048, .f32⟩
  | .hbm, ⟨8, _⟩ => ⟨S2048x8x128, .f32⟩
  | .hbm, ⟨9, _⟩ => ⟨S2048x8x128, .f32⟩
  | .hbm, ⟨10, _⟩ => ⟨S2048x8x128, .f32⟩
  | .hbm, ⟨11, _⟩ => ⟨S8x2048x2048, .f32⟩
  | .hbm, ⟨12, _⟩ => ⟨S8x2048, .f32⟩
  | .hbm, ⟨13, _⟩ => ⟨S8x2048x1, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S8x2048x2048, .f32⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .i1⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x128x2048, .f32⟩
  | .hbm, ⟨71, _⟩ => ⟨S2048x8x128, .f32⟩
  | .hbm, ⟨72, _⟩ => ⟨S2048x1024, .f32⟩
  | .hbm, ⟨73, _⟩ => ⟨S2048x8x128, .f32⟩
  | .hbm, ⟨74, _⟩ => ⟨S8x128x2048, .f32⟩
  | .hbm, ⟨75, _⟩ => ⟨S8x2048x2048, .f32⟩
  | .hbm, ⟨76, _⟩ => ⟨S8x128x2048, .f32⟩
  | .hbm, ⟨77, _⟩ => ⟨S2048x8x128, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S_, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048, .f32⟩
  | .hbm, ⟨97, _⟩ => ⟨S8x2048x1, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S_, .f32⟩
  | .hbm, ⟨105, _⟩ => ⟨S8x2048, .f32⟩
  | .hbm, ⟨106, _⟩ => ⟨S2048x8, .f32⟩
  | .hbm, ⟨107, _⟩ => ⟨S8x2048x128, .f32⟩
  | .hbm, ⟨108, _⟩ => ⟨S2048x8x128, .f32⟩
  | .hbm, ⟨109, _⟩ => ⟨S8x2048x128, .f32⟩
  | .hbm, ⟨110, _⟩ => ⟨S2048x8x128, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1024, .bf16⟩
  | .hbm, ⟨115, _⟩ => ⟨S_, .i32⟩
  | .hbm, ⟨116, _⟩ => ⟨S_, .f32⟩
  | .hbm, ⟨117, _⟩ => ⟨S2048x128, .f32⟩
  | .hbm, ⟨118, _⟩ => ⟨S8x1x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_v20_1 : Ref sig .tc := ⟨.hbm, 27, rfl⟩
abbrev main_call0_v2 : Ref sig .tc := ⟨.hbm, 28, rfl⟩
abbrev main_v20_0 : Ref sig .tc := ⟨.hbm, 29, rfl⟩
abbrev main_call0_cst : Ref sig .tc := ⟨.hbm, 30, rfl⟩
abbrev main_v20_2 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c : Ref sig .tc := ⟨.hbm, 115, rfl⟩
abbrev main_call2_v0 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== DownX.lean ====
abbrev S2048x4096 : Shape := ⟨2, ![2048, 4096]⟩
abbrev S4096x1024 : Shape := ⟨2, ![4096, 1024]⟩
abbrev S2048x1024 : Shape := ⟨2, ![2048, 1024]⟩
abbrev S8x512x1024 : Shape := ⟨3, ![8, 512, 1024]⟩
abbrev S1024x1024 : Shape := ⟨2, ![1024, 1024]⟩
abbrev S2x512x1024 : Shape := ⟨3, ![2, 512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S4096x1024, .bf16⟩
  | .hbm, ⟨4, _⟩ => ⟨S8x512x1024, .bf16⟩
  | .hbm, ⟨5, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownXRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownW.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S8x512x1024 : Shape := ⟨3, ![8, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S4096x1024, .bf16⟩
  | .hbm, ⟨9, _⟩ => ⟨S8x512x1024, .bf16⟩
  | .hbm, ⟨10, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S1x512x1024, .bf16⟩
  | .local _ .vmem, ⟨4, _⟩ => ⟨S1x512x1024, .bf16⟩
  | .local _ .vmem, ⟨5, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownWRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S8x512x1024, .f32⟩
  | .hbm, ⟨11, _⟩ => ⟨S8x512x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== UpX.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1x1024 : Shape := ⟨2, ![1, 1024]⟩
abbrev S1024x8x512 : Shape := ⟨3, ![1024, 8, 512]⟩
abbrev S8x1024x512 : Shape := ⟨3, ![8, 1024, 512]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S1x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S2048x4096, .bf16⟩
  | .hbm, ⟨10, _⟩ => ⟨S2048x1024, .f32⟩
  | .hbm, ⟨11, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v56 : BitVec 32 := Scalar.extui v0
  let c0_i32_27 : BitVec 32 := 0#32
  let v57 : BitVec 1 := Scalar.cmpi .ne v56 c0_i32_27
  v57

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v58 : BitVec 1 := Scalar.xori v0 v_true
  let v59 : BitVec 32 := Scalar.extui v58
  let c0_i32_28 : BitVec 32 := 0#32
  let v60 : BitVec 1 := Scalar.cmpi .ne v59 c0_i32_28
  v60

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== UpXRefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== UpW.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x8x512 : Shape := ⟨3, ![1024, 8, 512]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 26
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x4096, .bf16⟩
  | .hbm, ⟨22, _⟩ => ⟨S1024x8x512, .bf16⟩
  | .hbm, ⟨23, _⟩ => ⟨S8x1024x512, .bf16⟩
  | .hbm, ⟨24, _⟩ => ⟨S2048x4096, .bf16⟩
  | .hbm, ⟨25, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpWRefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S4096x1024, .f32⟩
  | .hbm, ⟨22, _⟩ => ⟨S1024x4096, .f32⟩
  | .hbm, ⟨23, _⟩ => ⟨S1024x8x512, .f32⟩
  | .hbm, ⟨24, _⟩ => ⟨S8x1024x512, .f32⟩
  | .hbm, ⟨25, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InM.lean ====
abbrev S2048x1024 : Shape := ⟨2, ![2048, 1024]⟩
abbrev S1024x4608 : Shape := ⟨2, ![1024, 4608]⟩
abbrev S2048x4608 : Shape := ⟨2, ![2048, 4608]⟩
abbrev S2048x1536 : Shape := ⟨2, ![2048, 1536]⟩
abbrev S512x1536 : Shape := ⟨2, ![512, 1536]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x4608, .f32⟩
  | .hbm, ⟨3, _⟩ => ⟨S2048x4608, .bf16⟩
  | .hbm, ⟨4, _⟩ => ⟨S1024x4608, .bf16⟩
  | .hbm, ⟨5, _⟩ => ⟨S2048x1024, .f32⟩
  | .local _ .vmem, ⟨0, _⟩ => ⟨S2048x1536, .bf16⟩
  | .local _ .vmem, ⟨1, _⟩ => ⟨S2048x1536, .bf16⟩
  | .local _ .vmem, ⟨2, _⟩ => ⟨S512x1536, .bf16⟩
  | .local _ .vmem, ⟨3, _⟩ => ⟨S512x1536, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMRefIdeal.lean ====
abbrev S2048x1024 : Shape := ⟨2, ![2048, 1024]⟩
abbrev S1024x4608 : Shape := ⟨2, ![1024, 4608]⟩
abbrev S2048x4608 : Shape := ⟨2, ![2048, 4608]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x4608, .f32⟩
  | .hbm, ⟨3, _⟩ => ⟨S2048x4608, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InX.lean ====
abbrev S2048x1024 : Shape := ⟨2, ![2048, 1024]⟩
abbrev S1024 : Shape := ⟨1, ![1024]⟩
abbrev S1024x128 : Shape := ⟨2, ![1024, 128]⟩
abbrev S2048x128 : Shape := ⟨2, ![2048, 128]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x128, .f32⟩
  | .hbm, ⟨3, _⟩ => ⟨S2048x128, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1024x128, .bf16⟩
  | .hbm, ⟨8, _⟩ => ⟨S2048x1024, .f32⟩
  | .hbm, ⟨9, _⟩ => ⟨S1x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v58 : BitVec 32 := Scalar.extui v0
  let c0_i32_29 : BitVec 32 := 0#32
  let v59 : BitVec 1 := Scalar.cmpi .ne v58 c0_i32_29
  v59

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v60 : BitVec 1 := Scalar.xori v0 v_true
  let v61 : BitVec 32 := Scalar.extui v60
  let c0_i32_30 : BitVec 32 := 0#32
  let v62 : BitVec 1 := Scalar.cmpi .ne v61 c0_i32_30
  v62

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== InXRefIdeal.lean ====
abbrev S2048x1024 : Shape := ⟨2, ![2048, 1024]⟩
abbrev S1024 : Shape := ⟨1, ![1024]⟩
abbrev S1024x128 : Shape := ⟨2, ![1024, 128]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x128, .f32⟩
  | .hbm, ⟨3, _⟩ => ⟨S2048x128, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x128, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== InW.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S1024x512 : Shape := ⟨2, ![1024, 512]⟩

abbrev nBuf : Space → Nat
  | .hbm => 23
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x4608, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S2048x4608, .bf16⟩
  | .hbm, ⟨22, _⟩ => ⟨S1024x4608, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4608x1024 : Shape := ⟨2, ![4608, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x4608, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4608, .f32⟩
  | .hbm, ⟨21, _⟩ => ⟨S4608x1024, .f32⟩
  | .hbm, ⟨22, _⟩ => ⟨S1024x4608, .f32⟩
  | .hbm, ⟨23, _⟩ => ⟨S1024x4608, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InS.lean ====
abbrev S2048x1024 : Shape := ⟨2, ![2048, 1024]⟩
abbrev S1024 : Shape := ⟨1, ![1024]⟩
abbrev S1024x128 : Shape := ⟨2, ![1024, 128]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x128, .f32⟩
  | .hbm, ⟨3, _⟩ => ⟨S2048x128, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S1024x128, .bf16⟩
  | .local _ .vmem, ⟨0, _⟩ => ⟨S2048x1024, .bf16⟩
  | .local _ .vmem, ⟨1, _⟩ => ⟨S2048x128, .f32⟩
  | .local _ .vmem, ⟨2, _⟩ => ⟨S1024x128, .bf16⟩
  | .local _ .vmem, ⟨3, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InSRefIdeal.lean ====
abbrev S2048x1024 : Shape := ⟨2, ![2048, 1024]⟩
abbrev S1024 : Shape := ⟨1, ![1024]⟩
abbrev S1024x128 : Shape := ⟨2, ![1024, 128]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S128x1024 : Shape := ⟨2, ![128, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x128, .f32⟩
  | .hbm, ⟨3, _⟩ => ⟨S2048x128, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x128, .f32⟩
  | .hbm, ⟨21, _⟩ => ⟨S128x1024, .f32⟩
  | .hbm, ⟨22, _⟩ => ⟨S1024x128, .f32⟩
  | .hbm, ⟨23, _⟩ => ⟨S1024x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutX.lean ====
abbrev S2048x1536 : Shape := ⟨2, ![2048, 1536]⟩
abbrev S1536x1024 : Shape := ⟨2, ![1536, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | .hbm, ⟨3, _⟩ => ⟨S1536x1024, .bf16⟩
  | .hbm, ⟨4, _⟩ => ⟨S2048x1536, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S2048x1536 : Shape := ⟨2, ![2048, 1536]⟩
abbrev S1536x1024 : Shape := ⟨2, ![1536, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | .hbm, ⟨3, _⟩ => ⟨S2048x1024, .f32⟩
  | .hbm, ⟨4, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutW.lean ====
abbrev S2048x1536 : Shape := ⟨2, ![2048, 1536]⟩
abbrev S1536x1024 : Shape := ⟨2, ![1536, 1024]⟩
abbrev S2048x1024 : Shape := ⟨2, ![2048, 1024]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | .hbm, ⟨3, _⟩ => ⟨S2048x1536, .bf16⟩
  | .hbm, ⟨4, _⟩ => ⟨S1536x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S2048x1536 : Shape := ⟨2, ![2048, 1536]⟩
abbrev S1536x1024 : Shape := ⟨2, ![1536, 1024]⟩
abbrev S2048x1024 : Shape := ⟨2, ![2048, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | .hbm, ⟨3, _⟩ => ⟨S2048x1024, .f32⟩
  | .hbm, ⟨4, _⟩ => ⟨S1024x1536, .f32⟩
  | .hbm, ⟨5, _⟩ => ⟨S1536x1024, .f32⟩
  | .hbm, ⟨6, _⟩ => ⟨S1536x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpF.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x8x512 : Shape := ⟨3, ![1024, 8, 512]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 25
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S1024x4096, .bf16⟩
  | .hbm, ⟨21, _⟩ => ⟨S1024x8x512, .bf16⟩
  | .hbm, ⟨22, _⟩ => ⟨S8x1024x512, .bf16⟩
  | .hbm, ⟨23, _⟩ => ⟨S2048x4096, .f32⟩
  | .hbm, ⟨24, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFRefIdeal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== DownN.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S8x512x1024 : Shape := ⟨3, ![8, 512, 1024]⟩
abbrev S1x1024 : Shape := ⟨2, ![1, 1024]⟩
abbrev S1024x1024 : Shape := ⟨2, ![1024, 1024]⟩
abbrev S2x512x1024 : Shape := ⟨3, ![2, 512, 1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S4096x1024, .bf16⟩
  | .hbm, ⟨10, _⟩ => ⟨S8x512x1024, .bf16⟩
  | .hbm, ⟨11, _⟩ => ⟨S1x1024, .f32⟩
  | .hbm, ⟨12, _⟩ => ⟨S2048x1024, .f32⟩
  | .hbm, ⟨13, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownNRefIdeal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== DownF.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S8x512x1024 : Shape := ⟨3, ![8, 512, 1024]⟩
abbrev S1x1024 : Shape := ⟨2, ![1, 1024]⟩
abbrev S1024x1024 : Shape := ⟨2, ![1024, 1024]⟩
abbrev S2x512x1024 : Shape := ⟨3, ![2, 512, 1024]⟩
abbrev S1024 : Shape := ⟨1, ![1024]⟩

abbrev nBuf : Space → Nat
  | .hbm => 13
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S4096x1024, .bf16⟩
  | .hbm, ⟨10, _⟩ => ⟨S8x512x1024, .bf16⟩
  | .hbm, ⟨11, _⟩ => ⟨S2048x1024, .f32⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_19 : BitVec 32 := 0#32
  let v29 : BitVec 1 := Scalar.cmpi .ne v28 c0_i32_19
  v29

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v30 : BitVec 1 := Scalar.xori v0 v_true
  let v31 : BitVec 32 := Scalar.extui v30
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]
-- ==== DownFRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S2048 : Shape := ⟨1, ![2048]⟩
abbrev S1024 : Shape := ⟨1, ![1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== InF.lean ====
abbrev S2048x1024 : Shape := ⟨2, ![2048, 1024]⟩
abbrev S1024 : Shape := ⟨1, ![1024]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4608 : Shape := ⟨2, ![2048, 4608]⟩
abbrev S1024x512 : Shape := ⟨2, ![1024, 512]⟩
abbrev S2048x512 : Shape := ⟨2, ![2048, 512]⟩

abbrev nBuf : Space → Nat
  | .hbm => 22
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S1024x4608, .bf16⟩
  | .hbm, ⟨21, _⟩ => ⟨S2048x4608, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFRefIdeal.lean ====
abbrev S2048x1024 : Shape := ⟨2, ![2048, 1024]⟩
abbrev S1024 : Shape := ⟨1, ![1024]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4608 : Shape := ⟨2, ![2048, 4608]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x4608, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InG.lean ====
abbrev S2048x1024 : Shape := ⟨2, ![2048, 1024]⟩
abbrev S1024 : Shape := ⟨1, ![1024]⟩
abbrev S1024x128 : Shape := ⟨2, ![1024, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x128 : Shape := ⟨2, ![2048, 128]⟩

abbrev nBuf : Space → Nat
  | .hbm => 22
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S1024x128, .bf16⟩
  | .hbm, ⟨21, _⟩ => ⟨S2048x128, .f32⟩
  | .local _ .vmem, ⟨0, _⟩ => ⟨S2048x1024, .bf16⟩
  | .local _ .vmem, ⟨1, _⟩ => ⟨S1024x128, .bf16⟩
  | .local _ .vmem, ⟨2, _⟩ => ⟨S2048x128, .f32⟩
  | .local _ .vmem, ⟨3, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InGRefIdeal.lean ====
abbrev S2048x1024 : Shape := ⟨2, ![2048, 1024]⟩
abbrev S1024 : Shape := ⟨1, ![1024]⟩
abbrev S1024x128 : Shape := ⟨2, ![1024, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x128 : Shape := ⟨2, ![2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutF.lean ====
abbrev S2048x1536 : Shape := ⟨2, ![2048, 1536]⟩
abbrev S1536x1024 : Shape := ⟨2, ![1536, 1024]⟩
abbrev S2048x1024 : Shape := ⟨2, ![2048, 1024]⟩
abbrev S1024 : Shape := ⟨1, ![1024]⟩
abbrev S1x1024 : Shape := ⟨2, ![1, 1024]⟩
abbrev S1024x1536 : Shape := ⟨2, ![1024, 1536]⟩
abbrev S1024x1024 : Shape := ⟨2, ![1024, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | .hbm, ⟨3, _⟩ => ⟨S1024, .f32⟩
  | .hbm, ⟨4, _⟩ => ⟨S2048x1536, .bf16⟩
  | .hbm, ⟨5, _⟩ => ⟨S1536x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutFRefIdeal.lean ====
abbrev S2048x1536 : Shape := ⟨2, ![2048, 1536]⟩
abbrev S1536x1024 : Shape := ⟨2, ![1536, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1536x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FoxF.lean ====
abbrev S2048x1024 : Shape := ⟨2, ![2048, 1024]⟩
abbrev S2048x4608 : Shape := ⟨2, ![2048, 4608]⟩
abbrev S2048x128 : Shape := ⟨2, ![2048, 128]⟩
abbrev S2048x8 : Shape := ⟨2, ![2048, 8]⟩
abbrev S8x2048 : Shape := ⟨2, ![8, 2048]⟩
abbrev S8x1x2048 : Shape := ⟨3, ![8, 1, 2048]⟩
abbrev S1x1x2048 : Shape := ⟨3, ![1, 1, 2048]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S128x256 : Shape := ⟨2, ![128, 256]⟩
abbrev S384x128 : Shape := ⟨2, ![384, 128]⟩
abbrev S1x1x384 : Shape := ⟨3, ![1, 1, 384]⟩
abbrev S1x384 : Shape := ⟨2, ![1, 384]⟩
abbrev S128x384 : Shape := ⟨2, ![128, 384]⟩
abbrev S512x128 : Shape := ⟨2, ![512, 128]⟩
abbrev S1x1x512 : Shape := ⟨3, ![1, 1, 512]⟩
abbrev S1x512 : Shape := ⟨2, ![1, 512]⟩
abbrev S128x512 : Shape := ⟨2, ![128, 512]⟩
abbrev S640x128 : Shape := ⟨2, ![640, 128]⟩
abbrev S1x1x640 : Shape := ⟨3, ![1, 1, 640]⟩
abbrev S1x640 : Shape := ⟨2, ![1, 640]⟩
abbrev S128x640 : Shape := ⟨2, ![128, 640]⟩
abbrev S768x128 : Shape := ⟨2, ![768, 128]⟩
abbrev S1x1x768 : Shape := ⟨3, ![1, 1, 768]⟩
abbrev S1x768 : Shape := ⟨2, ![1, 768]⟩
abbrev S128x768 : Shape := ⟨2, ![128, 768]⟩
abbrev S896x128 : Shape := ⟨2, ![896, 128]⟩
abbrev S1x1x896 : Shape := ⟨3, ![1, 1, 896]⟩
abbrev S1x896 : Shape := ⟨2, ![1, 896]⟩
abbrev S128x896 : Shape := ⟨2, ![128, 896]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S1152x128 : Shape := ⟨2, ![1152, 128]⟩
abbrev S1x1x1152 : Shape := ⟨3, ![1, 1, 1152]⟩
abbrev S1x1152 : Shape := ⟨2, ![1, 1152]⟩
abbrev S128x1152 : Shape := ⟨2, ![128, 1152]⟩
abbrev S1280x128 : Shape := ⟨2, ![1280, 128]⟩
abbrev S1x1x1280 : Shape := ⟨3, ![1, 1, 1280]⟩
abbrev S1x1280 : Shape := ⟨2, ![1, 1280]⟩
abbrev S128x1280 : Shape := ⟨2, ![128, 1280]⟩
abbrev S1408x128 : Shape := ⟨2, ![1408, 128]⟩
abbrev S1x1x1408 : Shape := ⟨3, ![1, 1, 1408]⟩
abbrev S1x1408 : Shape := ⟨2, ![1, 1408]⟩
abbrev S128x1408 : Shape := ⟨2, ![128, 1408]⟩
abbrev S1536x128 : Shape := ⟨2, ![1536, 128]⟩
abbrev S1x1x1536 : Shape := ⟨3, ![1, 1, 1536]⟩
abbrev S1x1536 : Shape := ⟨2, ![1, 1536]⟩
abbrev S128x1536 : Shape := ⟨2, ![128, 1536]⟩
abbrev S1664x128 : Shape := ⟨2, ![1664, 128]⟩
abbrev S1x1x1664 : Shape := ⟨3, ![1, 1, 1664]⟩
abbrev S1x1664 : Shape := ⟨2, ![1, 1664]⟩
abbrev S128x1664 : Shape := ⟨2, ![128, 1664]⟩
abbrev S1792x128 : Shape := ⟨2, ![1792, 128]⟩
abbrev S1x1x1792 : Shape := ⟨3, ![1, 1, 1792]⟩
abbrev S1x1792 : Shape := ⟨2, ![1, 1792]⟩
abbrev S128x1792 : Shape := ⟨2, ![128, 1792]⟩
abbrev S1920x128 : Shape := ⟨2, ![1920, 128]⟩
abbrev S1x1x1920 : Shape := ⟨3, ![1, 1, 1920]⟩
abbrev S1x1920 : Shape := ⟨2, ![1, 1920]⟩
abbrev S128x1920 : Shape := ⟨2, ![128, 1920]⟩
abbrev S1x2048 : Shape := ⟨2, ![1, 2048]⟩
abbrev S128x2048 : Shape := ⟨2, ![128, 2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4608, .f32⟩
  | .hbm, ⟨3, _⟩ => ⟨S2048x128, .f32⟩
  | .hbm, ⟨4, _⟩ => ⟨S2048x8, .f32⟩
  | .hbm, ⟨5, _⟩ => ⟨S8x2048, .f32⟩
  | .hbm, ⟨6, _⟩ => ⟨S8x1x2048, .f32⟩
  | .hbm, ⟨7, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x1x2048, .f32⟩
  | .local _ .vmem, ⟨8, _⟩ => ⟨S1x1x2048, .f32⟩
  | .local _ .vmem, ⟨9, _⟩ => ⟨S2048x128, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FoxFRefIdeal.lean ====
abbrev S2048x1024 : Shape := ⟨2, ![2048, 1024]⟩
abbrev S2048x4608 : Shape := ⟨2, ![2048, 4608]⟩
abbrev S2048x128 : Shape := ⟨2, ![2048, 128]⟩
abbrev S2048x8 : Shape := ⟨2, ![2048, 8]⟩
abbrev S8x2048 : Shape := ⟨2, ![8, 2048]⟩
abbrev S2048x8x128 : Shape := ⟨3, ![2048, 8, 128]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x128x2048 : Shape := ⟨3, ![8, 128, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4608, .f32⟩
  | .hbm, ⟨3, _⟩ => ⟨S2048x128, .f32⟩
  | .hbm, ⟨4, _⟩ => ⟨S2048x1024, .f32⟩
  | .hbm, ⟨5, _⟩ => ⟨S2048x8, .f32⟩
  | .hbm, ⟨6, _⟩ => ⟨S8x2048, .f32⟩
  | .hbm, ⟨7, _⟩ => ⟨S2048x8x128, .f32⟩
  | .hbm, ⟨8, _⟩ => ⟨S2048x8x128, .f32⟩
  | .hbm, ⟨9, _⟩ => ⟨S2048x8x128, .f32⟩
  | .hbm, ⟨10, _⟩ => ⟨S8x2048x2048, .f32⟩
  | .hbm, ⟨11, _⟩ => ⟨S8x2048, .f32⟩
  | .hbm, ⟨12, _⟩ => ⟨S8x2048x1, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x2048x2048, .f32⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x128x2048, .f32⟩
  | .hbm, ⟨44, _⟩ => ⟨S2048x8x128, .f32⟩
  | .hbm, ⟨45, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.DownX.lean ====
/- The gradient of an MLP's second layer towards its hidden values: what the kernel's launch leaves is the reference's
   gradient, over the exact numbers. -/
module

public import proofs.«01_k».proof.Proof.Gen.DownXIdeal.Value
public import proofs.«01_k».proof.Proof.Gen.DownXRefIdeal.Read
public import Idealize.ShloMosaic.Lib.Pointwise
public import Idealize.ShloMosaic.Lib.KernelVsHost
public import Idealize.ShloMosaic.Lib.VecWindow

@[expose] public section

noncomputable section

namespace Cert.DownXIdeal.Mlp

open Idealize.ShloMosaic Idealize.ShloMosaic.TcCoe Idealize.SL.Sem
open Cert.DownXIdeal Cert.DownXIdeal.Gen
open Idealize.ShloMosaic.Pipeline (Dat)
open scoped BigOperators

/-! ## What a point leaves -/

/-- One point's block: the whole sum in one step onto zeros, times twice the positive part. -/
theorem out_block {F : FTy → Type} [FloatOps F] (c : Dev nD) (i : grid0.Coords) (arg3 : Memref sig .tc .vmem S1024x1024 .f32) (harg3 : arg3.IsWhole)
    (arg4 : Memref sig .tc .vmem S2x512x1024 .bf16) (harg4 : arg4.IsWhole) (arg5 : Memref sig .tc .vmem S1024x1024 .f32) (harg5 : arg5.IsWhole)
    (arg6 : Memref sig .tc .vmem S1024x1024 .bf16) (harg6 : arg6.IsWhole) (arg7 : Memref sig .tc .vmem S1024x1024 .f32) (harg7 : arg7.IsWhole)
    (hc0 : cond0_0 i) (hc1 : cond0_1 i) (x0 : Vec F S1024x1024 .f32) (x1 : Vec F S2x512x1024 .bf16) (x2 : Vec F S1024x1024 .f32) :
    out0_A_3 c i arg3 harg3 arg4 harg4 arg5 harg5 arg6 harg6 arg7 harg7 hc0 hc1 x0 x1 x2 = k0_pay3 (k0_pay2 x1 k0_pay1 x0) x2 := by
  have hz : (![0, 0] : Fin 2 → Nat) = fun _ => 0 := by decide
  have hz3 : (![0, 0, 0] : Fin 3 → Nat) = fun _ => 0 := by decide
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  sl_unfold_words
  rw [View.canon_unit_zero (S := S1024x1024) hz, View.readCov_unit_zero (S := S1024x1024) _ hz]
  simp only [View.readCov_full, View.readAt_eq_ld, harg3.read_unread, harg4.read_unread, harg5.read_unread, View.ld_unit_zero (S := S1024x1024) hz,
    View.ld_unit_zero (S := S2x512x1024) hz3]
  rw [View.readCov_full (s := S1024x1024)]

/-- The factor two, as the programs write it. -/
abbrev two : EReal := Ideal.ofBits .f32 0x40000000#32

/-- A point's block at an index. -/
theorem block_at (x0 : Vec Ideal S1024x1024 .f32) (x1 : Vec Ideal S2x512x1024 .bf16) (x2 : Vec Ideal S1024x1024 .f32) (r d : Fin 1024) :
    (k0_pay3 (F := Ideal) (k0_pay2 (F := Ideal) x1 (k0_pay1 (F := Ideal)) x0) x2 : S1024x1024.Idx → EReal) (ix2 r d)
      = (∑ k : Fin 1024, x0 (ix2 r k) * x1 (ix3 ⟨d.val / 512, by omega⟩ ⟨d.val % 512, by omega⟩ k)) * (two * max (x2 (ix2 r d)) 0) := by
  unfold k0_pay3 k0_pay2 k0_pay1
  pointwise

/-! ## The array -/

theorem points : ∀ t : Fin grid0.N, t.val < 8 := by decide +kernel
theorem i0 : ∀ t : Fin grid0.N, win0_0.index t 0 = t.val / 4 ∧ win0_0.index t 1 = 0 := by decide +kernel
theorem i1 : ∀ t : Fin grid0.N, win0_1.index t 0 = t.val % 4 ∧ win0_1.index t 1 = 0 ∧ win0_1.index t 2 = 0 := by decide +kernel
theorem i2 : ∀ t : Fin grid0.N, win0_2.index t 0 = t.val / 4 ∧ win0_2.index t 1 = t.val % 4 := by decide +kernel
theorem i3 : ∀ t : Fin grid0.N, win0_3.index t 0 = t.val / 4 ∧ win0_3.index t 1 = t.val % 4 := by decide +kernel

theorem emb0 (t : Fin cfg0.N) (r k : Fin 1024) (h : t.val / 4 * 1024 + r < 2048) :
    ((cfg0.win 0).blk t).view.emb (ix2 r k) = (ix2 ⟨t.val / 4 * 1024 + r, h⟩ k : S2048x1024.Idx) := by
  funext a; apply Fin.ext
  refine (Pipeline.Window.rect_emb_val (cfg0.win 0) t _ a rfl).trans ?_
  match a with
  | ⟨0, _⟩ => show win0_0.index t 0 * 1024 + r.val = t.val / 4 * 1024 + r; rw [(i0 t).1]
  | ⟨1, _⟩ => show win0_0.index t 1 * 1024 + k.val = k.val; rw [(i0 t).2]; omega
theorem emb1 (t : Fin cfg0.N) (a : Fin 2) (b : Fin 512) (k : Fin 1024) (h : t.val % 4 * 2 + a < 8) :
    ((cfg0.win 1).blk t).view.emb (ix3 a b k) = (ix3 ⟨t.val % 4 * 2 + a, h⟩ b k : S8x512x1024.Idx) := by
  funext x; apply Fin.ext
  refine (Pipeline.Window.rect_emb_val (cfg0.win 1) t _ x rfl).trans ?_
  match x with
  | ⟨0, _⟩ => show win0_1.index t 0 * 2 + a.val = t.val % 4 * 2 + a; rw [(i1 t).1]
  | ⟨1, _⟩ => show win0_1.index t 1 * 512 + b.val = b.val; rw [(i1 t).2.1]; omega
  | ⟨2, _⟩ => show win0_1.index t 2 * 1024 + k.val = k.val; rw [(i1 t).2.2]; omega
theorem emb2 (t : Fin cfg0.N) (r d : Fin 1024) (h : t.val / 4 * 1024 + r < 2048) (h' : t.val % 4 * 1024 + d < 4096) :
    ((cfg0.win 2).blk t).view.emb (ix2 r d) = (ix2 ⟨t.val / 4 * 1024 + r, h⟩ ⟨t.val % 4 * 1024 + d, h'⟩ : S2048x4096.Idx) := by
  funext a; apply Fin.ext
  refine (Pipeline.Window.rect_emb_val (cfg0.win 2) t _ a rfl).trans ?_
  match a with
  | ⟨0, _⟩ => show win0_2.index t 0 * 1024 + r.val = t.val / 4 * 1024 + r; rw [(i2 t).1]
  | ⟨1, _⟩ => show win0_2.index t 1 * 1024 + d.val = t.val % 4 * 1024 + d; rw [(i2 t).2]
theorem emb3 (t : Fin cfg0.N) (r d : Fin 1024) (h : t.val / 4 * 1024 + r < 2048) (h' : t.val % 4 * 1024 + d < 4096) :
    ((cfg0.win 3).blk t).view.emb (ix2 r d) = (ix2 ⟨t.val / 4 * 1024 + r, h⟩ ⟨t.val % 4 * 1024 + d, h'⟩ : S2048x4096.Idx) := by
  funext a; apply Fin.ext
  refine (Pipeline.Window.rect_emb_val (cfg0.win 3) t _ a rfl).trans ?_
  match a with
  | ⟨0, _⟩ => show win0_3.index t 0 * 1024 + r.val = t.val / 4 * 1024 + r; rw [(i3 t).1]
  | ⟨1, _⟩ => show win0_3.index t 1 * 1024 + d.val = t.val % 4 * 1024 + d; rw [(i3 t).2]

/-- The gradient: the incoming gradient times the weight's transpose, times twice the positive part. -/
def grad (u : S2048x4096.Idx → EReal) (w : S4096x1024.Idx → EReal) (g : S2048x1024.Idx → EReal) : S2048x4096.Idx → EReal :=
  fun i => (∑ k : Fin 1024, g (ix2 (i 0 : Fin 2048) k) * w (ix2 (i 1 : Fin 4096) k)) * (two * max (u i) 0)

theorem grad_apply (u : S2048x4096.Idx → EReal) (w : S4096x1024.Idx → EReal) (g : S2048x1024.Idx → EReal) (r : Fin 2048) (d : Fin 4096) :
    grad u w g (ix2 r d) = (∑ k : Fin 1024, g (ix2 r k) * w (ix2 d k)) * (two * max (u (ix2 r d)) 0) := rfl

/-- The weight in pieces of 512 rows. -/
theorem pieces_at (x : Vec Ideal S4096x1024 .f32) (a : Fin 8) (b : Fin 512) (k : Fin 1024) :
    (shapeCast S8x512x1024 (truncf (F := Ideal) .bf16 x bitsLt_bf16_f32) shapeCasts_S4096x1024_S8x512x1024 : S8x512x1024.Idx → EReal) (ix3 a b k)
      = x (ix2 ⟨a.val * 512 + b.val, by omega⟩ k) := by
  pointwise

variable (m : (ℓ : Loc nD τ sig) → Buf (Elt Ideal) ℓ) (c : Dev nD)

/-- The host hands the weight over in pieces of 512 rows. -/
theorem V_w (a : Fin 8) (b : Fin 512) (k : Fin 1024) :
    (V m c main_v1 : S8x512x1024.Idx → EReal) (ix3 a b k) = (m ((c.tc : Thread nD τ).loc main_arg1) : S4096x1024.Idx → EReal) (ix2 ⟨a.val * 512 + b.val, by omega⟩ k) := by
  have e : V m c main_v1 = shapeCast S8x512x1024 (truncf (F := Ideal) .bf16 (m ((c.tc : Thread nD τ).loc main_arg1)) bitsLt_bf16_f32)
      shapeCasts_S4096x1024_S8x512x1024 := by
    unfold_abbrev_sides
    after_results
    rfl
  rw [e]
  exact pieces_at _ a b k

/-- What the kernel's launch leaves. -/
theorem arr : (dats m 0 c).arrAt 3 cfg0.N
    = grad (m ((c.tc : Thread nD τ).loc main_arg0)) (m ((c.tc : Thread nD τ).loc main_arg1)) (m ((c.tc : Thread nD τ).loc main_arg2)) := by
  refine Dat.arrAt_eq_of_cover _ 3 _ ?_ ?_
  · intro t _
    rw [Value.flushed3]
    funext y
    obtain ⟨r, d, rfl⟩ : ∃ (r d : Fin 1024), y = ix2 r d := ⟨y 0, y 1, by funext a; fin_cases a <;> rfl⟩
    have ht := points t
    have h : t.val / 4 * 1024 + r < 2048 := by omega
    have h' : t.val % 4 * 1024 + d < 4096 := by omega
    refine Eq.trans (b := outsAt0 m c t (ix2 r d)) rfl ?_
    refine Eq.trans (b := grad _ _ _ (ix2 ⟨t.val / 4 * 1024 + r, h⟩ ⟨t.val % 4 * 1024 + d, h'⟩)) ?_ (congrArg (grad _ _ _) (emb3 t r d h h').symm)
    rw [grad_apply]
    unfold outsAt0
    rw [out_block]
    refine (block_at _ _ _ r d).trans ?_
    refine congrArg₂ (· * ·) (Finset.sum_congr rfl fun k _ => congrArg₂ (· * ·) ?_ ?_) (congrArg (fun x => two * max x 0) ?_)
    · exact Eq.trans (congrArg (V m c main_arg2) (emb0 t r k h)) (congrFun (V_main_arg2 m c) _)
    · refine Eq.trans (congrArg (V m c main_v1) (emb1 t ⟨d.val / 512, by omega⟩ ⟨d.val % 512, by omega⟩ k (by show t.val % 4 * 2 + d.val / 512 < 8; omega))) ?_
      refine (V_w m c _ _ k).trans (congrArg (fun x => (m ((c.tc : Thread nD τ).loc main_arg1) : S4096x1024.Idx → EReal) (ix2 x k)) (Fin.ext ?_))
      show (t.val % 4 * 2 + d.val / 512) * 512 + d.val % 512 = t.val % 4 * 1024 + d
      omega
    · exact Eq.trans (congrArg (V m c main_arg0) (emb2 t r d h h')) (congrFun (V_main_arg0 m c) _)
  · intro i
    have h0 : (i 0).val < 2048 := (i 0).isLt
    have h1 : (i 1).val < 4096 := (i 1).isLt
    have hN : (i 0).val / 1024 * 4 + (i 1).val / 1024 < cfg0.N := by show _ < 8; omega
    refine ⟨⟨_, hN⟩, flush0_3 _, ?_⟩
    have e := emb3 ⟨_, hN⟩ ⟨(i 0).val % 1024, by omega⟩ ⟨(i 1).val % 1024, by omega⟩ (by show ((i 0).val / 1024 * 4 + (i 1).val / 1024) / 4 * 1024 + (i 0).val % 1024 < 2048; omega)
      (by show ((i 0).val / 1024 * 4 + (i 1).val / 1024) % 4 * 1024 + (i 1).val % 1024 < 4096; omega)
    have : i = ((cfg0.win 3).blk ⟨_, hN⟩).view.emb (ix2 ⟨(i 0).val % 1024, by omega⟩ ⟨(i 1).val % 1024, by omega⟩) := by
      rw [e]; funext a
      match a with
      | ⟨0, _⟩ => exact Fin.ext (by show (i 0).val = ((i 0).val / 1024 * 4 + (i 1).val / 1024) / 4 * 1024 + (i 0).val % 1024; omega)
      | ⟨1, _⟩ => exact Fin.ext (by show (i 1).val = ((i 0).val / 1024 * 4 + (i 1).val / 1024) % 4 * 1024 + (i 1).val % 1024; omega)
    exact Eq.mpr (congrArg (· ∈ ((cfg0.win 3).blk ⟨_, hN⟩).view.set) this) (View.emb_mem_set _ _)

/-! ## The reference -/

/-- What the reference computes. -/
theorem ref (u : S2048x4096.Idx → EReal) (w : S4096x1024.Idx → EReal) (g : S2048x1024.Idx → EReal) :
    (DownXRefIdeal.Read.val_main_v12 (F := Ideal) u w g : S2048x4096.Idx → EReal) = grad u w g := by
  funext i
  obtain ⟨r, d, rfl⟩ : ∃ (r : Fin 2048) (d : Fin 4096), i = ix2 r d := ⟨i 0, i 1, by funext a; fin_cases a <;> rfl⟩
  rw [grad_apply]
  unfold DownXRefIdeal.Read.val_main_v12 DownXRefIdeal.Read.val_main_v11 DownXRefIdeal.Read.val_main_v10 DownXRefIdeal.Read.val_main_v9 DownXRefIdeal.Read.val_main_v8
    DownXRefIdeal.Read.val_main_v6 DownXRefIdeal.Read.val_main_v5 DownXRefIdeal.Read.val_main_v2 DownXRefIdeal.Read.val_main_v1 DownXRefIdeal.Read.val_main_v0
    DownXRefIdeal.Read.val_main_call0_v0 DownXRefIdeal.Read.val_main_call0_cst DownXRefIdeal.Read.val_main_cst DownXRefIdeal.Read.val_main_cst_1 DownXRefIdeal.Read.val_main_cst_2
  pointwise
  split
  · rfl
  · rename_i h
    rw [max_eq_right (not_lt.mp h), mul_zero, mul_zero]

end Cert.DownXIdeal.Mlp

end
-- ==== Proof.DownW.lean ====
/- The gradient of an MLP's second layer towards its weight: what the kernel's launch leaves is the reference's
   gradient, over the exact numbers. -/
module

public import proofs.«01_k».proof.Proof.Gen.DownWIdeal.Value
public import proofs.«01_k».proof.Proof.Gen.DownWRefIdeal.Read
public import Idealize.ShloMosaic.Lib.Pointwise
public import Idealize.ShloMosaic.Lib.KernelVsHost
public import Idealize.ShloMosaic.Lib.VecWindow

@[expose] public section

noncomputable section

namespace Cert.DownWIdeal.Mlp

open Idealize.ShloMosaic Idealize.ShloMosaic.TcCoe Idealize.SL.Sem
open Cert.DownWIdeal Cert.DownWIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x512 .bf16) (harg3 : arg3.IsWhole)
    (arg4 : Memref sig .tc .vmem S2048x1024 .f32) (harg4 : arg4.IsWhole) (arg5 : Memref sig .tc .vmem S1x512x1024 .bf16) (harg5 : arg5.IsWhole)
    (arg6 : Memref sig .tc .vmem S512x1024 .f32) (harg6 : arg6.IsWhole)
    (hc0 : cond0_0 i) (hc1 : cond0_1 i) (x0 : Vec F S2048x512 .bf16) (x1 : Vec F S2048x1024 .f32) :
    out0_A_2 c i arg3 harg3 arg4 harg4 arg5 harg5 arg6 harg6 hc0 hc1 x0 x1 = k0_pay3 (k0_pay2 x1 k0_pay1 x0) := by
  have hz : (![0, 0] : Fin 2 → Nat) = fun _ => 0 := by decide
  have hz3 : (![0, 0, 0] : Fin 3 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1x512x1024) hz3, View.readCov_unit_zero (S := S512x1024) _ hz]
  simp only [View.readAt_eq_ld, harg3.read_unread, harg4.read_unread, View.ld_unit_zero (S := S2048x512) hz, View.ld_unit_zero (S := S2048x1024) hz]
  rw [View.readCov_full (s := S512x1024)]

/-- A point's block at an index. -/
theorem block_at (x0 : Vec Ideal S2048x512 .bf16) (x1 : Vec Ideal S2048x1024 .f32) (r : Fin 512) (d : Fin 1024) :
    (k0_pay3 (F := Ideal) (k0_pay2 (F := Ideal) x1 (k0_pay1 (F := Ideal)) x0) : S1x512x1024.Idx → EReal) (ix3 0 r d)
      = ∑ k : Fin 2048, x0 (ix2 k r) * x1 (ix2 k d) := by
  unfold k0_pay3 k0_pay2 k0_pay1
  pointwise

/-! ## The array -/

theorem points : ∀ t : Fin grid0.N, t.val < 8 := by decide +kernel
theorem i0 : ∀ t : Fin grid0.N, win0_0.index t 0 = 0 ∧ win0_0.index t 1 = t.val := by decide +kernel
theorem i1 : ∀ t : Fin grid0.N, win0_1.index t 0 = 0 ∧ win0_1.index t 1 = 0 := by decide +kernel
theorem i2 : ∀ t : Fin grid0.N, win0_2.index t 0 = t.val ∧ win0_2.index t 1 = 0 ∧ win0_2.index t 2 = 0 := by decide +kernel

theorem emb0 (t : Fin cfg0.N) (k : Fin 2048) (r : Fin 512) (h : t.val * 512 + r < 4096) :
    ((cfg0.win 0).blk t).view.emb (ix2 k r) = (ix2 k ⟨t.val * 512 + r, h⟩ : S2048x4096.Idx) := by
  funext a; apply Fin.ext
  refine (Pipeline.Window.rect_emb_val (cfg0.win 0) t _ a rfl).trans ?_
  match a with
  | ⟨0, _⟩ => show win0_0.index t 0 * 2048 + k.val = k.val; rw [(i0 t).1]; omega
  | ⟨1, _⟩ => show win0_0.index t 1 * 512 + r.val = t.val * 512 + r; rw [(i0 t).2]
theorem emb1 (t : Fin cfg0.N) (k : Fin 2048) (d : Fin 1024) :
    ((cfg0.win 1).blk t).view.emb (ix2 k d) = (ix2 k d : S2048x1024.Idx) := by
  funext a; apply Fin.ext
  refine (Pipeline.Window.rect_emb_val (cfg0.win 1) t _ a rfl).trans ?_
  match a with
  | ⟨0, _⟩ => show win0_1.index t 0 * 2048 + k.val = k.val; rw [(i1 t).1]; omega
  | ⟨1, _⟩ => show win0_1.index t 1 * 1024 + d.val = d.val; rw [(i1 t).2]; omega
theorem emb2 (t : Fin cfg0.N) (r : Fin 512) (d : Fin 1024) (h : t.val < 8) :
    ((cfg0.win 2).blk t).view.emb (ix3 0 r d) = (ix3 ⟨t.val, h⟩ r d : S8x512x1024.Idx) := by
  funext a; apply Fin.ext
  refine (Pipeline.Window.rect_emb_val (cfg0.win 2) t _ a rfl).trans ?_
  match a with
  | ⟨0, _⟩ => show win0_2.index t 0 * 1 + 0 = t.val; rw [(i2 t).1]; omega
  | ⟨1, _⟩ => show win0_2.index t 1 * 512 + r.val = r.val; rw [(i2 t).2.1]; omega
  | ⟨2, _⟩ => show win0_2.index t 2 * 1024 + d.val = d.val; rw [(i2 t).2.2]; omega

/-- The squared positive part. -/
def sq (x : EReal) : EReal := max x 0 * max x 0

/-- The gradient at an index: the squared positive part's transpose times the incoming gradient. -/
def gradAt (u : S2048x4096.Idx → EReal) (g : S2048x1024.Idx → EReal) (a : Fin 8) (r : Fin 512) (d : Fin 1024) : EReal :=
  ∑ k : Fin 2048, sq (u (ix2 k ⟨a.val * 512 + r.val, by omega⟩)) * g (ix2 k d)

/-- The gradient, in pieces of 512 rows. -/
def grad (u : S2048x4096.Idx → EReal) (g : S2048x1024.Idx → EReal) : S8x512x1024.Idx → EReal :=
  fun i => gradAt u g (i 0) (i 1) (i 2)

theorem grad_apply (u : S2048x4096.Idx → EReal) (g : S2048x1024.Idx → EReal) (a : Fin 8) (r : Fin 512) (d : Fin 1024) :
    grad u g (ix3 a r d) = ∑ k : Fin 2048, sq (u (ix2 k ⟨a.val * 512 + r.val, by omega⟩)) * g (ix2 k d) := rfl

/-- The squared positive part, as the host computes it. -/
theorem square_at (x : Vec Ideal S2048x4096 .f32) (k : Fin 2048) (r : Fin 4096) :
    (truncf (F := Ideal) .bf16 (mulf (maximumf x (broadcastInDim S2048x4096 ![] bcast_S_S2048x4096 (constant S_ .f32 0x00000000#32)))
      (maximumf x (broadcastInDim S2048x4096 ![] bcast_S_S2048x4096 (constant S_ .f32 0x00000000#32)))) bitsLt_bf16_f32 : S2048x4096.Idx → EReal) (ix2 k r)
      = sq (x (ix2 k r)) := by
  unfold sq
  pointwise

variable (m : (ℓ : Loc nD τ sig) → Buf (Elt Ideal) ℓ) (c : Dev nD)

theorem V_a (k : Fin 2048) (r : Fin 4096) :
    (V m c main_v2 : S2048x4096.Idx → EReal) (ix2 k r)
      = sq ((m ((c.tc : Thread nD τ).loc main_arg0) : S2048x4096.Idx → EReal) (ix2 k r)) := by
  have e : V m c main_v2 = truncf (F := Ideal) .bf16 (mulf (maximumf (m ((c.tc : Thread nD τ).loc main_arg0)) (broadcastInDim S2048x4096 ![] bcast_S_S2048x4096 (constant S_ .f32 0x00000000#32)))
      (maximumf (m ((c.tc : Thread nD τ).loc main_arg0)) (broadcastInDim S2048x4096 ![] bcast_S_S2048x4096 (constant S_ .f32 0x00000000#32)))) bitsLt_bf16_f32 := by
    unfold_abbrev_sides
    after_results
    rfl
  rw [e]
  exact square_at _ k r

/-- What the kernel's launch leaves. -/
theorem arr : (dats m 0 c).arrAt 2 cfg0.N = grad (m ((c.tc : Thread nD τ).loc main_arg0)) (m ((c.tc : Thread nD τ).loc main_arg2)) := by
  refine Dat.arrAt_eq_of_cover _ 2 _ ?_ ?_
  · intro t _
    rw [Value.flushed2]
    funext y
    obtain ⟨r, d, rfl⟩ : ∃ (r : Fin 512) (d : Fin 1024), y = ix3 0 r d :=
      ⟨y 1, y 2, by funext a; match a with | ⟨0, _⟩ => exact Fin.ext (by have h : (y 0).val < 1 := (y 0).isLt; show (y 0).val = 0; omega) | ⟨1, _⟩ => rfl | ⟨2, _⟩ => rfl⟩
    have ht := points t
    refine Eq.trans (b := outsAt0 m c t (ix3 0 r d)) rfl ?_
    refine Eq.trans (b := grad _ _ (ix3 ⟨t.val, ht⟩ r d)) ?_ (congrArg (grad _ _) (emb2 t r d ht).symm)
    rw [grad_apply]
    unfold outsAt0
    rw [out_block]
    refine (block_at _ _ r d).trans ?_
    refine Finset.sum_congr rfl fun k _ => congrArg₂ (· * ·) ?_ ?_
    · exact Eq.trans (congrArg (V m c main_v2) (emb0 t k r (by omega))) (V_a m c k _)
    · exact Eq.trans (congrArg (V m c main_arg2) (emb1 t k d)) (congrFun (V_main_arg2 m c) _)
  · intro i
    have h0 : (i 0).val < 8 := (i 0).isLt
    have hN : (i 0).val < cfg0.N := h0
    refine ⟨⟨_, hN⟩, flush0_2 _, ?_⟩
    have : i = ((cfg0.win 2).blk ⟨_, hN⟩).view.emb (ix3 0 (i 1) (i 2)) := by
      rw [emb2 ⟨_, hN⟩ (i 1) (i 2) h0]; funext a
      match a with
      | ⟨0, _⟩ => rfl
      | ⟨1, _⟩ => rfl
      | ⟨2, _⟩ => rfl
    exact Eq.mpr (congrArg (· ∈ ((cfg0.win 2).blk ⟨_, hN⟩).view.set) this) (View.emb_mem_set _ _)

/-! ## The reference -/

/-- What the reference computes. -/
theorem ref (u : S2048x4096.Idx → EReal) (g : S2048x1024.Idx → EReal) :
    (DownWRefIdeal.Read.val_main_v6 (F := Ideal) u g : S8x512x1024.Idx → EReal) = grad u g := by
  funext i
  obtain ⟨a, r, d, rfl⟩ : ∃ (a : Fin 8) (r : Fin 512) (d : Fin 1024), i = ix3 a r d := ⟨i 0, i 1, i 2, by funext x; fin_cases x <;> rfl⟩
  rw [grad_apply]
  unfold sq DownWRefIdeal.Read.val_main_v6 DownWRefIdeal.Read.val_main_v5 DownWRefIdeal.Read.val_main_v4 DownWRefIdeal.Read.val_main_v3 DownWRefIdeal.Read.val_main_v1
    DownWRefIdeal.Read.val_main_v0 DownWRefIdeal.Read.val_main_call0_v0 DownWRefIdeal.Read.val_main_call0_cst
  pointwise
  refine Finset.sum_congr rfl fun k _ => mul_comm _ _

end Cert.DownWIdeal.Mlp

end
-- ==== Proof.UpX.lean ====
/- The gradient of an MLP's first layer and its normalization towards their input: what the kernel's launch leaves is
   the reference's gradient, over the exact numbers. -/
module

public import proofs.«01_k».proof.Proof.Gen.UpXIdeal.Value
public import proofs.«01_k».proof.Proof.Gen.UpXRefIdeal.Read
public import Idealize.ShloMosaic.Lib.Pointwise
public import Idealize.ShloMosaic.Lib.KernelVsHost
public import Idealize.ShloMosaic.Lib.VecWindow

@[expose] public section

noncomputable section

namespace Cert.UpXIdeal.Mlp

open Idealize.ShloMosaic Idealize.ShloMosaic.TcCoe Idealize.SL.Sem
open Cert.UpXIdeal Cert.UpXIdeal.Gen
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide
theorem hz3 : (![0, 0, 0] : Fin 3 → Nat) = fun _ => 0 := by decide

/-- The accumulator's buffer holds what it was given. -/
theorem read_scratch (x : Vec F S1024x1024 .f32) :
    View.read (Elt F) (View.whole cc0_scratch0) ((Memref.isWhole_whole cc0_scratch0).unread x) = x :=
  (Memref.isWhole_whole cc0_scratch0).read_unread x

/-- What the point before left in the accumulator, and in the weight's gradient. -/
abbrev accBefore : Vec F S1024x1024 .f32 := (outsAt0 m c (t.val - 1) (Nat.lt_of_le_of_lt (Nat.sub_le _ _) t.isLt)).2.2
abbrev dwBefore : Vec F S1x1024 .f32 := (outsAt0 m c (t.val - 1) (Nat.lt_of_le_of_lt (Nat.sub_le _ _) t.isLt)).2.1

/-- The accumulator after a point: the point's product on top of what it starts from. -/
abbrev accOn (a : Vec F S1024x1024 .f32) : Vec F S1024x1024 .f32 := k0_pay2 (iblk m c 1 t) a (iblk m c 0 t)

theorem acc_A (h0 : t.val % 8 = 0) : (outsAt0 m c t.val t.isLt).2.2 = accOn m c t k0_pay1 := by
  rw [outsAt0_A m c t h0 (by omega)]
  dsimp only
  unfold sout0_A_0
  rw [View.read_writes_junk_eq_canon]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x512) hz, View.ld_unit_zero (S := S1x1024x512) hz3]

theorem acc_B (h0 : ¬t.val % 8 = 0) (h1 : ¬t.val % 8 = 7) : (outsAt0 m c t.val t.isLt).2.2 = accOn m c t (accBefore m c t) := by
  rw [outsAt0_B m c t h0 h1]
  dsimp only
  unfold sout0_B_0
  rw [View.read_writes_junk_eq_canon]
  unfold kernelRun0_B
  dsimp only
  sl_unfold_words
  rw [View.canon_unit_zero (S := S1024x1024) hz]
  simp only [View.readAt_eq_ld, (hs0_0 t).read_unread, (hs0_1 t).read_unread, read_scratch, View.ld_unit_zero (S := S1024x1024) hz, View.ld_unit_zero (S := S1024x512) hz, View.ld_unit_zero (S := S1x1024x512) hz3]

theorem dw_A (h0 : t.val % 8 = 0) : (outsAt0 m c t.val t.isLt).2.1 = dwBefore m c t := by
  rw [outsAt0_A m c t h0 (by omega)]; rfl

theorem dw_B (h0 : ¬t.val % 8 = 0) (h1 : ¬t.val % 8 = 7) : (outsAt0 m c t.val t.isLt).2.1 = dwBefore m c t := by
  rw [outsAt0_B m c t h0 h1]; rfl

theorem dx_C (h1 : t.val % 8 = 7) (h2 : t.val < 8) :
    (outsAt0 m c t.val t.isLt).1 = k0_pay7 (accOn m c t (accBefore m c t)) (iblk m c 4 t) (iblk m c 2 t) (iblk m c 3 t) := by
  rw [outsAt0_C m c t (by omega) h1 h2 (by omega)]
  dsimp only
  unfold out0_C_5
  rw [View.read_writes_junk_eq_canon]
  unfold kernelRun0_C
  dsimp only
  sl_unfold_words
  rw [View.canon_unit_zero (S := S1024x1024) hz]
  simp only [View.readAt_eq_ld, View.readCov_unit_zero (S := S1024x1024) _ hz, (hs0_0 t).read_unread, (hs0_1 t).read_unread, (hs0_2 t).read_unread, (hs0_3 t).read_unread, (hs0_4 t).read_unread, read_scratch, View.ld_unit_zero (S := S1024x1024) hz, View.ld_unit_zero (S := S1x1024) hz, View.ld_unit_zero (S := S1024x512) hz, View.ld_unit_zero (S := S1x1024x512) hz3]

theorem dx_D (h1 : t.val % 8 = 7) (h2 : ¬t.val < 8) :
    (outsAt0 m c t.val t.isLt).1 = k0_pay7 (accOn m c t (accBefore m c t)) (iblk m c 4 t) (iblk m c 2 t) (iblk m c 3 t) := by
  rw [outsAt0_D m c t (by omega) h1 h2 (by omega)]
  dsimp only
  unfold out0_D_5
  rw [View.read_writes_junk_eq_canon]
  unfold kernelRun0_D
  dsimp only
  sl_unfold_words
  rw [View.canon_unit_zero (S := S1024x1024) hz]
  simp only [View.readAt_eq_ld, View.readCov_unit_zero (S := S1024x1024) _ hz, (hs0_0 t).read_unread, (hs0_1 t).read_unread, (hs0_2 t).read_unread, (hs0_3 t).read_unread, (hs0_4 t).read_unread, read_scratch, View.ld_unit_zero (S := S1024x1024) hz, View.ld_unit_zero (S := S1x1024) hz, View.ld_unit_zero (S := S1024x512) hz, View.ld_unit_zero (S := S1x1024x512) hz3]

theorem dw_C (h1 : t.val % 8 = 7) (h2 : t.val < 8) :
    (outsAt0 m c t.val t.isLt).2.1 = k0_pay6 (accOn m c t (accBefore m c t)) (iblk m c 2 t) := by
  rw [outsAt0_C m c t (by omega) h1 h2 (by omega)]
  dsimp only
  unfold out0_C_6
  rw [View.read_writes_junk_eq_canon]
  unfold kernelRun0_C
  dsimp only
  sl_unfold_words
  rw [View.canon_unit_zero (S := S1x1024) hz]
  simp only [View.readAt_eq_ld, View.readCov_unit_zero (S := S1024x1024) _ hz, (hs0_0 t).read_unread, (hs0_1 t).read_unread, (hs0_2 t).read_unread, (hs0_3 t).read_unread, (hs0_4 t).read_unread, read_scratch, View.ld_unit_zero (S := S1024x1024) hz, View.ld_unit_zero (S := S1x1024) hz, View.ld_unit_zero (S := S1024x512) hz, View.ld_unit_zero (S := S1x1024x512) hz3]

theorem dw_D (h1 : t.val % 8 = 7) (h2 : ¬t.val < 8) :
    (outsAt0 m c t.val t.isLt).2.1 = k0_pay3 (k0_pay6 (accOn m c t (accBefore m c t)) (iblk m c 2 t)) (dwBefore m c t) := by
  rw [outsAt0_D m c t (by omega) h1 h2 (by omega)]
  dsimp only
  unfold out0_D_6
  rw [View.read_writes_junk_eq_canon]
  unfold kernelRun0_D
  dsimp only
  sl_unfold_words
  rw [View.canon_unit_zero (S := S1x1024) hz]
  simp only [(hs0_6 t).read_unread, View.readAt_eq_ld, View.readCov_unit_zero (S := S1024x1024) _ hz, (hs0_0 t).read_unread, (hs0_1 t).read_unread, (hs0_2 t).read_unread, (hs0_3 t).read_unread, (hs0_4 t).read_unread, read_scratch, View.ld_unit_zero (S := S1024x1024) hz, View.ld_unit_zero (S := S1x1024) hz, View.ld_unit_zero (S := S1024x512) hz, View.ld_unit_zero (S := S1x1024x512) hz3]

end

/-! ## The payloads at an index -/

theorem pay2_at (x0 : Vec Ideal S1024x512 .bf16) (x1 : Vec Ideal S1x1024x512 .bf16) (a : Vec Ideal S1024x1024 .f32) (r d : Fin 1024) :
    (k0_pay2 (F := Ideal) x1 a x0 : S1024x1024.Idx → EReal) (ix2 r d) = a (ix2 r d) + ∑ k : Fin 512, x0 (ix2 r k) * x1 (ix3 0 d k) := by
  unfold k0_pay2
  pointwise

theorem pay1_at (r d : Fin 1024) : (k0_pay1 (F := Ideal) : S1024x1024.Idx → EReal) (ix2 r d) = 0 := by
  unfold k0_pay1
  pointwise

theorem pay3_at (a b : Vec Ideal S1x1024 .f32) (d : Fin 1024) : (k0_pay3 (F := Ideal) a b : S1x1024.Idx → EReal) (ix2 0 d) = b (ix2 0 d) + a (ix2 0 d) := by
  unfold k0_pay3
  pointwise

/-! ## One row's normalization, backwards -/

/-- A row's mean square, with the small number added. -/
def ms (x : Fin 1024 → EReal) : EReal := Ideal.div (∑ k, x k * x k) (Ideal.ofBits .f32 0x44800000#32) + Ideal.ofBits .f32 0x358637BD#32

/-- What the mean square's gradient hands back to each of the row's entries. -/
def back (x w R : Fin 1024 → EReal) : EReal :=
  ∑ _ : Fin 1, Ideal.div ((∑ k, x k * (R k * w k)) * (Ideal.ofBits .f32 0xBF000000#32 * Ideal.div (Ideal.rsqrt (ms x)) (ms x))) (Ideal.ofBits .f32 0x44800000#32)

/-- The row's gradient, with the incoming one added. -/
def dxAt (x w R y : Fin 1024 → EReal) (d : Fin 1024) : EReal := R d * w d * Ideal.rsqrt (ms x) + x d * back x w R + back x w R * x d + y d

/-- The row's part of the weight's gradient. -/
def dwAt (x R : Fin 1024 → EReal) (d : Fin 1024) : EReal := x d * Ideal.rsqrt (ms x) * R d

theorem pay6_at (a x : Vec Ideal S1024x1024 .f32) (d : Fin 1024) :
    (k0_pay6 (F := Ideal) a x : S1x1024.Idx → EReal) (ix2 0 d) = ∑ r : Fin 1024, dwAt (fun k => x (ix2 r k)) (fun k => a (ix2 r k)) d := by
  unfold k0_pay6 k0_pay5 k0_pay4 dwAt ms
  pointwise

theorem pay7_at (a : Vec Ideal S1024x1024 .f32) (w : Vec Ideal S1x1024 .f32) (x y : Vec Ideal S1024x1024 .f32) (r d : Fin 1024) :
    (k0_pay7 (F := Ideal) a w x y : S1024x1024.Idx → EReal) (ix2 r d)
      = dxAt (fun k => x (ix2 r k)) (fun k => w (ix2 0 k)) (fun k => a (ix2 r k)) (fun k => y (ix2 r k)) d := by
  unfold k0_pay7 k0_pay5 k0_pay4 dxAt back ms
  pointwise

/-! ## The gradient -/

/-- The gradient handed to the normalization's rows. -/
def rowsGrad (w1 : S1024x4096.Idx → EReal) (g : S2048x4096.Idx → EReal) (i : Fin 2048) (d : Fin 1024) : EReal := ∑ k : Fin 4096, g (ix2 i k) * w1 (ix2 d k)

/-- The gradient towards the input. -/
def gradX (x : S2048x1024.Idx → EReal) (w : S1024.Idx → EReal) (w1 : S1024x4096.Idx → EReal) (g : S2048x4096.Idx → EReal) (y : S2048x1024.Idx → EReal) : S2048x1024.Idx → EReal :=
  fun i => dxAt (fun k => x (ix2 (i 0 : Fin 2048) k)) (fun k => w (ix1 k)) (rowsGrad w1 g (i 0)) (fun k => y (ix2 (i 0 : Fin 2048) k)) (i 1)

/-- The gradient towards the normalization's weight. -/
def gradW (x : S2048x1024.Idx → EReal) (w1 : S1024x4096.Idx → EReal) (g : S2048x4096.Idx → EReal) : S1x1024.Idx → EReal :=
  fun i => ∑ r : Fin 2048, dwAt (fun k => x (ix2 r k)) (rowsGrad w1 g r) (i 1)

/-! ## The reference -/

section
open UpXRefIdeal.Read

theorem ref_rows (w1 : Vec Ideal S1024x4096 .f32) (g : Vec Ideal S2048x4096 .f32) (i : Fin 2048) (d : Fin 1024) :
    (val_main_v17 (F := Ideal) w1 g : S2048x1024.Idx → EReal) (ix2 i d) = rowsGrad w1 g i d := by
  unfold val_main_v17 rowsGrad
  pointwise

theorem ref_x (x : Vec Ideal S2048x1024 .f32) (w : Vec Ideal S1024 .f32) (w1 : Vec Ideal S1024x4096 .f32) (g : Vec Ideal S2048x4096 .f32) (y : Vec Ideal S2048x1024 .f32) :
    (val_main_v38 (F := Ideal) x w w1 g y : S2048x1024.Idx → EReal) = gradX x w w1 g y := by
  funext i
  obtain ⟨r, d, rfl⟩ : ∃ (r : Fin 2048) (d : Fin 1024), i = ix2 r d := ⟨i 0, i 1, by funext a; fin_cases a <;> rfl⟩
  refine Eq.trans ?_ (congrArg (fun R => dxAt (fun k => x (ix2 r k)) (fun k => w (ix1 k)) R (fun k => y (ix2 r k)) d) (funext fun k => ref_rows w1 g r k))
  unfold val_main_v38 val_main_v37 val_main_v36 val_main_v35 val_main_v34 val_main_v33 val_main_v32 val_main_v31 val_main_v30 val_main_v29 val_main_v28 val_main_v27
    val_main_v26 val_main_v25 val_main_v24 val_main_v22 val_main_v21 val_main_v13 val_main_v10 val_main_v9 val_main_v8 val_main_v7 val_main_v6 val_main_v5 val_main_v4
    val_main_v3 val_main_v2 val_main_v1 val_main_v0 val_main_cst val_main_cst_0 val_main_cst_1 val_main_cst_2 val_main_cst_5 val_main_cst_6 val_main_cst_7 dxAt back ms
  generalize val_main_v17 (F := Ideal) w1 g = R
  pointwise

theorem ref_w (x : Vec Ideal S2048x1024 .f32) (w1 : Vec Ideal S1024x4096 .f32) (g : Vec Ideal S2048x4096 .f32) :
    (val_main_v39 (F := Ideal) x w1 g : S1x1024.Idx → EReal) = gradW x w1 g := by
  funext i
  obtain ⟨d, rfl⟩ : ∃ (d : Fin 1024), i = ix2 0 d :=
    ⟨i 1, by funext a; match a with | ⟨0, _⟩ => exact Fin.ext (by have h : (i 0).val < 1 := (i 0).isLt; show (i 0).val = 0; omega) | ⟨1, _⟩ => rfl⟩
  refine Eq.trans ?_ (Finset.sum_congr rfl fun r _ => congrArg (fun R => dwAt (fun k => x (ix2 r k)) R d) (funext fun k => ref_rows w1 g r k))
  unfold val_main_v39 val_main_v23 val_main_v20 val_main_v19 val_main_v18 val_main_v12 val_main_v11 val_main_v7 val_main_v6 val_main_v5 val_main_v4 val_main_v3 val_main_v2
    val_main_v1 val_main_v0 val_main_cst val_main_cst_0 val_main_cst_1 val_main_cst_3 val_main_cst_4 dwAt ms
  generalize val_main_v17 (F := Ideal) w1 g = R
  pointwise
  exact Fin.sum_univ_one _

end

/-! ## Where the blocks sit -/

theorem points : ∀ t : Fin grid0.N, t.val < 16 := by decide +kernel
theorem i0 : ∀ t : Fin grid0.N, win0_0.index t 0 = t.val / 8 ∧ win0_0.index t 1 = t.val % 8 := by decide +kernel
theorem i1 : ∀ t : Fin grid0.N, win0_1.index t 0 = t.val % 8 ∧ win0_1.index t 1 = 0 ∧ win0_1.index t 2 = 0 := by decide +kernel
theorem i2 : ∀ t : Fin grid0.N, win0_2.index t 0 = t.val / 8 ∧ win0_2.index t 1 = 0 := by decide +kernel
theorem i3 : ∀ t : Fin grid0.N, win0_3.index t 0 = t.val / 8 ∧ win0_3.index t 1 = 0 := by decide +kernel
theorem i4 : ∀ t : Fin grid0.N, win0_4.index t 0 = 0 ∧ win0_4.index t 1 = 0 := by decide +kernel
theorem i5 : ∀ t : Fin grid0.N, win0_5.index t 0 = t.val / 8 ∧ win0_5.index t 1 = 0 := by decide +kernel
theorem i6 : ∀ t : Fin grid0.N, win0_6.index t 0 = 0 ∧ win0_6.index t 1 = 0 := by decide +kernel

theorem emb0 (t : Fin cfg0.N) (r : Fin 1024) (k : Fin 512) (h : t.val / 8 * 1024 + r < 2048) (h' : t.val % 8 * 512 + k < 4096) :
    ((cfg0.win 0).blk t).view.emb (ix2 r k) = (ix2 ⟨t.val / 8 * 1024 + r, h⟩ ⟨t.val % 8 * 512 + k, h'⟩ : S2048x4096.Idx) := by
  funext a; apply Fin.ext
  refine (Pipeline.Window.rect_emb_val (cfg0.win 0) t _ a rfl).trans ?_
  match a with
  | ⟨0, _⟩ => show win0_0.index t 0 * 1024 + r.val = t.val / 8 * 1024 + r; rw [(i0 t).1]
  | ⟨1, _⟩ => show win0_0.index t 1 * 512 + k.val = t.val % 8 * 512 + k; rw [(i0 t).2]
theorem emb1 (t : Fin cfg0.N) (d : Fin 1024) (k : Fin 512) (h : t.val % 8 < 8) :
    ((cfg0.win 1).blk t).view.emb (ix3 0 d k) = (ix3 ⟨t.val % 8, h⟩ d k : S8x1024x512.Idx) := by
  funext x; apply Fin.ext
  refine (Pipeline.Window.rect_emb_val (cfg0.win 1) t _ x rfl).trans ?_
  match x with
  | ⟨0, _⟩ => show win0_1.index t 0 * 1 + 0 = t.val % 8; rw [(i1 t).1]; omega
  | ⟨1, _⟩ => show win0_1.index t 1 * 1024 + d.val = d.val; rw [(i1 t).2.1]; omega
  | ⟨2, _⟩ => show win0_1.index t 2 * 512 + k.val = k.val; rw [(i1 t).2.2]; omega
theorem emb2 (t : Fin cfg0.N) (r d : Fin 1024) (h : t.val / 8 * 1024 + r < 2048) :
    ((cfg0.win 2).blk t).view.emb (ix2 r d) = (ix2 ⟨t.val / 8 * 1024 + r, h⟩ d : S2048x1024.Idx) := by
  funext a; apply Fin.ext
  refine (Pipeline.Window.rect_emb_val (cfg0.win 2) t _ a rfl).trans ?_
  match a with
  | ⟨0, _⟩ => show win0_2.index t 0 * 1024 + r.val = t.val / 8 * 1024 + r; rw [(i2 t).1]
  | ⟨1, _⟩ => show win0_2.index t 1 * 1024 + d.val = d.val; rw [(i2 t).2]; omega
theorem emb3 (t : Fin cfg0.N) (r d : Fin 1024) (h : t.val / 8 * 1024 + r < 2048) :
    ((cfg0.win 3).blk t).view.emb (ix2 r d) = (ix2 ⟨t.val / 8 * 1024 + r, h⟩ d : S2048x1024.Idx) := by
  funext a; apply Fin.ext
  refine (Pipeline.Window.rect_emb_val (cfg0.win 3) t _ a rfl).trans ?_
  match a with
  | ⟨0, _⟩ => show win0_3.index t 0 * 1024 + r.val = t.val / 8 * 1024 + r; rw [(i3 t).1]
  | ⟨1, _⟩ => show win0_3.index t 1 * 1024 + d.val = d.val; rw [(i3 t).2]; omega
theorem emb5 (t : Fin cfg0.N) (r d : Fin 1024) (h : t.val / 8 * 1024 + r < 2048) :
    ((cfg0.win 5).blk t).view.emb (ix2 r d) = (ix2 ⟨t.val / 8 * 1024 + r, h⟩ d : S2048x1024.Idx) := by
  funext a; apply Fin.ext
  refine (Pipeline.Window.rect_emb_val (cfg0.win 5) t _ a rfl).trans ?_
  match a with
  | ⟨0, _⟩ => show win0_5.index t 0 * 1024 + r.val = t.val / 8 * 1024 + r; rw [(i5 t).1]
  | ⟨1, _⟩ => show win0_5.index t 1 * 1024 + d.val = d.val; rw [(i5 t).2]; omega
theorem emb4 (t : Fin cfg0.N) (d : Fin 1024) : ((cfg0.win 4).blk t).view.emb (ix2 0 d) = (ix2 0 d : S1x1024.Idx) := by
  funext a; apply Fin.ext
  refine (Pipeline.Window.rect_emb_val (cfg0.win 4) t _ a rfl).trans ?_
  match a with
  | ⟨0, _⟩ => show win0_4.index t 0 * 1 + 0 = 0; rw [(i4 t).1]
  | ⟨1, _⟩ => show win0_4.index t 1 * 1024 + d.val = d.val; rw [(i4 t).2]; omega
theorem emb6 (t : Fin cfg0.N) (d : Fin 1024) : ((cfg0.win 6).blk t).view.emb (ix2 0 d) = (ix2 0 d : S1x1024.Idx) := by
  funext a; apply Fin.ext
  refine (Pipeline.Window.rect_emb_val (cfg0.win 6) t _ a rfl).trans ?_
  match a with
  | ⟨0, _⟩ => show win0_6.index t 0 * 1 + 0 = 0; rw [(i6 t).1]
  | ⟨1, _⟩ => show win0_6.index t 1 * 1024 + d.val = d.val; rw [(i6 t).2]; omega

/-! ## The blocks the points read -/

/-- The weight in pieces of 512 columns. -/
theorem pieces_at (x : Vec Ideal S1024x4096 .f32) (a : Fin 8) (d : Fin 1024) (k : Fin 512) :
    (transpose S8x1024x512 [1, 0, 2] (shapeCast S1024x8x512 (truncf (F := Ideal) .bf16 x bitsLt_bf16_f32) shapeCasts_S1024x4096_S1024x8x512)
      transposes_S1024x8x512_S8x1024x512_1_0_2 : S8x1024x512.Idx → EReal) (ix3 a d k) = x (ix2 d ⟨a.val * 512 + k.val, by omega⟩) := by
  pointwise

theorem row_at (x : Vec Ideal S1024 .f32) (d : Fin 1024) : (shapeCast S1x1024 x shapeCasts_S1024_S1x1024 : S1x1024.Idx → EReal) (ix2 0 d) = x (ix1 d) := by
  pointwise

variable (m : (ℓ : Loc nD τ sig) → Buf (Elt Ideal) ℓ) (c : Dev nD)

abbrev mX : S2048x1024.Idx → EReal := m ((c.tc : Thread nD τ).loc main_arg0)
abbrev mW : S1024.Idx → EReal := m ((c.tc : Thread nD τ).loc main_arg1)
abbrev mW1 : S1024x4096.Idx → EReal := m ((c.tc : Thread nD τ).loc main_arg2)
abbrev mG : S2048x4096.Idx → EReal := m ((c.tc : Thread nD τ).loc main_arg3)
abbrev mY : S2048x1024.Idx → EReal := m ((c.tc : Thread nD τ).loc main_arg4)

theorem V_w1 (a : Fin 8) (d : Fin 1024) (k : Fin 512) :
    (V m c main_v3 : S8x1024x512.Idx → EReal) (ix3 a d k) = mW1 m c (ix2 d ⟨a.val * 512 + k.val, by omega⟩) := by
  have e : V m c main_v3 = transpose S8x1024x512 [1, 0, 2] (shapeCast S1024x8x512 (truncf (F := Ideal) .bf16 (m ((c.tc : Thread nD τ).loc main_arg2)) bitsLt_bf16_f32) shapeCasts_S1024x4096_S1024x8x512)
      transposes_S1024x8x512_S8x1024x512_1_0_2 := by
    unfold_abbrev_sides
    after_results
    rfl
  rw [e]
  exact pieces_at _ a d k

theorem V_w (d : Fin 1024) : (V m c main_v0 : S1x1024.Idx → EReal) (ix2 0 d) = mW m c (ix1 d) := by
  have e : V m c main_v0 = shapeCast S1x1024 (m ((c.tc : Thread nD τ).loc main_arg1)) shapeCasts_S1024_S1x1024 := by
    unfold_abbrev_sides
    after_results
    rfl
  rw [e]
  exact row_at _ d

theorem V_g : (V m c main_v4 : S2048x4096.Idx → EReal) = mG m c := by
  unfold_abbrev_sides
  after_results
  rfl

variable (t : Fin cfg0.N)

theorem rd_g (r : Fin 1024) (k : Fin 512) (h : t.val / 8 * 1024 + r < 2048) (h' : t.val % 8 * 512 + k < 4096) :
    (iblk m c 0 t : S1024x512.Idx → EReal) (ix2 r k) = mG m c (ix2 ⟨t.val / 8 * 1024 + r, h⟩ ⟨t.val % 8 * 512 + k, h'⟩) :=
  Eq.trans (congrArg (V m c main_v4) (emb0 t r k h h')) (congrFun (V_g m c) _)

theorem rd_w1 (d : Fin 1024) (k : Fin 512) (h' : t.val % 8 * 512 + k < 4096) :
    (iblk m c 1 t : S1x1024x512.Idx → EReal) (ix3 0 d k) = mW1 m c (ix2 d ⟨t.val % 8 * 512 + k, h'⟩) :=
  Eq.trans (congrArg (V m c main_v3) (emb1 t d k (by omega))) (V_w1 m c _ d k)

theorem rd_x (r d : Fin 1024) (h : t.val / 8 * 1024 + r < 2048) : (iblk m c 2 t : S1024x1024.Idx → EReal) (ix2 r d) = mX m c (ix2 ⟨t.val / 8 * 1024 + r, h⟩ d) :=
  Eq.trans (congrArg (V m c main_arg0) (emb2 t r d h)) (congrFun (V_main_arg0 m c) _)

theorem rd_y (r d : Fin 1024) (h : t.val / 8 * 1024 + r < 2048) : (iblk m c 3 t : S1024x1024.Idx → EReal) (ix2 r d) = mY m c (ix2 ⟨t.val / 8 * 1024 + r, h⟩ d) :=
  Eq.trans (congrArg (V m c main_arg4) (emb3 t r d h)) (congrFun (V_main_arg4 m c) _)

theorem rd_w (d : Fin 1024) : (iblk m c 4 t : S1x1024.Idx → EReal) (ix2 0 d) = mW m c (ix1 d) :=
  Eq.trans (congrArg (V m c main_v0) (emb4 t d)) (V_w m c d)

/-! ## The accumulated product -/

/-- The product's terms, numbered along the sum, and nought past its end. -/
def term (w1 : S1024x4096.Idx → EReal) (g : S2048x4096.Idx → EReal) (i : Fin 2048) (d : Fin 1024) (n : ℕ) : EReal :=
  if h : n < 4096 then g (ix2 i ⟨n, h⟩) * w1 (ix2 d ⟨n, h⟩) else 0

theorem sum_term (w1 : S1024x4096.Idx → EReal) (g : S2048x4096.Idx → EReal) (i : Fin 2048) (d : Fin 1024) :
    ∑ n ∈ Finset.range 4096, term w1 g i d n = rowsGrad w1 g i d := by
  rw [Finset.sum_range]
  exact Finset.sum_congr rfl fun k _ => dif_pos k.isLt

/-- A point's product, on top of what it starts from. -/
theorem accOn_at (a : Vec Ideal S1024x1024 .f32) (r d : Fin 1024) (h : t.val / 8 * 1024 + r < 2048)
    (ha : a (ix2 r d) = ∑ n ∈ Finset.range (t.val % 8 * 512), term (mW1 m c) (mG m c) ⟨t.val / 8 * 1024 + r, h⟩ d n) :
    (accOn m c t a : S1024x1024.Idx → EReal) (ix2 r d)
      = ∑ n ∈ Finset.range ((t.val % 8 + 1) * 512), term (mW1 m c) (mG m c) ⟨t.val / 8 * 1024 + r, h⟩ d n := by
  refine (pay2_at _ _ _ r d).trans ?_
  rw [Nat.succ_mul, Finset.sum_range_add, ha]
  refine congrArg (_ + ·) ?_
  rw [Finset.sum_range]
  refine Finset.sum_congr rfl fun k _ => ?_
  have h' : t.val % 8 * 512 + k.val < 4096 := by omega
  rw [rd_g m c t r k h h', rd_w1 m c t d k h']
  unfold term
  rw [dif_pos h']

/-- The accumulator after each point. -/
theorem acc_at (n : ℕ) (hn : n < cfg0.N) (h7 : ¬n % 8 = 7) (r d : Fin 1024) (h : n / 8 * 1024 + r < 2048) :
    ((outsAt0 m c n hn).2.2 : S1024x1024.Idx → EReal) (ix2 r d)
      = ∑ k ∈ Finset.range ((n % 8 + 1) * 512), term (mW1 m c) (mG m c) ⟨n / 8 * 1024 + r, h⟩ d k := by
  induction n with
  | zero =>
    rw [acc_A m c ⟨0, hn⟩ rfl]
    exact accOn_at m c ⟨0, hn⟩ _ r d h (by rw [pay1_at]; rfl)
  | succ n ih =>
    by_cases h0 : (n + 1) % 8 = 0
    · rw [acc_A m c ⟨n + 1, hn⟩ h0]
      refine accOn_at m c ⟨n + 1, hn⟩ _ r d h ?_
      rw [pay1_at]
      show 0 = ∑ k ∈ Finset.range ((n + 1) % 8 * 512), _
      rw [h0]; rfl
    · rw [acc_B m c ⟨n + 1, hn⟩ h0 h7]
      refine accOn_at m c ⟨n + 1, hn⟩ _ r d h ?_
      refine (ih (Nat.lt_of_succ_lt hn) (by omega) (by omega)).trans ?_
      have e1 : n % 8 + 1 = (n + 1) % 8 := by omega
      have e2 : n / 8 = (n + 1) / 8 := by omega
      show ∑ k ∈ Finset.range ((n % 8 + 1) * 512), _ = ∑ k ∈ Finset.range ((n + 1) % 8 * 512), _
      rw [e1]
      exact Finset.sum_congr rfl fun k _ => congrArg (fun i => term _ _ i d k) (Fin.ext (by show n / 8 * 1024 + _ = (n + 1) / 8 * 1024 + _; rw [e2]))

/-- The whole product, at a last step. -/
theorem acc_last (h7 : t.val % 8 = 7) (r d : Fin 1024) (h : t.val / 8 * 1024 + r < 2048) :
    (accOn m c t (accBefore m c t) : S1024x1024.Idx → EReal) (ix2 r d) = rowsGrad (mW1 m c) (mG m c) ⟨t.val / 8 * 1024 + r, h⟩ d := by
  refine (accOn_at m c t _ r d h ?_).trans ?_
  · have hb := acc_at m c (t.val - 1) (Nat.lt_of_le_of_lt (Nat.sub_le _ _) t.isLt) (by omega) r d (by omega)
    refine hb.trans ?_
    have e1 : (t.val - 1) % 8 + 1 = t.val % 8 := by omega
    have e2 : (t.val - 1) / 8 = t.val / 8 := by omega
    rw [e1]
    exact Finset.sum_congr rfl fun k _ => congrArg (fun i => term _ _ i d k) (Fin.ext (by show (t.val - 1) / 8 * 1024 + _ = t.val / 8 * 1024 + _; rw [e2]))
  · rw [h7]; exact sum_term _ _ _ d

/-! ## The arrays -/

theorem dx_at (h7 : t.val % 8 = 7) (r d : Fin 1024) (h : t.val / 8 * 1024 + r < 2048) :
    ((outsAt0 m c t.val t.isLt).1 : S1024x1024.Idx → EReal) (ix2 r d)
      = gradX (mX m c) (mW m c) (mW1 m c) (mG m c) (mY m c) (ix2 ⟨t.val / 8 * 1024 + r, h⟩ d) := by
  have e : (outsAt0 m c t.val t.isLt).1 = k0_pay7 (accOn m c t (accBefore m c t)) (iblk m c 4 t) (iblk m c 2 t) (iblk m c 3 t) := by
    by_cases h2 : t.val < 8
    · exact dx_C m c t h7 h2
    · exact dx_D m c t h7 h2
  rw [e]
  refine (pay7_at _ _ _ _ r d).trans ?_
  show _ = dxAt _ _ _ _ d
  rw [funext fun k => rd_x m c t r k h, funext fun k => rd_y m c t r k h, funext fun k => rd_w m c t k, funext fun k => acc_last m c t h7 r k h]
  rfl

theorem dwTile_at (h7 : t.val % 8 = 7) (d : Fin 1024) (h : ∀ r : Fin 1024, t.val / 8 * 1024 + r < 2048) :
    (k0_pay6 (F := Ideal) (accOn m c t (accBefore m c t)) (iblk m c 2 t) : S1x1024.Idx → EReal) (ix2 0 d)
      = ∑ r : Fin 1024, dwAt (fun k => mX m c (ix2 ⟨t.val / 8 * 1024 + r, h r⟩ k)) (rowsGrad (mW1 m c) (mG m c) ⟨t.val / 8 * 1024 + r, h r⟩) d := by
  refine (pay6_at _ _ d).trans (Finset.sum_congr rfl fun r _ => ?_)
  rw [funext fun k => rd_x m c t r k (h r), funext fun k => acc_last m c t h7 r k (h r)]

/-- The first tile's part of the weight's gradient stays until the last point. -/
theorem dw_kept (n : ℕ) (hn : n < cfg0.N) (h8 : 7 ≤ n) (h15 : n < 15) (h7 : 7 < cfg0.N) :
    (outsAt0 m c n hn).2.1 = (outsAt0 m c 7 h7).2.1 := by
  induction n with
  | zero => omega
  | succ n ih =>
    by_cases hs : n + 1 = 7
    · obtain rfl : n = 6 := by omega
      rfl
    · refine Eq.trans ?_ (ih (Nat.lt_of_succ_lt hn) (by omega) (by omega))
      by_cases h0 : (n + 1) % 8 = 0
      · exact dw_A m c ⟨n + 1, hn⟩ h0
      · exact dw_B m c ⟨n + 1, hn⟩ h0 (by show ¬(n + 1) % 8 = 7; omega)

theorem dw_at (hn : 15 < cfg0.N) (d : Fin 1024) :
    ((outsAt0 m c 15 hn).2.1 : S1x1024.Idx → EReal) (ix2 0 d) = gradW (mX m c) (mW1 m c) (mG m c) (ix2 0 d) := by
  have h7 : 7 < cfg0.N := by omega
  rw [dw_D m c ⟨15, hn⟩ (by show 15 % 8 = 7; rfl) (by show ¬15 < 8; omega)]
  refine (pay3_at _ _ d).trans ?_
  rw [dwTile_at m c ⟨15, hn⟩ (by show 15 % 8 = 7; rfl) d (fun r => by show 15 / 8 * 1024 + r.val < 2048; omega)]
  have e : dwBefore m c ⟨15, hn⟩ = k0_pay6 (accOn m c ⟨7, h7⟩ (accBefore m c ⟨7, h7⟩)) (iblk m c 2 ⟨7, h7⟩) :=
    (dw_kept m c 14 _ (by omega) (by omega) h7).trans (dw_C m c ⟨7, h7⟩ rfl (by show 7 < 8; omega))
  rw [e, dwTile_at m c ⟨7, h7⟩ rfl d (fun r => by show 7 / 8 * 1024 + r.val < 2048; omega)]
  show _ = ∑ r : Fin (1024 + 1024), dwAt (fun k => mX m c (ix2 r k)) (rowsGrad (mW1 m c) (mG m c) r) d
  rw [Fin.sum_univ_add]
  refine congrArg₂ (· + ·) (Finset.sum_congr rfl fun r _ => ?_) (Finset.sum_congr rfl fun r _ => ?_)
  · exact congrArg (fun i : Fin 2048 => dwAt (fun k => mX m c (ix2 i k)) (rowsGrad (mW1 m c) (mG m c) i) d) (Fin.ext (by show 7 / 8 * 1024 + r.val = r.val; omega))
  · exact congrArg (fun i : Fin 2048 => dwAt (fun k => mX m c (ix2 i k)) (rowsGrad (mW1 m c) (mG m c) i) d) (Fin.ext (by show 15 / 8 * 1024 + r.val = 1024 + r.val; omega))

/-- What the kernel's launch leaves of the input's gradient. -/
theorem arr_x : (dats m 0 c).arrAt 5 cfg0.N = gradX (mX m c) (mW m c) (mW1 m c) (mG m c) (mY m c) := by
  refine Dat.arrAt_eq_of_cover _ 5 _ ?_ ?_
  · intro t hf
    have h7 := (flush0_5 t).mp hf
    rw [Value.flushed5]
    funext y
    obtain ⟨r, d, rfl⟩ : ∃ (r d : Fin 1024), y = ix2 r d := ⟨y 0, y 1, by funext a; fin_cases a <;> rfl⟩
    have ht := points t
    have h : t.val / 8 * 1024 + r < 2048 := by omega
    exact (dx_at m c t h7 r d h).trans (congrArg (gradX _ _ _ _ _) (emb5 t r d h).symm)
  · intro i
    have h0 : (i 0).val < 2048 := (i 0).isLt
    have hN : (i 0).val / 1024 * 8 + 7 < cfg0.N := by show _ < 16; omega
    refine ⟨⟨_, hN⟩, (flush0_5 _).mpr (by show ((i 0).val / 1024 * 8 + 7) % 8 = 7; omega), ?_⟩
    have e := emb5 ⟨_, hN⟩ ⟨(i 0).val % 1024, by omega⟩ (i 1) (by show ((i 0).val / 1024 * 8 + 7) / 8 * 1024 + (i 0).val % 1024 < 2048; omega)
    have : i = ((cfg0.win 5).blk ⟨_, hN⟩).view.emb (ix2 ⟨(i 0).val % 1024, by omega⟩ (i 1)) := by
      rw [e]; funext a
      match a with
      | ⟨0, _⟩ => exact Fin.ext (by show (i 0).val = ((i 0).val / 1024 * 8 + 7) / 8 * 1024 + (i 0).val % 1024; omega)
      | ⟨1, _⟩ => rfl
    exact Eq.mpr (congrArg (· ∈ ((cfg0.win 5).blk ⟨_, hN⟩).view.set) this) (View.emb_mem_set _ _)

/-- What the kernel's launch leaves of the weight's gradient. -/
theorem arr_w : (dats m 0 c).arrAt 6 cfg0.N = gradW (mX m c) (mW1 m c) (mG m c) := by
  refine Dat.arrAt_eq_of_cover _ 6 _ ?_ ?_
  · intro t hf
    have h15 := (flush0_6 t).mp hf
    have ht := points t
    have hN : 15 < cfg0.N := by show 15 < 16; omega
    have e15 : t = ⟨15, hN⟩ := Fin.ext (by show t.val = 15; omega)
    rw [Value.flushed6, e15]
    funext y
    obtain ⟨d, rfl⟩ : ∃ (d : Fin 1024), y = ix2 0 d :=
      ⟨y 1, by funext a; match a with | ⟨0, _⟩ => exact Fin.ext (by have h : (y 0).val < 1 := (y 0).isLt; show (y 0).val = 0; omega) | ⟨1, _⟩ => rfl⟩
    exact (dw_at m c hN d).trans (congrArg (gradW _ _ _) (emb6 _ d).symm)
  · intro i
    have hN : 15 < cfg0.N := by show _ < 16; omega
    refine ⟨⟨15, hN⟩, (flush0_6 _).mpr rfl, ?_⟩
    have : i = ((cfg0.win 6).blk ⟨15, hN⟩).view.emb (ix2 0 (i 1)) := by
      rw [emb6 ⟨15, hN⟩ (i 1)]; funext a
      match a with
      | ⟨0, _⟩ => exact Fin.ext (by have h : (i 0).val < 1 := (i 0).isLt; show (i 0).val = 0; omega)
      | ⟨1, _⟩ => rfl
    exact Eq.mpr (congrArg (· ∈ ((cfg0.win 6).blk ⟨15, hN⟩).view.set) this) (View.emb_mem_set _ _)

end Cert.UpXIdeal.Mlp

end
-- ==== Proof.UpW.lean ====
/- The gradient of an MLP's first layer towards its weight: what the kernel's launch leaves is the reference's
   gradient, over the exact numbers. -/
module

public import proofs.«01_k».proof.Proof.Gen.UpWIdeal.Value
public import proofs.«01_k».proof.Proof.Gen.UpWRefIdeal.Read
public import Idealize.ShloMosaic.Lib.Pointwise
public import Idealize.ShloMosaic.Lib.KernelVsHost
public import Idealize.ShloMosaic.Lib.VecWindow

@[expose] public section

noncomputable section

namespace Cert.UpWIdeal.Mlp

open Idealize.ShloMosaic Idealize.ShloMosaic.TcCoe Idealize.SL.Sem
open Cert.UpWIdeal Cert.UpWIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x1024 .bf16) (harg3 : arg3.IsWhole)
    (arg4 : Memref sig .tc .vmem S2048x512 .bf16) (harg4 : arg4.IsWhole) (arg5 : Memref sig .tc .vmem S1x1024x512 .bf16) (harg5 : arg5.IsWhole)
    (arg6 : Memref sig .tc .vmem S1024x512 .f32) (harg6 : arg6.IsWhole)
    (hc0 : cond0_0 i) (hc1 : cond0_1 i) (x0 : Vec F S2048x1024 .bf16) (x1 : Vec F S2048x512 .bf16) :
    out0_A_2 c i arg3 harg3 arg4 harg4 arg5 harg5 arg6 harg6 hc0 hc1 x0 x1 = k0_pay3 (k0_pay2 x1 k0_pay1 x0) := by
  have hz : (![0, 0] : Fin 2 → Nat) = fun _ => 0 := by decide
  have hz3 : (![0, 0, 0] : Fin 3 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1x1024x512) hz3, View.readCov_unit_zero (S := S1024x512) _ hz]
  simp only [View.readAt_eq_ld, harg3.read_unread, harg4.read_unread, View.ld_unit_zero (S := S2048x1024) hz, View.ld_unit_zero (S := S2048x512) hz]
  rw [View.readCov_full (s := S1024x512)]

/-- A point's block at an index. -/
theorem block_at (x0 : Vec Ideal S2048x1024 .bf16) (x1 : Vec Ideal S2048x512 .bf16) (r : Fin 1024) (d : Fin 512) :
    (k0_pay3 (F := Ideal) (k0_pay2 (F := Ideal) x1 (k0_pay1 (F := Ideal)) x0) : S1x1024x512.Idx → EReal) (ix3 0 r d)
      = ∑ k : Fin 2048, x0 (ix2 k r) * x1 (ix2 k d) := by
  unfold k0_pay3 k0_pay2 k0_pay1
  pointwise

/-! ## The array -/

theorem points : ∀ t : Fin grid0.N, t.val < 8 := by decide +kernel
theorem i0 : ∀ t : Fin grid0.N, win0_0.index t 0 = 0 ∧ win0_0.index t 1 = 0 := by decide +kernel
theorem i1 : ∀ t : Fin grid0.N, win0_1.index t 0 = 0 ∧ win0_1.index t 1 = t.val := by decide +kernel
theorem i2 : ∀ t : Fin grid0.N, win0_2.index t 0 = t.val ∧ win0_2.index t 1 = 0 ∧ win0_2.index t 2 = 0 := by decide +kernel

theorem emb1 (t : Fin cfg0.N) (k : Fin 2048) (r : Fin 512) (h : t.val * 512 + r < 4096) :
    ((cfg0.win 1).blk t).view.emb (ix2 k r) = (ix2 k ⟨t.val * 512 + r, h⟩ : S2048x4096.Idx) := by
  funext a; apply Fin.ext
  refine (Pipeline.Window.rect_emb_val (cfg0.win 1) t _ a rfl).trans ?_
  match a with
  | ⟨0, _⟩ => show win0_1.index t 0 * 2048 + k.val = k.val; rw [(i1 t).1]; omega
  | ⟨1, _⟩ => show win0_1.index t 1 * 512 + r.val = t.val * 512 + r; rw [(i1 t).2]
theorem emb0 (t : Fin cfg0.N) (k : Fin 2048) (d : Fin 1024) :
    ((cfg0.win 0).blk t).view.emb (ix2 k d) = (ix2 k d : S2048x1024.Idx) := by
  funext a; apply Fin.ext
  refine (Pipeline.Window.rect_emb_val (cfg0.win 0) t _ a rfl).trans ?_
  match a with
  | ⟨0, _⟩ => show win0_0.index t 0 * 2048 + k.val = k.val; rw [(i0 t).1]; omega
  | ⟨1, _⟩ => show win0_0.index t 1 * 1024 + d.val = d.val; rw [(i0 t).2]; omega
theorem emb2 (t : Fin cfg0.N) (r : Fin 1024) (d : Fin 512) (h : t.val < 8) :
    ((cfg0.win 2).blk t).view.emb (ix3 0 r d) = (ix3 ⟨t.val, h⟩ r d : S8x1024x512.Idx) := by
  funext a; apply Fin.ext
  refine (Pipeline.Window.rect_emb_val (cfg0.win 2) t _ a rfl).trans ?_
  match a with
  | ⟨0, _⟩ => show win0_2.index t 0 * 1 + 0 = t.val; rw [(i2 t).1]; omega
  | ⟨1, _⟩ => show win0_2.index t 1 * 1024 + r.val = r.val; rw [(i2 t).2.1]; omega
  | ⟨2, _⟩ => show win0_2.index t 2 * 512 + d.val = d.val; rw [(i2 t).2.2]; omega

/-- The gradient at an index: the normalized rows' transpose times the incoming gradient. -/
def gradAt (h : S2048x1024.Idx → EReal) (g : S2048x4096.Idx → EReal) (a : Fin 8) (r : Fin 1024) (d : Fin 512) : EReal :=
  ∑ k : Fin 2048, h (ix2 k r) * g (ix2 k ⟨a.val * 512 + d.val, by omega⟩)

/-- The gradient, in pieces of 512 columns. -/
def grad (h : S2048x1024.Idx → EReal) (g : S2048x4096.Idx → EReal) : S8x1024x512.Idx → EReal :=
  fun i => gradAt h g (i 0) (i 1) (i 2)

theorem grad_apply (h : S2048x1024.Idx → EReal) (g : S2048x4096.Idx → EReal) (a : Fin 8) (r : Fin 1024) (d : Fin 512) :
    grad h g (ix3 a r d) = ∑ k : Fin 2048, h (ix2 k r) * g (ix2 k ⟨a.val * 512 + d.val, by omega⟩) := rfl

variable (m : (ℓ : Loc nD τ sig) → Buf (Elt Ideal) ℓ) (c : Dev nD)

/-- The normalized rows, by the reference's lines. -/
abbrev rows (x : Vec Ideal S2048x1024 .f32) (w : Vec Ideal S1024 .f32) : S2048x1024.Idx → EReal := UpWRefIdeal.Read.val_main_v12 (F := Ideal) x w

theorem V_h : (V m c main_v13 : S2048x1024.Idx → EReal) = rows (m ((c.tc : Thread nD τ).loc main_arg0)) (m ((c.tc : Thread nD τ).loc main_arg1)) := by
  unfold_abbrev_sides
  after_results
  rfl

theorem V_g : (V m c main_v17 : S2048x4096.Idx → EReal) = m ((c.tc : Thread nD τ).loc main_arg3) := by
  unfold_abbrev_sides
  after_results
  rfl

/-- What the kernel's launch leaves. -/
theorem arr : (dats m 0 c).arrAt 2 cfg0.N = grad (rows (m ((c.tc : Thread nD τ).loc main_arg0)) (m ((c.tc : Thread nD τ).loc main_arg1))) (m ((c.tc : Thread nD τ).loc main_arg3)) := by
  refine Dat.arrAt_eq_of_cover _ 2 _ ?_ ?_
  · intro t _
    rw [Value.flushed2]
    funext y
    obtain ⟨r, d, rfl⟩ : ∃ (r : Fin 1024) (d : Fin 512), y = ix3 0 r d :=
      ⟨y 1, y 2, by funext a; match a with | ⟨0, _⟩ => exact Fin.ext (by have h : (y 0).val < 1 := (y 0).isLt; show (y 0).val = 0; omega) | ⟨1, _⟩ => rfl | ⟨2, _⟩ => rfl⟩
    have ht := points t
    refine Eq.trans (b := outsAt0 m c t (ix3 0 r d)) rfl ?_
    refine Eq.trans (b := grad _ _ (ix3 ⟨t.val, ht⟩ r d)) ?_ (congrArg (grad _ _) (emb2 t r d ht).symm)
    rw [grad_apply]
    unfold outsAt0
    rw [out_block]
    refine (block_at _ _ r d).trans ?_
    refine Finset.sum_congr rfl fun k _ => congrArg₂ (· * ·) ?_ ?_
    · exact Eq.trans (congrArg (V m c main_v13) (emb0 t k r)) (congrFun (V_h m c) _)
    · exact Eq.trans (congrArg (V m c main_v17) (emb1 t k d (by omega))) (congrFun (V_g m c) _)
  · intro i
    have h0 : (i 0).val < 8 := (i 0).isLt
    have hN : (i 0).val < cfg0.N := h0
    refine ⟨⟨_, hN⟩, flush0_2 _, ?_⟩
    have : i = ((cfg0.win 2).blk ⟨_, hN⟩).view.emb (ix3 0 (i 1) (i 2)) := by
      rw [emb2 ⟨_, hN⟩ (i 1) (i 2) h0]; funext a
      match a with
      | ⟨0, _⟩ => rfl
      | ⟨1, _⟩ => rfl
      | ⟨2, _⟩ => rfl
    exact Eq.mpr (congrArg (· ∈ ((cfg0.win 2).blk ⟨_, hN⟩).view.set) this) (View.emb_mem_set _ _)

/-! ## The reference -/

/-- What the reference computes. -/
theorem ref (x : Vec Ideal S2048x1024 .f32) (w : Vec Ideal S1024 .f32) (g : S2048x4096.Idx → EReal) :
    (UpWRefIdeal.Read.val_main_v18 (F := Ideal) x w g : S8x1024x512.Idx → EReal) = grad (rows x w) g := by
  funext i
  obtain ⟨a, r, d, rfl⟩ : ∃ (a : Fin 8) (r : Fin 1024) (d : Fin 512), i = ix3 a r d := ⟨i 0, i 1, i 2, by funext x; fin_cases x <;> rfl⟩
  rw [grad_apply]
  unfold UpWRefIdeal.Read.val_main_v18 UpWRefIdeal.Read.val_main_v17 UpWRefIdeal.Read.val_main_v16 UpWRefIdeal.Read.val_main_v15 UpWRefIdeal.Read.val_main_v14 rows
  generalize UpWRefIdeal.Read.val_main_v12 (F := Ideal) x w = h
  pointwise
  refine Finset.sum_congr rfl fun k _ => mul_comm _ _

end Cert.UpWIdeal.Mlp

end
-- ==== Proof.InM.lean ====
/- The gradient of the main part of the layer's input projection towards its input: what the kernel's launch leaves is the
   reference's gradient, over the exact numbers. -/
module

public import proofs.«01_k».proof.Proof.Gen.InMIdeal.Value
public import proofs.«01_k».proof.Proof.Gen.InMRefIdeal.Read
public import Idealize.ShloMosaic.Lib.Pointwise
public import Idealize.ShloMosaic.Lib.KernelVsHost
public import Idealize.ShloMosaic.Lib.VecWindow

@[expose] public section

noncomputable section

namespace Cert.InMIdeal.Mlp

open Idealize.ShloMosaic Idealize.ShloMosaic.TcCoe Idealize.SL.Sem
open Cert.InMIdeal Cert.InMIdeal.Gen
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide

/-- The accumulator's buffer holds what it was given. -/
theorem read_scratch (x : Vec F S2048x512 .f32) :
    View.read (Elt F) (View.whole cc0_scratch0) ((Memref.isWhole_whole cc0_scratch0).unread x) = x :=
  (Memref.isWhole_whole cc0_scratch0).read_unread x

/-- What the point before left in the accumulator. -/
abbrev accBefore : Vec F S2048x512 .f32 := (outsAt0 m c (t.val - 1) (Nat.lt_of_le_of_lt (Nat.sub_le _ _) t.isLt)).2

/-- The accumulator after a point: the point's product on top of what it starts from. -/
abbrev accOn (a : Vec F S2048x512 .f32) : Vec F S2048x512 .f32 := k0_pay2 (iblk m c 1 t) a (iblk m c 0 t)

theorem acc_A (h0 : t.val % 3 = 0) : (outsAt0 m c t.val t.isLt).2 = accOn m c t k0_pay1 := by
  rw [outsAt0_A m c t h0 (by omega)]
  dsimp only
  unfold sout0_A_0
  rw [View.read_writes_junk_eq_canon]
  unfold kernelRun0_A
  dsimp only
  sl_unfold_words
  rw [View.canon_cons_unit_zero (S := S2048x512) hz, View.readCov_unit_zero (S := S2048x512) _ hz]
  simp only [View.readAt_eq_ld, (hs0_0 t).read_unread, (hs0_1 t).read_unread, View.ld_unit_zero (S := S2048x1536) hz, View.ld_unit_zero (S := S512x1536) hz]

theorem acc_B (h0 : ¬t.val % 3 = 0) (h1 : ¬t.val % 3 = 2) : (outsAt0 m c t.val t.isLt).2 = accOn m c t (accBefore m c t) := by
  rw [outsAt0_B m c t h0 h1]
  dsimp only
  unfold sout0_B_0
  rw [View.read_writes_junk_eq_canon]
  unfold kernelRun0_B
  dsimp only
  sl_unfold_words
  rw [View.canon_unit_zero (S := S2048x512) hz]
  simp only [View.readAt_eq_ld, (hs0_0 t).read_unread, (hs0_1 t).read_unread, read_scratch, View.ld_unit_zero (S := S2048x512) hz, View.ld_unit_zero (S := S2048x1536) hz, View.ld_unit_zero (S := S512x1536) hz]

theorem out_C (h1 : t.val % 3 = 2) : (outsAt0 m c t.val t.isLt).1 = accOn m c t (accBefore m c t) := by
  rw [outsAt0_C m c t (by omega) h1]
  dsimp only
  unfold out0_C_2
  rw [View.read_writes_junk_eq_canon]
  unfold kernelRun0_C
  dsimp only
  sl_unfold_words
  rw [View.canon_unit_zero (S := S2048x512) hz]
  simp only [View.readAt_eq_ld, View.readCov_unit_zero (S := S2048x512) _ hz, (hs0_0 t).read_unread, (hs0_1 t).read_unread, read_scratch, View.ld_unit_zero (S := S2048x512) hz, View.ld_unit_zero (S := S2048x1536) hz, View.ld_unit_zero (S := S512x1536) hz]

end

theorem pay2_at (x0 : Vec Ideal S2048x1536 .bf16) (x1 : Vec Ideal S512x1536 .bf16) (a : Vec Ideal S2048x512 .f32) (r : Fin 2048) (d : Fin 512) :
    (k0_pay2 (F := Ideal) x1 a x0 : S2048x512.Idx → EReal) (ix2 r d) = a (ix2 r d) + ∑ k : Fin 1536, x0 (ix2 r k) * x1 (ix2 d k) := by
  unfold k0_pay2
  pointwise

theorem pay1_at (r : Fin 2048) (d : Fin 512) : (k0_pay1 (F := Ideal) : S2048x512.Idx → EReal) (ix2 r d) = 0 := by
  unfold k0_pay1
  pointwise

/-! ## Where the blocks sit -/

theorem points : ∀ t : Fin grid0.N, t.val < 6 := by decide +kernel
theorem i0 : ∀ t : Fin grid0.N, win0_0.index t 0 = 0 ∧ win0_0.index t 1 = t.val % 3 := by decide +kernel
theorem i1 : ∀ t : Fin grid0.N, win0_1.index t 0 = t.val / 3 ∧ win0_1.index t 1 = t.val % 3 := by decide +kernel
theorem i2 : ∀ t : Fin grid0.N, win0_2.index t 0 = 0 ∧ win0_2.index t 1 = t.val / 3 := by decide +kernel

theorem emb0 (t : Fin cfg0.N) (r : Fin 2048) (k : Fin 1536) (h : t.val % 3 * 1536 + k < 4608) :
    ((cfg0.win 0).blk t).view.emb (ix2 r k) = (ix2 r ⟨t.val % 3 * 1536 + k, h⟩ : S2048x4608.Idx) := by
  funext a; apply Fin.ext
  refine (Pipeline.Window.rect_emb_val (cfg0.win 0) t _ a rfl).trans ?_
  match a with
  | ⟨0, _⟩ => show win0_0.index t 0 * 2048 + r.val = r.val; rw [(i0 t).1]; omega
  | ⟨1, _⟩ => show win0_0.index t 1 * 1536 + k.val = t.val % 3 * 1536 + k; rw [(i0 t).2]
theorem emb1 (t : Fin cfg0.N) (d : Fin 512) (k : Fin 1536) (h : t.val / 3 * 512 + d < 1024) (h' : t.val % 3 * 1536 + k < 4608) :
    ((cfg0.win 1).blk t).view.emb (ix2 d k) = (ix2 ⟨t.val / 3 * 512 + d, h⟩ ⟨t.val % 3 * 1536 + k, h'⟩ : S1024x4608.Idx) := by
  funext a; apply Fin.ext
  refine (Pipeline.Window.rect_emb_val (cfg0.win 1) t _ a rfl).trans ?_
  match a with
  | ⟨0, _⟩ => show win0_1.index t 0 * 512 + d.val = t.val / 3 * 512 + d; rw [(i1 t).1]
  | ⟨1, _⟩ => show win0_1.index t 1 * 1536 + k.val = t.val % 3 * 1536 + k; rw [(i1 t).2]
theorem emb2 (t : Fin cfg0.N) (r : Fin 2048) (d : Fin 512) (h : t.val / 3 * 512 + d < 1024) :
    ((cfg0.win 2).blk t).view.emb (ix2 r d) = (ix2 r ⟨t.val / 3 * 512 + d, h⟩ : S2048x1024.Idx) := by
  funext a; apply Fin.ext
  refine (Pipeline.Window.rect_emb_val (cfg0.win 2) t _ a rfl).trans ?_
  match a with
  | ⟨0, _⟩ => show win0_2.index t 0 * 2048 + r.val = r.val; rw [(i2 t).1]; omega
  | ⟨1, _⟩ => show win0_2.index t 1 * 512 + d.val = t.val / 3 * 512 + d; rw [(i2 t).2]

/-! ## The gradient -/

/-- The gradient at an index: the incoming gradient times the weight's transpose. -/
def gradAt (w : S1024x4608.Idx → EReal) (g : S2048x4608.Idx → EReal) (i : Fin 2048) (d : Fin 1024) : EReal := ∑ k : Fin 4608, g (ix2 i k) * w (ix2 d k)

/-- The gradient. -/
def grad (w : S1024x4608.Idx → EReal) (g : S2048x4608.Idx → EReal) : S2048x1024.Idx → EReal := fun i => gradAt w g (i 0) (i 1)

/-- Its terms, numbered along the sum, and nought past its end. -/
def term (w : S1024x4608.Idx → EReal) (g : S2048x4608.Idx → EReal) (i : Fin 2048) (d : Fin 1024) (n : ℕ) : EReal :=
  if h : n < 4608 then g (ix2 i ⟨n, h⟩) * w (ix2 d ⟨n, h⟩) else 0

theorem sum_term (w : S1024x4608.Idx → EReal) (g : S2048x4608.Idx → EReal) (i : Fin 2048) (d : Fin 1024) :
    ∑ n ∈ Finset.range 4608, term w g i d n = gradAt w g i d := by
  rw [Finset.sum_range]
  exact Finset.sum_congr rfl fun k _ => dif_pos k.isLt

/-- What the reference computes. -/
theorem ref (w : S1024x4608.Idx → EReal) (g : S2048x4608.Idx → EReal) :
    (InMRefIdeal.Read.val_main_v1 (F := Ideal) w g : S2048x1024.Idx → EReal) = grad w g := by
  funext i
  obtain ⟨r, d, rfl⟩ : ∃ (r : Fin 2048) (d : Fin 1024), i = ix2 r d := ⟨i 0, i 1, by funext a; fin_cases a <;> rfl⟩
  show _ = gradAt _ _ r d
  unfold InMRefIdeal.Read.val_main_v1 gradAt
  pointwise

/-! ## The accumulated product -/

variable (m : (ℓ : Loc nD τ sig) → Buf (Elt Ideal) ℓ) (c : Dev nD)

abbrev mW : S1024x4608.Idx → EReal := m ((c.tc : Thread nD τ).loc main_arg1)
abbrev mG : S2048x4608.Idx → EReal := m ((c.tc : Thread nD τ).loc main_arg2)

theorem V_g : (V m c main_v0 : S2048x4608.Idx → EReal) = mG m c := by
  unfold_abbrev_sides
  after_results
  rfl

theorem V_w : (V m c main_v1 : S1024x4608.Idx → EReal) = mW m c := by
  unfold_abbrev_sides
  after_results
  rfl

variable (t : Fin cfg0.N)

/-- A point's product, on top of what it starts from. -/
theorem accOn_at (a : Vec Ideal S2048x512 .f32) (r : Fin 2048) (d : Fin 512) (h : t.val / 3 * 512 + d < 1024)
    (ha : a (ix2 r d) = ∑ n ∈ Finset.range (t.val % 3 * 1536), term (mW m c) (mG m c) r ⟨t.val / 3 * 512 + d, h⟩ n) :
    (accOn m c t a : S2048x512.Idx → EReal) (ix2 r d)
      = ∑ n ∈ Finset.range ((t.val % 3 + 1) * 1536), term (mW m c) (mG m c) r ⟨t.val / 3 * 512 + d, h⟩ n := by
  refine (pay2_at _ _ _ r d).trans ?_
  rw [Nat.succ_mul, Finset.sum_range_add, ha]
  refine congrArg (_ + ·) ?_
  rw [Finset.sum_range]
  refine Finset.sum_congr rfl fun k _ => ?_
  have h' : t.val % 3 * 1536 + k.val < 4608 := by omega
  unfold term
  rw [dif_pos h']
  exact congrArg₂ (· * ·) (Eq.trans (congrArg (V m c main_v0) (emb0 t r k h')) (congrFun (V_g m c) _))
    (Eq.trans (congrArg (V m c main_v1) (emb1 t d k h h')) (congrFun (V_w m c) _))

/-- The accumulator after each point but a tile's last. -/
theorem acc_at (n : ℕ) (hn : n < cfg0.N) (h2 : ¬n % 3 = 2) (r : Fin 2048) (d : Fin 512) (h : n / 3 * 512 + d < 1024) :
    ((outsAt0 m c n hn).2 : S2048x512.Idx → EReal) (ix2 r d)
      = ∑ k ∈ Finset.range ((n % 3 + 1) * 1536), term (mW m c) (mG m c) r ⟨n / 3 * 512 + d, h⟩ k := by
  induction n with
  | zero =>
    rw [acc_A m c ⟨0, hn⟩ rfl]
    exact accOn_at m c ⟨0, hn⟩ _ r d h (by rw [pay1_at]; rfl)
  | succ n ih =>
    by_cases h0 : (n + 1) % 3 = 0
    · rw [acc_A m c ⟨n + 1, hn⟩ h0]
      refine accOn_at m c ⟨n + 1, hn⟩ _ r d h ?_
      rw [pay1_at]
      show 0 = ∑ k ∈ Finset.range ((n + 1) % 3 * 1536), _
      rw [h0]; rfl
    · rw [acc_B m c ⟨n + 1, hn⟩ h0 h2]
      refine accOn_at m c ⟨n + 1, hn⟩ _ r d h ?_
      refine (ih (Nat.lt_of_succ_lt hn) (by omega) (by omega)).trans ?_
      have e1 : n % 3 + 1 = (n + 1) % 3 := by omega
      have e2 : n / 3 = (n + 1) / 3 := by omega
      show ∑ k ∈ Finset.range ((n % 3 + 1) * 1536), _ = ∑ k ∈ Finset.range ((n + 1) % 3 * 1536), _
      rw [e1]
      exact Finset.sum_congr rfl fun k _ => congrArg (fun i => term _ _ r i k) (Fin.ext (by show n / 3 * 512 + _ = (n + 1) / 3 * 512 + _; rw [e2]))

/-- A tile's last point leaves the whole product. -/
theorem out_at (h2 : t.val % 3 = 2) (r : Fin 2048) (d : Fin 512) (h : t.val / 3 * 512 + d < 1024) :
    ((outsAt0 m c t.val t.isLt).1 : S2048x512.Idx → EReal) (ix2 r d) = gradAt (mW m c) (mG m c) r ⟨t.val / 3 * 512 + d, h⟩ := by
  rw [out_C m c t h2]
  refine (accOn_at m c t _ r d h ?_).trans ?_
  · refine (acc_at m c (t.val - 1) (Nat.lt_of_le_of_lt (Nat.sub_le _ _) t.isLt) (by omega) r d (by omega)).trans ?_
    have e1 : (t.val - 1) % 3 + 1 = t.val % 3 := by omega
    have e2 : (t.val - 1) / 3 = t.val / 3 := by omega
    rw [e1]
    exact Finset.sum_congr rfl fun k _ => congrArg (fun i => term _ _ r i k) (Fin.ext (by show (t.val - 1) / 3 * 512 + _ = t.val / 3 * 512 + _; rw [e2]))
  · rw [h2]; exact sum_term _ _ r _

/-- What the kernel's launch leaves. -/
theorem arr : (dats m 0 c).arrAt 2 cfg0.N = grad (mW m c) (mG m c) := by
  refine Dat.arrAt_eq_of_cover _ 2 _ ?_ ?_
  · intro t hf
    have h2 := (flush0_2 t).mp hf
    rw [Value.flushed2]
    funext y
    obtain ⟨r, d, rfl⟩ : ∃ (r : Fin 2048) (d : Fin 512), y = ix2 r d := ⟨y 0, y 1, by funext a; fin_cases a <;> rfl⟩
    have ht := points t
    have h : t.val / 3 * 512 + d < 1024 := by omega
    exact (out_at m c t h2 r d h).trans (congrArg (grad _ _) (emb2 t r d h).symm)
  · intro i
    have h1 : (i 1).val < 1024 := (i 1).isLt
    have hN : (i 1).val / 512 * 3 + 2 < cfg0.N := by show _ < 6; omega
    refine ⟨⟨_, hN⟩, (flush0_2 _).mpr (by show ((i 1).val / 512 * 3 + 2) % 3 = 2; omega), ?_⟩
    have e1 : ((i 1).val / 512 * 3 + 2) / 3 * 512 + (i 1).val % 512 = (i 1).val := by omega
    have e := emb2 ⟨_, hN⟩ (i 0) ⟨(i 1).val % 512, by omega⟩ (e1.trans_lt h1)
    have : i = ((cfg0.win 2).blk ⟨_, hN⟩).view.emb (ix2 (i 0) ⟨(i 1).val % 512, by omega⟩) := by
      rw [e]; funext a
      match a with
      | ⟨0, _⟩ => rfl
      | ⟨1, _⟩ => exact Fin.ext e1.symm
    exact Eq.mpr (congrArg (· ∈ ((cfg0.win 2).blk ⟨_, hN⟩).view.set) this) (View.emb_mem_set _ _)

end Cert.InMIdeal.Mlp

end
-- ==== Proof.InX.lean ====
/- The gradient of the narrow part of the layer's input projection and of the normalization before it towards their input:
   what the kernel's launch leaves is the reference's gradient, over the exact numbers. -/
module

public import proofs.«01_k».proof.Proof.UpX
public import proofs.«01_k».proof.Proof.Gen.InXIdeal.Value
public import proofs.«01_k».proof.Proof.Gen.InXRefIdeal.Read

@[expose] public section

noncomputable section

namespace Cert.InXIdeal.Mlp

open Idealize.ShloMosaic Idealize.ShloMosaic.TcCoe Idealize.SL.Sem
open Cert.InXIdeal Cert.InXIdeal.Gen
open Cert.UpXIdeal.Mlp (ms back dxAt dwAt)
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide

/-- The narrow part's product: one step onto zeros. -/
abbrev prod : Vec F S1024x1024 .f32 := k0_pay2 (iblk m c 1 t) k0_pay1 (iblk m c 0 t)

/-- The tile's part of the weight's gradient. -/
abbrev dwTile : Vec F S1x1024 .f32 := k0_pay7 (prod m c t) (iblk m c 2 t) (iblk m c 3 t)

theorem dx_A (h : t.val % 2 = 0) :
    (outsAt0 m c t.val t.isLt).1 = k0_pay8 (prod m c t) (iblk m c 5 t) (iblk m c 2 t) (iblk m c 3 t) (iblk m c 4 t) := by
  rw [outsAt0_A m c t h (by omega)]
  dsimp only
  unfold out0_A_6
  rw [View.read_writes_junk_eq_canon]
  unfold kernelRun0_A
  dsimp only
  sl_unfold_words
  rw [View.canon_unit_zero (S := S1024x1024) hz]
  simp only [View.readCov_unit_zero (S := S1024x1024) _ hz, View.readCov_full, View.readAt_eq_ld, (hs0_0 t).read_unread, (hs0_1 t).read_unread, (hs0_2 t).read_unread,
    (hs0_3 t).read_unread, (hs0_4 t).read_unread, (hs0_5 t).read_unread, View.ld_unit_zero (S := S1024x1024) hz, View.ld_unit_zero (S := S1x1024) hz, View.ld_unit_zero (S := S1024x128) hz]
  rw [View.readCov_full (s := S1024x1024)]

theorem dx_B (h : ¬t.val % 2 = 0) :
    (outsAt0 m c t.val t.isLt).1 = k0_pay8 (prod m c t) (iblk m c 5 t) (iblk m c 2 t) (iblk m c 3 t) (iblk m c 4 t) := by
  rw [outsAt0_B m c t h (by omega)]
  dsimp only
  unfold out0_B_6
  rw [View.read_writes_junk_eq_canon]
  unfold kernelRun0_B
  dsimp only
  sl_unfold_words
  rw [View.canon_unit_zero (S := S1024x1024) hz]
  simp only [View.readCov_unit_zero (S := S1024x1024) _ hz, View.readCov_full, View.readAt_eq_ld, (hs0_0 t).read_unread, (hs0_1 t).read_unread, (hs0_2 t).read_unread,
    (hs0_3 t).read_unread, (hs0_4 t).read_unread, (hs0_5 t).read_unread, View.ld_unit_zero (S := S1024x1024) hz, View.ld_unit_zero (S := S1x1024) hz, View.ld_unit_zero (S := S1024x128) hz]
  rw [View.readCov_full (s := S1024x1024)]

theorem dw_A (h : t.val % 2 = 0) : (outsAt0 m c t.val t.isLt).2 = dwTile m c t := by
  rw [outsAt0_A m c t h (by omega)]
  dsimp only
  unfold out0_A_7
  rw [View.read_writes_junk_eq_canon]
  unfold kernelRun0_A
  dsimp only
  sl_unfold_words
  rw [View.canon_unit_zero (S := S1x1024) hz]
  simp only [View.readCov_unit_zero (S := S1024x1024) _ hz, View.readCov_full, View.readAt_eq_ld, (hs0_0 t).read_unread, (hs0_1 t).read_unread, (hs0_2 t).read_unread,
    (hs0_3 t).read_unread, View.ld_unit_zero (S := S1024x1024) hz, View.ld_unit_zero (S := S1024x128) hz]
  rw [View.readCov_full (s := S1024x1024)]

theorem dw_B (h : ¬t.val % 2 = 0) :
    (outsAt0 m c t.val t.isLt).2 = k0_pay3 (dwTile m c t) (outsAt0 m c (t.val - 1) (Nat.lt_of_le_of_lt (Nat.sub_le _ _) t.isLt)).2 := by
  rw [outsAt0_B m c t h (by omega)]
  dsimp only
  unfold out0_B_7
  rw [View.read_writes_junk_eq_canon]
  unfold kernelRun0_B
  dsimp only
  sl_unfold_words
  rw [View.canon_unit_zero (S := S1x1024) hz]
  simp only [View.readCov_unit_zero (S := S1024x1024) _ hz, View.readCov_full, View.readAt_eq_ld, (hs0_0 t).read_unread, (hs0_1 t).read_unread, (hs0_2 t).read_unread,
    (hs0_3 t).read_unread, (hs0_7 t).read_unread, View.ld_unit_zero (S := S1024x1024) hz, View.ld_unit_zero (S := S1x1024) hz, View.ld_unit_zero (S := S1024x128) hz]
  rw [View.readCov_full (s := S1024x1024)]

end

/-! ## The payloads at an index -/

theorem prod_at (x0 : Vec Ideal S1024x128 .f32) (x1 : Vec Ideal S1024x128 .bf16) (r d : Fin 1024) :
    (k0_pay2 (F := Ideal) x1 (k0_pay1 (F := Ideal)) x0 : S1024x1024.Idx → EReal) (ix2 r d) = ∑ k : Fin 128, x0 (ix2 r k) * x1 (ix2 d k) := by
  unfold k0_pay2 k0_pay1
  pointwise

theorem pay3_at (a b : Vec Ideal S1x1024 .f32) (d : Fin 1024) : (k0_pay3 (F := Ideal) a b : S1x1024.Idx → EReal) (ix2 0 d) = b (ix2 0 d) + a (ix2 0 d) := by
  unfold k0_pay3
  pointwise

theorem pay7_at (a b x : Vec Ideal S1024x1024 .f32) (d : Fin 1024) :
    (k0_pay7 (F := Ideal) a b x : S1x1024.Idx → EReal) (ix2 0 d) = ∑ r : Fin 1024, dwAt (fun k => x (ix2 r k)) (fun k => a (ix2 r k) + b (ix2 r k)) d := by
  unfold k0_pay7 k0_pay6 k0_pay5 k0_pay4 dwAt ms
  pointwise

theorem pay8_at (a : Vec Ideal S1024x1024 .f32) (w : Vec Ideal S1x1024 .f32) (b x y : Vec Ideal S1024x1024 .f32) (r d : Fin 1024) :
    (k0_pay8 (F := Ideal) a w b x y : S1024x1024.Idx → EReal) (ix2 r d)
      = dxAt (fun k => x (ix2 r k)) (fun k => w (ix2 0 k)) (fun k => a (ix2 r k) + b (ix2 r k)) (fun k => y (ix2 r k)) d := by
  unfold k0_pay8 k0_pay6 k0_pay5 k0_pay4 dxAt back ms
  pointwise

/-! ## The gradient -/

/-- The gradient handed to the normalization's rows: the narrow part's, and the main part's, which comes in. -/
def rowsGrad (w1 : S1024x128.Idx → EReal) (g : S2048x128.Idx → EReal) (b : S2048x1024.Idx → EReal) (i : Fin 2048) (d : Fin 1024) : EReal :=
  (∑ k : Fin 128, g (ix2 i k) * w1 (ix2 d k)) + b (ix2 i d)

/-- The gradient towards the input. -/
def gradX (x : S2048x1024.Idx → EReal) (w : S1024.Idx → EReal) (w1 : S1024x128.Idx → EReal) (g : S2048x128.Idx → EReal) (b y : S2048x1024.Idx → EReal) : S2048x1024.Idx → EReal :=
  fun i => dxAt (fun k => x (ix2 (i 0 : Fin 2048) k)) (fun k => w (ix1 k)) (rowsGrad w1 g b (i 0)) (fun k => y (ix2 (i 0 : Fin 2048) k)) (i 1)

/-- The gradient towards the normalization's weight. -/
def gradW (x : S2048x1024.Idx → EReal) (w1 : S1024x128.Idx → EReal) (g : S2048x128.Idx → EReal) (b : S2048x1024.Idx → EReal) : S1x1024.Idx → EReal :=
  fun i => ∑ r : Fin 2048, dwAt (fun k => x (ix2 r k)) (rowsGrad w1 g b r) (i 1)

/-! ## The reference -/

section
open InXRefIdeal.Read

theorem ref_rows (w1 : Vec Ideal S1024x128 .f32) (g : Vec Ideal S2048x128 .f32) (b : Vec Ideal S2048x1024 .f32) (i : Fin 2048) (d : Fin 1024) :
    (val_main_v18 (F := Ideal) w1 g b : S2048x1024.Idx → EReal) (ix2 i d) = rowsGrad w1 g b i d := by
  unfold val_main_v18 val_main_v17 rowsGrad
  pointwise
  exact add_comm _ _

theorem ref_x (x : Vec Ideal S2048x1024 .f32) (w : Vec Ideal S1024 .f32) (w1 : Vec Ideal S1024x128 .f32) (g : Vec Ideal S2048x128 .f32) (b y : Vec Ideal S2048x1024 .f32) :
    (val_main_v39 (F := Ideal) x w w1 g b y : S2048x1024.Idx → EReal) = gradX x w w1 g b y := by
  funext i
  obtain ⟨r, d, rfl⟩ : ∃ (r : Fin 2048) (d : Fin 1024), i = ix2 r d := ⟨i 0, i 1, by funext a; fin_cases a <;> rfl⟩
  refine Eq.trans ?_ (congrArg (fun R => dxAt (fun k => x (ix2 r k)) (fun k => w (ix1 k)) R (fun k => y (ix2 r k)) d) (funext fun k => ref_rows w1 g b r k))
  unfold val_main_v39 val_main_v38 val_main_v37 val_main_v36 val_main_v35 val_main_v34 val_main_v33 val_main_v32 val_main_v31 val_main_v30 val_main_v29 val_main_v28 val_main_v27 val_main_v26 val_main_v25 val_main_v23 val_main_v22 val_main_v13 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7 dxAt back ms
  generalize val_main_v18 (F := Ideal) w1 g b = R
  pointwise

theorem ref_w (x : Vec Ideal S2048x1024 .f32) (w1 : Vec Ideal S1024x128 .f32) (g : Vec Ideal S2048x128 .f32) (b : Vec Ideal S2048x1024 .f32) :
    (val_main_v40 (F := Ideal) x w1 g b : S1x1024.Idx → EReal) = gradW x w1 g b := by
  funext i
  obtain ⟨d, rfl⟩ : ∃ (d : Fin 1024), i = ix2 0 d :=
    ⟨i 1, by funext a; match a with | ⟨0, _⟩ => exact Fin.ext (by have h : (i 0).val < 1 := (i 0).isLt; show (i 0).val = 0; omega) | ⟨1, _⟩ => rfl⟩
  refine Eq.trans ?_ (Finset.sum_congr rfl fun r _ => congrArg (fun R => dwAt (fun k => x (ix2 r k)) R d) (funext fun k => ref_rows w1 g b r k))
  unfold val_main_v40 val_main_v24 val_main_v21 val_main_v20 val_main_v19 val_main_v12 val_main_v11 val_main_v7 val_main_v6 val_main_v5 val_main_v4 val_main_v3 val_main_v2 val_main_v1 val_main_v0 val_main_cst val_main_cst_0 val_main_cst_1 val_main_cst_3 val_main_cst_4 dwAt ms
  generalize val_main_v18 (F := Ideal) w1 g b = R
  pointwise
  exact Fin.sum_univ_one _

end

/-! ## Where the blocks sit -/

theorem points : ∀ t : Fin grid0.N, t.val < 2 := by decide +kernel
theorem i0 : ∀ t : Fin grid0.N, win0_0.index t 0 = t.val ∧ win0_0.index t 1 = 0 := by decide +kernel
theorem i1 : ∀ t : Fin grid0.N, win0_1.index t 0 = 0 ∧ win0_1.index t 1 = 0 := by decide +kernel
theorem i2 : ∀ t : Fin grid0.N, win0_2.index t 0 = t.val ∧ win0_2.index t 1 = 0 := by decide +kernel
theorem i3 : ∀ t : Fin grid0.N, win0_3.index t 0 = t.val ∧ win0_3.index t 1 = 0 := by decide +kernel
theorem i4 : ∀ t : Fin grid0.N, win0_4.index t 0 = t.val ∧ win0_4.index t 1 = 0 := by decide +kernel
theorem i5 : ∀ t : Fin grid0.N, win0_5.index t 0 = 0 ∧ win0_5.index t 1 = 0 := by decide +kernel
theorem i6 : ∀ t : Fin grid0.N, win0_6.index t 0 = t.val ∧ win0_6.index t 1 = 0 := by decide +kernel
theorem i7 : ∀ t : Fin grid0.N, win0_7.index t 0 = 0 ∧ win0_7.index t 1 = 0 := by decide +kernel

theorem emb0 (t : Fin cfg0.N) (r : Fin 1024) (k : Fin 128) (h : t.val * 1024 + r < 2048) :
    ((cfg0.win 0).blk t).view.emb (ix2 r k) = (ix2 ⟨t.val * 1024 + r, h⟩ k : S2048x128.Idx) := by
  funext a; apply Fin.ext
  refine (Pipeline.Window.rect_emb_val (cfg0.win 0) t _ a rfl).trans ?_
  match a with
  | ⟨0, _⟩ => show win0_0.index t 0 * 1024 + r.val = t.val * 1024 + r; rw [(i0 t).1]
  | ⟨1, _⟩ => show win0_0.index t 1 * 128 + k.val = k.val; rw [(i0 t).2]; omega
theorem emb1 (t : Fin cfg0.N) (d : Fin 1024) (k : Fin 128) : ((cfg0.win 1).blk t).view.emb (ix2 d k) = (ix2 d k : S1024x128.Idx) := by
  funext a; apply Fin.ext
  refine (Pipeline.Window.rect_emb_val (cfg0.win 1) t _ a rfl).trans ?_
  match a with
  | ⟨0, _⟩ => show win0_1.index t 0 * 1024 + d.val = d.val; rw [(i1 t).1]; omega
  | ⟨1, _⟩ => show win0_1.index t 1 * 128 + k.val = k.val; rw [(i1 t).2]; omega
theorem emb2 (t : Fin cfg0.N) (r d : Fin 1024) (h : t.val * 1024 + r < 2048) :
    ((cfg0.win 2).blk t).view.emb (ix2 r d) = (ix2 ⟨t.val * 1024 + r, h⟩ d : S2048x1024.Idx) := by
  funext a; apply Fin.ext
  refine (Pipeline.Window.rect_emb_val (cfg0.win 2) t _ a rfl).trans ?_
  match a with
  | ⟨0, _⟩ => show win0_2.index t 0 * 1024 + r.val = t.val * 1024 + r; rw [(i2 t).1]
  | ⟨1, _⟩ => show win0_2.index t 1 * 1024 + d.val = d.val; rw [(i2 t).2]; omega
theorem emb3 (t : Fin cfg0.N) (r d : Fin 1024) (h : t.val * 1024 + r < 2048) :
    ((cfg0.win 3).blk t).view.emb (ix2 r d) = (ix2 ⟨t.val * 1024 + r, h⟩ d : S2048x1024.Idx) := by
  funext a; apply Fin.ext
  refine (Pipeline.Window.rect_emb_val (cfg0.win 3) t _ a rfl).trans ?_
  match a with
  | ⟨0, _⟩ => show win0_3.index t 0 * 1024 + r.val = t.val * 1024 + r; rw [(i3 t).1]
  | ⟨1, _⟩ => show win0_3.index t 1 * 1024 + d.val = d.val; rw [(i3 t).2]; omega
theorem emb4 (t : Fin cfg0.N) (r d : Fin 1024) (h : t.val * 1024 + r < 2048) :
    ((cfg0.win 4).blk t).view.emb (ix2 r d) = (ix2 ⟨t.val * 1024 + r, h⟩ d : S2048x1024.Idx) := by
  funext a; apply Fin.ext
  refine (Pipeline.Window.rect_emb_val (cfg0.win 4) t _ a rfl).trans ?_
  match a with
  | ⟨0, _⟩ => show win0_4.index t 0 * 1024 + r.val = t.val * 1024 + r; rw [(i4 t).1]
  | ⟨1, _⟩ => show win0_4.index t 1 * 1024 + d.val = d.val; rw [(i4 t).2]; omega
theorem emb6 (t : Fin cfg0.N) (r d : Fin 1024) (h : t.val * 1024 + r < 2048) :
    ((cfg0.win 6).blk t).view.emb (ix2 r d) = (ix2 ⟨t.val * 1024 + r, h⟩ d : S2048x1024.Idx) := by
  funext a; apply Fin.ext
  refine (Pipeline.Window.rect_emb_val (cfg0.win 6) t _ a rfl).trans ?_
  match a with
  | ⟨0, _⟩ => show win0_6.index t 0 * 1024 + r.val = t.val * 1024 + r; rw [(i6 t).1]
  | ⟨1, _⟩ => show win0_6.index t 1 * 1024 + d.val = d.val; rw [(i6 t).2]; omega
theorem emb5 (t : Fin cfg0.N) (d : Fin 1024) : ((cfg0.win 5).blk t).view.emb (ix2 0 d) = (ix2 0 d : S1x1024.Idx) := by
  funext a; apply Fin.ext
  refine (Pipeline.Window.rect_emb_val (cfg0.win 5) t _ a rfl).trans ?_
  match a with
  | ⟨0, _⟩ => show win0_5.index t 0 * 1 + 0 = 0; rw [(i5 t).1]
  | ⟨1, _⟩ => show win0_5.index t 1 * 1024 + d.val = d.val; rw [(i5 t).2]; omega
theorem emb7 (t : Fin cfg0.N) (d : Fin 1024) : ((cfg0.win 7).blk t).view.emb (ix2 0 d) = (ix2 0 d : S1x1024.Idx) := by
  funext a; apply Fin.ext
  refine (Pipeline.Window.rect_emb_val (cfg0.win 7) t _ a rfl).trans ?_
  match a with
  | ⟨0, _⟩ => show win0_7.index t 0 * 1 + 0 = 0; rw [(i7 t).1]
  | ⟨1, _⟩ => show win0_7.index t 1 * 1024 + d.val = d.val; rw [(i7 t).2]; omega

/-! ## The blocks the points read -/

theorem row_at (x : Vec Ideal S1024 .f32) (d : Fin 1024) : (shapeCast S1x1024 x shapeCasts_S1024_S1x1024 : S1x1024.Idx → EReal) (ix2 0 d) = x (ix1 d) := by
  pointwise

variable (m : (ℓ : Loc nD τ sig) → Buf (Elt Ideal) ℓ) (c : Dev nD)

abbrev mX : S2048x1024.Idx → EReal := m ((c.tc : Thread nD τ).loc main_arg0)
abbrev mW : S1024.Idx → EReal := m ((c.tc : Thread nD τ).loc main_arg1)
abbrev mW1 : S1024x128.Idx → EReal := m ((c.tc : Thread nD τ).loc main_arg2)
abbrev mG : S2048x128.Idx → EReal := m ((c.tc : Thread nD τ).loc main_arg3)
abbrev mB : S2048x1024.Idx → EReal := m ((c.tc : Thread nD τ).loc main_arg4)
abbrev mY : S2048x1024.Idx → EReal := m ((c.tc : Thread nD τ).loc main_arg5)

theorem V_w1 : (V m c main_v1 : S1024x128.Idx → EReal) = mW1 m c := by
  unfold_abbrev_sides
  after_results
  rfl

theorem V_w (d : Fin 1024) : (V m c main_v0 : S1x1024.Idx → EReal) (ix2 0 d) = mW m c (ix1 d) := by
  have e : V m c main_v0 = shapeCast S1x1024 (m ((c.tc : Thread nD τ).loc main_arg1)) shapeCasts_S1024_S1x1024 := by
    unfold_abbrev_sides
    after_results
    rfl
  rw [e]
  exact row_at _ d

variable (t : Fin cfg0.N)

theorem rd_g (r : Fin 1024) (k : Fin 128) (h : t.val * 1024 + r < 2048) : (iblk m c 0 t : S1024x128.Idx → EReal) (ix2 r k) = mG m c (ix2 ⟨t.val * 1024 + r, h⟩ k) :=
  Eq.trans (congrArg (V m c main_arg3) (emb0 t r k h)) (congrFun (V_main_arg3 m c) _)

theorem rd_w1 (d : Fin 1024) (k : Fin 128) : (iblk m c 1 t : S1024x128.Idx → EReal) (ix2 d k) = mW1 m c (ix2 d k) :=
  Eq.trans (congrArg (V m c main_v1) (emb1 t d k)) (congrFun (V_w1 m c) _)

theorem rd_b (r d : Fin 1024) (h : t.val * 1024 + r < 2048) : (iblk m c 2 t : S1024x1024.Idx → EReal) (ix2 r d) = mB m c (ix2 ⟨t.val * 1024 + r, h⟩ d) :=
  Eq.trans (congrArg (V m c main_arg4) (emb2 t r d h)) (congrFun (V_main_arg4 m c) _)

theorem rd_x (r d : Fin 1024) (h : t.val * 1024 + r < 2048) : (iblk m c 3 t : S1024x1024.Idx → EReal) (ix2 r d) = mX m c (ix2 ⟨t.val * 1024 + r, h⟩ d) :=
  Eq.trans (congrArg (V m c main_arg0) (emb3 t r d h)) (congrFun (V_main_arg0 m c) _)

theorem rd_y (r d : Fin 1024) (h : t.val * 1024 + r < 2048) : (iblk m c 4 t : S1024x1024.Idx → EReal) (ix2 r d) = mY m c (ix2 ⟨t.val * 1024 + r, h⟩ d) :=
  Eq.trans (congrArg (V m c main_arg5) (emb4 t r d h)) (congrFun (V_main_arg5 m c) _)

theorem rd_w (d : Fin 1024) : (iblk m c 5 t : S1x1024.Idx → EReal) (ix2 0 d) = mW m c (ix1 d) :=
  Eq.trans (congrArg (V m c main_v0) (emb5 t d)) (V_w m c d)

/-- The gradient a point hands to the normalization's rows. -/
theorem rows_at (r d : Fin 1024) (h : t.val * 1024 + r < 2048) :
    (prod m c t : S1024x1024.Idx → EReal) (ix2 r d) + (iblk m c 2 t : S1024x1024.Idx → EReal) (ix2 r d) = rowsGrad (mW1 m c) (mG m c) (mB m c) ⟨t.val * 1024 + r, h⟩ d :=
  congrArg₂ (· + ·) ((prod_at _ _ r d).trans (Finset.sum_congr rfl fun k _ => congrArg₂ (· * ·) (rd_g m c t r k h) (rd_w1 m c t d k))) (rd_b m c t r d h)

/-! ## The arrays -/

theorem dx_at (r d : Fin 1024) (h : t.val * 1024 + r < 2048) :
    ((outsAt0 m c t.val t.isLt).1 : S1024x1024.Idx → EReal) (ix2 r d)
      = gradX (mX m c) (mW m c) (mW1 m c) (mG m c) (mB m c) (mY m c) (ix2 ⟨t.val * 1024 + r, h⟩ d) := by
  have e : (outsAt0 m c t.val t.isLt).1 = k0_pay8 (prod m c t) (iblk m c 5 t) (iblk m c 2 t) (iblk m c 3 t) (iblk m c 4 t) := by
    by_cases h2 : t.val % 2 = 0
    · exact dx_A m c t h2
    · exact dx_B m c t h2
  rw [e]
  refine (pay8_at _ _ _ _ _ r d).trans ?_
  show _ = dxAt _ _ _ _ d
  rw [funext fun k => rd_x m c t r k h, funext fun k => rd_y m c t r k h, funext fun k => rd_w m c t k, funext fun k => rows_at m c t r k h]
  rfl

theorem dwTile_at (d : Fin 1024) (h : ∀ r : Fin 1024, t.val * 1024 + r < 2048) :
    (dwTile m c t : S1x1024.Idx → EReal) (ix2 0 d)
      = ∑ r : Fin 1024, dwAt (fun k => mX m c (ix2 ⟨t.val * 1024 + r, h r⟩ k)) (rowsGrad (mW1 m c) (mG m c) (mB m c) ⟨t.val * 1024 + r, h r⟩) d := by
  refine (pay7_at _ _ _ d).trans (Finset.sum_congr rfl fun r _ => ?_)
  rw [funext fun k => rd_x m c t r k (h r), funext fun k => rows_at m c t r k (h r)]

theorem dw_at (hn : 1 < cfg0.N) (d : Fin 1024) :
    ((outsAt0 m c 1 hn).2 : S1x1024.Idx → EReal) (ix2 0 d) = gradW (mX m c) (mW1 m c) (mG m c) (mB m c) (ix2 0 d) := by
  have h0 : 0 < cfg0.N := by omega
  rw [dw_B m c ⟨1, hn⟩ (by show ¬1 % 2 = 0; omega)]
  refine (pay3_at _ _ d).trans ?_
  rw [dwTile_at m c ⟨1, hn⟩ d (fun r => by show 1 * 1024 + r.val < 2048; omega)]
  refine (congrArg (fun x : S1x1024.Idx → EReal => x (ix2 0 d) + _) (dw_A m c ⟨0, h0⟩ rfl)).trans ?_
  rw [dwTile_at m c ⟨0, h0⟩ d (fun r => by show 0 * 1024 + r.val < 2048; omega)]
  show _ = ∑ r : Fin (1024 + 1024), dwAt (fun k => mX m c (ix2 r k)) (rowsGrad (mW1 m c) (mG m c) (mB m c) r) d
  rw [Fin.sum_univ_add]
  refine congrArg₂ (· + ·) (Finset.sum_congr rfl fun r _ => ?_) (Finset.sum_congr rfl fun r _ => ?_)
  · exact congrArg (fun i : Fin 2048 => dwAt (fun k => mX m c (ix2 i k)) (rowsGrad (mW1 m c) (mG m c) (mB m c) i) d) (Fin.ext (by show 0 * 1024 + r.val = r.val; omega))
  · exact congrArg (fun i : Fin 2048 => dwAt (fun k => mX m c (ix2 i k)) (rowsGrad (mW1 m c) (mG m c) (mB m c) i) d) (Fin.ext (by show 1 * 1024 + r.val = 1024 + r.val; omega))

/-- What the kernel's launch leaves of the input's gradient. -/
theorem arr_x : (dats m 0 c).arrAt 6 cfg0.N = gradX (mX m c) (mW m c) (mW1 m c) (mG m c) (mB m c) (mY m c) := by
  refine Dat.arrAt_eq_of_cover _ 6 _ ?_ ?_
  · intro t _
    rw [Value.flushed6]
    funext y
    obtain ⟨r, d, rfl⟩ : ∃ (r d : Fin 1024), y = ix2 r d := ⟨y 0, y 1, by funext a; fin_cases a <;> rfl⟩
    have ht := points t
    have h : t.val * 1024 + r < 2048 := by omega
    exact (dx_at m c t r d h).trans (congrArg (gradX _ _ _ _ _ _) (emb6 t r d h).symm)
  · intro i
    have h0 : (i 0).val < 2048 := (i 0).isLt
    have hN : (i 0).val / 1024 < cfg0.N := by show _ < 2; omega
    refine ⟨⟨_, hN⟩, flush0_6 _, ?_⟩
    have e := emb6 ⟨_, hN⟩ ⟨(i 0).val % 1024, by omega⟩ (i 1) (by show (i 0).val / 1024 * 1024 + (i 0).val % 1024 < 2048; omega)
    have : i = ((cfg0.win 6).blk ⟨_, hN⟩).view.emb (ix2 ⟨(i 0).val % 1024, by omega⟩ (i 1)) := by
      rw [e]; funext a
      match a with
      | ⟨0, _⟩ => exact Fin.ext (by show (i 0).val = (i 0).val / 1024 * 1024 + (i 0).val % 1024; omega)
      | ⟨1, _⟩ => rfl
    exact Eq.mpr (congrArg (· ∈ ((cfg0.win 6).blk ⟨_, hN⟩).view.set) this) (View.emb_mem_set _ _)

/-- What the kernel's launch leaves of the weight's gradient. -/
theorem arr_w : (dats m 0 c).arrAt 7 cfg0.N = gradW (mX m c) (mW1 m c) (mG m c) (mB m c) := by
  have hN : 1 < cfg0.N := by show _ < 2; omega
  refine Dat.arrAt_eq_of_cover _ 7 _ ?_ ?_
  · intro t hf
    have h1 := (flush0_7 t).mp hf
    have ht := points t
    have e1 : t = ⟨1, hN⟩ := Fin.ext (by show t.val = 1; omega)
    rw [Value.flushed7, e1]
    funext y
    obtain ⟨d, rfl⟩ : ∃ (d : Fin 1024), y = ix2 0 d :=
      ⟨y 1, by funext a; match a with | ⟨0, _⟩ => exact Fin.ext (by have h : (y 0).val < 1 := (y 0).isLt; show (y 0).val = 0; omega) | ⟨1, _⟩ => rfl⟩
    exact (dw_at m c hN d).trans (congrArg (gradW _ _ _ _) (emb7 _ d).symm)
  · intro i
    refine ⟨⟨1, hN⟩, (flush0_7 _).mpr rfl, ?_⟩
    have : i = ((cfg0.win 7).blk ⟨1, hN⟩).view.emb (ix2 0 (i 1)) := by
      rw [emb7 ⟨1, hN⟩ (i 1)]; funext a
      match a with
      | ⟨0, _⟩ => exact Fin.ext (by have h : (i 0).val < 1 := (i 0).isLt; show (i 0).val = 0; omega)
      | ⟨1, _⟩ => rfl
    exact Eq.mpr (congrArg (· ∈ ((cfg0.win 7).blk ⟨1, hN⟩).view.set) this) (View.emb_mem_set _ _)

end Cert.InXIdeal.Mlp

end
-- ==== Proof.InW.lean ====
/- The gradient of the main part of the layer's input projection towards its weight: what the kernel's launch leaves is the
   reference's gradient, over the exact numbers. -/
module

public import proofs.«01_k».proof.Proof.Gen.InWIdeal.Value
public import proofs.«01_k».proof.Proof.Gen.InWRefIdeal.Read
public import Idealize.ShloMosaic.Lib.Pointwise
public import Idealize.ShloMosaic.Lib.KernelVsHost
public import Idealize.ShloMosaic.Lib.VecWindow

@[expose] public section

noncomputable section

namespace Cert.InWIdeal.Mlp

open Idealize.ShloMosaic Idealize.ShloMosaic.TcCoe Idealize.SL.Sem
open Cert.InWIdeal Cert.InWIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x1024 .bf16) (harg3 : arg3.IsWhole)
    (arg4 : Memref sig .tc .vmem S2048x512 .bf16) (harg4 : arg4.IsWhole) (arg5 : Memref sig .tc .vmem S1024x512 .bf16) (harg5 : arg5.IsWhole)
    (arg6 : Memref sig .tc .vmem S1024x512 .f32) (harg6 : arg6.IsWhole)
    (hc0 : cond0_0 i) (hc1 : cond0_1 i) (x0 : Vec F S2048x1024 .bf16) (x1 : Vec F S2048x512 .bf16) :
    out0_A_2 c i arg3 harg3 arg4 harg4 arg5 harg5 arg6 harg6 hc0 hc1 x0 x1 = k0_pay3 (k0_pay2 x1 k0_pay1 x0) := by
  have hz : (![0, 0] : Fin 2 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1024x512) hz, View.readCov_unit_zero (S := S1024x512) _ hz]
  simp only [View.readAt_eq_ld, harg3.read_unread, harg4.read_unread, View.ld_unit_zero (S := S2048x1024) hz, View.ld_unit_zero (S := S2048x512) hz]
  rw [View.readCov_full (s := S1024x512)]

/-- A point's block at an index. -/
theorem block_at (x0 : Vec Ideal S2048x1024 .bf16) (x1 : Vec Ideal S2048x512 .bf16) (r : Fin 1024) (d : Fin 512) :
    (k0_pay3 (F := Ideal) (k0_pay2 (F := Ideal) x1 (k0_pay1 (F := Ideal)) x0) : S1024x512.Idx → EReal) (ix2 r d)
      = ∑ k : Fin 2048, x0 (ix2 k r) * x1 (ix2 k d) := by
  unfold k0_pay3 k0_pay2 k0_pay1
  pointwise

/-! ## The array -/

theorem points : ∀ t : Fin grid0.N, t.val < 9 := by decide +kernel
theorem i0 : ∀ t : Fin grid0.N, win0_0.index t 1 = t.val / 9 ∧ win0_0.index t 0 = 0 := by decide +kernel
theorem i1 : ∀ t : Fin grid0.N, win0_1.index t 1 = t.val % 9 ∧ win0_1.index t 0 = 0 := by decide +kernel
theorem i2 : ∀ t : Fin grid0.N, win0_2.index t 0 = t.val / 9 ∧ win0_2.index t 1 = t.val % 9 := by decide +kernel

theorem emb0 (t : Fin cfg0.N) (k : Fin 2048) (r : Fin 1024) (h : t.val / 9 * 1024 + r < 1024) :
    ((cfg0.win 0).blk t).view.emb (ix2 k r) = (ix2 k ⟨t.val / 9 * 1024 + r, h⟩ : S2048x1024.Idx) := by
  funext a; apply Fin.ext
  refine (Pipeline.Window.rect_emb_val (cfg0.win 0) t _ a rfl).trans ?_
  match a with
  | ⟨0, _⟩ => show win0_0.index t 0 * 2048 + k.val = k.val; rw [(i0 t).2]; omega
  | ⟨1, _⟩ => show win0_0.index t 1 * 1024 + r.val = t.val / 9 * 1024 + r; rw [(i0 t).1]
theorem emb1 (t : Fin cfg0.N) (k : Fin 2048) (d : Fin 512) (h : t.val % 9 * 512 + d < 4608) :
    ((cfg0.win 1).blk t).view.emb (ix2 k d) = (ix2 k ⟨t.val % 9 * 512 + d, h⟩ : S2048x4608.Idx) := by
  funext a; apply Fin.ext
  refine (Pipeline.Window.rect_emb_val (cfg0.win 1) t _ a rfl).trans ?_
  match a with
  | ⟨0, _⟩ => show win0_1.index t 0 * 2048 + k.val = k.val; rw [(i1 t).2]; omega
  | ⟨1, _⟩ => show win0_1.index t 1 * 512 + d.val = t.val % 9 * 512 + d; rw [(i1 t).1]
theorem emb2 (t : Fin cfg0.N) (r : Fin 1024) (d : Fin 512) (h : t.val / 9 * 1024 + r < 1024) (h' : t.val % 9 * 512 + d < 4608) :
    ((cfg0.win 2).blk t).view.emb (ix2 r d) = (ix2 ⟨t.val / 9 * 1024 + r, h⟩ ⟨t.val % 9 * 512 + d, h'⟩ : S1024x4608.Idx) := by
  funext a; apply Fin.ext
  refine (Pipeline.Window.rect_emb_val (cfg0.win 2) t _ a rfl).trans ?_
  match a with
  | ⟨0, _⟩ => show win0_2.index t 0 * 1024 + r.val = t.val / 9 * 1024 + r; rw [(i2 t).1]
  | ⟨1, _⟩ => show win0_2.index t 1 * 512 + d.val = t.val % 9 * 512 + d; rw [(i2 t).2]

/-- The gradient at an index: the normalized rows' transpose times the incoming gradient. -/
def gradAt (a : S2048x1024.Idx → EReal) (b : S2048x4608.Idx → EReal) (r : Fin 1024) (d : Fin 4608) : EReal := ∑ k : Fin 2048, a (ix2 k r) * b (ix2 k d)

/-- The gradient. -/
def grad (a : S2048x1024.Idx → EReal) (b : S2048x4608.Idx → EReal) : S1024x4608.Idx → EReal := fun i => gradAt a b (i 0) (i 1)

variable (m : (ℓ : Loc nD τ sig) → Buf (Elt Ideal) ℓ) (c : Dev nD)

/-- The normalized rows, by the reference's lines. -/
abbrev rows (x : Vec Ideal S2048x1024 .f32) (w : Vec Ideal S1024 .f32) : S2048x1024.Idx → EReal := InWRefIdeal.Read.val_main_v12 (F := Ideal) x w

theorem V_h : (V m c main_v13 : S2048x1024.Idx → EReal) = rows (m ((c.tc : Thread nD τ).loc main_arg0)) (m ((c.tc : Thread nD τ).loc main_arg1)) := by
  unfold_abbrev_sides
  after_results
  rfl

theorem V_g : (V m c main_v14 : S2048x4608.Idx → EReal) = m ((c.tc : Thread nD τ).loc main_arg3) := by
  unfold_abbrev_sides
  after_results
  rfl

/-- What the kernel's launch leaves. -/
theorem arr : (dats m 0 c).arrAt 2 cfg0.N = grad (rows (m ((c.tc : Thread nD τ).loc main_arg0)) (m ((c.tc : Thread nD τ).loc main_arg1))) (m ((c.tc : Thread nD τ).loc main_arg3)) := by
  refine Dat.arrAt_eq_of_cover _ 2 _ ?_ ?_
  · intro t _
    rw [Value.flushed2]
    funext y
    obtain ⟨r, d, rfl⟩ : ∃ (r : Fin 1024) (d : Fin 512), y = ix2 r d := ⟨y 0, y 1, by funext a; fin_cases a <;> rfl⟩
    have ht := points t
    have h : t.val / 9 * 1024 + r < 1024 := by omega
    have h' : t.val % 9 * 512 + d < 4608 := by omega
    refine Eq.trans (b := outsAt0 m c t (ix2 r d)) rfl ?_
    refine Eq.trans (b := gradAt _ _ ⟨t.val / 9 * 1024 + r, h⟩ ⟨t.val % 9 * 512 + d, h'⟩) ?_ (congrArg (grad _ _) (emb2 t r d h h').symm)
    unfold outsAt0 gradAt
    rw [out_block]
    refine (block_at _ _ r d).trans ?_
    refine Finset.sum_congr rfl fun k _ => congrArg₂ (· * ·) ?_ ?_
    · exact Eq.trans (congrArg (V m c main_v13) (emb0 t k r h)) (congrFun (V_h m c) _)
    · exact Eq.trans (congrArg (V m c main_v14) (emb1 t k d h')) (congrFun (V_g m c) _)
  · intro i
    have h0 : (i 0).val < 1024 := (i 0).isLt
    have h1 : (i 1).val < 4608 := (i 1).isLt
    have hN : (i 0).val / 1024 * 9 + (i 1).val / 512 < cfg0.N := by show _ < 9; omega
    refine ⟨⟨_, hN⟩, flush0_2 _, ?_⟩
    have e0 : ((i 0).val / 1024 * 9 + (i 1).val / 512) / 9 * 1024 + (i 0).val % 1024 = (i 0).val := by omega
    have e1 : ((i 0).val / 1024 * 9 + (i 1).val / 512) % 9 * 512 + (i 1).val % 512 = (i 1).val := by omega
    have e := emb2 ⟨_, hN⟩ ⟨(i 0).val % 1024, by omega⟩ ⟨(i 1).val % 512, by omega⟩ (e0.trans_lt h0) (e1.trans_lt h1)
    have : i = ((cfg0.win 2).blk ⟨_, hN⟩).view.emb (ix2 ⟨(i 0).val % 1024, by omega⟩ ⟨(i 1).val % 512, by omega⟩) := by
      rw [e]; funext a
      match a with
      | ⟨0, _⟩ => exact Fin.ext e0.symm
      | ⟨1, _⟩ => exact Fin.ext e1.symm
    exact Eq.mpr (congrArg (· ∈ ((cfg0.win 2).blk ⟨_, hN⟩).view.set) this) (View.emb_mem_set _ _)

/-! ## The reference -/

/-- What the reference computes. -/
theorem ref (x : Vec Ideal S2048x1024 .f32) (w : Vec Ideal S1024 .f32) (g : S2048x4608.Idx → EReal) :
    (InWRefIdeal.Read.val_main_v16 (F := Ideal) x w g : S1024x4608.Idx → EReal) = grad (rows x w) g := by
  funext i
  obtain ⟨r, d, rfl⟩ : ∃ (r : Fin 1024) (d : Fin 4608), i = ix2 r d := ⟨i 0, i 1, by funext a; fin_cases a <;> rfl⟩
  show _ = gradAt _ _ r d
  unfold InWRefIdeal.Read.val_main_v16 InWRefIdeal.Read.val_main_v15 InWRefIdeal.Read.val_main_v14 gradAt
  rw [rows]
  generalize InWRefIdeal.Read.val_main_v12 (F := Ideal) x w = h
  pointwise
  exact Finset.sum_congr rfl fun k _ => mul_comm _ _

end Cert.InWIdeal.Mlp

end
-- ==== Proof.InS.lean ====
/- The gradient of the narrow part of the layer's input projection towards its weight: what the kernel's launch leaves is the
   reference's gradient, over the exact numbers. -/
module

public import proofs.«01_k».proof.Proof.Gen.InSIdeal.Value
public import proofs.«01_k».proof.Proof.Gen.InSRefIdeal.Read
public import Idealize.ShloMosaic.Lib.Pointwise
public import Idealize.ShloMosaic.Lib.KernelVsHost
public import Idealize.ShloMosaic.Lib.VecWindow

@[expose] public section

noncomputable section

namespace Cert.InSIdeal.Mlp

open Idealize.ShloMosaic Idealize.ShloMosaic.TcCoe Idealize.SL.Sem
open Cert.InSIdeal Cert.InSIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x1024 .bf16) (harg3 : arg3.IsWhole)
    (arg4 : Memref sig .tc .vmem S2048x128 .f32) (harg4 : arg4.IsWhole) (arg5 : Memref sig .tc .vmem S1024x128 .bf16) (harg5 : arg5.IsWhole)
    (arg6 : Memref sig .tc .vmem S1024x128 .f32) (harg6 : arg6.IsWhole)
    (hc0 : cond0_0 i) (hc1 : cond0_1 i) (x0 : Vec F S2048x1024 .bf16) (x1 : Vec F S2048x128 .f32) :
    out0_A_2 c i arg3 harg3 arg4 harg4 arg5 harg5 arg6 harg6 hc0 hc1 x0 x1 = k0_pay3 (k0_pay2 x1 k0_pay1 x0) := by
  have hz : (![0, 0] : Fin 2 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1024x128) hz, View.readCov_unit_zero (S := S1024x128) _ hz]
  simp only [View.readAt_eq_ld, harg3.read_unread, harg4.read_unread, View.ld_unit_zero (S := S2048x1024) hz, View.ld_unit_zero (S := S2048x128) hz]
  rw [View.readCov_full (s := S1024x128)]

/-- A point's block at an index. -/
theorem block_at (x0 : Vec Ideal S2048x1024 .bf16) (x1 : Vec Ideal S2048x128 .f32) (r : Fin 1024) (d : Fin 128) :
    (k0_pay3 (F := Ideal) (k0_pay2 (F := Ideal) x1 (k0_pay1 (F := Ideal)) x0) : S1024x128.Idx → EReal) (ix2 r d)
      = ∑ k : Fin 2048, x0 (ix2 k r) * x1 (ix2 k d) := by
  unfold k0_pay3 k0_pay2 k0_pay1
  pointwise

/-! ## The array -/

theorem points : ∀ t : Fin grid0.N, t.val < 1 := by decide +kernel
theorem i0 : ∀ t : Fin grid0.N, win0_0.index t 1 = t.val / 1 ∧ win0_0.index t 0 = 0 := by decide +kernel
theorem i1 : ∀ t : Fin grid0.N, win0_1.index t 1 = t.val % 1 ∧ win0_1.index t 0 = 0 := by decide +kernel
theorem i2 : ∀ t : Fin grid0.N, win0_2.index t 0 = t.val / 1 ∧ win0_2.index t 1 = t.val % 1 := by decide +kernel

theorem emb0 (t : Fin cfg0.N) (k : Fin 2048) (r : Fin 1024) (h : t.val / 1 * 1024 + r < 1024) :
    ((cfg0.win 0).blk t).view.emb (ix2 k r) = (ix2 k ⟨t.val / 1 * 1024 + r, h⟩ : S2048x1024.Idx) := by
  funext a; apply Fin.ext
  refine (Pipeline.Window.rect_emb_val (cfg0.win 0) t _ a rfl).trans ?_
  match a with
  | ⟨0, _⟩ => show win0_0.index t 0 * 2048 + k.val = k.val; rw [(i0 t).2]; omega
  | ⟨1, _⟩ => show win0_0.index t 1 * 1024 + r.val = t.val / 1 * 1024 + r; rw [(i0 t).1]
theorem emb1 (t : Fin cfg0.N) (k : Fin 2048) (d : Fin 128) (h : t.val % 1 * 128 + d < 128) :
    ((cfg0.win 1).blk t).view.emb (ix2 k d) = (ix2 k ⟨t.val % 1 * 128 + d, h⟩ : S2048x128.Idx) := by
  funext a; apply Fin.ext
  refine (Pipeline.Window.rect_emb_val (cfg0.win 1) t _ a rfl).trans ?_
  match a with
  | ⟨0, _⟩ => show win0_1.index t 0 * 2048 + k.val = k.val; rw [(i1 t).2]; omega
  | ⟨1, _⟩ => show win0_1.index t 1 * 128 + d.val = t.val % 1 * 128 + d; rw [(i1 t).1]
theorem emb2 (t : Fin cfg0.N) (r : Fin 1024) (d : Fin 128) (h : t.val / 1 * 1024 + r < 1024) (h' : t.val % 1 * 128 + d < 128) :
    ((cfg0.win 2).blk t).view.emb (ix2 r d) = (ix2 ⟨t.val / 1 * 1024 + r, h⟩ ⟨t.val % 1 * 128 + d, h'⟩ : S1024x128.Idx) := by
  funext a; apply Fin.ext
  refine (Pipeline.Window.rect_emb_val (cfg0.win 2) t _ a rfl).trans ?_
  match a with
  | ⟨0, _⟩ => show win0_2.index t 0 * 1024 + r.val = t.val / 1 * 1024 + r; rw [(i2 t).1]
  | ⟨1, _⟩ => show win0_2.index t 1 * 128 + d.val = t.val % 1 * 128 + d; rw [(i2 t).2]

/-- The gradient at an index: the normalized rows' transpose times the incoming gradient. -/
def gradAt (a : S2048x1024.Idx → EReal) (b : S2048x128.Idx → EReal) (r : Fin 1024) (d : Fin 128) : EReal := ∑ k : Fin 2048, a (ix2 k r) * b (ix2 k d)

/-- The gradient. -/
def grad (a : S2048x1024.Idx → EReal) (b : S2048x128.Idx → EReal) : S1024x128.Idx → EReal := fun i => gradAt a b (i 0) (i 1)

variable (m : (ℓ : Loc nD τ sig) → Buf (Elt Ideal) ℓ) (c : Dev nD)

/-- The normalized rows, by the reference's lines. -/
abbrev rows (x : Vec Ideal S2048x1024 .f32) (w : Vec Ideal S1024 .f32) : S2048x1024.Idx → EReal := InSRefIdeal.Read.val_main_v12 (F := Ideal) x w

theorem V_h : (V m c main_v13 : S2048x1024.Idx → EReal) = rows (m ((c.tc : Thread nD τ).loc main_arg0)) (m ((c.tc : Thread nD τ).loc main_arg1)) := by
  unfold_abbrev_sides
  after_results
  rfl

/-- What the kernel's launch leaves. -/
theorem arr : (dats m 0 c).arrAt 2 cfg0.N = grad (rows (m ((c.tc : Thread nD τ).loc main_arg0)) (m ((c.tc : Thread nD τ).loc main_arg1))) (m ((c.tc : Thread nD τ).loc main_arg3)) := by
  refine Dat.arrAt_eq_of_cover _ 2 _ ?_ ?_
  · intro t _
    rw [Value.flushed2]
    funext y
    obtain ⟨r, d, rfl⟩ : ∃ (r : Fin 1024) (d : Fin 128), y = ix2 r d := ⟨y 0, y 1, by funext a; fin_cases a <;> rfl⟩
    have ht := points t
    have h : t.val / 1 * 1024 + r < 1024 := by omega
    have h' : t.val % 1 * 128 + d < 128 := by omega
    refine Eq.trans (b := outsAt0 m c t (ix2 r d)) rfl ?_
    refine Eq.trans (b := gradAt _ _ ⟨t.val / 1 * 1024 + r, h⟩ ⟨t.val % 1 * 128 + d, h'⟩) ?_ (congrArg (grad _ _) (emb2 t r d h h').symm)
    unfold outsAt0 gradAt
    rw [out_block]
    refine (block_at _ _ r d).trans ?_
    refine Finset.sum_congr rfl fun k _ => congrArg₂ (· * ·) ?_ ?_
    · exact Eq.trans (congrArg (V m c main_v13) (emb0 t k r h)) (congrFun (V_h m c) _)
    · exact Eq.trans (congrArg (V m c main_arg3) (emb1 t k d h')) (congrFun (V_main_arg3 m c) _)
  · intro i
    have h0 : (i 0).val < 1024 := (i 0).isLt
    have h1 : (i 1).val < 128 := (i 1).isLt
    have hN : (i 0).val / 1024 * 1 + (i 1).val / 128 < cfg0.N := by show _ < 1; omega
    refine ⟨⟨_, hN⟩, flush0_2 _, ?_⟩
    have e0 : ((i 0).val / 1024 * 1 + (i 1).val / 128) / 1 * 1024 + (i 0).val % 1024 = (i 0).val := by omega
    have e1 : ((i 0).val / 1024 * 1 + (i 1).val / 128) % 1 * 128 + (i 1).val % 128 = (i 1).val := by omega
    have e := emb2 ⟨_, hN⟩ ⟨(i 0).val % 1024, by omega⟩ ⟨(i 1).val % 128, by omega⟩ (e0.trans_lt h0) (e1.trans_lt h1)
    have : i = ((cfg0.win 2).blk ⟨_, hN⟩).view.emb (ix2 ⟨(i 0).val % 1024, by omega⟩ ⟨(i 1).val % 128, by omega⟩) := by
      rw [e]; funext a
      match a with
      | ⟨0, _⟩ => exact Fin.ext e0.symm
      | ⟨1, _⟩ => exact Fin.ext e1.symm
    exact Eq.mpr (congrArg (· ∈ ((cfg0.win 2).blk ⟨_, hN⟩).view.set) this) (View.emb_mem_set _ _)

/-! ## The reference -/

/-- What the reference computes. -/
theorem ref (x : Vec Ideal S2048x1024 .f32) (w : Vec Ideal S1024 .f32) (g : S2048x128.Idx → EReal) :
    (InSRefIdeal.Read.val_main_v16 (F := Ideal) x w g : S1024x128.Idx → EReal) = grad (rows x w) g := by
  funext i
  obtain ⟨r, d, rfl⟩ : ∃ (r : Fin 1024) (d : Fin 128), i = ix2 r d := ⟨i 0, i 1, by funext a; fin_cases a <;> rfl⟩
  show _ = gradAt _ _ r d
  unfold InSRefIdeal.Read.val_main_v16 InSRefIdeal.Read.val_main_v15 InSRefIdeal.Read.val_main_v14 gradAt
  rw [rows]
  generalize InSRefIdeal.Read.val_main_v12 (F := Ideal) x w = h
  pointwise
  exact Finset.sum_congr rfl fun k _ => mul_comm _ _

end Cert.InSIdeal.Mlp

end
-- ==== Proof.OutX.lean ====
/- The gradient of the layer's output projection towards its input: what the kernel's launch leaves is the reference's
   gradient, over the exact numbers. -/
module

public import proofs.«01_k».proof.Proof.Gen.OutXIdeal.Value
public import proofs.«01_k».proof.Proof.Gen.OutXRefIdeal.Read
public import Idealize.ShloMosaic.Lib.Pointwise
public import Idealize.ShloMosaic.Lib.KernelVsHost
public import Idealize.ShloMosaic.Lib.VecWindow

@[expose] public section

noncomputable section

namespace Cert.OutXIdeal.Mlp

open Idealize.ShloMosaic Idealize.ShloMosaic.TcCoe Idealize.SL.Sem
open Cert.OutXIdeal Cert.OutXIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x1024 .f32) (harg3 : arg3.IsWhole)
    (arg4 : Memref sig .tc .vmem S512x1024 .bf16) (harg4 : arg4.IsWhole) (arg5 : Memref sig .tc .vmem S2048x512 .f32) (harg5 : arg5.IsWhole)
    (arg6 : Memref sig .tc .vmem S2048x512 .f32) (harg6 : arg6.IsWhole)
    (hc0 : cond0_0 i) (hc1 : cond0_1 i) (x0 : Vec F S2048x1024 .f32) (x1 : Vec F S512x1024 .bf16) :
    out0_A_2 c i arg3 harg3 arg4 harg4 arg5 harg5 arg6 harg6 hc0 hc1 x0 x1 = k0_pay2 x1 k0_pay1 x0 := by
  have hz : (![0, 0] : Fin 2 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S2048x512) hz, View.readCov_unit_zero (S := S2048x512) _ hz]
  simp only [View.readAt_eq_ld, harg3.read_unread, harg4.read_unread, View.ld_unit_zero (S := S2048x1024) hz, View.ld_unit_zero (S := S512x1024) hz]
  rw [View.readCov_full (s := S2048x512)]

/-- A point's block at an index. -/
theorem block_at (x0 : Vec Ideal S2048x1024 .f32) (x1 : Vec Ideal S512x1024 .bf16) (r : Fin 2048) (d : Fin 512) :
    (k0_pay2 (F := Ideal) x1 (k0_pay1 (F := Ideal)) x0 : S2048x512.Idx → EReal) (ix2 r d)
      = ∑ k : Fin 1024, x0 (ix2 r k) * x1 (ix2 d k) := by
  unfold k0_pay2 k0_pay1
  pointwise

/-! ## The array -/

theorem points : ∀ t : Fin grid0.N, t.val < 3 := by decide +kernel
theorem i0 : ∀ t : Fin grid0.N, win0_0.index t 0 = t.val / 3 ∧ win0_0.index t 1 = 0 := by decide +kernel
theorem i1 : ∀ t : Fin grid0.N, win0_1.index t 0 = t.val % 3 ∧ win0_1.index t 1 = 0 := by decide +kernel
theorem i2 : ∀ t : Fin grid0.N, win0_2.index t 0 = t.val / 3 ∧ win0_2.index t 1 = t.val % 3 := by decide +kernel

theorem emb0 (t : Fin cfg0.N) (r : Fin 2048) (k : Fin 1024) (h : t.val / 3 * 2048 + r < 2048) :
    ((cfg0.win 0).blk t).view.emb (ix2 r k) = (ix2 ⟨t.val / 3 * 2048 + r, h⟩ k : S2048x1024.Idx) := by
  funext a; apply Fin.ext
  refine (Pipeline.Window.rect_emb_val (cfg0.win 0) t _ a rfl).trans ?_
  match a with
  | ⟨0, _⟩ => show win0_0.index t 0 * 2048 + r.val = t.val / 3 * 2048 + r; rw [(i0 t).1]
  | ⟨1, _⟩ => show win0_0.index t 1 * 1024 + k.val = k.val; rw [(i0 t).2]; omega
theorem emb1 (t : Fin cfg0.N) (d : Fin 512) (k : Fin 1024) (h : t.val % 3 * 512 + d < 1536) :
    ((cfg0.win 1).blk t).view.emb (ix2 d k) = (ix2 ⟨t.val % 3 * 512 + d, h⟩ k : S1536x1024.Idx) := by
  funext a; apply Fin.ext
  refine (Pipeline.Window.rect_emb_val (cfg0.win 1) t _ a rfl).trans ?_
  match a with
  | ⟨0, _⟩ => show win0_1.index t 0 * 512 + d.val = t.val % 3 * 512 + d; rw [(i1 t).1]
  | ⟨1, _⟩ => show win0_1.index t 1 * 1024 + k.val = k.val; rw [(i1 t).2]; omega
theorem emb2 (t : Fin cfg0.N) (r : Fin 2048) (d : Fin 512) (h : t.val / 3 * 2048 + r < 2048) (h' : t.val % 3 * 512 + d < 1536) :
    ((cfg0.win 2).blk t).view.emb (ix2 r d) = (ix2 ⟨t.val / 3 * 2048 + r, h⟩ ⟨t.val % 3 * 512 + d, h'⟩ : S2048x1536.Idx) := by
  funext a; apply Fin.ext
  refine (Pipeline.Window.rect_emb_val (cfg0.win 2) t _ a rfl).trans ?_
  match a with
  | ⟨0, _⟩ => show win0_2.index t 0 * 2048 + r.val = t.val / 3 * 2048 + r; rw [(i2 t).1]
  | ⟨1, _⟩ => show win0_2.index t 1 * 512 + d.val = t.val % 3 * 512 + d; rw [(i2 t).2]

/-- The gradient at an index: the incoming gradient times the weight's transpose. -/
def gradAt (a : S2048x1024.Idx → EReal) (b : S1536x1024.Idx → EReal) (r : Fin 2048) (d : Fin 1536) : EReal := ∑ k : Fin 1024, a (ix2 r k) * b (ix2 d k)

/-- The gradient. -/
def grad (a : S2048x1024.Idx → EReal) (b : S1536x1024.Idx → EReal) : S2048x1536.Idx → EReal := fun i => gradAt a b (i 0) (i 1)

variable (m : (ℓ : Loc nD τ sig) → Buf (Elt Ideal) ℓ) (c : Dev nD)

theorem V_w : (V m c main_v0 : S1536x1024.Idx → EReal) = m ((c.tc : Thread nD τ).loc main_arg1) := by
  unfold_abbrev_sides
  after_results
  rfl

/-- What the kernel's launch leaves. -/
theorem arr : (dats m 0 c).arrAt 2 cfg0.N = grad (m ((c.tc : Thread nD τ).loc main_arg2)) (m ((c.tc : Thread nD τ).loc main_arg1)) := by
  refine Dat.arrAt_eq_of_cover _ 2 _ ?_ ?_
  · intro t _
    rw [Value.flushed2]
    funext y
    obtain ⟨r, d, rfl⟩ : ∃ (r : Fin 2048) (d : Fin 512), y = ix2 r d := ⟨y 0, y 1, by funext a; fin_cases a <;> rfl⟩
    have ht := points t
    have h : t.val / 3 * 2048 + r < 2048 := by omega
    have h' : t.val % 3 * 512 + d < 1536 := by omega
    refine Eq.trans (b := outsAt0 m c t (ix2 r d)) rfl ?_
    refine Eq.trans (b := gradAt _ _ ⟨t.val / 3 * 2048 + r, h⟩ ⟨t.val % 3 * 512 + d, h'⟩) ?_ (congrArg (grad _ _) (emb2 t r d h h').symm)
    unfold outsAt0 gradAt
    rw [out_block]
    refine (block_at _ _ r d).trans ?_
    refine Finset.sum_congr rfl fun k _ => congrArg₂ (· * ·) ?_ ?_
    · exact Eq.trans (congrArg (V m c main_arg2) (emb0 t r k h)) (congrFun (V_main_arg2 m c) _)
    · exact Eq.trans (congrArg (V m c main_v0) (emb1 t d k h')) (congrFun (V_w m c) _)
  · intro i
    have h0 : (i 0).val < 2048 := (i 0).isLt
    have h1 : (i 1).val < 1536 := (i 1).isLt
    have hN : (i 0).val / 2048 * 3 + (i 1).val / 512 < cfg0.N := by show _ < 3; omega
    refine ⟨⟨_, hN⟩, flush0_2 _, ?_⟩
    have e0 : ((i 0).val / 2048 * 3 + (i 1).val / 512) / 3 * 2048 + (i 0).val % 2048 = (i 0).val := by omega
    have e1 : ((i 0).val / 2048 * 3 + (i 1).val / 512) % 3 * 512 + (i 1).val % 512 = (i 1).val := by omega
    have e := emb2 ⟨_, hN⟩ ⟨(i 0).val % 2048, by omega⟩ ⟨(i 1).val % 512, by omega⟩ (e0.trans_lt h0) (e1.trans_lt h1)
    have : i = ((cfg0.win 2).blk ⟨_, hN⟩).view.emb (ix2 ⟨(i 0).val % 2048, by omega⟩ ⟨(i 1).val % 512, by omega⟩) := by
      rw [e]; funext a
      match a with
      | ⟨0, _⟩ => exact Fin.ext e0.symm
      | ⟨1, _⟩ => exact Fin.ext e1.symm
    exact Eq.mpr (congrArg (· ∈ ((cfg0.win 2).blk ⟨_, hN⟩).view.set) this) (View.emb_mem_set _ _)

/-! ## The reference -/

/-- What the reference computes. -/
theorem ref (w : S1536x1024.Idx → EReal) (g : S2048x1024.Idx → EReal) :
    (OutXRefIdeal.Read.val_main_v1 (F := Ideal) w g : S2048x1536.Idx → EReal) = grad g w := by
  funext i
  obtain ⟨r, d, rfl⟩ : ∃ (r : Fin 2048) (d : Fin 1536), i = ix2 r d := ⟨i 0, i 1, by funext a; fin_cases a <;> rfl⟩
  show _ = gradAt _ _ r d
  unfold OutXRefIdeal.Read.val_main_v1 gradAt
  pointwise

end Cert.OutXIdeal.Mlp

end
-- ==== Proof.OutW.lean ====
/- The gradient of the layer's output projection towards its weight: what the kernel's launch leaves is the reference's
   gradient, over the exact numbers. -/
module

public import proofs.«01_k».proof.Proof.Gen.OutWIdeal.Value
public import proofs.«01_k».proof.Proof.Gen.OutWRefIdeal.Read
public import Idealize.ShloMosaic.Lib.Pointwise
public import Idealize.ShloMosaic.Lib.KernelVsHost
public import Idealize.ShloMosaic.Lib.VecWindow

@[expose] public section

noncomputable section

namespace Cert.OutWIdeal.Mlp

open Idealize.ShloMosaic Idealize.ShloMosaic.TcCoe Idealize.SL.Sem
open Cert.OutWIdeal Cert.OutWIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x512 .bf16) (harg3 : arg3.IsWhole)
    (arg4 : Memref sig .tc .vmem S2048x512 .f32) (harg4 : arg4.IsWhole) (arg5 : Memref sig .tc .vmem S512x512 .bf16) (harg5 : arg5.IsWhole)
    (arg6 : Memref sig .tc .vmem S512x512 .f32) (harg6 : arg6.IsWhole)
    (hc0 : cond0_0 i) (hc1 : cond0_1 i) (x0 : Vec F S2048x512 .bf16) (x1 : Vec F S2048x512 .f32) :
    out0_A_2 c i arg3 harg3 arg4 harg4 arg5 harg5 arg6 harg6 hc0 hc1 x0 x1 = k0_pay3 (k0_pay2 x1 k0_pay1 x0) := by
  have hz : (![0, 0] : Fin 2 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S512x512) hz, View.readCov_unit_zero (S := S512x512) _ hz]
  simp only [View.readAt_eq_ld, harg3.read_unread, harg4.read_unread, View.ld_unit_zero (S := S2048x512) hz, View.ld_unit_zero (S := S2048x512) hz]
  rw [View.readCov_full (s := S512x512)]

/-- A point's block at an index. -/
theorem block_at (x0 : Vec Ideal S2048x512 .bf16) (x1 : Vec Ideal S2048x512 .f32) (r : Fin 512) (d : Fin 512) :
    (k0_pay3 (F := Ideal) (k0_pay2 (F := Ideal) x1 (k0_pay1 (F := Ideal)) x0) : S512x512.Idx → EReal) (ix2 r d)
      = ∑ k : Fin 2048, x0 (ix2 k r) * x1 (ix2 k d) := by
  unfold k0_pay3 k0_pay2 k0_pay1
  pointwise

/-! ## The array -/

theorem points : ∀ t : Fin grid0.N, t.val < 6 := by decide +kernel
theorem i0 : ∀ t : Fin grid0.N, win0_0.index t 1 = t.val / 2 ∧ win0_0.index t 0 = 0 := by decide +kernel
theorem i1 : ∀ t : Fin grid0.N, win0_1.index t 1 = t.val % 2 ∧ win0_1.index t 0 = 0 := by decide +kernel
theorem i2 : ∀ t : Fin grid0.N, win0_2.index t 0 = t.val / 2 ∧ win0_2.index t 1 = t.val % 2 := by decide +kernel

theorem emb0 (t : Fin cfg0.N) (k : Fin 2048) (r : Fin 512) (h : t.val / 2 * 512 + r < 1536) :
    ((cfg0.win 0).blk t).view.emb (ix2 k r) = (ix2 k ⟨t.val / 2 * 512 + r, h⟩ : S2048x1536.Idx) := by
  funext a; apply Fin.ext
  refine (Pipeline.Window.rect_emb_val (cfg0.win 0) t _ a rfl).trans ?_
  match a with
  | ⟨0, _⟩ => show win0_0.index t 0 * 2048 + k.val = k.val; rw [(i0 t).2]; omega
  | ⟨1, _⟩ => show win0_0.index t 1 * 512 + r.val = t.val / 2 * 512 + r; rw [(i0 t).1]
theorem emb1 (t : Fin cfg0.N) (k : Fin 2048) (d : Fin 512) (h : t.val % 2 * 512 + d < 1024) :
    ((cfg0.win 1).blk t).view.emb (ix2 k d) = (ix2 k ⟨t.val % 2 * 512 + d, h⟩ : S2048x1024.Idx) := by
  funext a; apply Fin.ext
  refine (Pipeline.Window.rect_emb_val (cfg0.win 1) t _ a rfl).trans ?_
  match a with
  | ⟨0, _⟩ => show win0_1.index t 0 * 2048 + k.val = k.val; rw [(i1 t).2]; omega
  | ⟨1, _⟩ => show win0_1.index t 1 * 512 + d.val = t.val % 2 * 512 + d; rw [(i1 t).1]
theorem emb2 (t : Fin cfg0.N) (r : Fin 512) (d : Fin 512) (h : t.val / 2 * 512 + r < 1536) (h' : t.val % 2 * 512 + d < 1024) :
    ((cfg0.win 2).blk t).view.emb (ix2 r d) = (ix2 ⟨t.val / 2 * 512 + r, h⟩ ⟨t.val % 2 * 512 + d, h'⟩ : S1536x1024.Idx) := by
  funext a; apply Fin.ext
  refine (Pipeline.Window.rect_emb_val (cfg0.win 2) t _ a rfl).trans ?_
  match a with
  | ⟨0, _⟩ => show win0_2.index t 0 * 512 + r.val = t.val / 2 * 512 + r; rw [(i2 t).1]
  | ⟨1, _⟩ => show win0_2.index t 1 * 512 + d.val = t.val % 2 * 512 + d; rw [(i2 t).2]

/-- The gradient at an index: the input's transpose times the incoming gradient. -/
def gradAt (a : S2048x1536.Idx → EReal) (b : S2048x1024.Idx → EReal) (r : Fin 1536) (d : Fin 1024) : EReal := ∑ k : Fin 2048, a (ix2 k r) * b (ix2 k d)

/-- The gradient. -/
def grad (a : S2048x1536.Idx → EReal) (b : S2048x1024.Idx → EReal) : S1536x1024.Idx → EReal := fun i => gradAt a b (i 0) (i 1)

variable (m : (ℓ : Loc nD τ sig) → Buf (Elt Ideal) ℓ) (c : Dev nD)

theorem V_a : (V m c main_v0 : S2048x1536.Idx → EReal) = m ((c.tc : Thread nD τ).loc main_arg0) := by
  unfold_abbrev_sides
  after_results
  rfl

/-- What the kernel's launch leaves. -/
theorem arr : (dats m 0 c).arrAt 2 cfg0.N = grad (m ((c.tc : Thread nD τ).loc main_arg0)) (m ((c.tc : Thread nD τ).loc main_arg2)) := by
  refine Dat.arrAt_eq_of_cover _ 2 _ ?_ ?_
  · intro t _
    rw [Value.flushed2]
    funext y
    obtain ⟨r, d, rfl⟩ : ∃ (r : Fin 512) (d : Fin 512), y = ix2 r d := ⟨y 0, y 1, by funext a; fin_cases a <;> rfl⟩
    have ht := points t
    have h : t.val / 2 * 512 + r < 1536 := by omega
    have h' : t.val % 2 * 512 + d < 1024 := by omega
    refine Eq.trans (b := outsAt0 m c t (ix2 r d)) rfl ?_
    refine Eq.trans (b := gradAt _ _ ⟨t.val / 2 * 512 + r, h⟩ ⟨t.val % 2 * 512 + d, h'⟩) ?_ (congrArg (grad _ _) (emb2 t r d h h').symm)
    unfold outsAt0 gradAt
    rw [out_block]
    refine (block_at _ _ r d).trans ?_
    refine Finset.sum_congr rfl fun k _ => congrArg₂ (· * ·) ?_ ?_
    · exact Eq.trans (congrArg (V m c main_v0) (emb0 t k r h)) (congrFun (V_a m c) _)
    · exact Eq.trans (congrArg (V m c main_arg2) (emb1 t k d h')) (congrFun (V_main_arg2 m c) _)
  · intro i
    have h0 : (i 0).val < 1536 := (i 0).isLt
    have h1 : (i 1).val < 1024 := (i 1).isLt
    have hN : (i 0).val / 512 * 2 + (i 1).val / 512 < cfg0.N := by show _ < 6; omega
    refine ⟨⟨_, hN⟩, flush0_2 _, ?_⟩
    have e0 : ((i 0).val / 512 * 2 + (i 1).val / 512) / 2 * 512 + (i 0).val % 512 = (i 0).val := by omega
    have e1 : ((i 0).val / 512 * 2 + (i 1).val / 512) % 2 * 512 + (i 1).val % 512 = (i 1).val := by omega
    have e := emb2 ⟨_, hN⟩ ⟨(i 0).val % 512, by omega⟩ ⟨(i 1).val % 512, by omega⟩ (e0.trans_lt h0) (e1.trans_lt h1)
    have : i = ((cfg0.win 2).blk ⟨_, hN⟩).view.emb (ix2 ⟨(i 0).val % 512, by omega⟩ ⟨(i 1).val % 512, by omega⟩) := by
      rw [e]; funext a
      match a with
      | ⟨0, _⟩ => exact Fin.ext e0.symm
      | ⟨1, _⟩ => exact Fin.ext e1.symm
    exact Eq.mpr (congrArg (· ∈ ((cfg0.win 2).blk ⟨_, hN⟩).view.set) this) (View.emb_mem_set _ _)

/-! ## The reference -/

/-- What the reference computes. -/
theorem ref (a : S2048x1536.Idx → EReal) (g : S2048x1024.Idx → EReal) :
    (OutWRefIdeal.Read.val_main_v3 (F := Ideal) a g : S1536x1024.Idx → EReal) = grad a g := by
  funext i
  obtain ⟨r, d, rfl⟩ : ∃ (r : Fin 1536) (d : Fin 1024), i = ix2 r d := ⟨i 0, i 1, by funext a; fin_cases a <;> rfl⟩
  show _ = gradAt _ _ r d
  unfold OutWRefIdeal.Read.val_main_v3 OutWRefIdeal.Read.val_main_v2 OutWRefIdeal.Read.val_main_v1 gradAt
  pointwise
  exact Finset.sum_congr rfl fun k _ => mul_comm _ _

end Cert.OutWIdeal.Mlp

end
-- ==== Proof.UpF.lean ====
/- An MLP's first layer and its squared positive part: what the kernel's launch leaves is what the reference computes, over the
   exact numbers. -/
module

public import proofs.«01_k».proof.Proof.Gen.UpFIdeal.Value
public import proofs.«01_k».proof.Proof.Gen.UpFRefIdeal.Read
public import Idealize.ShloMosaic.Lib.Pointwise
public import Idealize.ShloMosaic.Lib.KernelVsHost
public import Idealize.ShloMosaic.Lib.VecWindow

@[expose] public section

noncomputable section

namespace Cert.UpFIdeal.Mlp

open Idealize.ShloMosaic Idealize.ShloMosaic.TcCoe Idealize.SL.Sem
open Cert.UpFIdeal Cert.UpFIdeal.Gen
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide
theorem hz3 : (![0, 0, 0] : Fin 3 → Nat) = fun _ => 0 := by decide

/-- A point's product: the whole sum in one step onto zeros. -/
abbrev prod : Vec F S2048x512 .f32 := k0_pay2 (iblk m c 1 t) k0_pay1 (iblk m c 0 t)

theorem out_u : (outsAt0 m c t).1 = prod m c t := by
  unfold outsAt0
  dsimp only
  unfold out0_A_2
  rw [View.read_writes_eq_canon _ _ _ (cover0_A_2 c (grid0.coords t) _ _ _ _ _ _ _ _ _ _ _ _ _ _)]
  unfold kernelRun0_A
  dsimp only
  sl_unfold_words
  rw [View.canon_unit_zero (S := S2048x512) hz, View.readCov_unit_zero (S := S2048x512) _ hz]
  simp only [View.readAt_eq_ld, (hs0_0 t).read_unread, (hs0_1 t).read_unread, View.ld_unit_zero (S := S2048x1024) hz, View.ld_unit_zero (S := S1x1024x512) hz3]
  rw [View.readCov_full (s := S2048x512)]

theorem out_a : (outsAt0 m c t).2 = k0_pay3 (prod m c t) := by
  unfold outsAt0
  dsimp only
  unfold out0_A_3
  rw [View.read_writes_eq_canon _ _ _ (cover0_A_3 c (grid0.coords t) _ _ _ _ _ _ _ _ _ _ _ _ _ _)]
  unfold kernelRun0_A
  dsimp only
  sl_unfold_words
  rw [View.canon_unit_zero (S := S2048x512) hz, View.readCov_unit_zero (S := S2048x512) _ hz]
  simp only [View.readAt_eq_ld, (hs0_0 t).read_unread, (hs0_1 t).read_unread, View.ld_unit_zero (S := S2048x1024) hz, View.ld_unit_zero (S := S1x1024x512) hz3]
  rw [View.readCov_full (s := S2048x512)]

end

theorem prod_at (x0 : Vec Ideal S2048x1024 .bf16) (x1 : Vec Ideal S1x1024x512 .bf16) (r : Fin 2048) (d : Fin 512) :
    (k0_pay2 (F := Ideal) x1 (k0_pay1 (F := Ideal)) x0 : S2048x512.Idx → EReal) (ix2 r d) = ∑ k : Fin 1024, x0 (ix2 r k) * x1 (ix3 0 k d) := by
  unfold k0_pay2 k0_pay1
  pointwise

theorem pay3_at (x : Vec Ideal S2048x512 .f32) (r : Fin 2048) (d : Fin 512) :
    (k0_pay3 (F := Ideal) x : S2048x512.Idx → EReal) (ix2 r d) = max (x (ix2 r d)) 0 * max (x (ix2 r d)) 0 := by
  unfold k0_pay3
  pointwise

/-! ## Where the blocks sit -/

theorem points : ∀ t : Fin grid0.N, t.val < 8 := by decide +kernel
theorem i0 : ∀ t : Fin grid0.N, win0_0.index t 0 = 0 ∧ win0_0.index t 1 = 0 := by decide +kernel
theorem i1 : ∀ t : Fin grid0.N, win0_1.index t 0 = t.val ∧ win0_1.index t 1 = 0 ∧ win0_1.index t 2 = 0 := by decide +kernel
theorem i2 : ∀ t : Fin grid0.N, win0_2.index t 0 = 0 ∧ win0_2.index t 1 = t.val := by decide +kernel
theorem i3 : ∀ t : Fin grid0.N, win0_3.index t 0 = 0 ∧ win0_3.index t 1 = t.val := by decide +kernel

theorem emb0 (t : Fin cfg0.N) (r : Fin 2048) (k : Fin 1024) : ((cfg0.win 0).blk t).view.emb (ix2 r k) = (ix2 r k : S2048x1024.Idx) := by
  funext a; apply Fin.ext
  refine (Pipeline.Window.rect_emb_val (cfg0.win 0) t _ a rfl).trans ?_
  match a with
  | ⟨0, _⟩ => show win0_0.index t 0 * 2048 + r.val = r.val; rw [(i0 t).1]; omega
  | ⟨1, _⟩ => show win0_0.index t 1 * 1024 + k.val = k.val; rw [(i0 t).2]; omega
theorem emb1 (t : Fin cfg0.N) (k : Fin 1024) (d : Fin 512) (h : t.val < 8) :
    ((cfg0.win 1).blk t).view.emb (ix3 0 k d) = (ix3 ⟨t.val, h⟩ k d : S8x1024x512.Idx) := by
  funext x; apply Fin.ext
  refine (Pipeline.Window.rect_emb_val (cfg0.win 1) t _ x rfl).trans ?_
  match x with
  | ⟨0, _⟩ => show win0_1.index t 0 * 1 + 0 = t.val; rw [(i1 t).1]; omega
  | ⟨1, _⟩ => show win0_1.index t 1 * 1024 + k.val = k.val; rw [(i1 t).2.1]; omega
  | ⟨2, _⟩ => show win0_1.index t 2 * 512 + d.val = d.val; rw [(i1 t).2.2]; omega
theorem emb2 (t : Fin cfg0.N) (r : Fin 2048) (d : Fin 512) (h : t.val * 512 + d < 4096) :
    ((cfg0.win 2).blk t).view.emb (ix2 r d) = (ix2 r ⟨t.val * 512 + d, h⟩ : S2048x4096.Idx) := by
  funext a; apply Fin.ext
  refine (Pipeline.Window.rect_emb_val (cfg0.win 2) t _ a rfl).trans ?_
  match a with
  | ⟨0, _⟩ => show win0_2.index t 0 * 2048 + r.val = r.val; rw [(i2 t).1]; omega
  | ⟨1, _⟩ => show win0_2.index t 1 * 512 + d.val = t.val * 512 + d; rw [(i2 t).2]
theorem emb3 (t : Fin cfg0.N) (r : Fin 2048) (d : Fin 512) (h : t.val * 512 + d < 4096) :
    ((cfg0.win 3).blk t).view.emb (ix2 r d) = (ix2 r ⟨t.val * 512 + d, h⟩ : S2048x4096.Idx) := by
  funext a; apply Fin.ext
  refine (Pipeline.Window.rect_emb_val (cfg0.win 3) t _ a rfl).trans ?_
  match a with
  | ⟨0, _⟩ => show win0_3.index t 0 * 2048 + r.val = r.val; rw [(i3 t).1]; omega
  | ⟨1, _⟩ => show win0_3.index t 1 * 512 + d.val = t.val * 512 + d; rw [(i3 t).2]

/-! ## The layer -/

/-- A hidden value before its positive part is squared: a normalized row times a column of the weight. -/
def hidAt (a : S2048x1024.Idx → EReal) (w : S1024x4096.Idx → EReal) (r : Fin 2048) (d : Fin 4096) : EReal := ∑ k : Fin 1024, a (ix2 r k) * w (ix2 k d)

/-- The hidden values. -/
def hid (a : S2048x1024.Idx → EReal) (w : S1024x4096.Idx → EReal) : S2048x4096.Idx → EReal := fun i => hidAt a w (i 0) (i 1)

/-- Their positive parts, squared. -/
def act (a : S2048x1024.Idx → EReal) (w : S1024x4096.Idx → EReal) : S2048x4096.Idx → EReal := fun i => max (hidAt a w (i 0) (i 1)) 0 * max (hidAt a w (i 0) (i 1)) 0

/-- The normalized rows, by the reference's lines. -/
abbrev rows (x : Vec Ideal S2048x1024 .f32) (w : Vec Ideal S1024 .f32) : S2048x1024.Idx → EReal := UpFRefIdeal.Read.val_main_v12 (F := Ideal) x w

/-- The weight in pieces of 512 columns. -/
theorem pieces_at (x : Vec Ideal S1024x4096 .f32) (a : Fin 8) (k : Fin 1024) (d : Fin 512) :
    (transpose S8x1024x512 [1, 0, 2] (shapeCast S1024x8x512 (truncf (F := Ideal) .bf16 x bitsLt_bf16_f32) shapeCasts_S1024x4096_S1024x8x512)
      transposes_S1024x8x512_S8x1024x512_1_0_2 : S8x1024x512.Idx → EReal) (ix3 a k d) = x (ix2 k ⟨a.val * 512 + d.val, by omega⟩) := by
  pointwise

variable (m : (ℓ : Loc nD τ sig) → Buf (Elt Ideal) ℓ) (c : Dev nD)

abbrev mR : S2048x1024.Idx → EReal := rows (m ((c.tc : Thread nD τ).loc main_arg0)) (m ((c.tc : Thread nD τ).loc main_arg1))
abbrev mW1 : S1024x4096.Idx → EReal := m ((c.tc : Thread nD τ).loc main_arg2)

theorem V_h : (V m c main_v13 : S2048x1024.Idx → EReal) = mR m c := by
  unfold_abbrev_sides
  after_results
  rfl

theorem V_w1 (a : Fin 8) (k : Fin 1024) (d : Fin 512) :
    (V m c main_v16 : S8x1024x512.Idx → EReal) (ix3 a k d) = mW1 m c (ix2 k ⟨a.val * 512 + d.val, by omega⟩) := by
  have e : V m c main_v16 = transpose S8x1024x512 [1, 0, 2] (shapeCast S1024x8x512 (truncf (F := Ideal) .bf16 (m ((c.tc : Thread nD τ).loc main_arg2)) bitsLt_bf16_f32) shapeCasts_S1024x4096_S1024x8x512)
      transposes_S1024x8x512_S8x1024x512_1_0_2 := by
    unfold_abbrev_sides
    after_results
    rfl
  rw [e]
  exact pieces_at _ a k d

variable (t : Fin cfg0.N)

/-- A point's product is its tile of the hidden values. -/
theorem prod_block (r : Fin 2048) (d : Fin 512) (h : t.val * 512 + d < 4096) :
    (prod m c t : S2048x512.Idx → EReal) (ix2 r d) = hidAt (mR m c) (mW1 m c) r ⟨t.val * 512 + d, h⟩ := by
  refine (prod_at _ _ r d).trans (Finset.sum_congr rfl fun k _ => congrArg₂ (· * ·) ?_ ?_)
  · exact Eq.trans (congrArg (V m c main_v13) (emb0 t r k)) (congrFun (V_h m c) _)
  · exact Eq.trans (congrArg (V m c main_v16) (emb1 t k d (points t))) (V_w1 m c _ k d)

/-- What the kernel's launch leaves of the hidden values. -/
theorem arr_u : (dats m 0 c).arrAt 2 cfg0.N = hid (mR m c) (mW1 m c) := by
  refine Dat.arrAt_eq_of_cover _ 2 _ ?_ ?_
  · intro t _
    rw [Value.flushed2]
    funext y
    obtain ⟨r, d, rfl⟩ : ∃ (r : Fin 2048) (d : Fin 512), y = ix2 r d := ⟨y 0, y 1, by funext a; fin_cases a <;> rfl⟩
    have ht := points t
    have h : t.val * 512 + d < 4096 := by omega
    refine Eq.trans (b := hid (mR m c) (mW1 m c) (ix2 r ⟨t.val * 512 + d, h⟩)) ?_ (congrArg (hid _ _) (emb2 t r d h).symm)
    refine Eq.trans (b := (outsAt0 m c t).1 (ix2 r d)) rfl ?_
    rw [out_u]
    exact prod_block m c t r d h
  · intro i
    have h1 : (i 1).val < 4096 := (i 1).isLt
    have hN : (i 1).val / 512 < cfg0.N := by show _ < 8; omega
    refine ⟨⟨_, hN⟩, flush0_2 _, ?_⟩
    have e1 : (i 1).val / 512 * 512 + (i 1).val % 512 = (i 1).val := by omega
    have e := emb2 ⟨_, hN⟩ (i 0) ⟨(i 1).val % 512, by omega⟩ (e1.trans_lt h1)
    have : i = ((cfg0.win 2).blk ⟨_, hN⟩).view.emb (ix2 (i 0) ⟨(i 1).val % 512, by omega⟩) := by
      rw [e]; funext a
      match a with
      | ⟨0, _⟩ => rfl
      | ⟨1, _⟩ => exact Fin.ext e1.symm
    exact Eq.mpr (congrArg (· ∈ ((cfg0.win 2).blk ⟨_, hN⟩).view.set) this) (View.emb_mem_set _ _)

/-- What the kernel's launch leaves of their squared positive parts. -/
theorem arr_a : (dats m 0 c).arrAt 3 cfg0.N = act (mR m c) (mW1 m c) := by
  refine Dat.arrAt_eq_of_cover _ 3 _ ?_ ?_
  · intro t _
    rw [Value.flushed3]
    funext y
    obtain ⟨r, d, rfl⟩ : ∃ (r : Fin 2048) (d : Fin 512), y = ix2 r d := ⟨y 0, y 1, by funext a; fin_cases a <;> rfl⟩
    have ht := points t
    have h : t.val * 512 + d < 4096 := by omega
    refine Eq.trans (b := act (mR m c) (mW1 m c) (ix2 r ⟨t.val * 512 + d, h⟩)) ?_ (congrArg (act _ _) (emb3 t r d h).symm)
    refine Eq.trans (b := (outsAt0 m c t).2 (ix2 r d)) rfl ?_
    rw [out_a]
    exact (pay3_at _ r d).trans (congrArg (fun x : EReal => max x 0 * max x 0) (prod_block m c t r d h))
  · intro i
    have h1 : (i 1).val < 4096 := (i 1).isLt
    have hN : (i 1).val / 512 < cfg0.N := by show _ < 8; omega
    refine ⟨⟨_, hN⟩, flush0_3 _, ?_⟩
    have e1 : (i 1).val / 512 * 512 + (i 1).val % 512 = (i 1).val := by omega
    have e := emb3 ⟨_, hN⟩ (i 0) ⟨(i 1).val % 512, by omega⟩ (e1.trans_lt h1)
    have : i = ((cfg0.win 3).blk ⟨_, hN⟩).view.emb (ix2 (i 0) ⟨(i 1).val % 512, by omega⟩) := by
      rw [e]; funext a
      match a with
      | ⟨0, _⟩ => rfl
      | ⟨1, _⟩ => exact Fin.ext e1.symm
    exact Eq.mpr (congrArg (· ∈ ((cfg0.win 3).blk ⟨_, hN⟩).view.set) this) (View.emb_mem_set _ _)

/-! ## The reference -/

section
open UpFRefIdeal.Read

theorem ref_u (x : Vec Ideal S2048x1024 .f32) (w : Vec Ideal S1024 .f32) (w1 : Vec Ideal S1024x4096 .f32) :
    (val_main_v13 (F := Ideal) x w w1 : S2048x4096.Idx → EReal) = hid (rows x w) w1 := by
  funext i
  obtain ⟨r, d, rfl⟩ : ∃ (r : Fin 2048) (d : Fin 4096), i = ix2 r d := ⟨i 0, i 1, by funext a; fin_cases a <;> rfl⟩
  show _ = hidAt _ _ r d
  unfold val_main_v13 hidAt
  rw [rows]
  generalize val_main_v12 (F := Ideal) x w = h
  pointwise

theorem square_at (u : Vec Ideal S2048x4096 .f32) (r : Fin 2048) (d : Fin 4096) :
    (truncf (F := Ideal) .bf16 (mulf (maximumf u (val_main_call0_v0 (F := Ideal))) (maximumf u (val_main_call0_v0 (F := Ideal)))) bitsLt_bf16_f32 : S2048x4096.Idx → EReal) (ix2 r d)
      = max (u (ix2 r d)) 0 * max (u (ix2 r d)) 0 := by
  unfold val_main_call0_v0 val_main_call0_cst
  pointwise

theorem ref_a (x : Vec Ideal S2048x1024 .f32) (w : Vec Ideal S1024 .f32) (w1 : Vec Ideal S1024x4096 .f32) :
    (val_main_v16 (F := Ideal) x w w1 : S2048x4096.Idx → EReal) = act (rows x w) w1 := by
  funext i
  obtain ⟨r, d, rfl⟩ : ∃ (r : Fin 2048) (d : Fin 4096), i = ix2 r d := ⟨i 0, i 1, by funext a; fin_cases a <;> rfl⟩
  unfold val_main_v16 val_main_v15 val_main_v14
  exact (square_at _ r d).trans (congrArg (fun x : EReal => max x 0 * max x 0) (congrFun (ref_u x w w1) _))

end

end Cert.UpFIdeal.Mlp

end
-- ==== Proof.DownN.lean ====
/- An MLP's second layer, the residual added, and the normalization that follows: what the kernel's launch leaves is what the
   reference computes, over the exact numbers. -/
module

public import proofs.«01_k».proof.Proof.Gen.DownNIdeal.Value
public import proofs.«01_k».proof.Proof.Gen.DownNRefIdeal.Read
public import Idealize.ShloMosaic.Lib.Pointwise
public import Idealize.ShloMosaic.Lib.KernelVsHost
public import Idealize.ShloMosaic.Lib.VecWindow

@[expose] public section

noncomputable section

namespace Cert.DownNIdeal.Mlp

open Idealize.ShloMosaic Idealize.ShloMosaic.TcCoe Idealize.SL.Sem
open Cert.DownNIdeal Cert.DownNIdeal.Gen
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide
theorem hz3 : (![0, 0, 0] : Fin 3 → Nat) = fun _ => 0 := by decide

/-- The accumulator's buffer holds what it was given. -/
theorem read_scratch (x : Vec F S1024x1024 .f32) :
    View.read (Elt F) (View.whole cc0_scratch0) ((Memref.isWhole_whole cc0_scratch0).unread x) = x :=
  (Memref.isWhole_whole cc0_scratch0).read_unread x

/-- What the point before left in the accumulator. -/
abbrev accBefore : Vec F S1024x1024 .f32 := (outsAt0 m c (t.val - 1) (Nat.lt_of_le_of_lt (Nat.sub_le _ _) t.isLt)).2.2

/-- The accumulator after a point: the point's product on top of what it starts from. -/
abbrev accOn (a : Vec F S1024x1024 .f32) : Vec F S1024x1024 .f32 := k0_pay2 (iblk m c 1 t) a (iblk m c 0 t)

theorem acc_A (h0 : t.val % 4 = 0) : (outsAt0 m c t.val t.isLt).2.2 = accOn m c t k0_pay1 := by
  rw [outsAt0_A m c t h0 (by omega)]
  dsimp only
  unfold sout0_A_0
  rw [View.read_writes_junk_eq_canon]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S2x512x1024) hz3]

theorem acc_B (h0 : ¬t.val % 4 = 0) (h1 : ¬t.val % 4 = 3) : (outsAt0 m c t.val t.isLt).2.2 = accOn m c t (accBefore m c t) := by
  rw [outsAt0_B m c t h0 h1]
  dsimp only
  unfold sout0_B_0
  rw [View.read_writes_junk_eq_canon]
  unfold kernelRun0_B
  dsimp only
  sl_unfold_words
  rw [View.canon_unit_zero (S := S1024x1024) hz]
  simp only [View.readAt_eq_ld, (hs0_0 t).read_unread, (hs0_1 t).read_unread, read_scratch, View.ld_unit_zero (S := S1024x1024) hz, View.ld_unit_zero (S := S2x512x1024) hz3]

theorem y_C (h1 : t.val % 4 = 3) :
    (outsAt0 m c t.val t.isLt).1 = k0_pay3 (accOn m c t (accBefore m c t)) (iblk m c 2 t) := by
  rw [outsAt0_C m c t (by omega) h1]
  dsimp only
  unfold out0_C_4
  rw [View.read_writes_junk_eq_canon]
  unfold kernelRun0_C
  dsimp only
  sl_unfold_words
  rw [View.canon_unit_zero (S := S1024x1024) hz]
  simp only [View.readAt_eq_ld, View.readCov_unit_zero (S := S1024x1024) _ hz, (hs0_0 t).read_unread, (hs0_1 t).read_unread, (hs0_2 t).read_unread, (hs0_3 t).read_unread, read_scratch, View.ld_unit_zero (S := S1024x1024) hz, View.ld_unit_zero (S := S1x1024) hz, View.ld_unit_zero (S := S2x512x1024) hz3]

theorem h_C (h1 : t.val % 4 = 3) :
    (outsAt0 m c t.val t.isLt).2.1 = k0_pay4 (accOn m c t (accBefore m c t)) (iblk m c 3 t) (iblk m c 2 t) := by
  rw [outsAt0_C m c t (by omega) h1]
  dsimp only
  unfold out0_C_5
  rw [View.read_writes_junk_eq_canon]
  unfold kernelRun0_C
  dsimp only
  sl_unfold_words
  rw [View.canon_unit_zero (S := S1024x1024) hz]
  simp only [View.readAt_eq_ld, View.readCov_unit_zero (S := S1024x1024) _ hz, (hs0_0 t).read_unread, (hs0_1 t).read_unread, (hs0_2 t).read_unread, (hs0_3 t).read_unread, read_scratch, View.ld_unit_zero (S := S1024x1024) hz, View.ld_unit_zero (S := S1x1024) hz, View.ld_unit_zero (S := S2x512x1024) hz3]

end

/-! ## The accumulator at an index -/

theorem pay1_at (r d : Fin 1024) : (k0_pay1 (F := Ideal) : S1024x1024.Idx → EReal) (ix2 r d) = 0 := by
  unfold k0_pay1
  pointwise

theorem pay2_at (x0 : Vec Ideal S1024x1024 .bf16) (x1 : Vec Ideal S2x512x1024 .bf16) (a : Vec Ideal S1024x1024 .f32) (r d : Fin 1024) :
    (k0_pay2 (F := Ideal) x1 a x0 : S1024x1024.Idx → EReal) (ix2 r d)
      = a (ix2 r d) + ∑ k : Fin 1024, x0 (ix2 r k) * x1 (ix3 ⟨k.val / 512, by omega⟩ ⟨k.val % 512, by omega⟩ d) := by
  unfold k0_pay2
  pointwise

/-! ## Where the blocks sit -/

theorem points : ∀ t : Fin grid0.N, t.val < 8 := by decide +kernel
theorem i0 : ∀ t : Fin grid0.N, win0_0.index t 0 = t.val / 4 ∧ win0_0.index t 1 = t.val % 4 := by decide +kernel
theorem i1 : ∀ t : Fin grid0.N, win0_1.index t 0 = t.val % 4 ∧ win0_1.index t 1 = 0 ∧ win0_1.index t 2 = 0 := by decide +kernel
theorem i2 : ∀ t : Fin grid0.N, win0_2.index t 0 = t.val / 4 ∧ win0_2.index t 1 = 0 := by decide +kernel
theorem i4 : ∀ t : Fin grid0.N, win0_4.index t 0 = t.val / 4 ∧ win0_4.index t 1 = 0 := by decide +kernel
theorem i5 : ∀ t : Fin grid0.N, win0_5.index t 0 = t.val / 4 ∧ win0_5.index t 1 = 0 := by decide +kernel

theorem emb0 (t : Fin cfg0.N) (r k : Fin 1024) (h : t.val / 4 * 1024 + r < 2048) (h' : t.val % 4 * 1024 + k < 4096) :
    ((cfg0.win 0).blk t).view.emb (ix2 r k) = (ix2 ⟨t.val / 4 * 1024 + r, h⟩ ⟨t.val % 4 * 1024 + k, h'⟩ : S2048x4096.Idx) := by
  funext a; apply Fin.ext
  refine (Pipeline.Window.rect_emb_val (cfg0.win 0) t _ a rfl).trans ?_
  match a with
  | ⟨0, _⟩ => show win0_0.index t 0 * 1024 + r.val = t.val / 4 * 1024 + r; rw [(i0 t).1]
  | ⟨1, _⟩ => show win0_0.index t 1 * 1024 + k.val = t.val % 4 * 1024 + k; rw [(i0 t).2]
theorem emb1 (t : Fin cfg0.N) (a : Fin 2) (k : Fin 512) (d : Fin 1024) (h : t.val % 4 * 2 + a < 8) :
    ((cfg0.win 1).blk t).view.emb (ix3 a k d) = (ix3 ⟨t.val % 4 * 2 + a, h⟩ k d : S8x512x1024.Idx) := by
  funext x; apply Fin.ext
  refine (Pipeline.Window.rect_emb_val (cfg0.win 1) t _ x rfl).trans ?_
  match x with
  | ⟨0, _⟩ => show win0_1.index t 0 * 2 + a.val = t.val % 4 * 2 + a; rw [(i1 t).1]
  | ⟨1, _⟩ => show win0_1.index t 1 * 512 + k.val = k.val; rw [(i1 t).2.1]; omega
  | ⟨2, _⟩ => show win0_1.index t 2 * 1024 + d.val = d.val; rw [(i1 t).2.2]; omega
theorem emb2 (t : Fin cfg0.N) (r d : Fin 1024) (h : t.val / 4 * 1024 + r < 2048) :
    ((cfg0.win 2).blk t).view.emb (ix2 r d) = (ix2 ⟨t.val / 4 * 1024 + r, h⟩ d : S2048x1024.Idx) := by
  funext a; apply Fin.ext
  refine (Pipeline.Window.rect_emb_val (cfg0.win 2) t _ a rfl).trans ?_
  match a with
  | ⟨0, _⟩ => show win0_2.index t 0 * 1024 + r.val = t.val / 4 * 1024 + r; rw [(i2 t).1]
  | ⟨1, _⟩ => show win0_2.index t 1 * 1024 + d.val = d.val; rw [(i2 t).2]; omega
theorem emb4 (t : Fin cfg0.N) (r d : Fin 1024) (h : t.val / 4 * 1024 + r < 2048) :
    ((cfg0.win 4).blk t).view.emb (ix2 r d) = (ix2 ⟨t.val / 4 * 1024 + r, h⟩ d : S2048x1024.Idx) := by
  funext a; apply Fin.ext
  refine (Pipeline.Window.rect_emb_val (cfg0.win 4) t _ a rfl).trans ?_
  match a with
  | ⟨0, _⟩ => show win0_4.index t 0 * 1024 + r.val = t.val / 4 * 1024 + r; rw [(i4 t).1]
  | ⟨1, _⟩ => show win0_4.index t 1 * 1024 + d.val = d.val; rw [(i4 t).2]; omega
theorem emb5 (t : Fin cfg0.N) (r d : Fin 1024) (h : t.val / 4 * 1024 + r < 2048) :
    ((cfg0.win 5).blk t).view.emb (ix2 r d) = (ix2 ⟨t.val / 4 * 1024 + r, h⟩ d : S2048x1024.Idx) := by
  funext a; apply Fin.ext
  refine (Pipeline.Window.rect_emb_val (cfg0.win 5) t _ a rfl).trans ?_
  match a with
  | ⟨0, _⟩ => show win0_5.index t 0 * 1024 + r.val = t.val / 4 * 1024 + r; rw [(i5 t).1]
  | ⟨1, _⟩ => show win0_5.index t 1 * 1024 + d.val = d.val; rw [(i5 t).2]; omega

/-! ## The accumulated product -/

/-- The hidden rows' squared positive parts, by the reference's lines. -/
abbrev rows (u : Vec Ideal S2048x4096 .f32) : S2048x4096.Idx → EReal := DownNRefIdeal.Read.val_main_v1 (F := Ideal) u

/-- The second layer's product. -/
def prodAt (a : S2048x4096.Idx → EReal) (w : S4096x1024.Idx → EReal) (r : Fin 2048) (d : Fin 1024) : EReal := ∑ k : Fin 4096, a (ix2 r k) * w (ix2 k d)

/-- The weight in pieces of 512 rows. -/
theorem pieces_at (x : Vec Ideal S4096x1024 .f32) (a : Fin 8) (k : Fin 512) (d : Fin 1024) :
    (shapeCast S8x512x1024 (truncf (F := Ideal) .bf16 x bitsLt_bf16_f32) shapeCasts_S4096x1024_S8x512x1024 : S8x512x1024.Idx → EReal) (ix3 a k d) = x (ix2 ⟨a.val * 512 + k.val, by omega⟩ d) := by
  pointwise

variable (m : (ℓ : Loc nD τ sig) → Buf (Elt Ideal) ℓ) (c : Dev nD)

abbrev mA : S2048x4096.Idx → EReal := rows (m ((c.tc : Thread nD τ).loc main_arg0))
abbrev mW : S4096x1024.Idx → EReal := m ((c.tc : Thread nD τ).loc main_arg1)
abbrev mX : S2048x1024.Idx → EReal := m ((c.tc : Thread nD τ).loc main_arg2)
abbrev mN : S1024.Idx → EReal := m ((c.tc : Thread nD τ).loc main_arg3)

theorem V_a : (V m c main_v2 : S2048x4096.Idx → EReal) = mA m c := by
  unfold_abbrev_sides
  unfold hostOps0 hostOps0_1
  simp only [List.flatten_cons, List.flatten_nil, List.append_nil, List.cons_append, List.nil_append]
  after_results
  rfl

theorem V_w (a : Fin 8) (k : Fin 512) (d : Fin 1024) :
    (V m c main_v4 : S8x512x1024.Idx → EReal) (ix3 a k d) = mW m c (ix2 ⟨a.val * 512 + k.val, by omega⟩ d) := by
  have e : V m c main_v4 = shapeCast S8x512x1024 (truncf (F := Ideal) .bf16 (m ((c.tc : Thread nD τ).loc main_arg1)) bitsLt_bf16_f32) shapeCasts_S4096x1024_S8x512x1024 := by
    unfold_abbrev_sides
    unfold hostOps0 hostOps0_1
    simp only [List.flatten_cons, List.flatten_nil, List.append_nil, List.cons_append, List.nil_append]
    after_results
    rfl
  rw [e]
  exact pieces_at _ a k d

variable (t : Fin cfg0.N)

theorem rd_a (r k : Fin 1024) (h : t.val / 4 * 1024 + r < 2048) (h' : t.val % 4 * 1024 + k < 4096) :
    (iblk m c 0 t : S1024x1024.Idx → EReal) (ix2 r k) = mA m c (ix2 ⟨t.val / 4 * 1024 + r, h⟩ ⟨t.val % 4 * 1024 + k, h'⟩) :=
  Eq.trans (congrArg (V m c main_v2) (emb0 t r k h h')) (congrFun (V_a m c) _)

theorem rd_w (k d : Fin 1024) (h' : t.val % 4 * 1024 + k < 4096) (h₁ : k.val / 512 < 2) (h₂ : k.val % 512 < 512) :
    (iblk m c 1 t : S2x512x1024.Idx → EReal) (ix3 ⟨k.val / 512, h₁⟩ ⟨k.val % 512, h₂⟩ d) = mW m c (ix2 ⟨t.val % 4 * 1024 + k, h'⟩ d) := by
  refine Eq.trans (congrArg (V m c main_v4) (emb1 t ⟨k.val / 512, h₁⟩ ⟨k.val % 512, h₂⟩ d (by show t.val % 4 * 2 + k.val / 512 < 8; omega))) ?_
  refine (V_w m c _ _ d).trans (congrArg (fun i => mW m c (ix2 i d)) (Fin.ext ?_))
  show (t.val % 4 * 2 + k.val / 512) * 512 + k.val % 512 = t.val % 4 * 1024 + k.val
  omega

theorem rd_x (r d : Fin 1024) (h : t.val / 4 * 1024 + r < 2048) : (iblk m c 2 t : S1024x1024.Idx → EReal) (ix2 r d) = mX m c (ix2 ⟨t.val / 4 * 1024 + r, h⟩ d) :=
  Eq.trans (congrArg (V m c main_arg2) (emb2 t r d h)) (congrFun (V_main_arg2 m c) _)

/-- The product's terms, numbered along the sum, and nought past its end. -/
def term (a : S2048x4096.Idx → EReal) (w : S4096x1024.Idx → EReal) (i : Fin 2048) (d : Fin 1024) (n : ℕ) : EReal :=
  if h : n < 4096 then a (ix2 i ⟨n, h⟩) * w (ix2 ⟨n, h⟩ d) else 0

theorem sum_term (a : S2048x4096.Idx → EReal) (w : S4096x1024.Idx → EReal) (i : Fin 2048) (d : Fin 1024) :
    ∑ n ∈ Finset.range 4096, term a w i d n = prodAt a w i d := by
  rw [Finset.sum_range]
  exact Finset.sum_congr rfl fun k _ => dif_pos k.isLt

/-- A point's product, on top of what it starts from. -/
theorem accOn_at (a : Vec Ideal S1024x1024 .f32) (r d : Fin 1024) (h : t.val / 4 * 1024 + r < 2048)
    (ha : a (ix2 r d) = ∑ n ∈ Finset.range (t.val % 4 * 1024), term (mA m c) (mW m c) ⟨t.val / 4 * 1024 + r, h⟩ d n) :
    (accOn m c t a : S1024x1024.Idx → EReal) (ix2 r d)
      = ∑ n ∈ Finset.range ((t.val % 4 + 1) * 1024), term (mA m c) (mW m c) ⟨t.val / 4 * 1024 + r, h⟩ d n := by
  refine (pay2_at _ _ _ r d).trans ?_
  rw [Nat.succ_mul, Finset.sum_range_add, ha]
  refine congrArg (_ + ·) ?_
  rw [Finset.sum_range]
  refine Finset.sum_congr rfl fun k _ => ?_
  have h' : t.val % 4 * 1024 + k.val < 4096 := by omega
  rw [rd_a m c t r k h h', rd_w m c t k d h']
  unfold term
  rw [dif_pos h']

/-- The accumulator after each point. -/
theorem acc_at (n : ℕ) (hn : n < cfg0.N) (h3 : ¬n % 4 = 3) (r d : Fin 1024) (h : n / 4 * 1024 + r < 2048) :
    ((outsAt0 m c n hn).2.2 : S1024x1024.Idx → EReal) (ix2 r d)
      = ∑ k ∈ Finset.range ((n % 4 + 1) * 1024), term (mA m c) (mW m c) ⟨n / 4 * 1024 + r, h⟩ d k := by
  induction n with
  | zero =>
    rw [acc_A m c ⟨0, hn⟩ rfl]
    exact accOn_at m c ⟨0, hn⟩ _ r d h (by rw [pay1_at]; rfl)
  | succ n ih =>
    by_cases h0 : (n + 1) % 4 = 0
    · rw [acc_A m c ⟨n + 1, hn⟩ h0]
      refine accOn_at m c ⟨n + 1, hn⟩ _ r d h ?_
      rw [pay1_at]
      show 0 = ∑ k ∈ Finset.range ((n + 1) % 4 * 1024), _
      rw [h0]; rfl
    · rw [acc_B m c ⟨n + 1, hn⟩ h0 h3]
      refine accOn_at m c ⟨n + 1, hn⟩ _ r d h ?_
      refine (ih (Nat.lt_of_succ_lt hn) (by omega) (by omega)).trans ?_
      have e1 : n % 4 + 1 = (n + 1) % 4 := by omega
      have e2 : n / 4 = (n + 1) / 4 := by omega
      show ∑ k ∈ Finset.range ((n % 4 + 1) * 1024), _ = ∑ k ∈ Finset.range ((n + 1) % 4 * 1024), _
      rw [e1]
      exact Finset.sum_congr rfl fun k _ => congrArg (fun i => term _ _ i d k) (Fin.ext (by show n / 4 * 1024 + _ = (n + 1) / 4 * 1024 + _; rw [e2]))

/-- The whole product, at a last step. -/
theorem acc_last (h3 : t.val % 4 = 3) (r d : Fin 1024) (h : t.val / 4 * 1024 + r < 2048) :
    (accOn m c t (accBefore m c t) : S1024x1024.Idx → EReal) (ix2 r d) = prodAt (mA m c) (mW m c) ⟨t.val / 4 * 1024 + r, h⟩ d := by
  refine (accOn_at m c t _ r d h ?_).trans ?_
  · have hb := acc_at m c (t.val - 1) (Nat.lt_of_le_of_lt (Nat.sub_le _ _) t.isLt) (by omega) r d (by omega)
    refine hb.trans ?_
    have e1 : (t.val - 1) % 4 + 1 = t.val % 4 := by omega
    have e2 : (t.val - 1) / 4 = t.val / 4 := by omega
    rw [e1]
    exact Finset.sum_congr rfl fun k _ => congrArg (fun i => term _ _ i d k) (Fin.ext (by show (t.val - 1) / 4 * 1024 + _ = t.val / 4 * 1024 + _; rw [e2]))
  · rw [h3]; exact sum_term _ _ _ d

/-! ## The normalization -/

/-- A row's mean square, with the small number added. -/
def ms (x : Fin 1024 → EReal) : EReal := Ideal.div (∑ k, x k * x k) (Ideal.ofBits .f32 0x44800000#32) + Ideal.ofBits .f32 0x358637BD#32

/-- The row, normalized and weighted. -/
def normAt (x w : Fin 1024 → EReal) (d : Fin 1024) : EReal := x d * Ideal.rsqrt (ms x) * w d

theorem pay3_at (a x : Vec Ideal S1024x1024 .f32) (r d : Fin 1024) :
    (k0_pay3 (F := Ideal) a x : S1024x1024.Idx → EReal) (ix2 r d) = a (ix2 r d) + x (ix2 r d) := by
  unfold k0_pay3
  pointwise

theorem pay4_at (a : Vec Ideal S1024x1024 .f32) (w : Vec Ideal S1x1024 .f32) (x : Vec Ideal S1024x1024 .f32) (r d : Fin 1024) :
    (k0_pay4 (F := Ideal) a w x : S1024x1024.Idx → EReal) (ix2 r d) = normAt (fun k => a (ix2 r k) + x (ix2 r k)) (fun k => w (ix2 0 k)) d := by
  unfold k0_pay4 k0_pay3 normAt ms
  pointwise

theorem i3 : ∀ t : Fin grid0.N, win0_3.index t 0 = 0 ∧ win0_3.index t 1 = 0 := by decide +kernel

theorem emb3 (t : Fin cfg0.N) (d : Fin 1024) : ((cfg0.win 3).blk t).view.emb (ix2 0 d) = (ix2 0 d : S1x1024.Idx) := by
  funext a; apply Fin.ext
  refine (Pipeline.Window.rect_emb_val (cfg0.win 3) t _ a rfl).trans ?_
  match a with
  | ⟨0, _⟩ => show win0_3.index t 0 * 1 + 0 = 0; rw [(i3 t).1]
  | ⟨1, _⟩ => show win0_3.index t 1 * 1024 + d.val = d.val; rw [(i3 t).2]; omega

theorem row_at (x : Vec Ideal S1024 .f32) (d : Fin 1024) : (shapeCast S1x1024 x shapeCasts_S1024_S1x1024 : S1x1024.Idx → EReal) (ix2 0 d) = x (ix1 d) := by
  pointwise

theorem V_n (d : Fin 1024) : (V m c main_v5 : S1x1024.Idx → EReal) (ix2 0 d) = mN m c (ix1 d) := by
  have e : V m c main_v5 = shapeCast S1x1024 (m ((c.tc : Thread nD τ).loc main_arg3)) shapeCasts_S1024_S1x1024 := by
    unfold_abbrev_sides
    unfold hostOps0 hostOps0_1
    simp only [List.flatten_cons, List.flatten_nil, List.append_nil, List.cons_append, List.nil_append]
    after_results
    rfl
  rw [e]
  exact row_at _ d

theorem rd_n (d : Fin 1024) : (iblk m c 3 t : S1x1024.Idx → EReal) (ix2 0 d) = mN m c (ix1 d) :=
  Eq.trans (congrArg (V m c main_v5) (emb3 t d)) (V_n m c d)

/-! ## The arrays -/

/-- The second layer's product with the residual added. -/
def sumAt (a : S2048x4096.Idx → EReal) (w : S4096x1024.Idx → EReal) (x : S2048x1024.Idx → EReal) (r : Fin 2048) (d : Fin 1024) : EReal := prodAt a w r d + x (ix2 r d)

/-- The sums. -/
def total (a : S2048x4096.Idx → EReal) (w : S4096x1024.Idx → EReal) (x : S2048x1024.Idx → EReal) : S2048x1024.Idx → EReal := fun i => sumAt a w x (i 0) (i 1)

/-- The sums' rows, normalized. -/
def normed (a : S2048x4096.Idx → EReal) (w : S4096x1024.Idx → EReal) (x : S2048x1024.Idx → EReal) (n : S1024.Idx → EReal) : S2048x1024.Idx → EReal :=
  fun i => normAt (sumAt a w x (i 0)) (fun k => n (ix1 k)) (i 1)

/-- A last step's product with its rows of the residual. -/
theorem sum_block (h3 : t.val % 4 = 3) (r d : Fin 1024) (h : t.val / 4 * 1024 + r < 2048) :
    (accOn m c t (accBefore m c t) : S1024x1024.Idx → EReal) (ix2 r d) + (iblk m c 2 t : S1024x1024.Idx → EReal) (ix2 r d)
      = sumAt (mA m c) (mW m c) (mX m c) ⟨t.val / 4 * 1024 + r, h⟩ d :=
  congrArg₂ (· + ·) (acc_last m c t h3 r d h) (rd_x m c t r d h)

/-- What the kernel's launch leaves of the sums. -/
theorem arr_y : (dats m 0 c).arrAt 4 cfg0.N = total (mA m c) (mW m c) (mX m c) := by
  refine Dat.arrAt_eq_of_cover _ 4 _ ?_ ?_
  · intro t hf
    have h3 := (flush0_4 t).mp hf
    rw [Value.flushed4]
    funext y
    obtain ⟨r, d, rfl⟩ : ∃ (r d : Fin 1024), y = ix2 r d := ⟨y 0, y 1, by funext a; fin_cases a <;> rfl⟩
    have ht := points t
    have h : t.val / 4 * 1024 + r < 2048 := by omega
    refine Eq.trans (b := total (mA m c) (mW m c) (mX m c) (ix2 ⟨t.val / 4 * 1024 + r, h⟩ d)) ?_ (congrArg (total (mA m c) (mW m c) (mX m c)) (emb4 t r d h).symm)
    refine Eq.trans (b := (outsAt0 m c t.val t.isLt).1 (ix2 r d)) rfl ?_
    rw [y_C m c t h3]
    exact (pay3_at _ _ r d).trans (sum_block m c t h3 r d h)
  · intro i
    have h0 : (i 0).val < 2048 := (i 0).isLt
    have hN : (i 0).val / 1024 * 4 + 3 < cfg0.N := by show _ < 8; omega
    refine ⟨⟨_, hN⟩, (flush0_4 _).mpr (by show ((i 0).val / 1024 * 4 + 3) % 4 = 3; omega), ?_⟩
    have e := emb4 ⟨_, hN⟩ ⟨(i 0).val % 1024, by omega⟩ (i 1) (by show ((i 0).val / 1024 * 4 + 3) / 4 * 1024 + (i 0).val % 1024 < 2048; omega)
    have : i = ((cfg0.win 4).blk ⟨_, hN⟩).view.emb (ix2 ⟨(i 0).val % 1024, by omega⟩ (i 1)) := by
      rw [e]; funext a
      match a with
      | ⟨0, _⟩ => exact Fin.ext (by show (i 0).val = ((i 0).val / 1024 * 4 + 3) / 4 * 1024 + (i 0).val % 1024; omega)
      | ⟨1, _⟩ => rfl
    exact Eq.mpr (congrArg (· ∈ ((cfg0.win 4).blk ⟨_, hN⟩).view.set) this) (View.emb_mem_set _ _)

/-- What the kernel's launch leaves of the normalized rows. -/
theorem arr_h : (dats m 0 c).arrAt 5 cfg0.N = normed (mA m c) (mW m c) (mX m c) (mN m c) := by
  refine Dat.arrAt_eq_of_cover _ 5 _ ?_ ?_
  · intro t hf
    have h3 := (flush0_5 t).mp hf
    rw [Value.flushed5]
    funext y
    obtain ⟨r, d, rfl⟩ : ∃ (r d : Fin 1024), y = ix2 r d := ⟨y 0, y 1, by funext a; fin_cases a <;> rfl⟩
    have ht := points t
    have h : t.val / 4 * 1024 + r < 2048 := by omega
    refine Eq.trans (b := normed (mA m c) (mW m c) (mX m c) (mN m c) (ix2 ⟨t.val / 4 * 1024 + r, h⟩ d)) ?_ (congrArg (normed (mA m c) (mW m c) (mX m c) (mN m c)) (emb5 t r d h).symm)
    refine Eq.trans (b := (outsAt0 m c t.val t.isLt).2.1 (ix2 r d)) rfl ?_
    rw [h_C m c t h3]
    refine (pay4_at _ _ _ r d).trans ?_
    rw [funext fun k => sum_block m c t h3 r k h, funext fun k => rd_n m c t k]
    rfl
  · intro i
    have h0 : (i 0).val < 2048 := (i 0).isLt
    have hN : (i 0).val / 1024 * 4 + 3 < cfg0.N := by show _ < 8; omega
    refine ⟨⟨_, hN⟩, (flush0_5 _).mpr (by show ((i 0).val / 1024 * 4 + 3) % 4 = 3; omega), ?_⟩
    have e := emb5 ⟨_, hN⟩ ⟨(i 0).val % 1024, by omega⟩ (i 1) (by show ((i 0).val / 1024 * 4 + 3) / 4 * 1024 + (i 0).val % 1024 < 2048; omega)
    have : i = ((cfg0.win 5).blk ⟨_, hN⟩).view.emb (ix2 ⟨(i 0).val % 1024, by omega⟩ (i 1)) := by
      rw [e]; funext a
      match a with
      | ⟨0, _⟩ => exact Fin.ext (by show (i 0).val = ((i 0).val / 1024 * 4 + 3) / 4 * 1024 + (i 0).val % 1024; omega)
      | ⟨1, _⟩ => rfl
    exact Eq.mpr (congrArg (· ∈ ((cfg0.win 5).blk ⟨_, hN⟩).view.set) this) (View.emb_mem_set _ _)

/-! ## The reference -/

section
open DownNRefIdeal.Read

theorem ref_y (u : Vec Ideal S2048x4096 .f32) (w : Vec Ideal S4096x1024 .f32) (x : Vec Ideal S2048x1024 .f32) :
    (val_main_v3 (F := Ideal) u w x : S2048x1024.Idx → EReal) = total (rows u) w x := by
  funext i
  obtain ⟨r, d, rfl⟩ : ∃ (r : Fin 2048) (d : Fin 1024), i = ix2 r d := ⟨i 0, i 1, by funext a; fin_cases a <;> rfl⟩
  refine Eq.trans ?_ (add_comm _ _)
  unfold val_main_v3 val_main_v2 prodAt
  rw [rows]
  generalize val_main_v1 (F := Ideal) u = a
  pointwise

theorem ref_h (u : Vec Ideal S2048x4096 .f32) (w : Vec Ideal S4096x1024 .f32) (x : Vec Ideal S2048x1024 .f32) (n : Vec Ideal S1024 .f32) :
    (val_main_v17 (F := Ideal) u w x n : S2048x1024.Idx → EReal) = normed (rows u) w x n := by
  funext i
  obtain ⟨r, d, rfl⟩ : ∃ (r : Fin 2048) (d : Fin 1024), i = ix2 r d := ⟨i 0, i 1, by funext a; fin_cases a <;> rfl⟩
  refine Eq.trans ?_ (congrArg (fun y => normAt y (fun k => n (ix1 k)) d) (funext fun k => congrFun (ref_y u w x) (ix2 r k)))
  unfold val_main_v17 val_main_v16 val_main_v15 val_main_v14 val_main_v13 val_main_v12 val_main_v11 val_main_v10 val_main_v9 val_main_v8 val_main_v7 val_main_v6 val_main_v5 val_main_v4
    val_main_cst val_main_cst_0 val_main_cst_1 normAt ms
  generalize val_main_v3 (F := Ideal) u w x = y
  pointwise

end

end Cert.DownNIdeal.Mlp

end
-- ==== Proof.DownF.lean ====
/- The last MLP's second layer, the residual added, and the loss's gradient and column sums of squares: what the kernel's launch
   leaves is what the reference computes, over the exact numbers. -/
module

public import proofs.«01_k».proof.Proof.Gen.DownFIdeal.Value
public import proofs.«01_k».proof.Proof.Gen.DownFRefIdeal.Read
public import Idealize.ShloMosaic.Lib.Pointwise
public import Idealize.ShloMosaic.Lib.KernelVsHost
public import Idealize.ShloMosaic.Lib.VecWindow

@[expose] public section

noncomputable section

namespace Cert.DownFIdeal.Mlp

open Idealize.ShloMosaic Idealize.ShloMosaic.TcCoe Idealize.SL.Sem
open Cert.DownFIdeal Cert.DownFIdeal.Gen
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide
theorem hz3 : (![0, 0, 0] : Fin 3 → Nat) = fun _ => 0 := by decide

/-- The accumulator's buffer holds what it was given. -/
theorem read_scratch (x : Vec F S1024x1024 .f32) :
    View.read (Elt F) (View.whole cc0_scratch0) ((Memref.isWhole_whole cc0_scratch0).unread x) = x :=
  (Memref.isWhole_whole cc0_scratch0).read_unread x

/-- What the point before left in the accumulator. -/
abbrev accBefore : Vec F S1024x1024 .f32 := (outsAt0 m c (t.val - 1) (Nat.lt_of_le_of_lt (Nat.sub_le _ _) t.isLt)).2.2

/-- What the point before left in the column sums. -/
abbrev sqBefore : Vec F S1x1024 .f32 := (outsAt0 m c (t.val - 1) (Nat.lt_of_le_of_lt (Nat.sub_le _ _) t.isLt)).2.1

/-- The accumulator after a point: the point's product on top of what it starts from. -/
abbrev accOn (a : Vec F S1024x1024 .f32) : Vec F S1024x1024 .f32 := k0_pay2 (iblk m c 1 t) a (iblk m c 0 t)

theorem acc_A (h0 : t.val % 4 = 0) : (outsAt0 m c t.val t.isLt).2.2 = accOn m c t k0_pay1 := by
  rw [outsAt0_A m c t h0 (by omega)]
  dsimp only
  unfold sout0_A_0
  rw [View.read_writes_junk_eq_canon]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz, View.ld_unit_zero (S := S2x512x1024) hz3]

theorem acc_B (h0 : ¬t.val % 4 = 0) (h1 : ¬t.val % 4 = 3) : (outsAt0 m c t.val t.isLt).2.2 = accOn m c t (accBefore m c t) := by
  rw [outsAt0_B m c t h0 h1]
  dsimp only
  unfold sout0_B_0
  rw [View.read_writes_junk_eq_canon]
  unfold kernelRun0_B
  dsimp only
  sl_unfold_words
  rw [View.canon_unit_zero (S := S1024x1024) hz]
  simp only [View.readAt_eq_ld, (hs0_0 t).read_unread, (hs0_1 t).read_unread, read_scratch, View.ld_unit_zero (S := S1024x1024) hz, View.ld_unit_zero (S := S2x512x1024) hz3]

theorem sq_A (h0 : t.val % 4 = 0) : (outsAt0 m c t.val t.isLt).2.1 = sqBefore m c t := by
  rw [outsAt0_A m c t h0 (by omega)]; rfl

theorem sq_B (h0 : ¬t.val % 4 = 0) (h1 : ¬t.val % 4 = 3) : (outsAt0 m c t.val t.isLt).2.1 = sqBefore m c t := by
  rw [outsAt0_B m c t h0 h1]; rfl

theorem dy_C (h1 : t.val % 4 = 3) (h2 : t.val < 4) :
    (outsAt0 m c t.val t.isLt).1 = k0_pay4 (accOn m c t (accBefore m c t)) (iblk m c 2 t) (iblk m c 3 t) := by
  rw [outsAt0_C m c t (by omega) h1 h2 (by omega)]
  dsimp only
  unfold out0_C_4
  rw [View.read_writes_junk_eq_canon]
  unfold kernelRun0_C
  dsimp only
  sl_unfold_words
  rw [View.canon_unit_zero (S := S1024x1024) hz]
  simp only [View.readAt_eq_ld, View.readCov_unit_zero (S := S1024x1024) _ hz, (hs0_0 t).read_unread, (hs0_1 t).read_unread, (hs0_2 t).read_unread, (hs0_3 t).read_unread, read_scratch, View.ld_unit_zero (S := S1024x1024) hz, View.ld_unit_zero (S := S1x1024) hz, View.ld_unit_zero (S := S2x512x1024) hz3]

theorem sq_C (h1 : t.val % 4 = 3) (h2 : t.val < 4) :
    (outsAt0 m c t.val t.isLt).2.1 = k0_pay5 (accOn m c t (accBefore m c t)) (iblk m c 2 t) (iblk m c 3 t) := by
  rw [outsAt0_C m c t (by omega) h1 h2 (by omega)]
  dsimp only
  unfold out0_C_5
  rw [View.read_writes_junk_eq_canon]
  unfold kernelRun0_C
  dsimp only
  sl_unfold_words
  rw [View.canon_unit_zero (S := S1x1024) hz]
  simp only [View.readAt_eq_ld, View.readCov_unit_zero (S := S1024x1024) _ hz, (hs0_0 t).read_unread, (hs0_1 t).read_unread, (hs0_2 t).read_unread, (hs0_3 t).read_unread, read_scratch, View.ld_unit_zero (S := S1024x1024) hz, View.ld_unit_zero (S := S1x1024) hz, View.ld_unit_zero (S := S2x512x1024) hz3]

theorem dy_D (h1 : t.val % 4 = 3) (h2 : ¬t.val < 4) :
    (outsAt0 m c t.val t.isLt).1 = k0_pay4 (accOn m c t (accBefore m c t)) (iblk m c 2 t) (iblk m c 3 t) := by
  rw [outsAt0_D m c t (by omega) h1 h2 (by omega)]
  dsimp only
  unfold out0_D_4
  rw [View.read_writes_junk_eq_canon]
  unfold kernelRun0_D
  dsimp only
  sl_unfold_words
  rw [View.canon_unit_zero (S := S1024x1024) hz]
  simp only [View.readAt_eq_ld, View.readCov_unit_zero (S := S1024x1024) _ hz, (hs0_0 t).read_unread, (hs0_1 t).read_unread, (hs0_2 t).read_unread, (hs0_3 t).read_unread, read_scratch, View.ld_unit_zero (S := S1024x1024) hz, View.ld_unit_zero (S := S1x1024) hz, View.ld_unit_zero (S := S2x512x1024) hz3]

theorem sq_D (h1 : t.val % 4 = 3) (h2 : ¬t.val < 4) :
    (outsAt0 m c t.val t.isLt).2.1 = k0_pay6 (accOn m c t (accBefore m c t)) (iblk m c 2 t) (iblk m c 3 t) (sqBefore m c t) := by
  rw [outsAt0_D m c t (by omega) h1 h2 (by omega)]
  dsimp only
  unfold out0_D_5
  rw [View.read_writes_junk_eq_canon]
  unfold kernelRun0_D
  dsimp only
  sl_unfold_words
  rw [View.canon_unit_zero (S := S1x1024) hz]
  simp only [(hs0_5 t).read_unread, View.readAt_eq_ld, View.readCov_unit_zero (S := S1024x1024) _ hz, (hs0_0 t).read_unread, (hs0_1 t).read_unread, (hs0_2 t).read_unread, (hs0_3 t).read_unread, read_scratch, View.ld_unit_zero (S := S1024x1024) hz, View.ld_unit_zero (S := S1x1024) hz, View.ld_unit_zero (S := S2x512x1024) hz3]

end

/-! ## The accumulator at an index -/

theorem pay1_at (r d : Fin 1024) : (k0_pay1 (F := Ideal) : S1024x1024.Idx → EReal) (ix2 r d) = 0 := by
  unfold k0_pay1
  pointwise

theorem pay2_at (x0 : Vec Ideal S1024x1024 .bf16) (x1 : Vec Ideal S2x512x1024 .bf16) (a : Vec Ideal S1024x1024 .f32) (r d : Fin 1024) :
    (k0_pay2 (F := Ideal) x1 a x0 : S1024x1024.Idx → EReal) (ix2 r d)
      = a (ix2 r d) + ∑ k : Fin 1024, x0 (ix2 r k) * x1 (ix3 ⟨k.val / 512, by omega⟩ ⟨k.val % 512, by omega⟩ d) := by
  unfold k0_pay2
  pointwise

/-! ## Where the blocks sit -/

theorem points : ∀ t : Fin grid0.N, t.val < 8 := by decide +kernel
theorem i0 : ∀ t : Fin grid0.N, win0_0.index t 0 = t.val / 4 ∧ win0_0.index t 1 = t.val % 4 := by decide +kernel
theorem i1 : ∀ t : Fin grid0.N, win0_1.index t 0 = t.val % 4 ∧ win0_1.index t 1 = 0 ∧ win0_1.index t 2 = 0 := by decide +kernel
theorem i2 : ∀ t : Fin grid0.N, win0_2.index t 0 = t.val / 4 ∧ win0_2.index t 1 = 0 := by decide +kernel
theorem i3 : ∀ t : Fin grid0.N, win0_3.index t 0 = t.val / 4 ∧ win0_3.index t 1 = 0 := by decide +kernel
theorem i4 : ∀ t : Fin grid0.N, win0_4.index t 0 = t.val / 4 ∧ win0_4.index t 1 = 0 := by decide +kernel

theorem emb0 (t : Fin cfg0.N) (r k : Fin 1024) (h : t.val / 4 * 1024 + r < 2048) (h' : t.val % 4 * 1024 + k < 4096) :
    ((cfg0.win 0).blk t).view.emb (ix2 r k) = (ix2 ⟨t.val / 4 * 1024 + r, h⟩ ⟨t.val % 4 * 1024 + k, h'⟩ : S2048x4096.Idx) := by
  funext a; apply Fin.ext
  refine (Pipeline.Window.rect_emb_val (cfg0.win 0) t _ a rfl).trans ?_
  match a with
  | ⟨0, _⟩ => show win0_0.index t 0 * 1024 + r.val = t.val / 4 * 1024 + r; rw [(i0 t).1]
  | ⟨1, _⟩ => show win0_0.index t 1 * 1024 + k.val = t.val % 4 * 1024 + k; rw [(i0 t).2]
theorem emb1 (t : Fin cfg0.N) (a : Fin 2) (k : Fin 512) (d : Fin 1024) (h : t.val % 4 * 2 + a < 8) :
    ((cfg0.win 1).blk t).view.emb (ix3 a k d) = (ix3 ⟨t.val % 4 * 2 + a, h⟩ k d : S8x512x1024.Idx) := by
  funext x; apply Fin.ext
  refine (Pipeline.Window.rect_emb_val (cfg0.win 1) t _ x rfl).trans ?_
  match x with
  | ⟨0, _⟩ => show win0_1.index t 0 * 2 + a.val = t.val % 4 * 2 + a; rw [(i1 t).1]
  | ⟨1, _⟩ => show win0_1.index t 1 * 512 + k.val = k.val; rw [(i1 t).2.1]; omega
  | ⟨2, _⟩ => show win0_1.index t 2 * 1024 + d.val = d.val; rw [(i1 t).2.2]; omega
theorem emb2 (t : Fin cfg0.N) (r d : Fin 1024) (h : t.val / 4 * 1024 + r < 2048) :
    ((cfg0.win 2).blk t).view.emb (ix2 r d) = (ix2 ⟨t.val / 4 * 1024 + r, h⟩ d : S2048x1024.Idx) := by
  funext a; apply Fin.ext
  refine (Pipeline.Window.rect_emb_val (cfg0.win 2) t _ a rfl).trans ?_
  match a with
  | ⟨0, _⟩ => show win0_2.index t 0 * 1024 + r.val = t.val / 4 * 1024 + r; rw [(i2 t).1]
  | ⟨1, _⟩ => show win0_2.index t 1 * 1024 + d.val = d.val; rw [(i2 t).2]; omega
theorem emb3 (t : Fin cfg0.N) (r d : Fin 1024) (h : t.val / 4 * 1024 + r < 2048) :
    ((cfg0.win 3).blk t).view.emb (ix2 r d) = (ix2 ⟨t.val / 4 * 1024 + r, h⟩ d : S2048x1024.Idx) := by
  funext a; apply Fin.ext
  refine (Pipeline.Window.rect_emb_val (cfg0.win 3) t _ a rfl).trans ?_
  match a with
  | ⟨0, _⟩ => show win0_3.index t 0 * 1024 + r.val = t.val / 4 * 1024 + r; rw [(i3 t).1]
  | ⟨1, _⟩ => show win0_3.index t 1 * 1024 + d.val = d.val; rw [(i3 t).2]; omega
theorem emb4 (t : Fin cfg0.N) (r d : Fin 1024) (h : t.val / 4 * 1024 + r < 2048) :
    ((cfg0.win 4).blk t).view.emb (ix2 r d) = (ix2 ⟨t.val / 4 * 1024 + r, h⟩ d : S2048x1024.Idx) := by
  funext a; apply Fin.ext
  refine (Pipeline.Window.rect_emb_val (cfg0.win 4) t _ a rfl).trans ?_
  match a with
  | ⟨0, _⟩ => show win0_4.index t 0 * 1024 + r.val = t.val / 4 * 1024 + r; rw [(i4 t).1]
  | ⟨1, _⟩ => show win0_4.index t 1 * 1024 + d.val = d.val; rw [(i4 t).2]; omega

/-! ## The accumulated product -/

/-- The hidden rows' squared positive parts, by the reference's lines. -/
abbrev rows (u : Vec Ideal S2048x4096 .f32) : S2048x4096.Idx → EReal := DownFRefIdeal.Read.val_main_v1 (F := Ideal) u

/-- The second layer's product. -/
def prodAt (a : S2048x4096.Idx → EReal) (w : S4096x1024.Idx → EReal) (r : Fin 2048) (d : Fin 1024) : EReal := ∑ k : Fin 4096, a (ix2 r k) * w (ix2 k d)

/-- The weight in pieces of 512 rows. -/
theorem pieces_at (x : Vec Ideal S4096x1024 .f32) (a : Fin 8) (k : Fin 512) (d : Fin 1024) :
    (shapeCast S8x512x1024 (truncf (F := Ideal) .bf16 x bitsLt_bf16_f32) shapeCasts_S4096x1024_S8x512x1024 : S8x512x1024.Idx → EReal) (ix3 a k d) = x (ix2 ⟨a.val * 512 + k.val, by omega⟩ d) := by
  pointwise

variable (m : (ℓ : Loc nD τ sig) → Buf (Elt Ideal) ℓ) (c : Dev nD)

abbrev mA : S2048x4096.Idx → EReal := rows (m ((c.tc : Thread nD τ).loc main_arg0))
abbrev mW : S4096x1024.Idx → EReal := m ((c.tc : Thread nD τ).loc main_arg1)
abbrev mX : S2048x1024.Idx → EReal := m ((c.tc : Thread nD τ).loc main_arg2)
abbrev mT : S2048x1024.Idx → EReal := m ((c.tc : Thread nD τ).loc main_arg3)

theorem V_a : (V m c main_v2 : S2048x4096.Idx → EReal) = mA m c := by
  unfold_abbrev_sides
  unfold hostOps0 hostOps0_1
  simp only [List.flatten_cons, List.flatten_nil, List.append_nil, List.cons_append, List.nil_append]
  after_results
  rfl

theorem V_w (a : Fin 8) (k : Fin 512) (d : Fin 1024) :
    (V m c main_v4 : S8x512x1024.Idx → EReal) (ix3 a k d) = mW m c (ix2 ⟨a.val * 512 + k.val, by omega⟩ d) := by
  have e : V m c main_v4 = shapeCast S8x512x1024 (truncf (F := Ideal) .bf16 (m ((c.tc : Thread nD τ).loc main_arg1)) bitsLt_bf16_f32) shapeCasts_S4096x1024_S8x512x1024 := by
    unfold_abbrev_sides
    unfold hostOps0 hostOps0_1
    simp only [List.flatten_cons, List.flatten_nil, List.append_nil, List.cons_append, List.nil_append]
    after_results
    rfl
  rw [e]
  exact pieces_at _ a k d

variable (t : Fin cfg0.N)

theorem rd_a (r k : Fin 1024) (h : t.val / 4 * 1024 + r < 2048) (h' : t.val % 4 * 1024 + k < 4096) :
    (iblk m c 0 t : S1024x1024.Idx → EReal) (ix2 r k) = mA m c (ix2 ⟨t.val / 4 * 1024 + r, h⟩ ⟨t.val % 4 * 1024 + k, h'⟩) :=
  Eq.trans (congrArg (V m c main_v2) (emb0 t r k h h')) (congrFun (V_a m c) _)

theorem rd_w (k d : Fin 1024) (h' : t.val % 4 * 1024 + k < 4096) (h₁ : k.val / 512 < 2) (h₂ : k.val % 512 < 512) :
    (iblk m c 1 t : S2x512x1024.Idx → EReal) (ix3 ⟨k.val / 512, h₁⟩ ⟨k.val % 512, h₂⟩ d) = mW m c (ix2 ⟨t.val % 4 * 1024 + k, h'⟩ d) := by
  refine Eq.trans (congrArg (V m c main_v4) (emb1 t ⟨k.val / 512, h₁⟩ ⟨k.val % 512, h₂⟩ d (by show t.val % 4 * 2 + k.val / 512 < 8; omega))) ?_
  refine (V_w m c _ _ d).trans (congrArg (fun i => mW m c (ix2 i d)) (Fin.ext ?_))
  show (t.val % 4 * 2 + k.val / 512) * 512 + k.val % 512 = t.val % 4 * 1024 + k.val
  omega

theorem rd_x (r d : Fin 1024) (h : t.val / 4 * 1024 + r < 2048) : (iblk m c 2 t : S1024x1024.Idx → EReal) (ix2 r d) = mX m c (ix2 ⟨t.val / 4 * 1024 + r, h⟩ d) :=
  Eq.trans (congrArg (V m c main_arg2) (emb2 t r d h)) (congrFun (V_main_arg2 m c) _)

/-- The product's terms, numbered along the sum, and nought past its end. -/
def term (a : S2048x4096.Idx → EReal) (w : S4096x1024.Idx → EReal) (i : Fin 2048) (d : Fin 1024) (n : ℕ) : EReal :=
  if h : n < 4096 then a (ix2 i ⟨n, h⟩) * w (ix2 ⟨n, h⟩ d) else 0

theorem sum_term (a : S2048x4096.Idx → EReal) (w : S4096x1024.Idx → EReal) (i : Fin 2048) (d : Fin 1024) :
    ∑ n ∈ Finset.range 4096, term a w i d n = prodAt a w i d := by
  rw [Finset.sum_range]
  exact Finset.sum_congr rfl fun k _ => dif_pos k.isLt

/-- A point's product, on top of what it starts from. -/
theorem accOn_at (a : Vec Ideal S1024x1024 .f32) (r d : Fin 1024) (h : t.val / 4 * 1024 + r < 2048)
    (ha : a (ix2 r d) = ∑ n ∈ Finset.range (t.val % 4 * 1024), term (mA m c) (mW m c) ⟨t.val / 4 * 1024 + r, h⟩ d n) :
    (accOn m c t a : S1024x1024.Idx → EReal) (ix2 r d)
      = ∑ n ∈ Finset.range ((t.val % 4 + 1) * 1024), term (mA m c) (mW m c) ⟨t.val / 4 * 1024 + r, h⟩ d n := by
  refine (pay2_at _ _ _ r d).trans ?_
  rw [Nat.succ_mul, Finset.sum_range_add, ha]
  refine congrArg (_ + ·) ?_
  rw [Finset.sum_range]
  refine Finset.sum_congr rfl fun k _ => ?_
  have h' : t.val % 4 * 1024 + k.val < 4096 := by omega
  rw [rd_a m c t r k h h', rd_w m c t k d h']
  unfold term
  rw [dif_pos h']

/-- The accumulator after each point. -/
theorem acc_at (n : ℕ) (hn : n < cfg0.N) (h3 : ¬n % 4 = 3) (r d : Fin 1024) (h : n / 4 * 1024 + r < 2048) :
    ((outsAt0 m c n hn).2.2 : S1024x1024.Idx → EReal) (ix2 r d)
      = ∑ k ∈ Finset.range ((n % 4 + 1) * 1024), term (mA m c) (mW m c) ⟨n / 4 * 1024 + r, h⟩ d k := by
  induction n with
  | zero =>
    rw [acc_A m c ⟨0, hn⟩ rfl]
    exact accOn_at m c ⟨0, hn⟩ _ r d h (by rw [pay1_at]; rfl)
  | succ n ih =>
    by_cases h0 : (n + 1) % 4 = 0
    · rw [acc_A m c ⟨n + 1, hn⟩ h0]
      refine accOn_at m c ⟨n + 1, hn⟩ _ r d h ?_
      rw [pay1_at]
      show 0 = ∑ k ∈ Finset.range ((n + 1) % 4 * 1024), _
      rw [h0]; rfl
    · rw [acc_B m c ⟨n + 1, hn⟩ h0 h3]
      refine accOn_at m c ⟨n + 1, hn⟩ _ r d h ?_
      refine (ih (Nat.lt_of_succ_lt hn) (by omega) (by omega)).trans ?_
      have e1 : n % 4 + 1 = (n + 1) % 4 := by omega
      have e2 : n / 4 = (n + 1) / 4 := by omega
      show ∑ k ∈ Finset.range ((n % 4 + 1) * 1024), _ = ∑ k ∈ Finset.range ((n + 1) % 4 * 1024), _
      rw [e1]
      exact Finset.sum_congr rfl fun k _ => congrArg (fun i => term _ _ i d k) (Fin.ext (by show n / 4 * 1024 + _ = (n + 1) / 4 * 1024 + _; rw [e2]))

/-- The whole product, at a last step. -/
theorem acc_last (h3 : t.val % 4 = 3) (r d : Fin 1024) (h : t.val / 4 * 1024 + r < 2048) :
    (accOn m c t (accBefore m c t) : S1024x1024.Idx → EReal) (ix2 r d) = prodAt (mA m c) (mW m c) ⟨t.val / 4 * 1024 + r, h⟩ d := by
  refine (accOn_at m c t _ r d h ?_).trans ?_
  · have hb := acc_at m c (t.val - 1) (Nat.lt_of_le_of_lt (Nat.sub_le _ _) t.isLt) (by omega) r d (by omega)
    refine hb.trans ?_
    have e1 : (t.val - 1) % 4 + 1 = t.val % 4 := by omega
    have e2 : (t.val - 1) / 4 = t.val / 4 := by omega
    rw [e1]
    exact Finset.sum_congr rfl fun k _ => congrArg (fun i => term _ _ i d k) (Fin.ext (by show (t.val - 1) / 4 * 1024 + _ = t.val / 4 * 1024 + _; rw [e2]))
  · rw [h3]; exact sum_term _ _ _ d

theorem rd_t (r d : Fin 1024) (h : t.val / 4 * 1024 + r < 2048) : (iblk m c 3 t : S1024x1024.Idx → EReal) (ix2 r d) = mT m c (ix2 ⟨t.val / 4 * 1024 + r, h⟩ d) :=
  Eq.trans (congrArg (V m c main_arg3) (emb3 t r d h)) (congrFun (V_main_arg3 m c) _)

theorem i5 : ∀ t : Fin grid0.N, win0_5.index t 0 = 0 ∧ win0_5.index t 1 = 0 := by decide +kernel

theorem emb5 (t : Fin cfg0.N) (d : Fin 1024) : ((cfg0.win 5).blk t).view.emb (ix2 0 d) = (ix2 0 d : S1x1024.Idx) := by
  funext a; apply Fin.ext
  refine (Pipeline.Window.rect_emb_val (cfg0.win 5) t _ a rfl).trans ?_
  match a with
  | ⟨0, _⟩ => show win0_5.index t 0 * 1 + 0 = 0; rw [(i5 t).1]
  | ⟨1, _⟩ => show win0_5.index t 1 * 1024 + d.val = d.val; rw [(i5 t).2]; omega

theorem pay4_at (a x y : Vec Ideal S1024x1024 .f32) (r d : Fin 1024) :
    (k0_pay4 (F := Ideal) a x y : S1024x1024.Idx → EReal) (ix2 r d) = (a (ix2 r d) + x (ix2 r d) - y (ix2 r d)) * Ideal.ofBits .f32 0x3A800000#32 := by
  unfold k0_pay4 k0_pay3
  pointwise

theorem pay5_at (a x y : Vec Ideal S1024x1024 .f32) (d : Fin 1024) :
    (k0_pay5 (F := Ideal) a x y : S1x1024.Idx → EReal) (ix2 0 d)
      = ∑ r : Fin 1024, (a (ix2 r d) + x (ix2 r d) - y (ix2 r d)) * (a (ix2 r d) + x (ix2 r d) - y (ix2 r d)) := by
  unfold k0_pay5 k0_pay3
  pointwise

theorem pay6_at (a x y : Vec Ideal S1024x1024 .f32) (s : Vec Ideal S1x1024 .f32) (d : Fin 1024) :
    (k0_pay6 (F := Ideal) a x y s : S1x1024.Idx → EReal) (ix2 0 d) = s (ix2 0 d) + k0_pay5 (F := Ideal) a x y (ix2 0 d) := by
  unfold k0_pay6
  generalize k0_pay5 (F := Ideal) a x y = p
  pointwise

/-! ## The loss's gradient -/

/-- The error: the layer's output less its target. -/
def errAt (a : S2048x4096.Idx → EReal) (w : S4096x1024.Idx → EReal) (x y : S2048x1024.Idx → EReal) (r : Fin 2048) (d : Fin 1024) : EReal :=
  prodAt a w r d + x (ix2 r d) - y (ix2 r d)

/-- The loss's gradient: the error over the number of columns. -/
def grad (a : S2048x4096.Idx → EReal) (w : S4096x1024.Idx → EReal) (x y : S2048x1024.Idx → EReal) : S2048x1024.Idx → EReal :=
  fun i => errAt a w x y (i 0) (i 1) * Ideal.ofBits .f32 0x3A800000#32

/-- The columns' sums of squared errors. -/
def squares (a : S2048x4096.Idx → EReal) (w : S4096x1024.Idx → EReal) (x y : S2048x1024.Idx → EReal) : S1x1024.Idx → EReal :=
  fun i => ∑ r : Fin 2048, errAt a w x y r (i 1) * errAt a w x y r (i 1)

/-- A last step's errors. -/
theorem err_block (h3 : t.val % 4 = 3) (r d : Fin 1024) (h : t.val / 4 * 1024 + r < 2048) :
    (accOn m c t (accBefore m c t) : S1024x1024.Idx → EReal) (ix2 r d) + (iblk m c 2 t : S1024x1024.Idx → EReal) (ix2 r d) - (iblk m c 3 t : S1024x1024.Idx → EReal) (ix2 r d)
      = errAt (mA m c) (mW m c) (mX m c) (mT m c) ⟨t.val / 4 * 1024 + r, h⟩ d :=
  congrArg₂ (· - ·) (congrArg₂ (· + ·) (acc_last m c t h3 r d h) (rd_x m c t r d h)) (rd_t m c t r d h)

theorem sqTile_at (h3 : t.val % 4 = 3) (d : Fin 1024) (h : ∀ r : Fin 1024, t.val / 4 * 1024 + r < 2048) :
    (k0_pay5 (F := Ideal) (accOn m c t (accBefore m c t)) (iblk m c 2 t) (iblk m c 3 t) : S1x1024.Idx → EReal) (ix2 0 d)
      = ∑ r : Fin 1024, errAt (mA m c) (mW m c) (mX m c) (mT m c) ⟨t.val / 4 * 1024 + r, h r⟩ d * errAt (mA m c) (mW m c) (mX m c) (mT m c) ⟨t.val / 4 * 1024 + r, h r⟩ d :=
  (pay5_at _ _ _ d).trans (Finset.sum_congr rfl fun r _ => congrArg (fun e : EReal => e * e) (err_block m c t h3 r d (h r)))

/-- The first tile's sums stay until the last point. -/
theorem sq_kept (n : ℕ) (hn : n < cfg0.N) (h4 : 3 ≤ n) (h7 : n < 7) (h3 : 3 < cfg0.N) :
    (outsAt0 m c n hn).2.1 = (outsAt0 m c 3 h3).2.1 := by
  induction n with
  | zero => omega
  | succ n ih =>
    by_cases hs : n + 1 = 3
    · obtain rfl : n = 2 := by omega
      rfl
    · refine Eq.trans ?_ (ih (Nat.lt_of_succ_lt hn) (by omega) (by omega))
      by_cases h0 : (n + 1) % 4 = 0
      · exact sq_A m c ⟨n + 1, hn⟩ h0
      · exact sq_B m c ⟨n + 1, hn⟩ h0 (by show ¬(n + 1) % 4 = 3; omega)

theorem sq_at (hn : 7 < cfg0.N) (d : Fin 1024) :
    ((outsAt0 m c 7 hn).2.1 : S1x1024.Idx → EReal) (ix2 0 d) = squares (mA m c) (mW m c) (mX m c) (mT m c) (ix2 0 d) := by
  have h3 : 3 < cfg0.N := by omega
  rw [sq_D m c ⟨7, hn⟩ (by show 7 % 4 = 3; rfl) (by show ¬7 < 4; omega)]
  refine (pay6_at _ _ _ _ d).trans ?_
  rw [sqTile_at m c ⟨7, hn⟩ (by show 7 % 4 = 3; rfl) d (fun r => by show 7 / 4 * 1024 + r.val < 2048; omega)]
  have e : sqBefore m c ⟨7, hn⟩ = k0_pay5 (accOn m c ⟨3, h3⟩ (accBefore m c ⟨3, h3⟩)) (iblk m c 2 ⟨3, h3⟩) (iblk m c 3 ⟨3, h3⟩) :=
    (sq_kept m c 6 _ (by omega) (by omega) h3).trans (sq_C m c ⟨3, h3⟩ rfl (by show 3 < 4; omega))
  rw [e, sqTile_at m c ⟨3, h3⟩ rfl d (fun r => by show 3 / 4 * 1024 + r.val < 2048; omega)]
  show _ = ∑ r : Fin (1024 + 1024), errAt (mA m c) (mW m c) (mX m c) (mT m c) r d * errAt (mA m c) (mW m c) (mX m c) (mT m c) r d
  rw [Fin.sum_univ_add]
  refine congrArg₂ (· + ·) (Finset.sum_congr rfl fun r _ => ?_) (Finset.sum_congr rfl fun r _ => ?_)
  · exact congrArg (fun i : Fin 2048 => errAt (mA m c) (mW m c) (mX m c) (mT m c) i d * errAt (mA m c) (mW m c) (mX m c) (mT m c) i d) (Fin.ext (by show 3 / 4 * 1024 + r.val = r.val; omega))
  · exact congrArg (fun i : Fin 2048 => errAt (mA m c) (mW m c) (mX m c) (mT m c) i d * errAt (mA m c) (mW m c) (mX m c) (mT m c) i d) (Fin.ext (by show 7 / 4 * 1024 + r.val = 1024 + r.val; omega))

/-! ## The arrays -/

/-- What the kernel's launch leaves of the loss's gradient. -/
theorem arr_dy : (dats m 0 c).arrAt 4 cfg0.N = grad (mA m c) (mW m c) (mX m c) (mT m c) := by
  refine Dat.arrAt_eq_of_cover _ 4 _ ?_ ?_
  · intro t hf
    have h3 := (flush0_4 t).mp hf
    rw [Value.flushed4]
    funext y
    obtain ⟨r, d, rfl⟩ : ∃ (r d : Fin 1024), y = ix2 r d := ⟨y 0, y 1, by funext a; fin_cases a <;> rfl⟩
    have ht := points t
    have h : t.val / 4 * 1024 + r < 2048 := by omega
    refine Eq.trans (b := grad (mA m c) (mW m c) (mX m c) (mT m c) (ix2 ⟨t.val / 4 * 1024 + r, h⟩ d)) ?_ (congrArg (grad (mA m c) (mW m c) (mX m c) (mT m c)) (emb4 t r d h).symm)
    refine Eq.trans (b := (outsAt0 m c t.val t.isLt).1 (ix2 r d)) rfl ?_
    have e : (outsAt0 m c t.val t.isLt).1 = k0_pay4 (accOn m c t (accBefore m c t)) (iblk m c 2 t) (iblk m c 3 t) := by
      by_cases h2 : t.val < 4
      · exact dy_C m c t h3 h2
      · exact dy_D m c t h3 h2
    rw [e]
    exact (pay4_at _ _ _ r d).trans (congrArg (fun e : EReal => e * Ideal.ofBits .f32 0x3A800000#32) (err_block m c t h3 r d h))
  · intro i
    have h0 : (i 0).val < 2048 := (i 0).isLt
    have hN : (i 0).val / 1024 * 4 + 3 < cfg0.N := by show _ < 8; omega
    refine ⟨⟨_, hN⟩, (flush0_4 _).mpr (by show ((i 0).val / 1024 * 4 + 3) % 4 = 3; omega), ?_⟩
    have e := emb4 ⟨_, hN⟩ ⟨(i 0).val % 1024, by omega⟩ (i 1) (by show ((i 0).val / 1024 * 4 + 3) / 4 * 1024 + (i 0).val % 1024 < 2048; omega)
    have : i = ((cfg0.win 4).blk ⟨_, hN⟩).view.emb (ix2 ⟨(i 0).val % 1024, by omega⟩ (i 1)) := by
      rw [e]; funext a
      match a with
      | ⟨0, _⟩ => exact Fin.ext (by show (i 0).val = ((i 0).val / 1024 * 4 + 3) / 4 * 1024 + (i 0).val % 1024; omega)
      | ⟨1, _⟩ => rfl
    exact Eq.mpr (congrArg (· ∈ ((cfg0.win 4).blk ⟨_, hN⟩).view.set) this) (View.emb_mem_set _ _)

/-- What the kernel's launch leaves of the column sums. -/
theorem arr_sq : (dats m 0 c).arrAt 5 cfg0.N = squares (mA m c) (mW m c) (mX m c) (mT m c) := by
  refine Dat.arrAt_eq_of_cover _ 5 _ ?_ ?_
  · intro t hf
    have h7 := (flush0_5 t).mp hf
    have ht := points t
    have hN : 7 < cfg0.N := by show 7 < 8; omega
    have e7 : t = ⟨7, hN⟩ := Fin.ext (by show t.val = 7; omega)
    rw [Value.flushed5, e7]
    funext y
    obtain ⟨d, rfl⟩ : ∃ (d : Fin 1024), y = ix2 0 d :=
      ⟨y 1, by funext a; match a with | ⟨0, _⟩ => exact Fin.ext (by have h : (y 0).val < 1 := (y 0).isLt; show (y 0).val = 0; omega) | ⟨1, _⟩ => rfl⟩
    exact (sq_at m c hN d).trans (congrArg (squares _ _ _ _) (emb5 _ d).symm)
  · intro i
    have hN : 7 < cfg0.N := by show _ < 8; omega
    refine ⟨⟨7, hN⟩, (flush0_5 _).mpr rfl, ?_⟩
    have : i = ((cfg0.win 5).blk ⟨7, hN⟩).view.emb (ix2 0 (i 1)) := by
      rw [emb5 ⟨7, hN⟩ (i 1)]; funext a
      match a with
      | ⟨0, _⟩ => exact Fin.ext (by have h : (i 0).val < 1 := (i 0).isLt; show (i 0).val = 0; omega)
      | ⟨1, _⟩ => rfl
    exact Eq.mpr (congrArg (· ∈ ((cfg0.win 5).blk ⟨7, hN⟩).view.set) this) (View.emb_mem_set _ _)

/-! ## The reference -/

/-- The reference's factors, half over the number of columns and two, make the kernel's one. -/
theorem factors (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x44800000#32 = ((1024 : ℝ) : EReal) := by
    simp [Ideal.ofBits, Ideal.ieee, -EReal.coe_mul]; norm_num
  have h4 : Ideal.ofBits .f32 0x40000000#32 = ((2 : ℝ) : EReal) := by
    simp [Ideal.ofBits, Ideal.ieee, -EReal.coe_mul]; norm_num
  have h5 : Ideal.ofBits .f32 0x3A800000#32 = ((1 / 1024 : ℝ) : EReal) := by
    simp [Ideal.ofBits, Ideal.ieee, -EReal.coe_mul]; norm_num
  have h6 : ((1024 : ℝ) : EReal) ≠ 0 := by simp
  rw [h1, h2, h3, h4, h5, Ideal.div, if_neg h6, ← EReal.coe_inv, ← EReal.coe_mul, ← EReal.coe_mul, ← mul_assoc, ← EReal.coe_mul, mul_comm e]
  congr 2
  norm_num

section
open DownFRefIdeal.Read

theorem ref_e (u : Vec Ideal S2048x4096 .f32) (w : Vec Ideal S4096x1024 .f32) (x y : Vec Ideal S2048x1024 .f32) (r : Fin 2048) (d : Fin 1024) :
    (subf (val_main_v3 (F := Ideal) u w x : FVec Ideal S2048x1024 .f32) y : FVec Ideal S2048x1024 .f32) (ix2 r d) = errAt (rows u) w x y r d := by
  refine Eq.trans ?_ (congrArg (· - y (ix2 r d)) (add_comm (x (ix2 r d)) (prodAt (rows u) w r d)))
  unfold val_main_v3 val_main_v2 prodAt
  rw [rows]
  generalize val_main_v1 (F := Ideal) u = a
  pointwise

theorem ref_dy (u : Vec Ideal S2048x4096 .f32) (w : Vec Ideal S4096x1024 .f32) (x y : Vec Ideal S2048x1024 .f32) :
    (val_main_v18 (F := Ideal) u w x y : S2048x1024.Idx → EReal) = grad (rows u) w x y := by
  funext i
  obtain ⟨r, d, rfl⟩ : ∃ (r : Fin 2048) (d : Fin 1024), i = ix2 r d := ⟨i 0, i 1, by funext a; fin_cases a <;> rfl⟩
  refine Eq.trans ?_ (congrArg (fun e : EReal => e * Ideal.ofBits .f32 0x3A800000#32) (ref_e u w x y r d))
  refine Eq.trans ?_ (factors _)
  unfold val_main_v18 val_main_v17 val_main_v16 val_main_v15 val_main_v14 val_main_v13 val_main_v7 val_main_v6 val_main_v4 val_main_cst val_main_cst_4 val_main_cst_5 val_main_cst_6
  generalize val_main_v3 (F := Ideal) u w x = z
  pointwise

theorem ref_sq (u : Vec Ideal S2048x4096 .f32) (w : Vec Ideal S4096x1024 .f32) (x y : Vec Ideal S2048x1024 .f32) :
    (val_main_v22 (F := Ideal) u w x y : S1x1024.Idx → EReal) = squares (rows u) w x y := by
  funext i
  obtain ⟨d, rfl⟩ : ∃ (d : Fin 1024), i = ix2 0 d :=
    ⟨i 1, by funext a; match a with | ⟨0, _⟩ => exact Fin.ext (by have h : (i 0).val < 1 := (i 0).isLt; show (i 0).val = 0; omega) | ⟨1, _⟩ => rfl⟩
  refine Eq.trans ?_ (Finset.sum_congr rfl fun r _ => congrArg (fun e : EReal => e * e) (ref_e u w x y r d))
  unfold val_main_v22 val_main_v21 val_main_v20 val_main_v19 val_main_cst_7
  generalize val_main_v3 (F := Ideal) u w x = z
  pointwise

end

end Cert.DownFIdeal.Mlp

end
-- ==== Proof.InF.lean ====
/- The main part of the layer's input projection: what the kernel's launch leaves is what the reference computes, over the
   exact numbers. -/
module

public import proofs.«01_k».proof.Proof.Gen.InFIdeal.Value
public import proofs.«01_k».proof.Proof.Gen.InFRefIdeal.Read
public import Idealize.ShloMosaic.Lib.Pointwise
public import Idealize.ShloMosaic.Lib.KernelVsHost
public import Idealize.ShloMosaic.Lib.VecWindow

@[expose] public section

noncomputable section

namespace Cert.InFIdeal.Mlp

open Idealize.ShloMosaic Idealize.ShloMosaic.TcCoe Idealize.SL.Sem
open Cert.InFIdeal Cert.InFIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x1024 .bf16) (harg3 : arg3.IsWhole)
    (arg4 : Memref sig .tc .vmem S1024x512 .bf16) (harg4 : arg4.IsWhole) (arg5 : Memref sig .tc .vmem S2048x512 .f32) (harg5 : arg5.IsWhole)
    (arg6 : Memref sig .tc .vmem S2048x512 .f32) (harg6 : arg6.IsWhole)
    (hc0 : cond0_0 i) (hc1 : cond0_1 i) (x0 : Vec F S2048x1024 .bf16) (x1 : Vec F S1024x512 .bf16) :
    out0_A_2 c i arg3 harg3 arg4 harg4 arg5 harg5 arg6 harg6 hc0 hc1 x0 x1 = k0_pay2 x1 k0_pay1 x0 := by
  have hz : (![0, 0] : Fin 2 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S2048x512) hz, View.readCov_unit_zero (S := S2048x512) _ hz]
  simp only [View.readAt_eq_ld, harg3.read_unread, harg4.read_unread, View.ld_unit_zero (S := S2048x1024) hz, View.ld_unit_zero (S := S1024x512) hz]
  rw [View.readCov_full (s := S2048x512)]

/-- A point's block at an index. -/
theorem block_at (x0 : Vec Ideal S2048x1024 .bf16) (x1 : Vec Ideal S1024x512 .bf16) (r : Fin 2048) (d : Fin 512) :
    (k0_pay2 (F := Ideal) x1 (k0_pay1 (F := Ideal)) x0 : S2048x512.Idx → EReal) (ix2 r d)
      = ∑ k : Fin 1024, x0 (ix2 r k) * x1 (ix2 k d) := by
  unfold k0_pay2 k0_pay1
  pointwise

/-! ## The array -/

theorem points : ∀ t : Fin grid0.N, t.val < 9 := by decide +kernel
theorem i0 : ∀ t : Fin grid0.N, win0_0.index t 0 = t.val / 9 ∧ win0_0.index t 1 = 0 := by decide +kernel
theorem i1 : ∀ t : Fin grid0.N, win0_1.index t 1 = t.val % 9 ∧ win0_1.index t 0 = 0 := by decide +kernel
theorem i2 : ∀ t : Fin grid0.N, win0_2.index t 0 = t.val / 9 ∧ win0_2.index t 1 = t.val % 9 := by decide +kernel

theorem emb0 (t : Fin cfg0.N) (r : Fin 2048) (k : Fin 1024) (h : t.val / 9 * 2048 + r < 2048) :
    ((cfg0.win 0).blk t).view.emb (ix2 r k) = (ix2 ⟨t.val / 9 * 2048 + r, h⟩ k : S2048x1024.Idx) := by
  funext a; apply Fin.ext
  refine (Pipeline.Window.rect_emb_val (cfg0.win 0) t _ a rfl).trans ?_
  match a with
  | ⟨0, _⟩ => show win0_0.index t 0 * 2048 + r.val = t.val / 9 * 2048 + r; rw [(i0 t).1]
  | ⟨1, _⟩ => show win0_0.index t 1 * 1024 + k.val = k.val; rw [(i0 t).2]; omega
theorem emb1 (t : Fin cfg0.N) (k : Fin 1024) (d : Fin 512) (h : t.val % 9 * 512 + d < 4608) :
    ((cfg0.win 1).blk t).view.emb (ix2 k d) = (ix2 k ⟨t.val % 9 * 512 + d, h⟩ : S1024x4608.Idx) := by
  funext a; apply Fin.ext
  refine (Pipeline.Window.rect_emb_val (cfg0.win 1) t _ a rfl).trans ?_
  match a with
  | ⟨0, _⟩ => show win0_1.index t 0 * 1024 + k.val = k.val; rw [(i1 t).2]; omega
  | ⟨1, _⟩ => show win0_1.index t 1 * 512 + d.val = t.val % 9 * 512 + d; rw [(i1 t).1]
theorem emb2 (t : Fin cfg0.N) (r : Fin 2048) (d : Fin 512) (h : t.val / 9 * 2048 + r < 2048) (h' : t.val % 9 * 512 + d < 4608) :
    ((cfg0.win 2).blk t).view.emb (ix2 r d) = (ix2 ⟨t.val / 9 * 2048 + r, h⟩ ⟨t.val % 9 * 512 + d, h'⟩ : S2048x4608.Idx) := by
  funext a; apply Fin.ext
  refine (Pipeline.Window.rect_emb_val (cfg0.win 2) t _ a rfl).trans ?_
  match a with
  | ⟨0, _⟩ => show win0_2.index t 0 * 2048 + r.val = t.val / 9 * 2048 + r; rw [(i2 t).1]
  | ⟨1, _⟩ => show win0_2.index t 1 * 512 + d.val = t.val % 9 * 512 + d; rw [(i2 t).2]

/-- The product at an index: a normalized row times a column of the weight. -/
def prodAt (a : S2048x1024.Idx → EReal) (b : S1024x4608.Idx → EReal) (r : Fin 2048) (d : Fin 4608) : EReal := ∑ k : Fin 1024, a (ix2 r k) * b (ix2 k d)

/-- The product. -/
def prod (a : S2048x1024.Idx → EReal) (b : S1024x4608.Idx → EReal) : S2048x4608.Idx → EReal := fun i => prodAt a b (i 0) (i 1)

variable (m : (ℓ : Loc nD τ sig) → Buf (Elt Ideal) ℓ) (c : Dev nD)

/-- The normalized rows, by the reference's lines. -/
abbrev rows (x : Vec Ideal S2048x1024 .f32) (w : Vec Ideal S1024 .f32) : S2048x1024.Idx → EReal := InFRefIdeal.Read.val_main_v12 (F := Ideal) x w

theorem V_h : (V m c main_v13 : S2048x1024.Idx → EReal) = rows (m ((c.tc : Thread nD τ).loc main_arg0)) (m ((c.tc : Thread nD τ).loc main_arg1)) := by
  unfold_abbrev_sides
  after_results
  rfl

theorem V_w : (V m c main_v14 : S1024x4608.Idx → EReal) = m ((c.tc : Thread nD τ).loc main_arg2) := by
  unfold_abbrev_sides
  after_results
  rfl

/-- What the kernel's launch leaves. -/
theorem arr : (dats m 0 c).arrAt 2 cfg0.N = prod (rows (m ((c.tc : Thread nD τ).loc main_arg0)) (m ((c.tc : Thread nD τ).loc main_arg1))) (m ((c.tc : Thread nD τ).loc main_arg2)) := by
  refine Dat.arrAt_eq_of_cover _ 2 _ ?_ ?_
  · intro t _
    rw [Value.flushed2]
    funext y
    obtain ⟨r, d, rfl⟩ : ∃ (r : Fin 2048) (d : Fin 512), y = ix2 r d := ⟨y 0, y 1, by funext a; fin_cases a <;> rfl⟩
    have ht := points t
    have h : t.val / 9 * 2048 + r < 2048 := by omega
    have h' : t.val % 9 * 512 + d < 4608 := by omega
    refine Eq.trans (b := outsAt0 m c t (ix2 r d)) rfl ?_
    refine Eq.trans (b := prodAt _ _ ⟨t.val / 9 * 2048 + r, h⟩ ⟨t.val % 9 * 512 + d, h'⟩) ?_ (congrArg (prod _ _) (emb2 t r d h h').symm)
    unfold outsAt0 prodAt
    rw [out_block]
    refine (block_at _ _ r d).trans ?_
    refine Finset.sum_congr rfl fun k _ => congrArg₂ (· * ·) ?_ ?_
    · exact Eq.trans (congrArg (V m c main_v13) (emb0 t r k h)) (congrFun (V_h m c) _)
    · exact Eq.trans (congrArg (V m c main_v14) (emb1 t k d h')) (congrFun (V_w m c) _)
  · intro i
    have h0 : (i 0).val < 2048 := (i 0).isLt
    have h1 : (i 1).val < 4608 := (i 1).isLt
    have hN : (i 0).val / 2048 * 9 + (i 1).val / 512 < cfg0.N := by show _ < 9; omega
    refine ⟨⟨_, hN⟩, flush0_2 _, ?_⟩
    have e0 : ((i 0).val / 2048 * 9 + (i 1).val / 512) / 9 * 2048 + (i 0).val % 2048 = (i 0).val := by omega
    have e1 : ((i 0).val / 2048 * 9 + (i 1).val / 512) % 9 * 512 + (i 1).val % 512 = (i 1).val := by omega
    have e := emb2 ⟨_, hN⟩ ⟨(i 0).val % 2048, by omega⟩ ⟨(i 1).val % 512, by omega⟩ (e0.trans_lt h0) (e1.trans_lt h1)
    have : i = ((cfg0.win 2).blk ⟨_, hN⟩).view.emb (ix2 ⟨(i 0).val % 2048, by omega⟩ ⟨(i 1).val % 512, by omega⟩) := by
      rw [e]; funext a
      match a with
      | ⟨0, _⟩ => exact Fin.ext e0.symm
      | ⟨1, _⟩ => exact Fin.ext e1.symm
    exact Eq.mpr (congrArg (· ∈ ((cfg0.win 2).blk ⟨_, hN⟩).view.set) this) (View.emb_mem_set _ _)

/-! ## The reference -/

/-- What the reference computes. -/
theorem ref (x : Vec Ideal S2048x1024 .f32) (w : Vec Ideal S1024 .f32) (b : S1024x4608.Idx → EReal) :
    (InFRefIdeal.Read.val_main_v13 (F := Ideal) x w b : S2048x4608.Idx → EReal) = prod (rows x w) b := by
  funext i
  obtain ⟨r, d, rfl⟩ : ∃ (r : Fin 2048) (d : Fin 4608), i = ix2 r d := ⟨i 0, i 1, by funext a; fin_cases a <;> rfl⟩
  show _ = prodAt _ _ r d
  unfold InFRefIdeal.Read.val_main_v13 prodAt
  rw [rows]
  generalize InFRefIdeal.Read.val_main_v12 (F := Ideal) x w = h
  pointwise

end Cert.InFIdeal.Mlp

end
-- ==== Proof.InG.lean ====
/- The narrow part of the layer's input projection: what the kernel's launch leaves is what the reference computes, over the
   exact numbers. -/
module

public import proofs.«01_k».proof.Proof.Gen.InGIdeal.Value
public import proofs.«01_k».proof.Proof.Gen.InGRefIdeal.Read
public import Idealize.ShloMosaic.Lib.Pointwise
public import Idealize.ShloMosaic.Lib.KernelVsHost
public import Idealize.ShloMosaic.Lib.VecWindow

@[expose] public section

noncomputable section

namespace Cert.InGIdeal.Mlp

open Idealize.ShloMosaic Idealize.ShloMosaic.TcCoe Idealize.SL.Sem
open Cert.InGIdeal Cert.InGIdeal.Gen
open Idealize.ShloMosaic.Pipeline (Dat)
open scoped BigOperators

/-! ## What a point leaves -/

/-- One point's block: the whole sum in one step onto zeros. -/
theorem out_block {F : FTy → Type} [FloatOps F] (c : Dev nD) (i : grid0.Coords) (arg3 : Memref sig .tc .vmem S2048x1024 .bf16) (harg3 : arg3.IsWhole)
    (arg4 : Memref sig .tc .vmem S1024x128 .bf16) (harg4 : arg4.IsWhole) (arg5 : Memref sig .tc .vmem S2048x128 .f32) (harg5 : arg5.IsWhole)
    (arg6 : Memref sig .tc .vmem S2048x128 .f32) (harg6 : arg6.IsWhole)
    (hc0 : cond0_0 i) (hc1 : cond0_1 i) (x0 : Vec F S2048x1024 .bf16) (x1 : Vec F S1024x128 .bf16) :
    out0_A_2 c i arg3 harg3 arg4 harg4 arg5 harg5 arg6 harg6 hc0 hc1 x0 x1 = k0_pay2 x1 k0_pay1 x0 := by
  have hz : (![0, 0] : Fin 2 → Nat) = fun _ => 0 := by decide
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S2048x128) hz, View.readCov_unit_zero (S := S2048x128) _ hz]
  simp only [View.readAt_eq_ld, harg3.read_unread, harg4.read_unread, View.ld_unit_zero (S := S2048x1024) hz, View.ld_unit_zero (S := S1024x128) hz]
  rw [View.readCov_full (s := S2048x128)]

/-- A point's block at an index. -/
theorem block_at (x0 : Vec Ideal S2048x1024 .bf16) (x1 : Vec Ideal S1024x128 .bf16) (r : Fin 2048) (d : Fin 128) :
    (k0_pay2 (F := Ideal) x1 (k0_pay1 (F := Ideal)) x0 : S2048x128.Idx → EReal) (ix2 r d)
      = ∑ k : Fin 1024, x0 (ix2 r k) * x1 (ix2 k d) := by
  unfold k0_pay2 k0_pay1
  pointwise

/-! ## The array -/

theorem points : ∀ t : Fin grid0.N, t.val < 1 := by decide +kernel
theorem i0 : ∀ t : Fin grid0.N, win0_0.index t 0 = t.val / 1 ∧ win0_0.index t 1 = 0 := by decide +kernel
theorem i1 : ∀ t : Fin grid0.N, win0_1.index t 1 = t.val % 1 ∧ win0_1.index t 0 = 0 := by decide +kernel
theorem i2 : ∀ t : Fin grid0.N, win0_2.index t 0 = t.val / 1 ∧ win0_2.index t 1 = t.val % 1 := by decide +kernel

theorem emb0 (t : Fin cfg0.N) (r : Fin 2048) (k : Fin 1024) (h : t.val / 1 * 2048 + r < 2048) :
    ((cfg0.win 0).blk t).view.emb (ix2 r k) = (ix2 ⟨t.val / 1 * 2048 + r, h⟩ k : S2048x1024.Idx) := by
  funext a; apply Fin.ext
  refine (Pipeline.Window.rect_emb_val (cfg0.win 0) t _ a rfl).trans ?_
  match a with
  | ⟨0, _⟩ => show win0_0.index t 0 * 2048 + r.val = t.val / 1 * 2048 + r; rw [(i0 t).1]
  | ⟨1, _⟩ => show win0_0.index t 1 * 1024 + k.val = k.val; rw [(i0 t).2]; omega
theorem emb1 (t : Fin cfg0.N) (k : Fin 1024) (d : Fin 128) (h : t.val % 1 * 128 + d < 128) :
    ((cfg0.win 1).blk t).view.emb (ix2 k d) = (ix2 k ⟨t.val % 1 * 128 + d, h⟩ : S1024x128.Idx) := by
  funext a; apply Fin.ext
  refine (Pipeline.Window.rect_emb_val (cfg0.win 1) t _ a rfl).trans ?_
  match a with
  | ⟨0, _⟩ => show win0_1.index t 0 * 1024 + k.val = k.val; rw [(i1 t).2]; omega
  | ⟨1, _⟩ => show win0_1.index t 1 * 128 + d.val = t.val % 1 * 128 + d; rw [(i1 t).1]
theorem emb2 (t : Fin cfg0.N) (r : Fin 2048) (d : Fin 128) (h : t.val / 1 * 2048 + r < 2048) (h' : t.val % 1 * 128 + d < 128) :
    ((cfg0.win 2).blk t).view.emb (ix2 r d) = (ix2 ⟨t.val / 1 * 2048 + r, h⟩ ⟨t.val % 1 * 128 + d, h'⟩ : S2048x128.Idx) := by
  funext a; apply Fin.ext
  refine (Pipeline.Window.rect_emb_val (cfg0.win 2) t _ a rfl).trans ?_
  match a with
  | ⟨0, _⟩ => show win0_2.index t 0 * 2048 + r.val = t.val / 1 * 2048 + r; rw [(i2 t).1]
  | ⟨1, _⟩ => show win0_2.index t 1 * 128 + d.val = t.val % 1 * 128 + d; rw [(i2 t).2]

/-- The product at an index: a normalized row times a column of the weight. -/
def prodAt (a : S2048x1024.Idx → EReal) (b : S1024x128.Idx → EReal) (r : Fin 2048) (d : Fin 128) : EReal := ∑ k : Fin 1024, a (ix2 r k) * b (ix2 k d)

/-- The product. -/
def prod (a : S2048x1024.Idx → EReal) (b : S1024x128.Idx → EReal) : S2048x128.Idx → EReal := fun i => prodAt a b (i 0) (i 1)

variable (m : (ℓ : Loc nD τ sig) → Buf (Elt Ideal) ℓ) (c : Dev nD)

/-- The normalized rows, by the reference's lines. -/
abbrev rows (x : Vec Ideal S2048x1024 .f32) (w : Vec Ideal S1024 .f32) : S2048x1024.Idx → EReal := InGRefIdeal.Read.val_main_v12 (F := Ideal) x w

theorem V_h : (V m c main_v13 : S2048x1024.Idx → EReal) = rows (m ((c.tc : Thread nD τ).loc main_arg0)) (m ((c.tc : Thread nD τ).loc main_arg1)) := by
  unfold_abbrev_sides
  after_results
  rfl

theorem V_w : (V m c main_v14 : S1024x128.Idx → EReal) = m ((c.tc : Thread nD τ).loc main_arg2) := by
  unfold_abbrev_sides
  after_results
  rfl

/-- What the kernel's launch leaves. -/
theorem arr : (dats m 0 c).arrAt 2 cfg0.N = prod (rows (m ((c.tc : Thread nD τ).loc main_arg0)) (m ((c.tc : Thread nD τ).loc main_arg1))) (m ((c.tc : Thread nD τ).loc main_arg2)) := by
  refine Dat.arrAt_eq_of_cover _ 2 _ ?_ ?_
  · intro t _
    rw [Value.flushed2]
    funext y
    obtain ⟨r, d, rfl⟩ : ∃ (r : Fin 2048) (d : Fin 128), y = ix2 r d := ⟨y 0, y 1, by funext a; fin_cases a <;> rfl⟩
    have ht := points t
    have h : t.val / 1 * 2048 + r < 2048 := by omega
    have h' : t.val % 1 * 128 + d < 128 := by omega
    refine Eq.trans (b := outsAt0 m c t (ix2 r d)) rfl ?_
    refine Eq.trans (b := prodAt _ _ ⟨t.val / 1 * 2048 + r, h⟩ ⟨t.val % 1 * 128 + d, h'⟩) ?_ (congrArg (prod _ _) (emb2 t r d h h').symm)
    unfold outsAt0 prodAt
    rw [out_block]
    refine (block_at _ _ r d).trans ?_
    refine Finset.sum_congr rfl fun k _ => congrArg₂ (· * ·) ?_ ?_
    · exact Eq.trans (congrArg (V m c main_v13) (emb0 t r k h)) (congrFun (V_h m c) _)
    · exact Eq.trans (congrArg (V m c main_v14) (emb1 t k d h')) (congrFun (V_w m c) _)
  · intro i
    have h0 : (i 0).val < 2048 := (i 0).isLt
    have h1 : (i 1).val < 128 := (i 1).isLt
    have hN : (i 0).val / 2048 * 1 + (i 1).val / 128 < cfg0.N := by show _ < 1; omega
    refine ⟨⟨_, hN⟩, flush0_2 _, ?_⟩
    have e0 : ((i 0).val / 2048 * 1 + (i 1).val / 128) / 1 * 2048 + (i 0).val % 2048 = (i 0).val := by omega
    have e1 : ((i 0).val / 2048 * 1 + (i 1).val / 128) % 1 * 128 + (i 1).val % 128 = (i 1).val := by omega
    have e := emb2 ⟨_, hN⟩ ⟨(i 0).val % 2048, by omega⟩ ⟨(i 1).val % 128, by omega⟩ (e0.trans_lt h0) (e1.trans_lt h1)
    have : i = ((cfg0.win 2).blk ⟨_, hN⟩).view.emb (ix2 ⟨(i 0).val % 2048, by omega⟩ ⟨(i 1).val % 128, by omega⟩) := by
      rw [e]; funext a
      match a with
      | ⟨0, _⟩ => exact Fin.ext e0.symm
      | ⟨1, _⟩ => exact Fin.ext e1.symm
    exact Eq.mpr (congrArg (· ∈ ((cfg0.win 2).blk ⟨_, hN⟩).view.set) this) (View.emb_mem_set _ _)

/-! ## The reference -/

/-- What the reference computes. -/
theorem ref (x : Vec Ideal S2048x1024 .f32) (w : Vec Ideal S1024 .f32) (b : S1024x128.Idx → EReal) :
    (InGRefIdeal.Read.val_main_v13 (F := Ideal) x w b : S2048x128.Idx → EReal) = prod (rows x w) b := by
  funext i
  obtain ⟨r, d, rfl⟩ : ∃ (r : Fin 2048) (d : Fin 128), i = ix2 r d := ⟨i 0, i 1, by funext a; fin_cases a <;> rfl⟩
  show _ = prodAt _ _ r d
  unfold InGRefIdeal.Read.val_main_v13 prodAt
  rw [rows]
  generalize InGRefIdeal.Read.val_main_v12 (F := Ideal) x w = h
  pointwise

end Cert.InGIdeal.Mlp

end
-- ==== Proof.OutF.lean ====
/- The output projection, the residual added, and the normalization that follows: what the kernel's launch leaves is what the
   reference computes, over the exact numbers. -/
module

public import proofs.«01_k».proof.Proof.Gen.OutFIdeal.Value
public import proofs.«01_k».proof.Proof.Gen.OutFRefIdeal.Read
public import Idealize.ShloMosaic.Lib.Pointwise
public import Idealize.ShloMosaic.Lib.KernelVsHost
public import Idealize.ShloMosaic.Lib.VecWindow

@[expose] public section

noncomputable section

namespace Cert.OutFIdeal.Mlp

open Idealize.ShloMosaic Idealize.ShloMosaic.TcCoe Idealize.SL.Sem
open Cert.OutFIdeal Cert.OutFIdeal.Gen
open Idealize.ShloMosaic.Pipeline (Dat)
open scoped BigOperators

/-! ## What a point leaves -/

section
variable {F : FTy → Type} [FloatOps F] (m : (ℓ : Loc nD τ sig) → Buf (Elt F) ℓ) (c : Dev nD) (t : Fin cfg0.N)

theorem hz : (![0, 0] : Fin 2 → Nat) = fun _ => 0 := by decide

/-- A point's product: the whole sum in one step onto zeros. -/
abbrev prod : Vec F S1024x1024 .f32 := k0_pay2 (iblk m c 1 t) k0_pay1 (iblk m c 0 t)

theorem out_y : (outsAt0 m c t).1 = k0_pay3 (prod m c t) (iblk m c 2 t) := by
  unfold outsAt0
  dsimp only
  unfold out0_A_4
  rw [View.read_writes_eq_canon _ _ _ (cover0_A_4 c (grid0.coords t) _ _ _ _ _ _ _ _ _ _ _ _ _ _ _ _ _ _ _ _)]
  unfold kernelRun0_A
  dsimp only
  sl_unfold_words
  rw [View.canon_unit_zero (S := S1024x1024) hz, View.readCov_unit_zero (S := S1024x1024) _ hz]
  simp only [View.readAt_eq_ld, (hs0_0 t).read_unread, (hs0_1 t).read_unread, (hs0_2 t).read_unread, (hs0_3 t).read_unread, View.ld_unit_zero (S := S1024x1536) hz, View.ld_unit_zero (S := S1536x1024) hz, View.ld_unit_zero (S := S1024x1024) hz, View.ld_unit_zero (S := S1x1024) hz]
  rw [View.readCov_full (s := S1024x1024)]

theorem out_h : (outsAt0 m c t).2 = k0_pay4 (prod m c t) (iblk m c 3 t) (iblk m c 2 t) := by
  unfold outsAt0
  dsimp only
  unfold out0_A_5
  rw [View.read_writes_eq_canon _ _ _ (cover0_A_5 c (grid0.coords t) _ _ _ _ _ _ _ _ _ _ _ _ _ _ _ _ _ _ _ _)]
  unfold kernelRun0_A
  dsimp only
  sl_unfold_words
  rw [View.canon_unit_zero (S := S1024x1024) hz, View.readCov_unit_zero (S := S1024x1024) _ hz]
  simp only [View.readAt_eq_ld, (hs0_0 t).read_unread, (hs0_1 t).read_unread, (hs0_2 t).read_unread, (hs0_3 t).read_unread, View.ld_unit_zero (S := S1024x1536) hz, View.ld_unit_zero (S := S1536x1024) hz, View.ld_unit_zero (S := S1024x1024) hz, View.ld_unit_zero (S := S1x1024) hz]
  rw [View.readCov_full (s := S1024x1024)]

end

theorem prod_at (x0 : Vec Ideal S1024x1536 .bf16) (x1 : Vec Ideal S1536x1024 .bf16) (r d : Fin 1024) :
    (k0_pay2 (F := Ideal) x1 (k0_pay1 (F := Ideal)) x0 : S1024x1024.Idx → EReal) (ix2 r d) = ∑ k : Fin 1536, x0 (ix2 r k) * x1 (ix2 k d) := by
  unfold k0_pay2 k0_pay1
  pointwise

/-! ## The normalization -/

/-- A row's mean square, with the small number added. -/
def ms (x : Fin 1024 → EReal) : EReal := Ideal.div (∑ k, x k * x k) (Ideal.ofBits .f32 0x44800000#32) + Ideal.ofBits .f32 0x358637BD#32

/-- The row, normalized and weighted. -/
def normAt (x w : Fin 1024 → EReal) (d : Fin 1024) : EReal := x d * Ideal.rsqrt (ms x) * w d

theorem pay3_at (a x : Vec Ideal S1024x1024 .f32) (r d : Fin 1024) :
    (k0_pay3 (F := Ideal) a x : S1024x1024.Idx → EReal) (ix2 r d) = a (ix2 r d) + x (ix2 r d) := by
  unfold k0_pay3
  pointwise

theorem pay4_at (a : Vec Ideal S1024x1024 .f32) (w : Vec Ideal S1x1024 .f32) (x : Vec Ideal S1024x1024 .f32) (r d : Fin 1024) :
    (k0_pay4 (F := Ideal) a w x : S1024x1024.Idx → EReal) (ix2 r d) = normAt (fun k => a (ix2 r k) + x (ix2 r k)) (fun k => w (ix2 0 k)) d := by
  unfold k0_pay4 k0_pay3 normAt ms
  pointwise

/-! ## Where the blocks sit -/

theorem points : ∀ t : Fin grid0.N, t.val < 2 := by decide +kernel
theorem i1 : ∀ t : Fin grid0.N, win0_1.index t 0 = 0 ∧ win0_1.index t 1 = 0 := by decide +kernel
theorem i3 : ∀ t : Fin grid0.N, win0_3.index t 0 = 0 ∧ win0_3.index t 1 = 0 := by decide +kernel
theorem i0 : ∀ t : Fin grid0.N, win0_0.index t 0 = t.val ∧ win0_0.index t 1 = 0 := by decide +kernel
theorem i2 : ∀ t : Fin grid0.N, win0_2.index t 0 = t.val ∧ win0_2.index t 1 = 0 := by decide +kernel
theorem i4 : ∀ t : Fin grid0.N, win0_4.index t 0 = t.val ∧ win0_4.index t 1 = 0 := by decide +kernel
theorem i5 : ∀ t : Fin grid0.N, win0_5.index t 0 = t.val ∧ win0_5.index t 1 = 0 := by decide +kernel

theorem emb0 (t : Fin cfg0.N) (r : Fin 1024) (d : Fin 1536) (h : t.val * 1024 + r < 2048) :
    ((cfg0.win 0).blk t).view.emb (ix2 r d) = (ix2 ⟨t.val * 1024 + r, h⟩ d : S2048x1536.Idx) := by
  funext a; apply Fin.ext
  refine (Pipeline.Window.rect_emb_val (cfg0.win 0) t _ a rfl).trans ?_
  match a with
  | ⟨0, _⟩ => show win0_0.index t 0 * 1024 + r.val = t.val * 1024 + r; rw [(i0 t).1]
  | ⟨1, _⟩ => show win0_0.index t 1 * 1536 + d.val = d.val; rw [(i0 t).2]; omega
theorem emb2 (t : Fin cfg0.N) (r : Fin 1024) (d : Fin 1024) (h : t.val * 1024 + r < 2048) :
    ((cfg0.win 2).blk t).view.emb (ix2 r d) = (ix2 ⟨t.val * 1024 + r, h⟩ d : S2048x1024.Idx) := by
  funext a; apply Fin.ext
  refine (Pipeline.Window.rect_emb_val (cfg0.win 2) t _ a rfl).trans ?_
  match a with
  | ⟨0, _⟩ => show win0_2.index t 0 * 1024 + r.val = t.val * 1024 + r; rw [(i2 t).1]
  | ⟨1, _⟩ => show win0_2.index t 1 * 1024 + d.val = d.val; rw [(i2 t).2]; omega
theorem emb4 (t : Fin cfg0.N) (r : Fin 1024) (d : Fin 1024) (h : t.val * 1024 + r < 2048) :
    ((cfg0.win 4).blk t).view.emb (ix2 r d) = (ix2 ⟨t.val * 1024 + r, h⟩ d : S2048x1024.Idx) := by
  funext a; apply Fin.ext
  refine (Pipeline.Window.rect_emb_val (cfg0.win 4) t _ a rfl).trans ?_
  match a with
  | ⟨0, _⟩ => show win0_4.index t 0 * 1024 + r.val = t.val * 1024 + r; rw [(i4 t).1]
  | ⟨1, _⟩ => show win0_4.index t 1 * 1024 + d.val = d.val; rw [(i4 t).2]; omega
theorem emb5 (t : Fin cfg0.N) (r : Fin 1024) (d : Fin 1024) (h : t.val * 1024 + r < 2048) :
    ((cfg0.win 5).blk t).view.emb (ix2 r d) = (ix2 ⟨t.val * 1024 + r, h⟩ d : S2048x1024.Idx) := by
  funext a; apply Fin.ext
  refine (Pipeline.Window.rect_emb_val (cfg0.win 5) t _ a rfl).trans ?_
  match a with
  | ⟨0, _⟩ => show win0_5.index t 0 * 1024 + r.val = t.val * 1024 + r; rw [(i5 t).1]
  | ⟨1, _⟩ => show win0_5.index t 1 * 1024 + d.val = d.val; rw [(i5 t).2]; omega
theorem emb1 (t : Fin cfg0.N) (k : Fin 1536) (d : Fin 1024) : ((cfg0.win 1).blk t).view.emb (ix2 k d) = (ix2 k d : S1536x1024.Idx) := by
  funext a; apply Fin.ext
  refine (Pipeline.Window.rect_emb_val (cfg0.win 1) t _ a rfl).trans ?_
  match a with
  | ⟨0, _⟩ => show win0_1.index t 0 * 1536 + k.val = k.val; rw [(i1 t).1]; omega
  | ⟨1, _⟩ => show win0_1.index t 1 * 1024 + d.val = d.val; rw [(i1 t).2]; omega
theorem emb3 (t : Fin cfg0.N) (d : Fin 1024) : ((cfg0.win 3).blk t).view.emb (ix2 0 d) = (ix2 0 d : S1x1024.Idx) := by
  funext a; apply Fin.ext
  refine (Pipeline.Window.rect_emb_val (cfg0.win 3) t _ a rfl).trans ?_
  match a with
  | ⟨0, _⟩ => show win0_3.index t 0 * 1 + 0 = 0; rw [(i3 t).1]
  | ⟨1, _⟩ => show win0_3.index t 1 * 1024 + d.val = d.val; rw [(i3 t).2]; omega

/-! ## The sum and its normalization -/

/-- The projection of a row, with the residual added. -/
def sumAt (a : S2048x1536.Idx → EReal) (w : S1536x1024.Idx → EReal) (x : S2048x1024.Idx → EReal) (r : Fin 2048) (d : Fin 1024) : EReal :=
  (∑ k : Fin 1536, a (ix2 r k) * w (ix2 k d)) + x (ix2 r d)

/-- The sums. -/
def total (a : S2048x1536.Idx → EReal) (w : S1536x1024.Idx → EReal) (x : S2048x1024.Idx → EReal) : S2048x1024.Idx → EReal := fun i => sumAt a w x (i 0) (i 1)

/-- The sums' rows, normalized. -/
def normed (a : S2048x1536.Idx → EReal) (w : S1536x1024.Idx → EReal) (x : S2048x1024.Idx → EReal) (n : S1024.Idx → EReal) : S2048x1024.Idx → EReal :=
  fun i => normAt (sumAt a w x (i 0)) (fun k => n (ix1 k)) (i 1)

theorem row_at (x : Vec Ideal S1024 .f32) (d : Fin 1024) : (shapeCast S1x1024 x shapeCasts_S1024_S1x1024 : S1x1024.Idx → EReal) (ix2 0 d) = x (ix1 d) := by
  pointwise

variable (m : (ℓ : Loc nD τ sig) → Buf (Elt Ideal) ℓ) (c : Dev nD)

abbrev mA : S2048x1536.Idx → EReal := m ((c.tc : Thread nD τ).loc main_arg0)
abbrev mW : S1536x1024.Idx → EReal := m ((c.tc : Thread nD τ).loc main_arg1)
abbrev mX : S2048x1024.Idx → EReal := m ((c.tc : Thread nD τ).loc main_arg2)
abbrev mN : S1024.Idx → EReal := m ((c.tc : Thread nD τ).loc main_arg3)

theorem V_a : (V m c main_v0 : S2048x1536.Idx → EReal) = mA m c := by
  unfold_abbrev_sides
  after_results
  rfl

theorem V_w : (V m c main_v1 : S1536x1024.Idx → EReal) = mW m c := by
  unfold_abbrev_sides
  after_results
  rfl

theorem V_n (d : Fin 1024) : (V m c main_v2 : S1x1024.Idx → EReal) (ix2 0 d) = mN m c (ix1 d) := by
  have e : V m c main_v2 = shapeCast S1x1024 (m ((c.tc : Thread nD τ).loc main_arg3)) shapeCasts_S1024_S1x1024 := by
    unfold_abbrev_sides
    after_results
    rfl
  rw [e]
  exact row_at _ d

variable (t : Fin cfg0.N)

/-- A point's product with its rows of the residual. -/
theorem sum_block (r d : Fin 1024) (h : t.val * 1024 + r < 2048) :
    (prod m c t : S1024x1024.Idx → EReal) (ix2 r d) + (iblk m c 2 t : S1024x1024.Idx → EReal) (ix2 r d) = sumAt (mA m c) (mW m c) (mX m c) ⟨t.val * 1024 + r, h⟩ d := by
  refine congrArg₂ (· + ·) ((prod_at _ _ r d).trans (Finset.sum_congr rfl fun k _ => congrArg₂ (· * ·) ?_ ?_)) ?_
  · exact Eq.trans (congrArg (V m c main_v0) (emb0 t r k h)) (congrFun (V_a m c) _)
  · exact Eq.trans (congrArg (V m c main_v1) (emb1 t k d)) (congrFun (V_w m c) _)
  · exact Eq.trans (congrArg (V m c main_arg2) (emb2 t r d h)) (congrFun (V_main_arg2 m c) _)

theorem rd_n (d : Fin 1024) : (iblk m c 3 t : S1x1024.Idx → EReal) (ix2 0 d) = mN m c (ix1 d) :=
  Eq.trans (congrArg (V m c main_v2) (emb3 t d)) (V_n m c d)

/-- What the kernel's launch leaves of the sums. -/
theorem arr_y : (dats m 0 c).arrAt 4 cfg0.N = total (mA m c) (mW m c) (mX m c) := by
  refine Dat.arrAt_eq_of_cover _ 4 _ ?_ ?_
  · intro t _
    rw [Value.flushed4]
    funext y
    obtain ⟨r, d, rfl⟩ : ∃ (r d : Fin 1024), y = ix2 r d := ⟨y 0, y 1, by funext a; fin_cases a <;> rfl⟩
    have ht := points t
    have h : t.val * 1024 + r < 2048 := by omega
    refine Eq.trans (b := total (mA m c) (mW m c) (mX m c) (ix2 ⟨t.val * 1024 + r, h⟩ d)) ?_ (congrArg (total (mA m c) (mW m c) (mX m c)) (emb4 t r d h).symm)
    refine Eq.trans (b := (outsAt0 m c t).1 (ix2 r d)) rfl ?_
    rw [out_y]
    exact (pay3_at _ _ r d).trans (sum_block m c t r d h)
  · intro i
    have h0 : (i 0).val < 2048 := (i 0).isLt
    have hN : (i 0).val / 1024 < cfg0.N := by show _ < 2; omega
    refine ⟨⟨_, hN⟩, flush0_4 _, ?_⟩
    have e0 : (i 0).val / 1024 * 1024 + (i 0).val % 1024 = (i 0).val := by omega
    have e := emb4 ⟨_, hN⟩ ⟨(i 0).val % 1024, by omega⟩ (i 1) (e0.trans_lt h0)
    have : i = ((cfg0.win 4).blk ⟨_, hN⟩).view.emb (ix2 ⟨(i 0).val % 1024, by omega⟩ (i 1)) := by
      rw [e]; funext a
      match a with
      | ⟨0, _⟩ => exact Fin.ext e0.symm
      | ⟨1, _⟩ => rfl
    exact Eq.mpr (congrArg (· ∈ ((cfg0.win 4).blk ⟨_, hN⟩).view.set) this) (View.emb_mem_set _ _)

/-- What the kernel's launch leaves of the normalized rows. -/
theorem arr_h : (dats m 0 c).arrAt 5 cfg0.N = normed (mA m c) (mW m c) (mX m c) (mN m c) := by
  refine Dat.arrAt_eq_of_cover _ 5 _ ?_ ?_
  · intro t _
    rw [Value.flushed5]
    funext y
    obtain ⟨r, d, rfl⟩ : ∃ (r d : Fin 1024), y = ix2 r d := ⟨y 0, y 1, by funext a; fin_cases a <;> rfl⟩
    have ht := points t
    have h : t.val * 1024 + r < 2048 := by omega
    refine Eq.trans (b := normed (mA m c) (mW m c) (mX m c) (mN m c) (ix2 ⟨t.val * 1024 + r, h⟩ d)) ?_ (congrArg (normed (mA m c) (mW m c) (mX m c) (mN m c)) (emb5 t r d h).symm)
    refine Eq.trans (b := (outsAt0 m c t).2 (ix2 r d)) rfl ?_
    rw [out_h]
    refine (pay4_at _ _ _ r d).trans ?_
    rw [funext fun k => sum_block m c t r k h, funext fun k => rd_n m c t k]
    rfl
  · intro i
    have h0 : (i 0).val < 2048 := (i 0).isLt
    have hN : (i 0).val / 1024 < cfg0.N := by show _ < 2; omega
    refine ⟨⟨_, hN⟩, flush0_5 _, ?_⟩
    have e0 : (i 0).val / 1024 * 1024 + (i 0).val % 1024 = (i 0).val := by omega
    have e := emb5 ⟨_, hN⟩ ⟨(i 0).val % 1024, by omega⟩ (i 1) (e0.trans_lt h0)
    have : i = ((cfg0.win 5).blk ⟨_, hN⟩).view.emb (ix2 ⟨(i 0).val % 1024, by omega⟩ (i 1)) := by
      rw [e]; funext a
      match a with
      | ⟨0, _⟩ => exact Fin.ext e0.symm
      | ⟨1, _⟩ => rfl
    exact Eq.mpr (congrArg (· ∈ ((cfg0.win 5).blk ⟨_, hN⟩).view.set) this) (View.emb_mem_set _ _)

/-! ## The reference -/

section
open OutFRefIdeal.Read

theorem ref_y (a : Vec Ideal S2048x1536 .f32) (w : Vec Ideal S1536x1024 .f32) (x : Vec Ideal S2048x1024 .f32) :
    (val_main_v1 (F := Ideal) a w x : S2048x1024.Idx → EReal) = total a w x := by
  funext i
  obtain ⟨r, d, rfl⟩ : ∃ (r : Fin 2048) (d : Fin 1024), i = ix2 r d := ⟨i 0, i 1, by funext a; fin_cases a <;> rfl⟩
  refine Eq.trans ?_ (add_comm _ _)
  unfold val_main_v1 val_main_v0
  pointwise

theorem ref_h (a : Vec Ideal S2048x1536 .f32) (w : Vec Ideal S1536x1024 .f32) (x : Vec Ideal S2048x1024 .f32) (n : Vec Ideal S1024 .f32) :
    (val_main_v15 (F := Ideal) a w x n : S2048x1024.Idx → EReal) = normed a w x n := by
  funext i
  obtain ⟨r, d, rfl⟩ : ∃ (r : Fin 2048) (d : Fin 1024), i = ix2 r d := ⟨i 0, i 1, by funext a; fin_cases a <;> rfl⟩
  refine Eq.trans ?_ (congrArg (fun y => normAt y (fun k => n (ix1 k)) d) (funext fun k => congrFun (ref_y a w x) (ix2 r k)))
  unfold val_main_v15 val_main_v14 val_main_v13 val_main_v12 val_main_v11 val_main_v10 val_main_v9 val_main_v8 val_main_v7 val_main_v6 val_main_v5 val_main_v4 val_main_v3 val_main_v2
    val_main_cst val_main_cst_0 val_main_cst_1 normAt ms
  generalize val_main_v1 (F := Ideal) a w x = y
  pointwise

end

end Cert.OutFIdeal.Mlp

end
-- ==== Proof.Tiles.lean ====
/- The body of the kernel at one head, row block by row block. The kernel's sixteen row blocks are printed one after
   another, block `g` with `(g + 1) * 128` keys; here one block is written once, with its number of keys a variable, and
   the pieces the body leaves in each output are lists built by recursion on the number of blocks. The printed pieces are
   these lists by unfolding (Pieces.lean), at any float instance. -/
module

public import proofs.«01_k».proof.Proof.Gen.KernelIdeal.Frame

@[expose] public section

noncomputable section

namespace Cert.KernelIdeal.Fox

open Idealize.ShloMosaic Idealize.ShloMosaic.TcCoe
open Cert.KernelIdeal Cert.KernelIdeal.Gen

/-- A matrix shape. -/
abbrev G2 (a b : ℕ) : Shape := ⟨2, ![a, b]⟩
/-- One row of keys, as the kernel's staging buffer of the key sums is laid out. -/
abbrev G3 (n : ℕ) : Shape := ⟨3, ![1, 1, n]⟩

/-- The shape relations one block of `n` keys takes. -/
structure Good (n : ℕ) : Prop where
  le : n ≤ 2048
  iota0 : (G2 128 n).Iotas .tc 32 [0]
  iota1 : (G2 128 n).Iotas .tc 32 [1]
  castIn : (G3 n).ShapeCasts (G2 1 n)
  castOut : (G2 1 n).ShapeCasts (G3 n)
  castVec : (⟨1, ![n]⟩ : Shape).ShapeCasts (G2 1 n)
  castSelf : (G2 n 128).ShapeCasts (G2 n 128)
  bcRow : (G2 1 n).Broadcasts (G2 128 n)
  bcCol : (G2 128 1).Broadcasts (G2 128 n)
  red1 : (G2 128 n).Reduces [1] ⟨1, ![128]⟩
  red0 : (G2 128 n).Reduces [0] ⟨1, ![n]⟩

theorem good (g : ℕ) (hg : g < 16) : Good ((g + 1) * 128) := by
  have all : ∀ a : Fin 16, Good ((a.val + 1) * 128) := by
    intro a
    fin_cases a <;> exact ⟨by decide, by decide, by decide, by decide, by decide, by decide, by decide, by decide, by decide, by decide, by decide⟩
  exact all ⟨g, hg⟩

/-- `[K, M]ᵀ × [K, N]`: both operands contracted on their first axis. -/
def tlDims (K M N : ℕ) : DotDims (G2 K M) (G2 K N) (G2 M N) where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, Nat.two_pos, fun a => by fin_cases a <;> rfl⟩

theorem rowInb {g : ℕ} (hg : g < 16) : ∀ a, (![g * 128, 0] : Fin 2 → ℕ) a + (G2 128 128).size a ≤ S2048x128.size a := by
  intro a; fin_cases a
  · show g * 128 + 128 ≤ 2048; omega
  · exact le_refl 128

theorem keyInb {n : ℕ} (hn : n ≤ 2048) : ∀ a, (![0, 0] : Fin 2 → ℕ) a + (G2 n 128).size a ≤ S2048x128.size a := by
  intro a; fin_cases a
  · show 0 + n ≤ 2048; omega
  · exact le_refl 128

theorem laneInb {n : ℕ} (hn : n ≤ 2048) : ∀ a, (![0, 0, 0] : Fin 3 → ℕ) a + (G3 n).size a ≤ S1x1x2048.size a := by
  intro a; fin_cases a
  · exact le_refl 1
  · exact le_refl 1
  · show 0 + n ≤ 2048; omega

variable {F : FTy → Type} [FloatOps F]

/-! ## One block, as vectors -/

/-- The chosen head's column of the per-row sums: the other lanes are zeroed and the row summed. -/
def headCol (h : BitVec 32) (f : Vec F S128x128 .f32) : FVec F S128x1 .f32 :=
  shapeCast S128x1 (multiReduction .add [1] S128
    (select (cmpi .eq (iota .tc S128x128 32 [1] iota_S128x128_d1_w32) (broadcast S128x128 h)) f
      (broadcast S128x128 (Scalar.ofBits .f32 0x00000000#32)))
    0x00000000#32 reduces_S128x128_S128 (.inl rfl) rfl) shapeCasts_S128_S128x1

/-- A vector over rows as a column repeated over the keys. -/
def overKeys {n : ℕ} (hn : Good n) (v : FVec F S128 .f32) : FVec F (G2 128 n) .f32 :=
  broadcastTo (G2 128 n) (shapeCast S128x1 v shapeCasts_S128_S128x1 : FVec F S128x1 .f32) hn.bcCol

/-- The masked scores of a block whose first row is row `off`. -/
def scores (h off : BitVec 32) {n : ℕ} (hn : Good n) (q : FVec F S128x128 .bf16) (k : FVec F (G2 n 128) .bf16)
    (fq : Vec F S128x128 .f32) (fk : Vec F (G3 n) .f32) : FVec F (G2 128 n) .f32 :=
  select (cmpi .sle (iota .tc (G2 128 n) 32 [1] hn.iota1)
      (addi (iota .tc (G2 128 n) 32 [0] hn.iota0) (broadcast (G2 128 n) off)))
    (addf (matmul (DotDims.transposedRhs 128 128 n) none q k (constant (G2 128 n) .f32 0x00000000#32))
      (subf (broadcastTo (G2 128 n) (headCol h fq) hn.bcCol)
        (broadcastTo (G2 128 n) (shapeCast (G2 1 n) fk hn.castIn : FVec F (G2 1 n) .f32) hn.bcRow)))
    (broadcast (G2 128 n) (Scalar.ofBits .f32 0xFF800000#32))

/-- The exponentials of the scores over their row's maximum. -/
def expo {n : ℕ} (hn : Good n) (z : FVec F (G2 128 n) .f32) : FVec F (G2 128 n) .f32 :=
  exp (subf z (overKeys hn (multiReduction .maximumf [1] S128 z 0xFF800000#32 hn.red1 (.inl rfl) rfl)))

/-- The exponentials times the reciprocal of their row's sum. -/
def normalize {n : ℕ} (hn : Good n) (e : FVec F (G2 128 n) .f32) : FVec F (G2 128 n) .f32 :=
  mulf e (broadcastTo (G2 128 n)
    (divf (broadcast S128x1 (Scalar.ofBits .f32 0x3F800000#32))
      (shapeCast S128x1 (multiReduction .add [1] S128 e 0x00000000#32 hn.red1 (.inl rfl) rfl) shapeCasts_S128_S128x1 : FVec F S128x1 .f32))
    hn.bcCol)

/-- The attention's weights. -/
def probs (h off : BitVec 32) {n : ℕ} (hn : Good n) (q : FVec F S128x128 .bf16) (k : FVec F (G2 n 128) .bf16)
    (fq : Vec F S128x128 .f32) (fk : Vec F (G3 n) .f32) : FVec F (G2 128 n) .f32 :=
  normalize hn (expo hn (scores h off hn q k fq fk))

/-- The gradient of the scores: the weights times (their gradient less the row's mean of it). -/
def gradScores {n : ℕ} (hn : Good n) (p : FVec F (G2 128 n) .f32) (dO : FVec F S128x128 .bf16) (v : FVec F (G2 n 128) .bf16) :
    FVec F (G2 128 n) .f32 :=
  have dp : FVec F (G2 128 n) .f32 := matmul (DotDims.transposedRhs 128 128 n) none dO v (constant (G2 128 n) .f32 0x00000000#32)
  mulf p (subf dp (overKeys hn (multiReduction .add [1] S128 (mulf dp p) 0x00000000#32 hn.red1 (.inl rfl) rfl)))

/-- A block's rows of the queries' gradient. -/
def dqTile {n : ℕ} (k : FVec F (G2 n 128) .bf16) (dz : FVec F (G2 128 n) .f32) : FVec F S128x128 .f32 :=
  matmul (DotDims.plain 128 n 128) none (truncf .bf16 dz bitsLt_bf16_f32) k (constant S128x128 .f32 0x00000000#32)

/-- The rows of the keys' gradient, added to. -/
def dkTile {n : ℕ} (hn : Good n) (q : FVec F S128x128 .bf16) (dz : FVec F (G2 128 n) .f32) (old : Vec F (G2 n 128) .f32) :
    FVec F (G2 n 128) .f32 :=
  addf (shapeCast (G2 n 128) old hn.castSelf : FVec F (G2 n 128) .f32)
    (matmul (tlDims 128 n 128) none (truncf .bf16 dz bitsLt_bf16_f32) q (constant (G2 n 128) .f32 0x00000000#32))

/-- The rows of the values' gradient, added to. -/
def dvTile {n : ℕ} (hn : Good n) (dO : FVec F S128x128 .bf16) (p : FVec F (G2 128 n) .f32) (old : Vec F (G2 n 128) .f32) :
    FVec F (G2 n 128) .f32 :=
  shapeCast (G2 n 128)
    (addf old (matmul (tlDims 128 n 128) none (truncf .bf16 p bitsLt_bf16_f32) dO (constant (G2 n 128) .f32 0x00000000#32)) :
      FVec F (G2 n 128) .f32) hn.castSelf

/-- The keys' row of forget-gate gradients, taken from. -/
def dfkTile {n : ℕ} (hn : Good n) (dz : FVec F (G2 128 n) .f32) (old : Vec F (G3 n) .f32) : FVec F (G3 n) .f32 :=
  shapeCast (G3 n) (subf (shapeCast (G2 1 n) old hn.castIn : FVec F (G2 1 n) .f32)
    (shapeCast (G2 1 n) (multiReduction .add [0] ⟨1, ![n]⟩ dz 0x00000000#32 hn.red0 (.inl rfl) rfl) hn.castVec : FVec F (G2 1 n) .f32)) hn.castOut

/-- The rows of forget-gate gradients, the head's column added to. -/
def dfqTile (h : BitVec 32) {n : ℕ} (hn : Good n) (dz : FVec F (G2 128 n) .f32) (old : Vec F S128x128 .f32) : FVec F S128x128 .f32 :=
  addf (shapeCast S128x128 old shapeCasts_S128x128_S128x128 : FVec F S128x128 .f32)
    (select (cmpi .eq (iota .tc S128x128 32 [1] iota_S128x128_d1_w32) (broadcast S128x128 h))
      (broadcastTo S128x128 (shapeCast S128x1
        (shapeCast S128x1 (multiReduction .add [1] S128 dz 0x00000000#32 hn.red1 (.inl rfl) rfl) shapeCasts_S128_S128x1 : FVec F S128x1 .f32)
        shapeCasts_S128x1_S128x1 : FVec F S128x1 .f32) broadcasts_S128x1_S128x128)
      (broadcast S128x128 (Scalar.ofBits .f32 0x00000000#32)))

/-! ## The body's pieces -/

/-- What a run of the body is given: the head's number, the six inputs' staging buffers with their contents, and the
    two scratch buffers that hold the keys and values rounded. -/
structure Ins (F : FTy → Type) [FloatOps F] where
  h : BitVec 32
  arg1 : Memref sig .tc .vmem S2048x128 .f32
  harg1 : arg1.IsWhole
  arg2 : Memref sig .tc .vmem S2048x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S1x1x2048 .f32
  harg5 : arg5.IsWhole
  arg6 : Memref sig .tc .vmem S2048x128 .f32
  harg6 : arg6.IsWhole
  arg12 : Memref sig .tc .vmem S2048x128 .bf16
  arg13 : Memref sig .tc .vmem S2048x128 .bf16
  x0 : Vec F S2048x128 .f32
  x1 : Vec F S2048x128 .f32
  x2 : Vec F S2048x128 .f32
  x3 : Vec F S2048x128 .f32
  x4 : Vec F S1x1x2048 .f32
  x5 : Vec F S2048x128 .f32

/-- The 128 rows of block `g` of an input held whole. -/
def rows (arg : Memref sig .tc .vmem S2048x128 .f32) (harg : arg.IsWhole) (x : Vec F S2048x128 .f32) (g : ℕ) (hg : g < 16) :
    Vec F S128x128 .f32 :=
  View.readAt (Elt F) arg.view (Rect.unit (s := S2048x128) ![g * 128, 0] S128x128.size (rowInb hg)).toLoadRect (harg.unread x)

/-- An input rounded, as the one piece a scratch buffer is left with. -/
def stash (arg : Memref sig .tc .vmem S2048x128 .f32) (harg : arg.IsWhole) (x : Vec F S2048x128 .f32) :
    List (View.Piece (Elt F) S2048x128 .bf16) :=
  [⟨Rect.unit (s := S2048x128) ![0, 0] S2048x128.size inb_S2048x128_S2048x128_0_0,
    k0_pay4 (View.readAt (Elt F) arg.view (Rect.unit (s := S2048x128) ![0, 0] S2048x128.size inb_S2048x128_S2048x128_0_0).toLoadRect
      (harg.unread x))⟩]

/-- The first `n` rows of a scratch buffer holding an input rounded. -/
def keys (arg' : Memref sig .tc .vmem S2048x128 .bf16) (arg : Memref sig .tc .vmem S2048x128 .f32) (harg : arg.IsWhole)
    (x : Vec F S2048x128 .f32) {n : ℕ} (hn : Good n) : Vec F (G2 n 128) .bf16 :=
  arg'.view.readCov (stash arg harg x) (Rect.unit (s := S2048x128) ![0, 0] (G2 n 128).size (keyInb hn.le)).toLoadRect

namespace Ins
variable (I : Ins F)

def q (g : ℕ) (hg : g < 16) : FVec F S128x128 .bf16 := truncf .bf16 (rows I.arg1 I.harg1 I.x0 g hg) bitsLt_bf16_f32
def dO (g : ℕ) (hg : g < 16) : FVec F S128x128 .bf16 := truncf .bf16 (rows I.arg6 I.harg6 I.x5 g hg) bitsLt_bf16_f32
def fq (g : ℕ) (hg : g < 16) : Vec F S128x128 .f32 := rows I.arg4 I.harg4 I.x3 g hg
def k {n : ℕ} (hn : Good n) : Vec F (G2 n 128) .bf16 := keys I.arg12 I.arg2 I.harg2 I.x1 hn
def v {n : ℕ} (hn : Good n) : Vec F (G2 n 128) .bf16 := keys I.arg13 I.arg3 I.harg3 I.x2 hn
def fk {n : ℕ} (hn : Good n) : Vec F (G3 n) .f32 :=
  View.readAt (Elt F) I.arg5.view (Rect.unit (s := S1x1x2048) ![0, 0, 0] (G3 n).size (laneInb hn.le)).toLoadRect (I.harg5.unread I.x4)

/-- Block `g`'s weights. -/
def p (g : ℕ) (hg : g < 16) : FVec F (G2 128 ((g + 1) * 128)) .f32 :=
  probs I.h (BitVec.ofNat 32 (g * 128)) (good g hg) (I.q g hg) (I.k (good g hg)) (I.fq g hg) (I.fk (good g hg))

/-- Block `g`'s gradient of the scores. -/
def dz (g : ℕ) (hg : g < 16) : FVec F (G2 128 ((g + 1) * 128)) .f32 :=
  gradScores (good g hg) (I.p g hg) (I.dO g hg) (I.v (good g hg))

/-- The queries' gradient: a piece per block. -/
def dqL : (g : ℕ) → g ≤ 16 → List (View.Piece (Elt F) S2048x128 .f32)
  | 0, _ => []
  | g + 1, hg => ⟨Rect.unit (s := S2048x128) ![g * 128, 0] S128x128.size (rowInb hg), dqTile (I.k (good g hg)) (I.dz g hg)⟩ ::
      dqL g (Nat.le_of_succ_le hg)

/-- The keys' gradient: zeros, then the first rows added to by each block. -/
def dkL (arg8 : Memref sig .tc .vmem S2048x128 .f32) : (g : ℕ) → g ≤ 16 → List (View.Piece (Elt F) S2048x128 .f32)
  | 0, _ => [⟨Rect.unit (s := S2048x128) ![0, 0] S2048x128.size inb_S2048x128_S2048x128_0_0, k0_pay6⟩]
  | g + 1, hg => ⟨Rect.unit (s := S2048x128) ![0, 0] (G2 ((g + 1) * 128) 128).size (keyInb (good g hg).le),
      dkTile (good g hg) (I.q g hg) (I.dz g hg) (arg8.view.readCov (dkL arg8 g (Nat.le_of_succ_le hg))
        (Rect.unit (s := S2048x128) ![0, 0] (G2 ((g + 1) * 128) 128).size (keyInb (good g hg).le)).toLoadRect)⟩ ::
      dkL arg8 g (Nat.le_of_succ_le hg)

/-- The values' gradient, in its scratch buffer: zeros, then the first rows added to by each block. -/
def dvL (arg14 : Memref sig .tc .vmem S2048x128 .f32) : (g : ℕ) → g ≤ 16 → List (View.Piece (Elt F) S2048x128 .f32)
  | 0, _ => [⟨Rect.unit (s := S2048x128) ![0, 0] S2048x128.size inb_S2048x128_S2048x128_0_0, k0_pay7⟩]
  | g + 1, hg => ⟨Rect.unit (s := S2048x128) ![0, 0] (G2 ((g + 1) * 128) 128).size (keyInb (good g hg).le),
      dvTile (good g hg) (I.dO g hg) (I.p g hg) (arg14.view.readCov (dvL arg14 g (Nat.le_of_succ_le hg))
        (Rect.unit (s := S2048x128) ![0, 0] (G2 ((g + 1) * 128) 128).size (keyInb (good g hg).le)).toLoadRect)⟩ ::
      dvL arg14 g (Nat.le_of_succ_le hg)

/-- The keys' forget-gate gradients: zeros, then the first lanes taken from by each block. -/
def dfkL (arg11 : Memref sig .tc .vmem S1x1x2048 .f32) : (g : ℕ) → g ≤ 16 → List (View.Piece (Elt F) S1x1x2048 .f32)
  | 0, _ => [⟨Rect.unit (s := S1x1x2048) ![0, 0, 0] S1x1x2048.size inb_S1x1x2048_S1x1x2048_0_0_0, k0_pay8⟩]
  | g + 1, hg => ⟨Rect.unit (s := S1x1x2048) ![0, 0, 0] (G3 ((g + 1) * 128)).size (laneInb (good g hg).le),
      dfkTile (good g hg) (I.dz g hg) (arg11.view.readCov (dfkL arg11 g (Nat.le_of_succ_le hg))
        (Rect.unit (s := S1x1x2048) ![0, 0, 0] (G3 ((g + 1) * 128)).size (laneInb (good g hg).le)).toLoadRect)⟩ ::
      dfkL arg11 g (Nat.le_of_succ_le hg)

/-- The rows' forget-gate gradients at the first head: zeros, then each block's rows added to. -/
def dfqLA (arg10 : Memref sig .tc .vmem S2048x128 .f32) : (g : ℕ) → g ≤ 16 → List (View.Piece (Elt F) S2048x128 .f32)
  | 0, _ => [⟨Rect.unit (s := S2048x128) ![0, 0] S2048x128.size inb_S2048x128_S2048x128_0_0, k0_pay3⟩]
  | g + 1, hg => ⟨Rect.unit (s := S2048x128) ![g * 128, 0] S128x128.size (rowInb hg),
      dfqTile I.h (good g hg) (I.dz g hg) (arg10.view.readCov (dfqLA arg10 g (Nat.le_of_succ_le hg))
        (Rect.unit (s := S2048x128) ![g * 128, 0] S128x128.size (rowInb hg)).toLoadRect)⟩ ::
      dfqLA arg10 g (Nat.le_of_succ_le hg)

/-- The same at a later head, over what the head before left. -/
def dfqLB (arg10 : Memref sig .tc .vmem S2048x128 .f32) (harg10 : arg10.IsWhole) (xo : Vec F S2048x128 .f32) :
    (g : ℕ) → g ≤ 16 → List (View.Piece (Elt F) S2048x128 .f32)
  | 0, _ => []
  | g + 1, hg => ⟨Rect.unit (s := S2048x128) ![g * 128, 0] S128x128.size (rowInb hg),
      dfqTile I.h (good g hg) (I.dz g hg) (rows arg10 harg10 xo g hg)⟩ ::
      dfqLB arg10 harg10 xo g (Nat.le_of_succ_le hg)

end Ins

end Cert.KernelIdeal.Fox

end
-- ==== Proof.Spec.lean ====
/- The forgetting attention and its gradient at one head, over the real numbers, and the few facts on sums and maxima of
   extended reals that are real. -/
module

public import Idealize.ShloMosaic.PureOps.Ideal.Laws

@[expose] public section

noncomputable section

namespace Cert.Fox

open Idealize.ShloMosaic
open Finset
open scoped BigOperators

/-- One head: queries, keys, values, the gradient of the head's output, and the running sums of the forget gates' logs. -/
structure Head where
  Q : ℕ → ℕ → ℝ
  K : ℕ → ℕ → ℝ
  V : ℕ → ℕ → ℝ
  G : ℕ → ℕ → ℝ
  f : ℕ → ℝ

namespace Head
variable (H : Head)

/-- The score of row `r` on key `j`. -/
def sc (r j : ℕ) : ℝ := (∑ d ∈ range 128, H.Q r d * H.K j d) + (H.f r - H.f j)
/-- The largest score of a row, over the keys up to the row itself. -/
def mx (r : ℕ) : ℝ := (range (r + 1)).sup' ⟨0, by simp⟩ (H.sc r)
/-- The exponentials. -/
def ex (r j : ℕ) : ℝ := if j ≤ r then Real.exp (H.sc r j - H.mx r) else 0
/-- Their sum over a row. -/
def den (r : ℕ) : ℝ := ∑ j ∈ range 2048, H.ex r j
/-- The weights. -/
def pr (r j : ℕ) : ℝ := H.ex r j / H.den r
/-- The gradient of the weights. -/
def dp (r j : ℕ) : ℝ := ∑ d ∈ range 128, H.G r d * H.V j d
/-- The gradient of the scores. -/
def dz (r j : ℕ) : ℝ := H.pr r j * (H.dp r j - ∑ k ∈ range 2048, H.dp r k * H.pr r k)
/-- The gradients of the queries, keys, values, and of the sums of forget gates as a row and as a key. -/
def dq (r d : ℕ) : ℝ := ∑ j ∈ range 2048, H.dz r j * H.K j d
def dk (j d : ℕ) : ℝ := ∑ r ∈ range 2048, H.dz r j * H.Q r d
def dv (j d : ℕ) : ℝ := ∑ r ∈ range 2048, H.pr r j * H.G r d
def dfq (r : ℕ) : ℝ := ∑ j ∈ range 2048, H.dz r j
def dfk (j : ℕ) : ℝ := - ∑ r ∈ range 2048, H.dz r j

theorem ex_of_lt {r j : ℕ} (h : r < j) : H.ex r j = 0 := if_neg (by omega)
theorem pr_of_lt {r j : ℕ} (h : r < j) : H.pr r j = 0 := by rw [pr, H.ex_of_lt h, zero_div]
theorem dz_of_lt {r j : ℕ} (h : r < j) : H.dz r j = 0 := by rw [dz, H.pr_of_lt h, zero_mul]
theorem ex_nonneg (r j : ℕ) : 0 ≤ H.ex r j := by
  unfold ex; split
  · exact (Real.exp_pos _).le
  · exact le_refl 0
theorem den_pos {r : ℕ} (h : r < 2048) : 0 < H.den r :=
  Finset.sum_pos' (fun j _ => H.ex_nonneg r j) ⟨r, mem_range.2 h, by rw [ex, if_pos (le_refl r)]; exact Real.exp_pos _⟩
end Head

/-! ## Sums and maxima -/

theorem coe_sum {ι : Type*} (s : Finset ι) (a : ι → ℝ) : ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

theorem sum_fin {n : ℕ} (z : Fin n → EReal) (a : ℕ → ℝ) (h : ∀ j : Fin n, z j = ((a j : ℝ) : EReal)) :
    ∑ j, z j = ((∑ j ∈ range n, a j : ℝ) : EReal) := by
  rw [Finset.sum_congr rfl (fun j _ => h j), coe_sum, Fin.sum_univ_eq_sum_range]

/-- A sum over the first `n` positions, where the terms past them are zero. -/
theorem sum_fin_le {n N : ℕ} (hn : n ≤ N) (z : Fin n → EReal) (a : ℕ → ℝ) (h : ∀ j : Fin n, z j = ((a j : ℝ) : EReal))
    (h0 : ∀ j, n ≤ j → a j = 0) : ∑ j, z j = ((∑ j ∈ range N, a j : ℝ) : EReal) := by
  rw [sum_fin z a h]
  congr 1
  refine Finset.sum_subset (fun j hj => mem_range.2 (lt_of_lt_of_le (mem_range.1 hj) hn)) fun j _ hj => h0 j ?_
  exact not_lt.1 fun hlt => hj (mem_range.2 hlt)

/-- The maximum of masked real scores is the maximum of the scores not masked. -/
theorem fold_max_eq {n : ℕ} (z : Fin n → EReal) (s : ℕ → ℝ) (r : ℕ) (hr : r < n)
    (h : ∀ j : Fin n, z j = if (j : ℕ) ≤ r then ((s j : ℝ) : EReal) else ⊥) :
    (Finset.univ : Finset (Fin n)).fold max ⊥ z = (((range (r + 1)).sup' ⟨0, by simp⟩ s : ℝ) : EReal) := by
  apply le_antisymm
  · rw [Finset.fold_max_le]
    refine ⟨bot_le, fun j _ => ?_⟩
    rw [h j]
    split
    · next hj => exact EReal.coe_le_coe_iff.2 (Finset.le_sup' s (mem_range.2 (by omega)))
    · exact bot_le
  · obtain ⟨j, hj, e⟩ := Finset.exists_mem_eq_sup' (⟨0, by simp⟩ : (range (r + 1)).Nonempty) s
    have hj' := mem_range.1 hj
    rw [e, Finset.le_fold_max]
    refine Or.inr ⟨⟨j, by omega⟩, Finset.mem_univ _, ?_⟩
    rw [h ⟨j, by omega⟩, if_pos (by show j ≤ r; omega)]

end Cert.Fox

end
-- ==== Proof.Values.lean ====
/- One block's vectors read at an index, over the exact numbers. -/
module

public import proofs.«01_k».proof.Proof.Tiles
public import proofs.«01_k».proof.Proof.Spec
public import Idealize.ShloMosaic.Lib.WordCmp
public import Idealize.ShloMosaic.Lib.Pointwise
public import Idealize.ShloMosaic.Lib.MatmulPlain

@[expose] public section

noncomputable section

namespace Cert.KernelIdeal.Fox

open Idealize.ShloMosaic Idealize.ShloMosaic.TcCoe
open Cert.KernelIdeal Cert.KernelIdeal.Gen
open scoped BigOperators

/-! ## Readings at an index -/

theorem bcRow_apply {n : ℕ} (v : FVec Ideal (G2 1 n) .f32) (h : (G2 1 n).Broadcasts (G2 128 n)) (r : Fin 128) (j : Fin n) :
    broadcastTo (G2 128 n) v h (ix2 r j) = v (ix2 0 j) := by
  refine broadcastTo_apply v h (ix2 r j) (ix2 0 j) fun a => ?_
  match a with
  | ⟨0, _⟩ => rfl
  | ⟨1, _⟩ =>
    show j.val = if n = 1 then 0 else j.val
    split
    · have := j.isLt; omega
    · rfl

theorem castRow_apply {n : ℕ} (h : (G3 n).ShapeCasts (G2 1 n)) (a : Fin 1) (j : Fin n) :
    (Shape.reshapeEquiv h) (ix2 a j) = ix3 0 0 j := by
  refine Shape.reshapeEquiv_eq_of_rowMajor h ?_
  rw [rowMajor_val2 _ n rfl, rowMajor_val3 _ (1 * n) n rfl rfl]
  simp

theorem castLanes_apply {n : ℕ} (h : (G2 1 n).ShapeCasts (G3 n)) (a b : Fin 1) (j : Fin n) :
    (Shape.reshapeEquiv h) (ix3 a b j) = ix2 0 j := by
  refine Shape.reshapeEquiv_eq_of_rowMajor h ?_
  rw [rowMajor_val2 _ n rfl, rowMajor_val3 _ (1 * n) n rfl rfl]
  simp

theorem castVec_apply {n : ℕ} (h : (⟨1, ![n]⟩ : Shape).ShapeCasts (G2 1 n)) (a : Fin 1) (j : Fin n) :
    (Shape.reshapeEquiv h) (ix2 a j) = ix1 j := by
  refine Shape.reshapeEquiv_eq_of_rowMajor h ?_
  rw [rowMajor_val2 _ n rfl, rowMajor_val1]
  simp

theorem tr_idx {M K N : ℕ} (hc hK) (r : Fin M) (j : Fin N) (x : Fin K) :
    Shape.Idx.norm ((DotDims.transposedRhs M K N).rhsIdx (ix2 r j) ((DotDims.transposedRhs M K N).contrIdx₁ (a := 1) hc hK x)) = ix2 j x := by
  funext a; apply Fin.ext
  match a with
  | ⟨0, _⟩ => rfl
  | ⟨1, _⟩ => rfl

theorem tl_idx {M K N : ℕ} (hc hK) (r : Fin M) (c : Fin N) (x : Fin K) :
    Shape.Idx.norm ((tlDims K M N).lhsIdx (ix2 r c) ((tlDims K M N).contrIdx₁ (a := 0) hc hK x)) = ix2 x r := by
  funext a; apply Fin.ext
  match a with
  | ⟨0, _⟩ => rfl
  | ⟨1, _⟩ => rfl

theorem tl_apply {K M N : ℕ} {φ₁ φ₂ : FTy} (prec : Option ContractPrecision)
    (lhs : FVec Ideal (G2 K M) φ₁) (rhs : FVec Ideal (G2 K N) φ₂) (acc : FVec Ideal (G2 M N) .f32) (r : Fin M) (c : Fin N) :
    FloatOps.matmul (tlDims K M N) prec lhs rhs acc (ix2 r c) = acc (ix2 r c) + ∑ k : Fin K, lhs (ix2 k r) * rhs (ix2 k c) := by
  have hr : (tlDims K M N).contr.rank = 1 := rfl
  have hs : (tlDims K M N).contr.size ⟨0, by rw [hr]; exact Nat.one_pos⟩ = K := rfl
  rw [Ideal.matmul_apply, ← Equiv.sum_comp (ValueIdx.contrEquiv1 _ K hr hs).symm]
  refine congrArg (acc (ix2 r c) + ·) (Finset.sum_congr rfl fun k _ => ?_)
  have hk := ValueIdx.contrEquiv1_symm_val _ K hr hs k
  have el : (tlDims K M N).lhsIdx (ix2 r c) ((ValueIdx.contrEquiv1 _ K hr hs).symm k) = ix2 k r := by
    funext a; apply Fin.ext
    match a with
    | ⟨0, _⟩ => exact hk
    | ⟨1, _⟩ => rfl
  have er : (tlDims K M N).rhsIdx (ix2 r c) ((ValueIdx.contrEquiv1 _ K hr hs).symm k) = ix2 k c := by
    funext a; apply Fin.ext
    match a with
    | ⟨0, _⟩ => exact hk
    | ⟨1, _⟩ => rfl
  rw [el, er]

theorem plain_apply {K M N : ℕ} {φ₁ φ₂ : FTy} (prec : Option ContractPrecision)
    (lhs : FVec Ideal (G2 M K) φ₁) (rhs : FVec Ideal (G2 K N) φ₂) (acc : FVec Ideal (G2 M N) .f32) (r : Fin M) (c : Fin N) :
    FloatOps.matmul (DotDims.plain M K N) prec lhs rhs acc (ix2 r c) = acc (ix2 r c) + ∑ k : Fin K, lhs (ix2 r k) * rhs (ix2 k c) :=
  Ideal.matmul_plain_apply prec lhs rhs acc r c

theorem tr_apply {K M N : ℕ} {φ₁ φ₂ : FTy} (prec : Option ContractPrecision)
    (lhs : FVec Ideal (G2 M K) φ₁) (rhs : FVec Ideal (G2 N K) φ₂) (acc : FVec Ideal (G2 M N) .f32) (r : Fin M) (c : Fin N) :
    FloatOps.matmul (DotDims.transposedRhs M K N) prec lhs rhs acc (ix2 r c) = acc (ix2 r c) + ∑ k : Fin K, lhs (ix2 r k) * rhs (ix2 c k) :=
  Ideal.matmul_transposedRhs_apply prec lhs rhs acc r c

theorem ofBits_ninf : Ideal.ofBits FTy.f32 4286578688#32 = ⊥ := by
  simp [Ideal.ofBits, Ideal.ieee]

/-- A lane is the head's when it has its number. -/
theorem select_eq {α : Type} (a b : ℕ) (ha : a < 128) (hb : b < 128) (x y : α) :
    Scalar.select (IntOp.cmpi .eq (BitVec.ofNat 32 a) (BitVec.ofNat 32 b)) x y = if a = b then x else y := by
  rw [WordCmp.cmpi_eq_ofNat (by omega) (by omega)]
  by_cases h : a = b
  · simp [h, Scalar.select]
  · simp [h, Scalar.select]

/-- A key is seen by the rows from its own on. -/
theorem select_sle {α : Type} (j r o : ℕ) (hj : j < 2048) (hr : r < 128) (ho : o < 2048) (x y : α) :
    Scalar.select (IntOp.cmpi .sle (BitVec.ofNat 32 j) (IntOp.addi (BitVec.ofNat 32 r) (BitVec.ofNat 32 o))) x y
      = if j ≤ o + r then x else y := by
  have e : IntOp.addi (BitVec.ofNat 32 r) (BitVec.ofNat 32 o) = BitVec.ofNat 32 (o + r) := by
    show BitVec.ofNat 32 r + BitVec.ofNat 32 o = _
    rw [← BitVec.ofNat_add, Nat.add_comm]
  rw [e, WordCmp.cmpi_sle_ofNat (by omega) (by omega)]
  by_cases h : j ≤ o + r
  · simp [h, Scalar.select]
  · simp [h, Scalar.select]

/-! ## One block's vectors -/

theorem headCol_apply (h : ℕ) (hh : h < 128) (f : Vec Ideal S128x128 .f32) (r : Fin 128) (c : Fin 1) :
    headCol (BitVec.ofNat 32 h) f (ix2 r c) = f (ix2 r ⟨h, hh⟩) := by
  unfold headCol
  pointwise
  simp only [select_eq _ h (Fin.isLt _) hh]
  rw [Finset.sum_eq_single (⟨h, hh⟩ : Fin 128)]
  · simp
  · intro b _ hb
    exact if_neg fun e => hb (Fin.ext e)
  · intro hb; exact absurd (Finset.mem_univ _) hb

/-- What a block is given: the head's rows and keys, real. -/
structure Reads (H : Cert.Fox.Head) (g h : ℕ) (hh : h < 128) {n : ℕ} (q dO : FVec Ideal S128x128 .bf16) (k v : FVec Ideal (G2 n 128) .bf16)
    (fq : Vec Ideal S128x128 .f32) (fk : Vec Ideal (G3 n) .f32) : Prop where
  q : ∀ r d : Fin 128, q (ix2 r d) = ((H.Q (g * 128 + r) d : ℝ) : EReal)
  dO : ∀ r d : Fin 128, dO (ix2 r d) = ((H.G (g * 128 + r) d : ℝ) : EReal)
  k : ∀ (j : Fin n) (d : Fin 128), k (ix2 j d) = ((H.K j d : ℝ) : EReal)
  v : ∀ (j : Fin n) (d : Fin 128), v (ix2 j d) = ((H.V j d : ℝ) : EReal)
  fq : ∀ r : Fin 128, fq (ix2 r ⟨h, hh⟩) = ((H.f (g * 128 + r) : ℝ) : EReal)
  fk : ∀ j : Fin n, fk (ix3 0 0 j) = ((H.f j : ℝ) : EReal)

section
variable {H : Cert.Fox.Head} {g h : ℕ} {hh : h < 128} {n : ℕ} {q dO : FVec Ideal S128x128 .bf16} {k v : FVec Ideal (G2 n 128) .bf16}
  {fq : Vec Ideal S128x128 .f32} {fk : Vec Ideal (G3 n) .f32}

theorem scores_apply (R : Reads H g h hh q dO k v fq fk) (hn : Good n) (hg : g < 16) (r : Fin 128) (j : Fin n) :
    scores (BitVec.ofNat 32 h) (BitVec.ofNat 32 (g * 128)) hn q k fq fk (ix2 r j)
      = if (j : ℕ) ≤ g * 128 + r then ((H.sc (g * 128 + r) j : ℝ) : EReal) else ⊥ := by
  unfold scores
  pointwise [tr_idx, bcRow_apply, castRow_apply]
  rw [select_sle _ _ _ (lt_of_lt_of_le j.isLt hn.le) r.isLt (by omega), headCol_apply h hh, R.fq, R.fk, ofBits_ninf]
  simp only [R.q, R.k, ← EReal.coe_mul]
  rw [Cert.Fox.sum_fin _ (fun d => H.Q (g * 128 + r) d * H.K j d) (fun d => rfl), ← EReal.coe_sub, ← EReal.coe_add]
  rfl

theorem expo_apply {z : FVec Ideal (G2 128 n) .f32} (hn : Good n) (hgn : (g + 1) * 128 ≤ n)
    (hz : ∀ (r : Fin 128) (j : Fin n), z (ix2 r j) = if (j : ℕ) ≤ g * 128 + r then ((H.sc (g * 128 + r) j : ℝ) : EReal) else ⊥)
    (r : Fin 128) (j : Fin n) : expo hn z (ix2 r j) = ((H.ex (g * 128 + r) j : ℝ) : EReal) := by
  unfold expo overKeys
  pointwise
  rw [ofBits_ninf, Cert.Fox.fold_max_eq _ (H.sc (g * 128 + r)) (g * 128 + r) (by have := r.isLt; omega) (fun j => hz r j), hz r j]
  unfold Cert.Fox.Head.ex
  split
  · rw [← EReal.coe_sub]; rfl
  · rfl

theorem normalize_apply {e : FVec Ideal (G2 128 n) .f32} (hn : Good n) (hg : g < 16) (hgn : (g + 1) * 128 = n)
    (he : ∀ (r : Fin 128) (j : Fin n), e (ix2 r j) = ((H.ex (g * 128 + r) j : ℝ) : EReal))
    (r : Fin 128) (j : Fin n) : normalize hn e (ix2 r j) = ((H.pr (g * 128 + r) j : ℝ) : EReal) := by
  have hr := r.isLt
  unfold normalize
  pointwise
  rw [Cert.Fox.sum_fin_le hn.le _ (H.ex (g * 128 + r)) (fun j => he r j) (fun j hj => H.ex_of_lt (by omega)), he r j]
  change _ * Ideal.div 1 ((H.den (g * 128 + r) : ℝ) : EReal) = _
  rw [Ideal.div_coe (H.den_pos (by omega)).ne', one_mul, ← EReal.coe_mul, Cert.Fox.Head.pr, mul_one_div]

theorem probs_apply (R : Reads H g h hh q dO k v fq fk) (hn : Good n) (hg : g < 16) (hgn : (g + 1) * 128 = n) (r : Fin 128) (j : Fin n) :
    probs (BitVec.ofNat 32 h) (BitVec.ofNat 32 (g * 128)) hn q k fq fk (ix2 r j) = ((H.pr (g * 128 + r) j : ℝ) : EReal) :=
  normalize_apply hn hg hgn (expo_apply hn hgn.le (scores_apply R hn hg)) r j

theorem gradScores_apply {p : FVec Ideal (G2 128 n) .f32} (R : Reads H g h hh q dO k v fq fk) (hn : Good n) (hg : g < 16)
    (hgn : (g + 1) * 128 = n) (hp : ∀ (r : Fin 128) (j : Fin n), p (ix2 r j) = ((H.pr (g * 128 + r) j : ℝ) : EReal))
    (r : Fin 128) (j : Fin n) : gradScores hn p dO v (ix2 r j) = ((H.dz (g * 128 + r) j : ℝ) : EReal) := by
  have hr := r.isLt
  have hdp : ∀ j : Fin n, ∑ x, dO (ix2 r x) * v (ix2 j x) = ((H.dp (g * 128 + r) j : ℝ) : EReal) := fun j =>
    Cert.Fox.sum_fin _ (fun d => H.G (g * 128 + r) d * H.V j d) (fun d => by rw [R.dO, R.v, ← EReal.coe_mul])
  unfold gradScores overKeys
  pointwise [tr_idx]
  simp only [hdp, hp, ← EReal.coe_mul]
  rw [Cert.Fox.sum_fin_le hn.le _ (fun j => H.dp (g * 128 + r) j * H.pr (g * 128 + r) j) (fun j => rfl)
    (fun j hj => by rw [H.pr_of_lt (by omega), mul_zero]), ← EReal.coe_sub, ← EReal.coe_mul]
  rfl

variable {p dz : FVec Ideal (G2 128 n) .f32}

theorem dqTile_apply (R : Reads H g h hh q dO k v fq fk) (hn : Good n) (hgn : (g + 1) * 128 = n)
    (hz : ∀ (r : Fin 128) (j : Fin n), dz (ix2 r j) = ((H.dz (g * 128 + r) j : ℝ) : EReal)) (r d : Fin 128) :
    dqTile k dz (ix2 r d) = ((H.dq (g * 128 + r) d : ℝ) : EReal) := by
  have hr := r.isLt
  unfold dqTile
  pointwise [plain_apply]
  exact Cert.Fox.sum_fin_le hn.le _ (fun j => H.dz (g * 128 + r) j * H.K j d) (fun j => by rw [hz, R.k, ← EReal.coe_mul])
    (fun j hj => by rw [H.dz_of_lt (by omega), zero_mul])

theorem dkTile_apply (R : Reads H g h hh q dO k v fq fk) (hn : Good n)
    (hz : ∀ (r : Fin 128) (j : Fin n), dz (ix2 r j) = ((H.dz (g * 128 + r) j : ℝ) : EReal)) (old : Vec Ideal (G2 n 128) .f32)
    (j : Fin n) (d : Fin 128) :
    dkTile hn q dz old (ix2 j d) = old (ix2 j d) + ((∑ r ∈ Finset.range 128, H.dz (g * 128 + r) j * H.Q (g * 128 + r) d : ℝ) : EReal) := by
  unfold dkTile
  pointwise [tl_idx]
  rw [Cert.Fox.sum_fin _ (fun r => H.dz (g * 128 + r) j * H.Q (g * 128 + r) d) (fun r => by rw [hz, R.q, ← EReal.coe_mul])]

theorem dvTile_apply (R : Reads H g h hh q dO k v fq fk) (hn : Good n)
    (hp : ∀ (r : Fin 128) (j : Fin n), p (ix2 r j) = ((H.pr (g * 128 + r) j : ℝ) : EReal)) (old : Vec Ideal (G2 n 128) .f32)
    (j : Fin n) (d : Fin 128) :
    dvTile hn dO p old (ix2 j d) = old (ix2 j d) + ((∑ r ∈ Finset.range 128, H.pr (g * 128 + r) j * H.G (g * 128 + r) d : ℝ) : EReal) := by
  unfold dvTile
  pointwise [tl_idx]
  rw [Cert.Fox.sum_fin _ (fun r => H.pr (g * 128 + r) j * H.G (g * 128 + r) d) (fun r => by rw [hp, R.dO, ← EReal.coe_mul])]

theorem dfkTile_apply (hn : Good n)
    (hz : ∀ (r : Fin 128) (j : Fin n), dz (ix2 r j) = ((H.dz (g * 128 + r) j : ℝ) : EReal)) (old : Vec Ideal (G3 n) .f32)
    (a b : Fin 1) (j : Fin n) :
    dfkTile hn dz old (ix3 a b j) = old (ix3 0 0 j) - ((∑ r ∈ Finset.range 128, H.dz (g * 128 + r) j : ℝ) : EReal) := by
  unfold dfkTile
  pointwise [castVec_apply, castRow_apply, castLanes_apply]
  rw [Cert.Fox.sum_fin _ (fun r => H.dz (g * 128 + r) j) (fun r => hz r j)]

theorem dfqTile_apply (hn : Good n) (hh : h < 128) (hgn : (g + 1) * 128 = n)
    (hz : ∀ (r : Fin 128) (j : Fin n), dz (ix2 r j) = ((H.dz (g * 128 + r) j : ℝ) : EReal)) (old : Vec Ideal S128x128 .f32)
    (r c : Fin 128) :
    dfqTile (BitVec.ofNat 32 h) hn dz old (ix2 r c)
      = old (ix2 r c) + ((if (c : ℕ) = h then H.dfq (g * 128 + r) else 0 : ℝ) : EReal) := by
  have hr := r.isLt
  unfold dfqTile
  pointwise
  rw [select_eq _ _ c.isLt hh, Cert.Fox.sum_fin_le hn.le _ (fun j => H.dz (g * 128 + r) j) (fun j => hz r j)
    (fun j hj => H.dz_of_lt (by omega))]
  split <;> rfl

end

end Cert.KernelIdeal.Fox

end
-- ==== Proof.Body.lean ====
/- What the body leaves in each output at one head, over the exact numbers: the pieces of Tiles.lean, read. -/
module

public import proofs.«01_k».proof.Proof.Values

@[expose] public section

noncomputable section

namespace Cert.KernelIdeal.Fox

open Idealize.ShloMosaic Idealize.ShloMosaic.TcCoe
open Cert.KernelIdeal Cert.KernelIdeal.Gen
open scoped BigOperators

/-! ## Bands of rows -/

section
variable {Val : EltTy → Type} [∀ e, Nonempty (Val e)] {e : EltTy}

/-- A band of `a` rows from row `o` on, at row `r`. -/
theorem band_idx {o a : ℕ} (inb) (r : Fin a) (d : Fin 128) (h : o + r < 2048) :
    (Rect.unit (s := S2048x128) ![o, 0] (G2 a 128).size inb).toLoadRect.idx (ix2 r d) = ix2 ⟨o + r, h⟩ d := by
  funext i; apply Fin.ext
  match i with
  | ⟨0, _⟩ => show o + 1 * r.val = o + r.val; omega
  | ⟨1, _⟩ => show 0 + 1 * d.val = d.val; omega

theorem band_in {o a : ℕ} (inb) (w : (G2 a 128).Idx → Val e) (L : List (View.Piece Val S2048x128 e)) (r : Fin 2048) (d : Fin 128)
    (h1 : o ≤ r) (h2 : (r : ℕ) < o + a) :
    View.canon (⟨Rect.unit (s := S2048x128) ![o, 0] (G2 a 128).size inb, w⟩ :: L) (ix2 r d) = w (ix2 ⟨r - o, by omega⟩ d) := by
  have e := View.canon_cons_emb (Rect.unit (s := S2048x128) ![o, 0] (G2 a 128).size inb) w L (ix2 ⟨r - o, by omega⟩ d)
  rw [← e]
  congr 1
  symm
  refine (band_idx inb ⟨r - o, by omega⟩ d (by show o + (r - o) < 2048; omega)).trans ?_
  congr 1
  apply Fin.ext; show o + (r.val - o) = r.val; omega

theorem band_out {o a : ℕ} (inb) (w : (G2 a 128).Idx → Val e) (L : List (View.Piece Val S2048x128 e)) (r : Fin 2048) (d : Fin 128)
    (h : (r : ℕ) < o ∨ o + a ≤ r) :
    View.canon (⟨Rect.unit (s := S2048x128) ![o, 0] (G2 a 128).size inb, w⟩ :: L) (ix2 r d) = View.canon L (ix2 r d) := by
  refine View.canon_cons_of_not_mem _ L fun hm => ?_
  obtain ⟨j, hj, e⟩ := (LoadRect.mem_set _).mp hm 0
  have hj' : j < a := hj
  have e' : o + 1 * j = r.val := e.symm
  omega

theorem readCov_band {sig : RefSig} {κ : Kind} {sp : Space} (v : View sig κ sp S2048x128 e) (L : List (View.Piece Val S2048x128 e))
    {o a : ℕ} (inb) (r : Fin a) (d : Fin 128) (h : o + r < 2048) :
    v.readCov L (Rect.unit (s := S2048x128) ![o, 0] (G2 a 128).size inb).toLoadRect (ix2 r d) = View.canon L (ix2 ⟨o + r, h⟩ d) := by
  rw [View.readCov_eq_canon']
  exact congrArg (View.canon L) (band_idx inb r d h)

/-- The first `n` lanes. -/
theorem lane_idx {n : ℕ} (inb) (j : Fin n) (a b : Fin 1) (h : (j : ℕ) < 2048) :
    (Rect.unit (s := S1x1x2048) ![0, 0, 0] (G3 n).size inb).toLoadRect.idx (ix3 a b j) = ix3 0 0 ⟨j, h⟩ := by
  funext i; apply Fin.ext
  match i with
  | ⟨0, _⟩ => show 0 + 1 * a.val = 0; omega
  | ⟨1, _⟩ => show 0 + 1 * b.val = 0; omega
  | ⟨2, _⟩ => show 0 + 1 * j.val = j.val; omega

theorem lane_in {n : ℕ} (inb) (w : (G3 n).Idx → Val e) (L : List (View.Piece Val S1x1x2048 e)) (j : Fin 2048) (h : (j : ℕ) < n) :
    View.canon (⟨Rect.unit (s := S1x1x2048) ![0, 0, 0] (G3 n).size inb, w⟩ :: L) (ix3 0 0 j) = w (ix3 0 0 ⟨j, h⟩) := by
  have e := View.canon_cons_emb (Rect.unit (s := S1x1x2048) ![0, 0, 0] (G3 n).size inb) w L (ix3 0 0 ⟨j, h⟩)
  rw [← e]
  congr 1
  exact (lane_idx inb ⟨j, h⟩ 0 0 j.isLt).symm

theorem lane_out {n : ℕ} (inb) (w : (G3 n).Idx → Val e) (L : List (View.Piece Val S1x1x2048 e)) (j : Fin 2048) (h : n ≤ j) :
    View.canon (⟨Rect.unit (s := S1x1x2048) ![0, 0, 0] (G3 n).size inb, w⟩ :: L) (ix3 0 0 j) = View.canon L (ix3 0 0 j) := by
  refine View.canon_cons_of_not_mem _ L fun hm => ?_
  obtain ⟨i, hi, e⟩ := (LoadRect.mem_set _).mp hm 2
  have hi' : i < n := hi
  have e' : 0 + 1 * i = j.val := e.symm
  omega

theorem readCov_lane {sig : RefSig} {κ : Kind} {sp : Space} (v : View sig κ sp S1x1x2048 e) (L : List (View.Piece Val S1x1x2048 e))
    {n : ℕ} (inb) (j : Fin n) (a b : Fin 1) (h : (j : ℕ) < 2048) :
    v.readCov L (Rect.unit (s := S1x1x2048) ![0, 0, 0] (G3 n).size inb).toLoadRect (ix3 a b j) = View.canon L (ix3 0 0 ⟨j, h⟩) := by
  rw [View.readCov_eq_canon']
  exact congrArg (View.canon L) (lane_idx inb j a b h)

end

/-! ## The inputs -/

theorem rows_apply (arg : Memref sig .tc .vmem S2048x128 .f32) (harg : arg.IsWhole) (x : Vec Ideal S2048x128 .f32) (g : ℕ) (hg : g < 16)
    (r d : Fin 128) : rows arg harg x g hg (ix2 r d) = x (ix2 ⟨g * 128 + r, by omega⟩ d) := by
  unfold rows View.readAt
  rw [harg.read_unread]
  exact congrArg x (band_idx _ r d _)

theorem pay4_apply (x : Vec Ideal S2048x128 .f32) (j : Fin 2048) (d : Fin 128) : k0_pay4 x (ix2 j d) = x (ix2 j d) := by
  unfold k0_pay4
  pointwise

theorem canon_stash (arg : Memref sig .tc .vmem S2048x128 .f32) (harg : arg.IsWhole) (x : Vec Ideal S2048x128 .f32) :
    View.canon (stash arg harg x) = k0_pay4 x := by
  unfold stash
  rw [View.canon_unit_zero (by funext a; fin_cases a <;> rfl), View.readAt_eq_ld, harg.read_unread,
    View.ld_unit_zero (by funext a; fin_cases a <;> rfl)]

theorem keys_apply (arg' : Memref sig .tc .vmem S2048x128 .bf16) (arg : Memref sig .tc .vmem S2048x128 .f32) (harg : arg.IsWhole)
    (x : Vec Ideal S2048x128 .f32) {n : ℕ} (hn : Good n) (j : Fin n) (d : Fin 128) :
    keys arg' arg harg x hn (ix2 j d) = x (ix2 ⟨j, lt_of_lt_of_le j.isLt hn.le⟩ d) := by
  have hj := lt_of_lt_of_le j.isLt hn.le
  unfold keys
  rw [readCov_band _ _ _ j d (by omega), canon_stash, pay4_apply]
  congr 2
  apply Fin.ext; show 0 + j.val = j.val; omega

namespace Ins
variable (I : Ins Ideal) (H : Cert.Fox.Head)

/-- The head's number and its real data. -/
structure Holds (I : Ins Ideal) (H : Cert.Fox.Head) (h : ℕ) : Prop where
  lt : h < 128
  word : I.h = BitVec.ofNat 32 h
  q : ∀ (r : Fin 2048) (d : Fin 128), I.x0 (ix2 r d) = ((H.Q r d : ℝ) : EReal)
  k : ∀ (r : Fin 2048) (d : Fin 128), I.x1 (ix2 r d) = ((H.K r d : ℝ) : EReal)
  v : ∀ (r : Fin 2048) (d : Fin 128), I.x2 (ix2 r d) = ((H.V r d : ℝ) : EReal)
  fq : ∀ r : Fin 2048, I.x3 (ix2 r ⟨h, lt⟩) = ((H.f r : ℝ) : EReal)
  fk : ∀ j : Fin 2048, I.x4 (ix3 0 0 j) = ((H.f j : ℝ) : EReal)
  dO : ∀ (r : Fin 2048) (d : Fin 128), I.x5 (ix2 r d) = ((H.G r d : ℝ) : EReal)

variable {I H} {h : ℕ}

theorem Holds.reads (X : Holds I H h) (g : ℕ) (hg : g < 16) :
    Reads H g h X.lt (I.q g hg) (I.dO g hg) (I.k (good g hg)) (I.v (good g hg)) (I.fq g hg) (I.fk (good g hg)) where
  q r d := by
    unfold Ins.q
    pointwise
    rw [rows_apply, X.q]
  dO r d := by
    unfold Ins.dO
    pointwise
    rw [rows_apply, X.dO]
  k j d := by unfold Ins.k; rw [keys_apply, X.k]
  v j d := by unfold Ins.v; rw [keys_apply, X.v]
  fq r := by unfold Ins.fq; rw [rows_apply, X.fq]
  fk j := by
    unfold Ins.fk View.readAt
    rw [I.harg5.read_unread]
    exact (congrArg I.x4 (lane_idx _ j 0 0 (lt_of_lt_of_le j.isLt (good g hg).le))).trans (X.fk _)

theorem Holds.p_apply (X : Holds I H h) (g : ℕ) (hg : g < 16) (r : Fin 128) (j : Fin ((g + 1) * 128)) :
    I.p g hg (ix2 r j) = ((H.pr (g * 128 + r) j : ℝ) : EReal) := by
  unfold Ins.p
  rw [X.word]
  exact probs_apply (X.reads g hg) (good g hg) hg rfl r j

theorem Holds.dz_apply (X : Holds I H h) (g : ℕ) (hg : g < 16) (r : Fin 128) (j : Fin ((g + 1) * 128)) :
    I.dz g hg (ix2 r j) = ((H.dz (g * 128 + r) j : ℝ) : EReal) :=
  gradScores_apply (X.reads g hg) (good g hg) hg rfl (X.p_apply g hg) r j

/-! ## The outputs, after the first `g` blocks -/

theorem Holds.dq (X : Holds I H h) (g : ℕ) (hg : g ≤ 16) (r : Fin 2048) (d : Fin 128) (hr : (r : ℕ) < g * 128) :
    View.canon (I.dqL g hg) (ix2 r d) = ((H.dq r d : ℝ) : EReal) := by
  induction g with
  | zero => omega
  | succ g ih =>
    have hg' : g < 16 := hg
    by_cases hr' : (r : ℕ) < g * 128
    · exact (band_out _ _ _ r d (Or.inl hr')).trans (ih (by omega) hr')
    · refine (band_in _ _ _ r d (by omega) (by omega)).trans ?_
      rw [dqTile_apply (X.reads g hg') (good g hg') rfl (X.dz_apply g hg')]
      congr 2
      show g * 128 + (r.val - g * 128) = r.val; omega

/-- A sum over the rows of the first `g` blocks, and the next block's. -/
theorem sum_block (a : ℕ → ℝ) (g : ℕ) :
    ∑ r ∈ Finset.range ((g + 1) * 128), a r = ∑ r ∈ Finset.range (g * 128), a r + ∑ r ∈ Finset.range 128, a (g * 128 + r) := by
  rw [Nat.succ_mul, Finset.sum_range_add]

theorem zero_block (a : ℕ → ℝ) (g j : ℕ) (hj : (g + 1) * 128 ≤ j) (h0 : ∀ r, r < j → a r = 0) :
    ∑ r ∈ Finset.range ((g + 1) * 128), a r = ∑ r ∈ Finset.range (g * 128), a r := by
  rw [Finset.sum_eq_zero (fun r hr => h0 r (by have := Finset.mem_range.1 hr; omega)),
    Finset.sum_eq_zero (fun r hr => h0 r (by have := Finset.mem_range.1 hr; omega))]

theorem Holds.dk (X : Holds I H h) (arg8 : Memref sig .tc .vmem S2048x128 .f32) (g : ℕ) (hg : g ≤ 16) (j : Fin 2048) (d : Fin 128) :
    View.canon (I.dkL arg8 g hg) (ix2 j d) = ((∑ r ∈ Finset.range (g * 128), H.dz r j * H.Q r d : ℝ) : EReal) := by
  induction g with
  | zero =>
    refine (band_in _ _ _ j d (Nat.zero_le _) (by show j.val < 0 + 2048; omega)).trans ?_
    unfold k0_pay6
    pointwise
    simp
  | succ g ih =>
    have hg' : g < 16 := hg
    by_cases hj : (j : ℕ) < (g + 1) * 128
    · refine (band_in _ _ _ j d (Nat.zero_le _) (by omega)).trans ?_
      rw [dkTile_apply (X.reads g hg') (good g hg') (X.dz_apply g hg'), readCov_band _ _ _ _ d (by show 0 + (j.val - 0) < 2048; omega)]
      have e : (⟨0 + (j.val - 0), by omega⟩ : Fin 2048) = j := Fin.ext (by show 0 + (j.val - 0) = j.val; omega)
      rw [e, ih (by omega), ← EReal.coe_add, sum_block]
      rfl
    · refine (band_out _ _ _ j d (Or.inr (by omega))).trans ((ih (by omega)).trans ?_)
      rw [zero_block _ g j (by omega) (fun r hr => by rw [H.dz_of_lt hr, zero_mul])]

theorem Holds.dv (X : Holds I H h) (arg14 : Memref sig .tc .vmem S2048x128 .f32) (g : ℕ) (hg : g ≤ 16) (j : Fin 2048) (d : Fin 128) :
    View.canon (I.dvL arg14 g hg) (ix2 j d) = ((∑ r ∈ Finset.range (g * 128), H.pr r j * H.G r d : ℝ) : EReal) := by
  induction g with
  | zero =>
    refine (band_in _ _ _ j d (Nat.zero_le _) (by show j.val < 0 + 2048; omega)).trans ?_
    unfold k0_pay7
    pointwise
    simp
  | succ g ih =>
    have hg' : g < 16 := hg
    by_cases hj : (j : ℕ) < (g + 1) * 128
    · refine (band_in _ _ _ j d (Nat.zero_le _) (by omega)).trans ?_
      rw [dvTile_apply (X.reads g hg') (good g hg') (X.p_apply g hg'), readCov_band _ _ _ _ d (by show 0 + (j.val - 0) < 2048; omega)]
      have e : (⟨0 + (j.val - 0), by omega⟩ : Fin 2048) = j := Fin.ext (by show 0 + (j.val - 0) = j.val; omega)
      rw [e, ih (by omega), ← EReal.coe_add, sum_block]
      rfl
    · refine (band_out _ _ _ j d (Or.inr (by omega))).trans ((ih (by omega)).trans ?_)
      rw [zero_block _ g j (by omega) (fun r hr => by rw [H.pr_of_lt hr, zero_mul])]

theorem Holds.dfk (X : Holds I H h) (arg11 : Memref sig .tc .vmem S1x1x2048 .f32) (g : ℕ) (hg : g ≤ 16) (j : Fin 2048) :
    View.canon (I.dfkL arg11 g hg) (ix3 0 0 j) = ((- ∑ r ∈ Finset.range (g * 128), H.dz r j : ℝ) : EReal) := by
  induction g with
  | zero =>
    refine (lane_in _ _ _ j j.isLt).trans ?_
    unfold k0_pay8
    pointwise
    simp
  | succ g ih =>
    have hg' : g < 16 := hg
    by_cases hj : (j : ℕ) < (g + 1) * 128
    · refine (lane_in _ _ _ j hj).trans ?_
      rw [dfkTile_apply (good g hg') (X.dz_apply g hg'), readCov_lane _ _ _ _ 0 0 (by show j.val < 2048; omega)]
      rw [show (⟨(⟨j.val, hj⟩ : Fin ((g + 1) * 128)).val, by omega⟩ : Fin 2048) = j from rfl, ih (by omega), ← EReal.coe_sub, sum_block,
        neg_add, sub_eq_add_neg]
    · refine (lane_out _ _ _ j (by omega)).trans ((ih (by omega)).trans ?_)
      rw [zero_block _ g j (by omega) (fun r hr => H.dz_of_lt hr)]

/-- What a head adds to the rows' forget-gate gradients: its own lane. -/
def laneOf (H : Cert.Fox.Head) (h r c : ℕ) : ℝ := if c = h then H.dfq r else 0

theorem Holds.dfqA (X : Holds I H h) (arg10 : Memref sig .tc .vmem S2048x128 .f32) (g : ℕ) (hg : g ≤ 16) (r : Fin 2048) (c : Fin 128) :
    View.canon (I.dfqLA arg10 g hg) (ix2 r c) = if (r : ℕ) < g * 128 then ((laneOf H h r c : ℝ) : EReal) else 0 := by
  induction g with
  | zero =>
    refine (band_in _ _ _ r c (Nat.zero_le _) (by show r.val < 0 + 2048; omega)).trans ?_
    unfold k0_pay3
    pointwise
    simp
  | succ g ih =>
    have hg' : g < 16 := hg
    by_cases hr : g * 128 ≤ (r : ℕ) ∧ (r : ℕ) < (g + 1) * 128
    · refine (band_in _ _ _ r c hr.1 (by omega)).trans ?_
      rw [X.word, dfqTile_apply (good g hg') X.lt rfl (X.dz_apply g hg'), readCov_band _ _ _ _ c (by show g * 128 + (r.val - g * 128) < 2048; omega)]
      have e : (⟨g * 128 + (r.val - g * 128), by omega⟩ : Fin 2048) = r := Fin.ext (by show g * 128 + (r.val - g * 128) = r.val; omega)
      have e' : g * 128 + (r.val - g * 128) = r.val := by omega
      rw [e, ih (by omega), if_neg (by omega), if_pos hr.2, zero_add]
      simp only [laneOf, e']
    · refine (band_out _ _ _ r c (by omega)).trans ((ih (by omega)).trans ?_)
      by_cases h1 : (r : ℕ) < g * 128
      · rw [if_pos h1, if_pos (by omega)]
      · rw [if_neg h1, if_neg (by omega)]

theorem Holds.dfqB (X : Holds I H h) (arg10 : Memref sig .tc .vmem S2048x128 .f32) (harg10 : arg10.IsWhole) (xo : Vec Ideal S2048x128 .f32)
    (g : ℕ) (hg : g ≤ 16) (r : Fin 2048) (c : Fin 128) (hr : (r : ℕ) < g * 128) :
    View.canon (I.dfqLB arg10 harg10 xo g hg) (ix2 r c) = xo (ix2 r c) + ((laneOf H h r c : ℝ) : EReal) := by
  induction g with
  | zero => omega
  | succ g ih =>
    have hg' : g < 16 := hg
    by_cases hr' : (r : ℕ) < g * 128
    · exact (band_out _ _ _ r c (Or.inl hr')).trans (ih (by omega) hr')
    · refine (band_in _ _ _ r c (by omega) (by omega)).trans ?_
      rw [X.word, dfqTile_apply (good g hg') X.lt rfl (X.dz_apply g hg'), rows_apply]
      have e : (⟨g * 128 + (r.val - g * 128), by omega⟩ : Fin 2048) = r := Fin.ext (by show g * 128 + (r.val - g * 128) = r.val; omega)
      have e' : g * 128 + (r.val - g * 128) = r.val := by omega
      rw [e]
      simp only [laneOf, e']

end Ins

end Cert.KernelIdeal.Fox

end
-- ==== Proof.Data.lean ====
/- The five arguments as real data, head by head, and the five results as arrays of the real gradient. -/
module

public import proofs.«01_k».proof.Proof.Spec
public import Idealize.ShloMosaic.Lib.Pointwise.Index

@[expose] public section

noncomputable section

namespace Cert.Fox

open Idealize.ShloMosaic

/-- The queries, keys, values, the output's gradient (a column per head and coordinate) and the forget gates' running sums
    (a column per head). -/
structure Data where
  q : ℕ → ℕ → ℝ
  k : ℕ → ℕ → ℝ
  v : ℕ → ℕ → ℝ
  g : ℕ → ℕ → ℝ
  f : ℕ → ℕ → ℝ

/-- One head of them. -/
def Data.head (D : Data) (h : ℕ) : Head where
  Q r d := D.q r (h * 128 + d)
  K r d := D.k r (h * 128 + d)
  V r d := D.v r (h * 128 + d)
  G r d := D.g r (h * 128 + d)
  f r := D.f r h

/-- The arguments hold the data: the values are columns 2048 to 3071 of the projection, and the gates' sums the first eight
    columns of theirs. -/
structure Given (a0 a1 : (⟨2, ![2048, 1024]⟩ : Shape).Idx → EReal) (a2 : (⟨2, ![2048, 4608]⟩ : Shape).Idx → EReal)
    (a3 : (⟨2, ![2048, 128]⟩ : Shape).Idx → EReal) (a4 : (⟨2, ![2048, 1024]⟩ : Shape).Idx → EReal) (D : Data) : Prop where
  q : ∀ (r : Fin 2048) (x : Fin 1024), a0 (ix2 r x) = ((D.q r x : ℝ) : EReal)
  k : ∀ (r : Fin 2048) (x : Fin 1024), a1 (ix2 r x) = ((D.k r x : ℝ) : EReal)
  v : ∀ (r : Fin 2048) (x : Fin 1024), a2 (ix2 r ⟨2048 + x, by omega⟩) = ((D.v r x : ℝ) : EReal)
  f : ∀ (r : Fin 2048) (h : Fin 8), a3 (ix2 r ⟨h, by omega⟩) = ((D.f r h : ℝ) : EReal)
  g : ∀ (r : Fin 2048) (x : Fin 1024), a4 (ix2 r x) = ((D.g r x : ℝ) : EReal)

section
variable {a0 a1 : (⟨2, ![2048, 1024]⟩ : Shape).Idx → EReal} {a2 : (⟨2, ![2048, 4608]⟩ : Shape).Idx → EReal}
  {a3 : (⟨2, ![2048, 128]⟩ : Shape).Idx → EReal} {a4 : (⟨2, ![2048, 1024]⟩ : Shape).Idx → EReal} {D : Data}

theorem Given.q_of (G : Given a0 a1 a2 a3 a4 D) (x : (⟨2, ![2048, 1024]⟩ : Shape).Idx) {r y : ℕ} (h0 : (x 0).val = r) (h1 : (x 1).val = y) :
    a0 x = ((D.q r y : ℝ) : EReal) := by
  subst h0 h1
  exact (congrArg a0 (eq_ix2 x)).trans (G.q (x 0) (x 1))
theorem Given.k_of (G : Given a0 a1 a2 a3 a4 D) (x : (⟨2, ![2048, 1024]⟩ : Shape).Idx) {r y : ℕ} (h0 : (x 0).val = r) (h1 : (x 1).val = y) :
    a1 x = ((D.k r y : ℝ) : EReal) := by
  subst h0 h1
  exact (congrArg a1 (eq_ix2 x)).trans (G.k (x 0) (x 1))
theorem Given.g_of (G : Given a0 a1 a2 a3 a4 D) (x : (⟨2, ![2048, 1024]⟩ : Shape).Idx) {r y : ℕ} (h0 : (x 0).val = r) (h1 : (x 1).val = y) :
    a4 x = ((D.g r y : ℝ) : EReal) := by
  subst h0 h1
  exact (congrArg a4 (eq_ix2 x)).trans (G.g (x 0) (x 1))
theorem Given.v_of (G : Given a0 a1 a2 a3 a4 D) (x : (⟨2, ![2048, 4608]⟩ : Shape).Idx) {r y : ℕ} (h0 : (x 0).val = r) (h1 : (x 1).val = 2048 + y)
    (hy : y < 1024) : a2 x = ((D.v r y : ℝ) : EReal) := by
  subst h0
  have e : x = ix2 (x 0) ⟨2048 + y, by omega⟩ := by
    refine (eq_ix2 x).trans ?_
    congr 1
    exact Fin.ext h1
  exact (congrArg a2 e).trans (G.v (x 0) ⟨y, hy⟩)
theorem Given.f_of (G : Given a0 a1 a2 a3 a4 D) (x : (⟨2, ![2048, 128]⟩ : Shape).Idx) {r y : ℕ} (h0 : (x 0).val = r) (h1 : (x 1).val = y)
    (hy : y < 8) : a3 x = ((D.f r y : ℝ) : EReal) := by
  subst h0
  have e : x = ix2 (x 0) ⟨y, by omega⟩ := by
    refine (eq_ix2 x).trans ?_
    congr 1
    exact Fin.ext h1
  exact (congrArg a3 e).trans (G.f (x 0) ⟨y, hy⟩)

end

/-- Arguments whose entries are neither infinity hold their own real parts. -/
theorem given_of_real (a0 a1 : (⟨2, ![2048, 1024]⟩ : Shape).Idx → EReal) (a2 : (⟨2, ![2048, 4608]⟩ : Shape).Idx → EReal)
    (a3 : (⟨2, ![2048, 128]⟩ : Shape).Idx → EReal) (a4 : (⟨2, ![2048, 1024]⟩ : Shape).Idx → EReal)
    (h0 : ∀ i, ∃ x : ℝ, a0 i = (x : EReal)) (h1 : ∀ i, ∃ x : ℝ, a1 i = (x : EReal))
    (h2 : ∀ (r : Fin 2048) (x : Fin 1024), ∃ y : ℝ, a2 (ix2 r ⟨2048 + x, by omega⟩) = (y : EReal))
    (h3 : ∀ (r : Fin 2048) (h : Fin 8), ∃ y : ℝ, a3 (ix2 r ⟨h, by omega⟩) = (y : EReal))
    (h4 : ∀ i, ∃ x : ℝ, a4 i = (x : EReal)) : ∃ D, Given a0 a1 a2 a3 a4 D := by
  refine ⟨⟨fun r x => if h : r < 2048 ∧ x < 1024 then (a0 (ix2 ⟨r, h.1⟩ ⟨x, h.2⟩)).toReal else 0,
    fun r x => if h : r < 2048 ∧ x < 1024 then (a1 (ix2 ⟨r, h.1⟩ ⟨x, h.2⟩)).toReal else 0,
    fun r x => if h : r < 2048 ∧ x < 1024 then (a2 (ix2 ⟨r, h.1⟩ ⟨2048 + x, by omega⟩)).toReal else 0,
    fun r x => if h : r < 2048 ∧ x < 1024 then (a4 (ix2 ⟨r, h.1⟩ ⟨x, h.2⟩)).toReal else 0,
    fun r x => if h : r < 2048 ∧ x < 8 then (a3 (ix2 ⟨r, h.1⟩ ⟨x, by omega⟩)).toReal else 0⟩, ?_, ?_, ?_, ?_, ?_⟩
  · intro r x
    obtain ⟨y, e⟩ := h0 (ix2 r x)
    simp only [r.isLt, x.isLt, and_self, dite_true, Fin.eta, e, EReal.toReal_coe]
  · intro r x
    obtain ⟨y, e⟩ := h1 (ix2 r x)
    simp only [r.isLt, x.isLt, and_self, dite_true, Fin.eta, e, EReal.toReal_coe]
  · intro r x
    obtain ⟨y, e⟩ := h2 r x
    simp only [r.isLt, x.isLt, and_self, dite_true, Fin.eta, e, EReal.toReal_coe]
  · intro r x
    obtain ⟨y, e⟩ := h3 r x
    simp only [r.isLt, x.isLt, and_self, dite_true, Fin.eta, e, EReal.toReal_coe]
  · intro r x
    obtain ⟨y, e⟩ := h4 (ix2 r x)
    simp only [r.isLt, x.isLt, and_self, dite_true, Fin.eta, e, EReal.toReal_coe]

namespace Data
variable (D : Data)

/-- The five results. -/
def dq : (⟨2, ![2048, 1024]⟩ : Shape).Idx → EReal := fun i => (((D.head ((i 1).val / 128)).dq (i 0).val ((i 1).val % 128) : ℝ) : EReal)
def dk : (⟨2, ![2048, 1024]⟩ : Shape).Idx → EReal := fun i => (((D.head ((i 1).val / 128)).dk (i 0).val ((i 1).val % 128) : ℝ) : EReal)
def dv : (⟨2, ![2048, 1024]⟩ : Shape).Idx → EReal := fun i => (((D.head ((i 1).val / 128)).dv (i 0).val ((i 1).val % 128) : ℝ) : EReal)
def dfq : (⟨2, ![2048, 128]⟩ : Shape).Idx → EReal := fun i => ((if (i 1).val < 8 then (D.head (i 1).val).dfq (i 0).val else 0 : ℝ) : EReal)
def dfk : (⟨3, ![8, 1, 2048]⟩ : Shape).Idx → EReal := fun i => (((D.head (i 0).val).dfk (i 2).val : ℝ) : EReal)

theorem dq_apply (r : Fin 2048) (h : ℕ) (d : Fin 128) (hx : h * 128 + d < 1024) :
    D.dq (ix2 r ⟨h * 128 + d, hx⟩) = (((D.head h).dq r d : ℝ) : EReal) := by
  show (((D.head ((h * 128 + d.val) / 128)).dq r.val ((h * 128 + d.val) % 128) : ℝ) : EReal) = _
  rw [show (h * 128 + d.val) / 128 = h by omega, show (h * 128 + d.val) % 128 = d.val by omega]
theorem dk_apply (r : Fin 2048) (h : ℕ) (d : Fin 128) (hx : h * 128 + d < 1024) :
    D.dk (ix2 r ⟨h * 128 + d, hx⟩) = (((D.head h).dk r d : ℝ) : EReal) := by
  show (((D.head ((h * 128 + d.val) / 128)).dk r.val ((h * 128 + d.val) % 128) : ℝ) : EReal) = _
  rw [show (h * 128 + d.val) / 128 = h by omega, show (h * 128 + d.val) % 128 = d.val by omega]
theorem dv_apply (r : Fin 2048) (h : ℕ) (d : Fin 128) (hx : h * 128 + d < 1024) :
    D.dv (ix2 r ⟨h * 128 + d, hx⟩) = (((D.head h).dv r d : ℝ) : EReal) := by
  show (((D.head ((h * 128 + d.val) / 128)).dv r.val ((h * 128 + d.val) % 128) : ℝ) : EReal) = _
  rw [show (h * 128 + d.val) / 128 = h by omega, show (h * 128 + d.val) % 128 = d.val by omega]

end Data

end Cert.Fox

end
-- ==== Proof.Reference.lean ====
/- The reference's five results are the real gradient of the data its arguments hold. -/
module

public import proofs.«01_k».proof.Proof.Data
public import proofs.«01_k».proof.Proof.Values
public import proofs.«01_k».proof.Proof.Gen.ReferenceIdeal.Read
public import Idealize.ShloMosaic.Lib.KernelVsHost

@[expose] public section

noncomputable section

namespace Cert.ReferenceIdeal.Fox

open Idealize.ShloMosaic Idealize.ShloMosaic.TcCoe
open Cert.ReferenceIdeal Cert.ReferenceIdeal.Gen Cert.ReferenceIdeal.Read Cert.Fox
open scoped BigOperators

theorem ofBits_zero : Ideal.ofBits FTy.f32 0x00000000#32 = 0 := by
  simp [Ideal.ofBits, Ideal.ieee]
theorem ofBits_one : Ideal.ofBits FTy.f32 0x3F800000#32 = 1 := by
  simp [Ideal.ofBits, Ideal.ieee]
  rw [← EReal.coe_mul]
  norm_num
theorem ofBits_ninf : Ideal.ofBits FTy.f32 0xFF800000#32 = ⊥ := by
  simp [Ideal.ofBits, Ideal.ieee]

variable {a0 a1 : S2048x1024.Idx → EReal} {a2 : S2048x4608.Idx → EReal} {a3 : S2048x128.Idx → EReal} {a4 : S2048x1024.Idx → EReal} {D : Data}

/-- A head's coordinate in a row of all heads. -/
theorem lin (r h d : ℕ) (hh : h < 8) (hd : d < 128) : ((r * 8 + h) * 128 + d) / 1024 = r ∧ ((r * 8 + h) * 128 + d) % 1024 = h * 128 + d := by
  omega

/-- The quotient rule's two terms together: each weight times its gradient's distance from the row's mean. -/
theorem quotient (H : Head) (r j : ℕ) (hr : r < 2048) :
    (H.dp r j * (1 / H.den r) + -(∑ k ∈ Finset.range 2048, H.dp r k * (1 / (H.den r * H.den r)) * H.ex r k)) * H.ex r j = H.dz r j := by
  have hL := (H.den_pos hr).ne'
  have e : ∑ k ∈ Finset.range 2048, H.dp r k * (1 / (H.den r * H.den r)) * H.ex r k = (∑ k ∈ Finset.range 2048, H.dp r k * H.pr r k) * (1 / H.den r) := by
    rw [Finset.sum_mul]
    refine Finset.sum_congr rfl fun k _ => ?_
    unfold Head.pr
    field_simp
  rw [e]
  unfold Head.dz
  generalize ∑ k ∈ Finset.range 2048, H.dp r k * H.pr r k = S
  unfold Head.pr
  field_simp
  ring

/-! ## The arguments, head by head -/

theorem mask_at {α : Type} (i : S8x2048x2048.Idx) (x y : α) :
    Scalar.select (val_main_v20_1 (F := Ideal) i) x y = if (i 2).val ≤ (i 1).val then x else y := by
  have h1 : (i 1).val < 2048 := (i 1).isLt
  have h2 : (i 2).val < 2048 := (i 2).isLt
  rw [val_main_v20_1_apply, val_main_v18_apply, val_main_v16_apply, val_main_v17_apply, val_main_v14_apply, val_main_v15_apply,
    val_main_v13_apply, val_main_v13_apply]
  show Scalar.select (IntOp.cmpi .sle (BitVec.ofNat 32 (i 2).val) (BitVec.ofNat 32 (i 1).val)) x y = _
  rw [WordCmp.cmpi_sle_ofNat (by omega) (by omega)]
  by_cases h : (i 2).val ≤ (i 1).val
  · simp [h, Scalar.select]
  · simp [h, Scalar.select]

section
variable (hD : Given a0 a1 a2 a3 a4 D)
include hD

theorem q_at (i : S2048x8x128.Idx) : val_main_v3 (F := Ideal) a0 i = (((D.head (i 1).val).Q (i 0).val (i 2).val : ℝ) : EReal) := by
  have e := lin (i 0).val (i 1).val (i 2).val (i 1).isLt (i 2).isLt
  rw [val_main_v3_apply]
  exact hD.q_of _ e.1 e.2
theorem k_at (i : S2048x8x128.Idx) : val_main_v4 (F := Ideal) a1 i = (((D.head (i 1).val).K (i 0).val (i 2).val : ℝ) : EReal) := by
  have e := lin (i 0).val (i 1).val (i 2).val (i 1).isLt (i 2).isLt
  rw [val_main_v4_apply]
  exact hD.k_of _ e.1 e.2
theorem g_at (i : S2048x8x128.Idx) : val_main_v52 (F := Ideal) a4 i = (((D.head (i 1).val).G (i 0).val (i 2).val : ℝ) : EReal) := by
  have e := lin (i 0).val (i 1).val (i 2).val (i 1).isLt (i 2).isLt
  rw [val_main_v52_apply]
  exact hD.g_of _ e.1 e.2
theorem v_at (i : S2048x8x128.Idx) : val_main_v5 (F := Ideal) a2 i = (((D.head (i 1).val).V (i 0).val (i 2).val : ℝ) : EReal) := by
  have h1 : (i 1).val < 8 := (i 1).isLt
  have h2 : (i 2).val < 128 := (i 2).isLt
  have e := lin (i 0).val (i 1).val (i 2).val (i 1).isLt (i 2).isLt
  rw [val_main_v5_apply, val_main_v0_apply]
  exact hD.v_of _ e.1 (congrArg (2048 + ·) e.2) (by omega)

/-! ## Scores, exponentials, probabilities -/

theorem sc_at (i : S8x2048x2048.Idx) : val_main_v19 (F := Ideal) a0 a1 a3 i = (((D.head (i 0).val).sc (i 1).val (i 2).val : ℝ) : EReal) := by
  have hq : val_main_v6 (F := Ideal) a0 a1 i
      = ((∑ d ∈ Finset.range 128, (D.head (i 0).val).Q (i 1).val d * (D.head (i 0).val).K (i 2).val d : ℝ) : EReal) := by
    rw [val_main_v6_apply]
    refine sum_fin _ _ fun d => ?_
    rw [q_at hD, k_at hD, ← EReal.coe_mul]
  have hf : val_main_v12 (F := Ideal) a3 i = (((D.head (i 0).val).f (i 1).val - (D.head (i 0).val).f (i 2).val : ℝ) : EReal) := by
    rw [val_main_v12_apply, val_main_v10_apply, val_main_v11_apply, val_main_v8_apply, val_main_v9_apply, val_main_v7_apply,
      val_main_v2_apply, val_main_v1_apply, val_main_v1_apply]
    rw [hD.f_of _ rfl rfl (by exact (i 0).isLt), hD.f_of _ rfl rfl (by exact (i 0).isLt)]
    exact (EReal.coe_sub _ _).symm
  rw [val_main_v19_apply, hq, hf]
  exact (EReal.coe_add _ _).symm

theorem masked_at (i : S8x2048x2048.Idx) : val_main_v20_0 (F := Ideal) a0 a1 a3 i
    = if (i 2).val ≤ (i 1).val then (((D.head (i 0).val).sc (i 1).val (i 2).val : ℝ) : EReal) else ⊥ := by
  rw [val_main_v20_0_apply, mask_at, sc_at hD, val_main_call0_v2_apply, val_main_call0_v0_apply, val_main_cst_apply]
  exact congrArg (ite _ _) ofBits_ninf

theorem max_at (i : S8x2048.Idx) : val_main_v28 (F := Ideal) a0 a1 a3 i = (((D.head (i 0).val).mx (i 1).val : ℝ) : EReal) := by
  have hm : val_main_v21 (F := Ideal) a0 a1 a3 i = (((D.head (i 0).val).mx (i 1).val : ℝ) : EReal) := by
    unfold val_main_v21
    pointwise
    rw [val_main_cst_0_apply]
    refine Eq.trans ?_ (fold_max_eq (fun j : Fin 2048 => val_main_v20_0 (F := Ideal) a0 a1 a3 (ix3 (i 0) (i 1) j)) _ (i 1).val (i 1).isLt (fun j => masked_at hD _))
    exact congrArg (fun b => Finset.fold max b _ _) ofBits_ninf
  rw [val_main_v28_apply, hm, val_main_v27_apply, val_main_cst_2_apply]
  show max (Ideal.ofBits FTy.f32 0xFF800000#32) _ = _
  rw [ofBits_ninf]
  exact max_eq_right bot_le

theorem ex_at (i : S8x2048x2048.Idx) : val_main_v41 (F := Ideal) a0 a1 a3 i = (((D.head (i 0).val).ex (i 1).val (i 2).val : ℝ) : EReal) := by
  rw [val_main_v41_apply, val_main_v40_apply, masked_at hD, val_main_v39_apply, val_main_v38_apply, max_at hD]
  unfold Cert.Fox.Head.ex
  split
  · show FloatOps.hostUnary (F := Ideal) .exp (((_ : ℝ) : EReal) - ((_ : ℝ) : EReal)) = _
    rw [← EReal.coe_sub]; rfl
  · rfl

theorem den_at (i : S8x2048.Idx) : val_main_v42 (F := Ideal) a0 a1 a3 i = (((D.head (i 0).val).den (i 1).val : ℝ) : EReal) := by
  rw [val_main_v42_apply, val_main_cst_8_apply]
  refine (congrArg (· + _) ofBits_zero).trans ((zero_add _).trans ?_)
  refine (sum_fin _ (fun k => (D.head (i 0).val).ex (i 1).val k) fun k => ?_).trans rfl
  rw [ex_at hD]

theorem pr_at (i : S8x2048x2048.Idx) : val_main_v45 (F := Ideal) a0 a1 a3 i = (((D.head (i 0).val).pr (i 1).val (i 2).val : ℝ) : EReal) := by
  rw [val_main_v45_apply, ex_at hD, val_main_v44_apply, val_main_v43_apply, den_at hD]
  show Ideal.div _ (((D.head (i 0).val).den (i 1).val : ℝ) : EReal) = _
  rw [Ideal.div_coe ((D.head _).den_pos (i 1).isLt).ne', ← EReal.coe_mul, mul_one_div]
  rfl

theorem dp_at (i : S8x2048x2048.Idx) : val_main_v54 (F := Ideal) a2 a4 i = (((D.head (i 0).val).dp (i 1).val (i 2).val : ℝ) : EReal) := by
  rw [val_main_v54_apply]
  refine sum_fin _ _ fun d => ?_
  rw [val_main_v53_apply, g_at hD, v_at hD, ← EReal.coe_mul]

/-! ## The gradient of the scores -/

theorem dsum_at (i : S8x2048.Idx) : val_main_v65 (F := Ideal) a0 a1 a2 a3 a4 i
    = ((-(∑ k ∈ Finset.range 2048, (D.head (i 0).val).dp (i 1).val k * (1 / ((D.head (i 0).val).den (i 1).val * (D.head (i 0).val).den (i 1).val))
        * (D.head (i 0).val).ex (i 1).val k) : ℝ) : EReal) := by
  have hs : ∀ j : S8x2048.Idx, val_main_v60 (F := Ideal) a0 a1 a2 a3 a4 j
    = ((∑ k ∈ Finset.range 2048, (D.head (j 0).val).dp (j 1).val k * (1 / ((D.head (j 0).val).den (j 1).val * (D.head (j 0).val).den (j 1).val))
        * (D.head (j 0).val).ex (j 1).val k : ℝ) : EReal) := fun j => by
    rw [val_main_v60_apply, val_main_cst_10_apply]
    refine (congrArg (· + _) ofBits_zero).trans ((zero_add _).trans ?_)
    refine sum_fin _ _ fun k => ?_
    rw [val_main_v59_apply, val_main_v58_apply, dp_at hD, ex_at hD, val_main_v57_apply, val_main_v48_apply, val_main_v46_apply, val_main_v43_apply,
      den_at hD, val_main_v47_apply, val_main_cst_9_apply]
    have hne := ((D.head (j 0).val).den_pos (j 1).isLt).ne'
    show _ * Ideal.div (Ideal.ofBits FTy.f32 0x3F800000#32) ((((D.head (j 0).val).den (j 1).val : ℝ) : EReal) * (((D.head (j 0).val).den (j 1).val : ℝ) : EReal)) * _ = _
    rw [ofBits_one, ← EReal.coe_mul, Ideal.div_coe (mul_ne_zero hne hne), one_mul, ← EReal.coe_mul, ← EReal.coe_mul]
  rw [val_main_v65_apply, val_main_cst_11_apply, Fin.sum_univ_one, val_main_v62_apply, val_main_v61_apply, hs]
  refine (congrArg (· + _) ofBits_zero).trans ((zero_add _).trans ?_)
  have h1 : (i 1).val < 2048 := (i 1).isLt
  refine (EReal.coe_neg _).symm.trans ?_
  congr 2
  have e0 : (((i 0).val * 2048 + (i 1).val) * 1 + 0) / 2048 = (i 0).val := by omega
  have e1 : (((i 0).val * 2048 + (i 1).val) * 1 + 0) % 2048 = (i 1).val := by omega
  refine Finset.sum_congr rfl fun k _ => ?_
  show (D.head ((((i 0).val * 2048 + (i 1).val) * 1 + 0) / 2048)).dp ((((i 0).val * 2048 + (i 1).val) * 1 + 0) % 2048) k
      * (1 / ((D.head ((((i 0).val * 2048 + (i 1).val) * 1 + 0) / 2048)).den ((((i 0).val * 2048 + (i 1).val) * 1 + 0) % 2048)
        * (D.head ((((i 0).val * 2048 + (i 1).val) * 1 + 0) / 2048)).den ((((i 0).val * 2048 + (i 1).val) * 1 + 0) % 2048)))
      * (D.head ((((i 0).val * 2048 + (i 1).val) * 1 + 0) / 2048)).ex ((((i 0).val * 2048 + (i 1).val) * 1 + 0) % 2048) k = _
  rw [e0, e1]

theorem dz_at (i : S8x2048x2048.Idx) : val_main_v69 (F := Ideal) a0 a1 a2 a3 a4 i = (((D.head (i 0).val).dz (i 1).val (i 2).val : ℝ) : EReal) := by
  have h1 : (i 1).val < 2048 := (i 1).isLt
  have hL := ((D.head (i 0).val).den_pos h1).ne'
  rw [val_main_v69_apply, mask_at]
  by_cases h : (i 2).val ≤ (i 1).val
  · rw [if_pos h, val_main_v68_apply, val_main_v67_apply, val_main_v66_apply, dsum_at hD, val_main_v64_apply, val_main_v63_apply,
      val_main_v43_apply, den_at hD, dp_at hD, ex_at hD]
    show (Ideal.div _ (((D.head (i 0).val).den (i 1).val : ℝ) : EReal) + _) * _ = _
    rw [Ideal.div_coe hL, ← EReal.coe_mul, ← EReal.coe_add, ← EReal.coe_mul]
    exact congrArg ((↑) : ℝ → EReal) (quotient (D.head (i 0).val) (i 1).val (i 2).val h1)
  · rw [if_neg h, (D.head _).dz_of_lt (by omega), val_main_call1_v0_apply, val_main_call1_cst_apply]
    exact ofBits_zero

/-! ## The five results -/

theorem dq_eq : val_main_v84 (F := Ideal) a0 a1 a2 a3 a4 = (D.dq : S2048x1024.Idx → EReal) := by
  funext i
  have h1 : (i 1).val < 1024 := (i 1).isLt
  rw [val_main_v84_apply, val_main_v81_apply, val_main_v80_apply]
  refine (sum_fin _ (fun k => (D.head ((i 1).val / 128)).dz (i 0).val k * (D.head ((i 1).val / 128)).K k ((i 1).val % 128)) fun k => ?_).trans rfl
  rw [dz_at hD, k_at hD, ← EReal.coe_mul]
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  show (((D.head (((i 0).val * 1024 + (i 1).val) / 128 % 8)).dz (((i 0).val * 1024 + (i 1).val) / 1024) k.val
    * (D.head (((i 0).val * 1024 + (i 1).val) / 128 % 8)).K k.val (((i 0).val * 1024 + (i 1).val) % 128) : ℝ) : EReal) = _
  rw [e0, e1, e2]

theorem dk_eq : val_main_v83 (F := Ideal) a0 a1 a2 a3 a4 = (D.dk : S2048x1024.Idx → EReal) := by
  funext i
  have h1 : (i 1).val < 1024 := (i 1).isLt
  rw [val_main_v83_apply, val_main_v79_apply, val_main_v78_apply]
  refine (sum_fin _ (fun k => (D.head ((i 1).val / 128)).dz k (i 0).val * (D.head ((i 1).val / 128)).Q k ((i 1).val % 128)) fun k => ?_).trans rfl
  rw [dz_at hD, q_at hD, ← EReal.coe_mul]
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  show (((D.head (((i 0).val * 1024 + (i 1).val) / 128 % 8)).dz k.val (((i 0).val * 1024 + (i 1).val) / 1024)
    * (D.head (((i 0).val * 1024 + (i 1).val) / 128 % 8)).Q k.val (((i 0).val * 1024 + (i 1).val) % 128) : ℝ) : EReal) = _
  rw [e0, e1, e2]

theorem dv_eq : val_main_v85 (F := Ideal) a0 a1 a3 a4 = (D.dv : S2048x1024.Idx → EReal) := by
  funext i
  have h1 : (i 1).val < 1024 := (i 1).isLt
  rw [val_main_v85_apply]
  refine Eq.trans (b := val_main_v82 (F := Ideal) a0 a1 a3 a4 i) rfl ?_
  rw [val_main_v82_apply, val_main_v56_apply, val_main_v55_apply]
  refine (sum_fin _ (fun k => (D.head ((i 1).val / 128)).pr k (i 0).val * (D.head ((i 1).val / 128)).G k ((i 1).val % 128)) fun k => ?_).trans rfl
  rw [pr_at hD, val_main_v53_apply, g_at hD, ← EReal.coe_mul, mul_comm]
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  show (((D.head (((i 0).val * 1024 + (i 1).val) / 128 % 8)).pr k.val (((i 0).val * 1024 + (i 1).val) / 1024)
    * (D.head (((i 0).val * 1024 + (i 1).val) / 128 % 8)).G k.val (((i 0).val * 1024 + (i 1).val) % 128) : ℝ) : EReal) = _
  rw [e0, e1, e2]

theorem dfk_eq : val_main_v87 (F := Ideal) a0 a1 a2 a3 a4 = (D.dfk : S8x1x2048.Idx → EReal) := by
  funext i
  have h0 : (i 0).val < 8 := (i 0).isLt
  have h2 : (i 2).val < 2048 := (i 2).isLt
  rw [val_main_v87_apply, val_main_v75_apply, val_main_cst_14_apply, Fin.sum_univ_one]
  refine (congrArg (· + _) ofBits_zero).trans ((zero_add _).trans ?_)
  rw [val_main_v74_apply, val_main_v73_apply, val_main_cst_13_apply]
  refine (congrArg (· + _) ofBits_zero).trans ((zero_add _).trans ?_)
  refine (sum_fin _ (fun k => -(D.head (i 0).val).dz k (i 2).val) fun k => ?_).trans ?_
  · rw [val_main_v72_apply, dz_at hD]
    refine (EReal.coe_neg _).symm.trans ?_
    have e0 : (((i 0).val * 1 + 0) * 2048 + (i 2).val) / 2048 = (i 0).val := by omega
    have e2 : (((i 0).val * 1 + 0) * 2048 + (i 2).val) % 2048 = (i 2).val := by omega
    show ((-(D.head ((((i 0).val * 1 + 0) * 2048 + (i 2).val) / 2048)).dz k.val ((((i 0).val * 1 + 0) * 2048 + (i 2).val) % 2048) : ℝ) : EReal) = _
    rw [e0, e2]
  · rw [Finset.sum_neg_distrib]; rfl

theorem dfq_col (i : S2048x8.Idx) : val_main_v77 (F := Ideal) a0 a1 a2 a3 a4 i = (((D.head (i 1).val).dfq (i 0).val : ℝ) : EReal) := by
  have h0 : (i 0).val < 2048 := (i 0).isLt
  have h1 : (i 1).val < 8 := (i 1).isLt
  rw [val_main_v77_apply, val_main_v76_apply, val_main_cst_15_apply, Fin.sum_univ_one]
  refine (congrArg (· + _) ofBits_zero).trans ((zero_add _).trans ?_)
  rw [val_main_v71_apply, val_main_v70_apply, val_main_cst_12_apply]
  refine (congrArg (· + _) ofBits_zero).trans ((zero_add _).trans ?_)
  refine (sum_fin _ (fun k => (D.head (i 1).val).dz (i 0).val k) fun k => ?_).trans rfl
  rw [dz_at hD]
  have e0 : (((i 1).val * 2048 + (i 0).val) * 1 + 0) / 2048 = (i 1).val := by omega
  have e1 : (((i 1).val * 2048 + (i 0).val) * 1 + 0) % 2048 = (i 0).val := by omega
  show (((D.head ((((i 1).val * 2048 + (i 0).val) * 1 + 0) / 2048)).dz ((((i 1).val * 2048 + (i 0).val) * 1 + 0) % 2048) k.val : ℝ) : EReal) = _
  rw [e0, e1]

theorem dfq_eq : val_main_v86 (F := Ideal) a0 a1 a2 a3 a4 = (D.dfq : S2048x128.Idx → EReal) := by
  funext i
  unfold val_main_v86
  by_cases h : (i 1).val < 8
  · rw [pad_apply_of_inside _ _ _ _ _ _ _ i (ix2 (i 0) ⟨(i 1).val, h⟩ : S2048x8.Idx) (fun a => by
      match a with
      | ⟨0, _⟩ => show (i 0).val = 0 + (i 0).val * (0 + 1); omega
      | ⟨1, _⟩ => show (i 1).val = 0 + (i 1).val * (0 + 1); omega), dfq_col hD]
    show _ = ((if (i 1).val < 8 then (D.head (i 1).val).dfq (i 0).val else 0 : ℝ) : EReal)
    rw [if_pos h]
    rfl
  · rw [pad_apply_of_not_inside _ _ _ _ _ _ _ i (1 : Fin 2) (fun hin => by
      have := hin.2.2
      have h' : ((i 1).val - 0) / (0 + 1) < 8 := this
      omega), val_main_call2_v0_apply]
    show _ = ((if (i 1).val < 8 then (D.head (i 1).val).dfq (i 0).val else 0 : ℝ) : EReal)
    rw [if_neg h, val_main_c_apply]
    show (((0#32 : BitVec 32).toInt : ℝ) : EReal) = _
    simp

end

end Cert.ReferenceIdeal.Fox

end
-- ==== Proof.Finite.lean ====
/- Arguments that satisfy `finite` are real. -/
module

public import proofs.«01_k».proof.Proof.Data
public import proofs.«01_k».proof.Proof.Gen.Pre_finite
public import Idealize.ShloMosaic.Lib.Pointwise
public import Idealize.ShloMosaic.PureOps.Ideal.Laws

@[expose] public section

noncomputable section

namespace Cert.Pre_finite.Fox

open Idealize.ShloMosaic Cert.Pre_finite Cert.Fox

theorem ofBits_inf : Ideal.ofBits FTy.f32 0x7F800000#32 = ⊤ := by
  simp [Ideal.ofBits, Ideal.ieee]

/-- A magnitude below infinity is a real number's. -/
theorem real_of_lt {x : EReal} (h : Ideal.cmp .olt (max x (-x)) (Ideal.ofBits FTy.f32 0x7F800000#32) = 1#1) : ∃ y : ℝ, x = (y : EReal) := by
  rw [ofBits_inf] at h
  have h' : max x (-x) < ⊤ := by
    by_contra hn
    simp [Ideal.cmp, hn] at h
  induction x with
  | bot => simp at h'
  | top => simp at h'
  | coe y => exact ⟨y, rfl⟩

theorem given (a0 a1 : S2048x1024.Idx → EReal) (a2 : S2048x4608.Idx → EReal) (a3 : S2048x128.Idx → EReal) (a4 : S2048x1024.Idx → EReal)
    (h0 : (fn (F := Ideal) a0 a1 a2 a3 a4).1 = fun _ => 1#1) (h1 : (fn (F := Ideal) a0 a1 a2 a3 a4).2.1 = fun _ => 1#1)
    (h2 : (fn (F := Ideal) a0 a1 a2 a3 a4).2.2.1 = fun _ => 1#1) (h3 : (fn (F := Ideal) a0 a1 a2 a3 a4).2.2.2.1 = fun _ => 1#1)
    (h4 : (fn (F := Ideal) a0 a1 a2 a3 a4).2.2.2.2 = fun _ => 1#1) : ∃ D, Given a0 a1 a2 a3 a4 D := by
  refine given_of_real a0 a1 a2 a3 a4 (fun i => real_of_lt (congrFun h0 i)) (fun i => real_of_lt (congrFun h1 i)) (fun r x => ?_) (fun r h => ?_)
    (fun i => real_of_lt (congrFun h4 i))
  · refine real_of_lt ((congrArg (fun z => Ideal.cmp .olt (max z (-z)) (Ideal.ofBits FTy.f32 0x7F800000#32)) ?_).trans (congrFun h2 (ix2 r x)))
    exact (extractStridedSlice_apply ![0, 2048] a2 Gen.slices_S2048x4608_S2048x1024_0_2048 (ix2 r x) (ix2 r ⟨2048 + x, by omega⟩) (fun a => by
      match a with
      | ⟨0, _⟩ => show r.val = 0 + r.val; omega
      | ⟨1, _⟩ => show 2048 + x.val = 2048 + x.val; rfl)).symm
  · refine real_of_lt ((congrArg (fun z => Ideal.cmp .olt (max z (-z)) (Ideal.ofBits FTy.f32 0x7F800000#32)) ?_).trans (congrFun h3 (ix2 r h)))
    exact (extractStridedSlice_apply ![0, 0] a3 Gen.slices_S2048x128_S2048x8_0_0 (ix2 r h) (ix2 r ⟨h, by omega⟩) (fun a => by
      match a with
      | ⟨0, _⟩ => show r.val = 0 + r.val; omega
      | ⟨1, _⟩ => show h.val = 0 + h.val; omega)).symm

end Cert.Pre_finite.Fox

end
-- ==== Proof.FoxFRef.lean ====
/- The forgetting attention's forward call, seen from its reference: what the output is, when the arguments are known, and that
   the reference computes it. The values may be any extended reals; queries, keys and the forget gates' sums are real. -/
module

public import proofs.«01_k».proof.Proof.Reference
public import proofs.«01_k».proof.Proof.Finite
public import proofs.«01_k».proof.Proof.Gen.FoxFRefIdeal.Read
public import proofs.«01_k».proof.Proof.Gen.Pre_finite_fwd

@[expose] public section

noncomputable section

namespace Cert.FoxFRefIdeal.Fox

open Idealize.ShloMosaic Idealize.ShloMosaic.TcCoe
open Cert.FoxFRefIdeal Cert.FoxFRefIdeal.Gen Cert.FoxFRefIdeal.Read Cert.Fox
open Cert.ReferenceIdeal.Fox (ofBits_zero ofBits_ninf lin)
open scoped BigOperators

/-- The queries, keys and forget gates' sums are real. The data's values and output gradient, which the weights do not
    read, are zero. -/
abbrev Known (a0 a1 : S2048x1024.Idx → EReal) (a3 : S2048x128.Idx → EReal) (D : Data) : Prop :=
  Given a0 a1 (fun _ => 0) a3 (fun _ => 0) D

/-- The attention's output: at row `r` and column `x` the values of the column, over the weights of its head. -/
def out (D : Data) (v : S2048x4608.Idx → EReal) : S2048x1024.Idx → EReal := fun i =>
  ∑ j : Fin 2048, (((D.head ((i 1).val / 128)).pr (i 0).val j : ℝ) : EReal) * v (ix2 j ⟨2048 + (i 1).val, by have : (i 1).val < 1024 := (i 1).isLt; omega⟩)

variable {a0 a1 : S2048x1024.Idx → EReal} {a2 : S2048x4608.Idx → EReal} {a3 : S2048x128.Idx → EReal} {D : Data}

theorem mask_at {α : Type} (i : S8x2048x2048.Idx) (x y : α) :
    Scalar.select (val_main_call0_v1 (F := Ideal) i) x y = if (i 2).val ≤ (i 1).val then x else y := by
  have h1 : (i 1).val < 2048 := (i 1).isLt
  have h2 : (i 2).val < 2048 := (i 2).isLt
  rw [val_main_call0_v1_apply, val_main_v18_apply, val_main_v16_apply, val_main_v17_apply, val_main_v14_apply, val_main_v15_apply,
    val_main_v13_apply, val_main_v13_apply]
  show Scalar.select (IntOp.cmpi .sle (BitVec.ofNat 32 (i 2).val) (BitVec.ofNat 32 (i 1).val)) x y = _
  rw [WordCmp.cmpi_sle_ofNat (by omega) (by omega)]
  by_cases h : (i 2).val ≤ (i 1).val
  · simp [h, Scalar.select]
  · simp [h, Scalar.select]

section
variable (hD : Known a0 a1 a3 D)
include hD

theorem q_at (i : S2048x8x128.Idx) : val_main_v3 (F := Ideal) a0 i = (((D.head (i 1).val).Q (i 0).val (i 2).val : ℝ) : EReal) := by
  have e := lin (i 0).val (i 1).val (i 2).val (i 1).isLt (i 2).isLt
  rw [val_main_v3_apply]
  exact hD.q_of _ e.1 e.2
theorem k_at (i : S2048x8x128.Idx) : val_main_v4 (F := Ideal) a1 i = (((D.head (i 1).val).K (i 0).val (i 2).val : ℝ) : EReal) := by
  have e := lin (i 0).val (i 1).val (i 2).val (i 1).isLt (i 2).isLt
  rw [val_main_v4_apply]
  exact hD.k_of _ e.1 e.2

theorem sc_at (i : S8x2048x2048.Idx) : val_main_v19 (F := Ideal) a0 a1 a3 i = (((D.head (i 0).val).sc (i 1).val (i 2).val : ℝ) : EReal) := by
  have hq : val_main_v6 (F := Ideal) a0 a1 i
      = ((∑ d ∈ Finset.range 128, (D.head (i 0).val).Q (i 1).val d * (D.head (i 0).val).K (i 2).val d : ℝ) : EReal) := by
    rw [val_main_v6_apply]
    refine sum_fin _ _ fun d => ?_
    rw [q_at hD, k_at hD, ← EReal.coe_mul]
  have hf : val_main_v12 (F := Ideal) a3 i = (((D.head (i 0).val).f (i 1).val - (D.head (i 0).val).f (i 2).val : ℝ) : EReal) := by
    rw [val_main_v12_apply, val_main_v10_apply, val_main_v11_apply, val_main_v8_apply, val_main_v9_apply, val_main_v7_apply,
      val_main_v2_apply, val_main_v1_apply, val_main_v1_apply]
    rw [hD.f_of _ rfl rfl (by exact (i 0).isLt), hD.f_of _ rfl rfl (by exact (i 0).isLt)]
    exact (EReal.coe_sub _ _).symm
  rw [val_main_v19_apply, hq, hf]
  exact (EReal.coe_add _ _).symm

theorem masked_at (i : S8x2048x2048.Idx) : val_main_v20 (F := Ideal) a0 a1 a3 i
    = if (i 2).val ≤ (i 1).val then (((D.head (i 0).val).sc (i 1).val (i 2).val : ℝ) : EReal) else ⊥ := by
  rw [val_main_v20_apply, mask_at, sc_at hD, val_main_call0_v2_apply, val_main_call0_v0_apply, val_main_cst_apply]
  exact congrArg (ite _ _) ofBits_ninf

theorem max_at (i : S8x2048.Idx) : val_main_v23 (F := Ideal) a0 a1 a3 i = (((D.head (i 0).val).mx (i 1).val : ℝ) : EReal) := by
  have hm : val_main_v21 (F := Ideal) a0 a1 a3 i = (((D.head (i 0).val).mx (i 1).val : ℝ) : EReal) := by
    unfold val_main_v21
    pointwise
    rw [val_main_cst_0_apply]
    refine Eq.trans ?_ (fold_max_eq (fun j : Fin 2048 => val_main_v20 (F := Ideal) a0 a1 a3 (ix3 (i 0) (i 1) j)) _ (i 1).val (i 1).isLt (fun j => masked_at hD _))
    exact congrArg (fun b => Finset.fold max b _ _) ofBits_ninf
  rw [val_main_v23_apply, hm, val_main_v22_apply, val_main_cst_1_apply]
  show max (Ideal.ofBits FTy.f32 0xFF800000#32) _ = _
  rw [ofBits_ninf]
  exact max_eq_right bot_le

theorem ex_at (i : S8x2048x2048.Idx) : val_main_v27 (F := Ideal) a0 a1 a3 i = (((D.head (i 0).val).ex (i 1).val (i 2).val : ℝ) : EReal) := by
  rw [val_main_v27_apply, val_main_v26_apply, masked_at hD, val_main_v25_apply, val_main_v24_apply, max_at hD]
  unfold Cert.Fox.Head.ex
  split
  · show FloatOps.hostUnary (F := Ideal) .exp (((_ : ℝ) : EReal) - ((_ : ℝ) : EReal)) = _
    rw [← EReal.coe_sub]; rfl
  · rfl

theorem den_at (i : S8x2048.Idx) : val_main_v28 (F := Ideal) a0 a1 a3 i = (((D.head (i 0).val).den (i 1).val : ℝ) : EReal) := by
  rw [val_main_v28_apply, val_main_cst_2_apply]
  refine (congrArg (· + _) ofBits_zero).trans ((zero_add _).trans ?_)
  refine (sum_fin _ (fun k => (D.head (i 0).val).ex (i 1).val k) fun k => ?_).trans rfl
  rw [ex_at hD]

theorem pr_at (i : S8x2048x2048.Idx) : val_main_v31 (F := Ideal) a0 a1 a3 i = (((D.head (i 0).val).pr (i 1).val (i 2).val : ℝ) : EReal) := by
  rw [val_main_v31_apply, ex_at hD, val_main_v30_apply, val_main_v29_apply, den_at hD]
  show Ideal.div _ (((D.head (i 0).val).den (i 1).val : ℝ) : EReal) = _
  rw [Ideal.div_coe ((D.head _).den_pos (i 1).isLt).ne', ← EReal.coe_mul, mul_one_div]
  rfl

/-- What the reference computes. -/
theorem ref : val_main_v34 (F := Ideal) a0 a1 a2 a3 = (out D a2 : S2048x1024.Idx → EReal) := by
  funext i
  have h1 : (i 1).val < 1024 := (i 1).isLt
  rw [val_main_v34_apply, val_main_v33_apply, val_main_v32_apply]
  unfold out
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  refine Finset.sum_congr rfl fun k _ => ?_
  rw [pr_at hD, val_main_v5_apply, val_main_v0_apply, mul_comm]
  refine congrArg₂ (· * ·) ?_ (congrArg a2 ?_)
  · show (((D.head (((i 0).val * 1024 + (i 1).val) / 128 % 8)).pr (((i 0).val * 1024 + (i 1).val) / 1024) k.val : ℝ) : EReal) = _
    rw [e0, e1]
  · funext a; apply Fin.ext
    match a with
    | ⟨0, _⟩ =>
      show ((k.val * 8 + ((i 0).val * 1024 + (i 1).val) / 128 % 8) * 128 + ((i 0).val * 1024 + (i 1).val) % 128) / 1024 = k.val
      omega
    | ⟨1, _⟩ =>
      show 2048 + ((k.val * 8 + ((i 0).val * 1024 + (i 1).val) / 128 % 8) * 128 + ((i 0).val * 1024 + (i 1).val) % 128) % 1024 = 2048 + (i 1).val
      omega

end

/-- Arguments that satisfy `finite_fwd` are known. -/
theorem known (a0 a1 : S2048x1024.Idx → EReal) (a2 : S2048x4608.Idx → EReal) (a3 : S2048x128.Idx → EReal)
    (h0 : (Cert.Pre_finite_fwd.fn (F := Ideal) a0 a1 a2 a3).1 = fun _ => 1#1) (h1 : (Cert.Pre_finite_fwd.fn (F := Ideal) a0 a1 a2 a3).2.1 = fun _ => 1#1)
    (h3 : (Cert.Pre_finite_fwd.fn (F := Ideal) a0 a1 a2 a3).2.2 = fun _ => 1#1) : ∃ D, Known a0 a1 a3 D := by
  refine given_of_real a0 a1 _ a3 _ (fun i => Cert.Pre_finite.Fox.real_of_lt (congrFun h0 i)) (fun i => Cert.Pre_finite.Fox.real_of_lt (congrFun h1 i))
    (fun _ _ => ⟨0, EReal.coe_zero.symm⟩) (fun r h => ?_) (fun _ => ⟨0, EReal.coe_zero.symm⟩)
  refine Cert.Pre_finite.Fox.real_of_lt ((congrArg (fun z => Ideal.cmp .olt (max z (-z)) (Ideal.ofBits FTy.f32 0x7F800000#32)) ?_).trans (congrFun h3 (ix2 r h)))
  exact (extractStridedSlice_apply ![0, 0] a3 Cert.Pre_finite_fwd.Gen.slices_S2048x128_S2048x8_0_0 (ix2 r h) (ix2 r ⟨h, by omega⟩) (fun a => by
    match a with
    | ⟨0, _⟩ => show r.val = 0 + r.val; omega
    | ⟨1, _⟩ => show h.val = 0 + h.val; omega)).symm

end Cert.FoxFRefIdeal.Fox

end
-- ==== Proof.FoxF.lean ====
/- The forgetting attention's forward call: one head's body, block by block, and the array the launch leaves. A block's weights
   are those of `Proof/Tiles.lean`; a row of the result is the sum of the values over the weights. The values may be any
   extended reals; queries, keys and the forget gates' sums are real. -/
module

public import proofs.«01_k».proof.Proof.Body
public import proofs.«01_k».proof.Proof.FoxFRef
public import proofs.«01_k».proof.Proof.Gen.FoxFIdeal.Frame
public import proofs.«01_k».proof.Proof.Gen.FoxFIdeal.Value

@[expose] public section

noncomputable section

namespace Cert.FoxFIdeal.Mlp

open Idealize.ShloMosaic Idealize.ShloMosaic.TcCoe Idealize.ShloMosaic.Tactic
open Cert.FoxFIdeal Cert.FoxFIdeal.Gen Cert.Fox
open Cert.KernelIdeal.Fox (G2 G3 Good good rowInb keyInb laneInb probs dqTile band_idx band_in band_out readCov_band lane_idx Reads probs_apply)
open Cert.FoxFRefIdeal.Fox (Known out)
open Idealize.ShloMosaic.Pipeline (Dat)
open scoped BigOperators

/-! ## Weights past the diagonal -/

/-- A sum over the first `n` positions, where the weights past them are zero. -/
theorem sum_weights {n : ℕ} (hn : n ≤ 2048) (w : ℕ → ℝ) (y : Fin 2048 → EReal) (h0 : ∀ j, n ≤ j → w j = 0) :
    ∑ j : Fin n, ((w j : ℝ) : EReal) * y ⟨j, lt_of_lt_of_le j.isLt hn⟩ = ∑ j : Fin 2048, ((w j : ℝ) : EReal) * y j := by
  have e : ∀ N (hN : N ≤ 2048), ∑ j : Fin N, ((w j : ℝ) : EReal) * y ⟨j, lt_of_lt_of_le j.isLt hN⟩
      = ∑ j ∈ Finset.range N, (if h : j < 2048 then ((w j : ℝ) : EReal) * y ⟨j, h⟩ else 0) := fun N hN => by
    rw [← Fin.sum_univ_eq_sum_range]
    exact Finset.sum_congr rfl fun j _ => by rw [dif_pos (lt_of_lt_of_le j.isLt hN)]
  rw [e n hn]
  refine Eq.trans ?_ (e 2048 le_rfl).symm
  refine Finset.sum_subset (fun j hj => Finset.mem_range.2 (lt_of_lt_of_le (Finset.mem_range.1 hj) hn)) fun j _ hj => ?_
  have hj' : n ≤ j := not_lt.1 fun hlt => hj (Finset.mem_range.2 hlt)
  split
  · rw [h0 j hj', EReal.coe_zero, zero_mul]
  · rfl

variable {F : FTy → Type} [FloatOps F]

/-! ## The body's pieces -/

/-- What a run of the body is given: the head's number, the five inputs' staging buffers with their contents, and the
    two scratch buffers that hold the keys and values rounded. -/
structure Ins (F : FTy → Type) [FloatOps F] where
  h : BitVec 32
  arg1 : Memref sig .tc .vmem S2048x128 .f32
  harg1 : arg1.IsWhole
  arg2 : Memref sig .tc .vmem S2048x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S1x1x2048 .f32
  harg5 : arg5.IsWhole
  arg7 : Memref sig .tc .vmem S2048x128 .bf16
  arg8 : Memref sig .tc .vmem S2048x128 .bf16
  x0 : Vec F S2048x128 .f32
  x1 : Vec F S2048x128 .f32
  x2 : Vec F S2048x128 .f32
  x3 : Vec F S2048x128 .f32
  x4 : Vec F S1x1x2048 .f32

/-- The 128 rows of block `g` of an input held whole. -/
def rows (arg : Memref sig .tc .vmem S2048x128 .f32) (harg : arg.IsWhole) (x : Vec F S2048x128 .f32) (g : ℕ) (hg : g < 16) :
    Vec F S128x128 .f32 :=
  View.readAt (Elt F) arg.view (Rect.unit (s := S2048x128) ![g * 128, 0] S128x128.size (rowInb hg)).toLoadRect (harg.unread x)

/-- An input rounded, as the one piece a scratch buffer is left with. -/
def stash (arg : Memref sig .tc .vmem S2048x128 .f32) (harg : arg.IsWhole) (x : Vec F S2048x128 .f32) :
    List (View.Piece (Elt F) S2048x128 .bf16) :=
  [⟨Rect.unit (s := S2048x128) ![0, 0] S2048x128.size inb_S2048x128_S2048x128_0_0,
    k0_pay2 (View.readAt (Elt F) arg.view (Rect.unit (s := S2048x128) ![0, 0] S2048x128.size inb_S2048x128_S2048x128_0_0).toLoadRect
      (harg.unread x))⟩]

/-- The first `n` rows of a scratch buffer holding an input rounded. -/
def keys (arg' : Memref sig .tc .vmem S2048x128 .bf16) (arg : Memref sig .tc .vmem S2048x128 .f32) (harg : arg.IsWhole)
    (x : Vec F S2048x128 .f32) {n : ℕ} (hn : Good n) : Vec F (G2 n 128) .bf16 :=
  arg'.view.readCov (stash arg harg x) (Rect.unit (s := S2048x128) ![0, 0] (G2 n 128).size (keyInb hn.le)).toLoadRect

namespace Ins
variable (I : Ins F)

def q (g : ℕ) (hg : g < 16) : FVec F S128x128 .bf16 := truncf .bf16 (rows I.arg1 I.harg1 I.x0 g hg) bitsLt_bf16_f32
def fq (g : ℕ) (hg : g < 16) : Vec F S128x128 .f32 := rows I.arg4 I.harg4 I.x3 g hg
def k {n : ℕ} (hn : Good n) : Vec F (G2 n 128) .bf16 := keys I.arg7 I.arg2 I.harg2 I.x1 hn
def v {n : ℕ} (hn : Good n) : Vec F (G2 n 128) .bf16 := keys I.arg8 I.arg3 I.harg3 I.x2 hn
def fk {n : ℕ} (hn : Good n) : Vec F (G3 n) .f32 :=
  View.readAt (Elt F) I.arg5.view (Rect.unit (s := S1x1x2048) ![0, 0, 0] (G3 n).size (laneInb hn.le)).toLoadRect (I.harg5.unread I.x4)

/-- Block `g`'s weights. -/
def p (g : ℕ) (hg : g < 16) : FVec F (G2 128 ((g + 1) * 128)) .f32 :=
  probs I.h (BitVec.ofNat 32 (g * 128)) (good g hg) (I.q g hg) (I.k (good g hg)) (I.fq g hg) (I.fk (good g hg))

/-- The output: a piece per block, the values over the block's weights. -/
def outL : (g : ℕ) → g ≤ 16 → List (View.Piece (Elt F) S2048x128 .f32)
  | 0, _ => []
  | g + 1, hg => ⟨Rect.unit (s := S2048x128) ![g * 128, 0] S128x128.size (rowInb hg), dqTile (I.v (good g hg)) (I.p g hg)⟩ ::
      outL g (Nat.le_of_succ_le hg)

end Ins

section
variable (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S1x1x2048 .f32) (harg5 : arg5.IsWhole) (arg6 : Memref sig .tc .vmem S2048x128 .f32) (harg6 : arg6.IsWhole)
  (arg7 : Memref sig .tc .vmem S2048x128 .bf16) (harg7 : arg7.IsWhole) (arg8 : Memref sig .tc .vmem S2048x128 .bf16) (harg8 : arg8.IsWhole)
  (x0 x1 x2 x3 : Vec F S2048x128 .f32) (x4 : Vec F S1x1x2048 .f32)

/-- What a run is given, bundled. -/
abbrev ins : Ins F := ⟨BitVec.ofNat 32 (i 0), arg1, harg1, arg2, harg2, arg3, harg3, arg4, harg4, arg5, harg5, arg7, arg8, x0, x1, x2, x3, x4⟩

/-- The printed body leaves these pieces. -/
theorem run_out : (kernelRun0_A (F := F) c i arg1 harg1 arg2 harg2 arg3 harg3 arg4 harg4 arg5 harg5 arg6 harg6 arg7 harg7 arg8 harg8 x0 x1 x2 x3 x4).1
    = Ins.outL (ins i arg1 harg1 arg2 harg2 arg3 harg3 arg4 harg4 arg5 harg5 arg7 arg8 x0 x1 x2 x3 x4) 16 le_rfl := by sl_kernel_rfl

theorem out_block : out0_A_5 (F := F) c i arg1 harg1 arg2 harg2 arg3 harg3 arg4 harg4 arg5 harg5 arg6 harg6 arg7 harg7 arg8 harg8 x0 x1 x2 x3 x4
    = View.canon (Ins.outL (ins i arg1 harg1 arg2 harg2 arg3 harg3 arg4 harg4 arg5 harg5 arg7 arg8 x0 x1 x2 x3 x4) 16 le_rfl) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4),
    run_out]

end

/-! ## The pieces read at an index -/

theorem rows_apply (arg : Memref sig .tc .vmem S2048x128 .f32) (harg : arg.IsWhole) (x : Vec Ideal S2048x128 .f32) (g : ℕ) (hg : g < 16)
    (r d : Fin 128) : rows arg harg x g hg (ix2 r d) = x (ix2 ⟨g * 128 + r, by omega⟩ d) := by
  unfold rows View.readAt
  rw [harg.read_unread]
  exact congrArg x (band_idx _ r d _)

theorem rounded_apply (x : Vec Ideal S2048x128 .f32) (j : Fin 2048) (d : Fin 128) : k0_pay2 x (ix2 j d) = x (ix2 j d) := by
  unfold k0_pay2
  pointwise

theorem canon_stash (arg : Memref sig .tc .vmem S2048x128 .f32) (harg : arg.IsWhole) (x : Vec Ideal S2048x128 .f32) :
    View.canon (stash arg harg x) = k0_pay2 x := by
  unfold stash
  rw [View.canon_unit_zero (by funext a; fin_cases a <;> rfl), View.readAt_eq_ld, harg.read_unread,
    View.ld_unit_zero (by funext a; fin_cases a <;> rfl)]

theorem keys_apply (arg' : Memref sig .tc .vmem S2048x128 .bf16) (arg : Memref sig .tc .vmem S2048x128 .f32) (harg : arg.IsWhole)
    (x : Vec Ideal S2048x128 .f32) {n : ℕ} (hn : Good n) (j : Fin n) (d : Fin 128) :
    keys arg' arg harg x hn (ix2 j d) = x (ix2 ⟨j, lt_of_lt_of_le j.isLt hn.le⟩ d) := by
  have hj := lt_of_lt_of_le j.isLt hn.le
  unfold keys
  rw [readCov_band _ _ _ j d (by omega), canon_stash, rounded_apply]
  congr 2
  apply Fin.ext; show 0 + j.val = j.val; omega

namespace Ins

/-- The head's number and its real data; the head's values and output gradient, which the weights do not read, are zero. -/
structure Holds (I : Ins Ideal) (H : Head) (h : ℕ) : Prop where
  lt : h < 128
  word : I.h = BitVec.ofNat 32 h
  q : ∀ (r : Fin 2048) (d : Fin 128), I.x0 (ix2 r d) = ((H.Q r d : ℝ) : EReal)
  k : ∀ (r : Fin 2048) (d : Fin 128), I.x1 (ix2 r d) = ((H.K r d : ℝ) : EReal)
  fq : ∀ r : Fin 2048, I.x3 (ix2 r ⟨h, lt⟩) = ((H.f r : ℝ) : EReal)
  fk : ∀ j : Fin 2048, I.x4 (ix3 0 0 j) = ((H.f j : ℝ) : EReal)
  v0 : ∀ (r : Fin 2048) (d : Fin 128), (0 : EReal) = ((H.V r d : ℝ) : EReal)
  g0 : ∀ (r : Fin 2048) (d : Fin 128), (0 : EReal) = ((H.G r d : ℝ) : EReal)

variable {I : Ins Ideal} {H : Head} {h : ℕ}

theorem Holds.reads (X : Holds I H h) (g : ℕ) (hg : g < 16) :
    Reads H g h X.lt (I.q g hg) (fun _ => 0) (I.k (good g hg)) (fun _ => 0) (I.fq g hg) (I.fk (good g hg)) where
  q r d := by
    unfold Ins.q
    pointwise
    rw [rows_apply, X.q]
  dO r d := X.g0 ⟨g * 128 + r, by omega⟩ d
  k j d := by unfold Ins.k; rw [keys_apply, X.k]
  v j d := X.v0 ⟨j, lt_of_lt_of_le j.isLt (good g hg).le⟩ d
  fq r := by unfold Ins.fq; rw [rows_apply, X.fq]
  fk j := by
    unfold Ins.fk View.readAt
    rw [I.harg5.read_unread]
    exact (congrArg I.x4 (lane_idx _ j 0 0 (lt_of_lt_of_le j.isLt (good g hg).le))).trans (X.fk _)

theorem Holds.p_apply (X : Holds I H h) (g : ℕ) (hg : g < 16) (r : Fin 128) (j : Fin ((g + 1) * 128)) :
    I.p g hg (ix2 r j) = ((H.pr (g * 128 + r) j : ℝ) : EReal) := by
  unfold Ins.p
  rw [X.word]
  exact probs_apply (X.reads g hg) (good g hg) hg rfl r j

theorem tile_apply {n : ℕ} (v : FVec Ideal (G2 n 128) .bf16) (p : FVec Ideal (G2 128 n) .f32) (r d : Fin 128) :
    dqTile v p (ix2 r d) = ∑ j : Fin n, p (ix2 r j) * v (ix2 j d) := by
  unfold dqTile
  pointwise [Cert.KernelIdeal.Fox.plain_apply]

/-- After the first `g` blocks their rows hold the values over the weights. -/
theorem Holds.out (X : Holds I H h) (g : ℕ) (hg : g ≤ 16) (r : Fin 2048) (d : Fin 128) (hr : (r : ℕ) < g * 128) :
    View.canon (I.outL g hg) (ix2 r d) = ∑ j : Fin 2048, ((H.pr r j : ℝ) : EReal) * I.x2 (ix2 j d) := by
  induction g with
  | zero => omega
  | succ g ih =>
    have hg' : g < 16 := hg
    by_cases hr' : (r : ℕ) < g * 128
    · exact (band_out _ _ _ r d (Or.inl hr')).trans (ih (by omega) hr')
    · refine (band_in _ _ _ r d (by omega) (by omega)).trans ?_
      rw [tile_apply]
      have e : g * 128 + (r.val - g * 128) = r.val := by omega
      refine Eq.trans ?_ (sum_weights (good g hg').le (fun j => H.pr r j) (fun j => I.x2 (ix2 j d)) (fun j hj => H.pr_of_lt (by omega)))
      refine Finset.sum_congr rfl fun j _ => congrArg₂ (· * ·) ?_ ?_
      · refine (X.p_apply g hg' _ j).trans ?_
        show ((H.pr (g * 128 + (r.val - g * 128)) j : ℝ) : EReal) = _
        rw [e]
      · exact keys_apply _ _ _ _ (good g hg') j d

end Ins

/-! ## Which block a point reads and writes -/

theorem point0 : ∀ t : Fin grid0.N, (grid0.coords t 0).val = t.val ∧ t.val < 8 := by decide +kernel

theorem i0 : ∀ t : Fin grid0.N, win0_0.index t 0 = 0 ∧ win0_0.index t 1 = t.val := by decide +kernel
theorem i1 : ∀ t : Fin grid0.N, win0_1.index t 0 = 0 ∧ win0_1.index t 1 = t.val := by decide +kernel
theorem i2 : ∀ t : Fin grid0.N, win0_2.index t 0 = 0 ∧ win0_2.index t 1 = 16 + t.val := by decide +kernel
theorem i3 : ∀ t : Fin grid0.N, win0_3.index t 0 = 0 ∧ win0_3.index t 1 = 0 := by decide +kernel
theorem i4 : ∀ t : Fin grid0.N, win0_4.index t 0 = t.val ∧ win0_4.index t 1 = 0 ∧ win0_4.index t 2 = 0 := by decide +kernel
theorem i5 : ∀ t : Fin grid0.N, win0_5.index t 0 = 0 ∧ win0_5.index t 1 = t.val := by decide +kernel

/-- An array's index under an entry of a window's block. -/
theorem emb_val (w : Fin cfg0.W) (t : Fin cfg0.N) (y : ((cfg0.win w).xblock (cfg0.grid.coords t)).Idx) (a : Fin (cfg0.win w).shape.rank)
    (hk : (cfg0.win w).kind = .blocked) :
    ((((cfg0.win w).rect t).emb y a : Fin _) : ℕ) = (cfg0.win w).index t a * (cfg0.win w).size a + y a :=
  Pipeline.Window.rect_emb_val (cfg0.win w) t y a hk

theorem emb0 (t : Fin cfg0.N) (r : Fin 2048) (d : Fin 128) (h : t.val * 128 + d < 1024) :
    ((cfg0.win 0).blk t).view.emb (ix2 r d) = (ix2 r ⟨t.val * 128 + d, h⟩ : S2048x1024.Idx) := by
  funext a; apply Fin.ext
  refine (emb_val 0 t _ a rfl).trans ?_
  match a with
  | ⟨0, _⟩ => show win0_0.index t 0 * 2048 + r.val = r.val; rw [(i0 t).1]; omega
  | ⟨1, _⟩ => show win0_0.index t 1 * 128 + d.val = t.val * 128 + d; rw [(i0 t).2]
theorem emb1 (t : Fin cfg0.N) (r : Fin 2048) (d : Fin 128) (h : t.val * 128 + d < 1024) :
    ((cfg0.win 1).blk t).view.emb (ix2 r d) = (ix2 r ⟨t.val * 128 + d, h⟩ : S2048x1024.Idx) := by
  funext a; apply Fin.ext
  refine (emb_val 1 t _ a rfl).trans ?_
  match a with
  | ⟨0, _⟩ => show win0_1.index t 0 * 2048 + r.val = r.val; rw [(i1 t).1]; omega
  | ⟨1, _⟩ => show win0_1.index t 1 * 128 + d.val = t.val * 128 + d; rw [(i1 t).2]
theorem emb2 (t : Fin cfg0.N) (r : Fin 2048) (d : Fin 128) (h : 2048 + (t.val * 128 + d) < 4608) :
    ((cfg0.win 2).blk t).view.emb (ix2 r d) = (ix2 r ⟨2048 + (t.val * 128 + d), h⟩ : S2048x4608.Idx) := by
  funext a; apply Fin.ext
  refine (emb_val 2 t _ a rfl).trans ?_
  match a with
  | ⟨0, _⟩ => show win0_2.index t 0 * 2048 + r.val = r.val; rw [(i2 t).1]; omega
  | ⟨1, _⟩ => show win0_2.index t 1 * 128 + d.val = 2048 + (t.val * 128 + d); rw [(i2 t).2]; omega
theorem emb3 (t : Fin cfg0.N) (r : Fin 2048) (d : Fin 128) :
    ((cfg0.win 3).blk t).view.emb (ix2 r d) = (ix2 r d : S2048x128.Idx) := by
  funext a; apply Fin.ext
  refine (emb_val 3 t _ a rfl).trans ?_
  match a with
  | ⟨0, _⟩ => show win0_3.index t 0 * 2048 + r.val = r.val; rw [(i3 t).1]; omega
  | ⟨1, _⟩ => show win0_3.index t 1 * 128 + d.val = d.val; rw [(i3 t).2]; omega
theorem emb4 (t : Fin cfg0.N) (j : Fin 2048) (h : t.val < 8) :
    ((cfg0.win 4).blk t).view.emb (ix3 0 0 j) = (ix3 ⟨t.val, h⟩ 0 j : S8x1x2048.Idx) := by
  funext a; apply Fin.ext
  refine (emb_val 4 t _ a rfl).trans ?_
  match a with
  | ⟨0, _⟩ => show win0_4.index t 0 * 1 + 0 = t.val; rw [(i4 t).1]; omega
  | ⟨1, _⟩ => show win0_4.index t 1 * 1 + 0 = 0; rw [(i4 t).2.1]
  | ⟨2, _⟩ => show win0_4.index t 2 * 2048 + j.val = j.val; rw [(i4 t).2.2]; omega
theorem emb5 (t : Fin cfg0.N) (r : Fin 2048) (d : Fin 128) (h : t.val * 128 + d < 1024) :
    ((cfg0.win 5).blk t).view.emb (ix2 r d) = (ix2 r ⟨t.val * 128 + d, h⟩ : S2048x1024.Idx) := by
  funext a; apply Fin.ext
  refine (emb_val 5 t _ a rfl).trans ?_
  match a with
  | ⟨0, _⟩ => show win0_5.index t 0 * 2048 + r.val = r.val; rw [(i5 t).1]; omega
  | ⟨1, _⟩ => show win0_5.index t 1 * 128 + d.val = t.val * 128 + d; rw [(i5 t).2]

/-! ## The launch -/

section
variable (m : (ℓ : Loc nD τ sig) → Buf (Elt Ideal) ℓ) (c : Dev nD) (t : Fin cfg0.N)

/-- The arguments hold the data. -/
abbrev HoldsMem (D : Data) : Prop :=
  Known (m ((c.tc : Thread nD τ).loc main_arg0)) (m ((c.tc : Thread nD τ).loc main_arg1)) (m ((c.tc : Thread nD τ).loc main_arg3)) D

/-- What the run at point `t` is given. -/
abbrev insAt : Ins Ideal :=
  ins (grid0.coords t) (ms0_0 t) (hs0_0 t) (ms0_1 t) (hs0_1 t) (ms0_2 t) (hs0_2 t) (ms0_3 t) (hs0_3 t) (ms0_4 t) (hs0_4 t)
    scM0_0 scM0_1 (iblk m c 0 t) (iblk m c 1 t) (iblk m c 2 t) (iblk m c 3 t) (iblk m c 4 t)

/-- The row vector of the keys' sums the host cuts out before the launch. -/
theorem V_fk (h : Fin 8) (j : Fin 2048) :
    (V m c main_v2 : S8x1x2048.Idx → EReal) (ix3 h 0 j) = (m ((c.tc : Thread nD τ).loc main_arg3) : S2048x128.Idx → EReal) (ix2 j ⟨h, by omega⟩) := by
  have e : V m c main_v2 = broadcastInDim S8x1x2048 ![0, 2] bcast_S8x2048_S8x1x2048_0_2 (transpose S8x2048 [1, 0]
      (extractStridedSlice S2048x8 ![0, 0] (m ((c.tc : Thread nD τ).loc main_arg3)) slices_S2048x128_S2048x8_0_0) transposes_S2048x8_S8x2048_1_0) := by
    unfold_abbrev_sides
    after_results
  rw [e]
  pointwise

variable {m c} {D : Data} (hD : HoldsMem m c D)
include hD

theorem holds_insAt : Ins.Holds (insAt m c t) (D.head t.val) t.val where
  lt := lt_of_lt_of_le (point0 t).2 (by decide)
  word := by
    show BitVec.ofNat 32 (grid0.coords t 0).val = _
    rw [(point0 t).1]
  q r d := by
    have h : t.val * 128 + d < 1024 := by have := (point0 t).2; omega
    show iblk m c 0 t (ix2 r d) = _
    refine Eq.trans (b := (m ((c.tc : Thread nD τ).loc main_arg0) : S2048x1024.Idx → EReal) (ix2 r ⟨t.val * 128 + d, h⟩)) ?_ (hD.q r ⟨_, h⟩)
    rw [← emb0 t r d h, ← V_main_arg0 m c]; rfl
  k r d := by
    have h : t.val * 128 + d < 1024 := by have := (point0 t).2; omega
    show iblk m c 1 t (ix2 r d) = _
    refine Eq.trans (b := (m ((c.tc : Thread nD τ).loc main_arg1) : S2048x1024.Idx → EReal) (ix2 r ⟨t.val * 128 + d, h⟩)) ?_ (hD.k r ⟨_, h⟩)
    rw [← emb1 t r d h, ← V_main_arg1 m c]; rfl
  fq r := by
    have h := (point0 t).2
    show iblk m c 3 t (ix2 r ⟨t.val, _⟩) = _
    refine Eq.trans (b := (m ((c.tc : Thread nD τ).loc main_arg3) : S2048x128.Idx → EReal) (ix2 r ⟨t.val, by omega⟩)) ?_ (hD.f r ⟨_, h⟩)
    exact Eq.trans (congrArg (V m c main_arg3) (emb3 t r ⟨t.val, by omega⟩)) (congrFun (V_main_arg3 m c) _)
  fk j := by
    have h := (point0 t).2
    show iblk m c 4 t (ix3 0 0 j) = _
    refine Eq.trans (b := (V m c main_v2 : S8x1x2048.Idx → EReal) (ix3 ⟨t.val, h⟩ 0 j)) ?_ ((V_fk m c ⟨_, h⟩ j).trans (hD.f j ⟨_, h⟩))
    rw [← emb4 t j h]; rfl
  v0 r d := hD.v r ⟨t.val * 128 + d, by have := (point0 t).2; omega⟩
  g0 r d := hD.g r ⟨t.val * 128 + d, by have := (point0 t).2; omega⟩

/-- A point's block: its head's columns of the output. -/
theorem out_at (r : Fin 2048) (d : Fin 128) (h : t.val * 128 + d < 1024) :
    (outsAt0 m c t : S2048x128.Idx → EReal) (ix2 r d)
      = out D (m ((c.tc : Thread nD τ).loc main_arg2)) (ix2 r ⟨t.val * 128 + d, h⟩) := by
  unfold outsAt0
  rw [out_block]
  refine ((holds_insAt t hD).out 16 le_rfl r d (by omega)).trans ?_
  unfold out
  have e : (t.val * 128 + d.val) / 128 = t.val := by omega
  refine Finset.sum_congr rfl fun j _ => congrArg₂ (· * ·) ?_ ?_
  · show _ = (((D.head ((t.val * 128 + d.val) / 128)).pr r j : ℝ) : EReal)
    rw [e]
  · show iblk m c 2 t (ix2 j d) = _
    refine Eq.trans (congrArg (V m c main_arg2) (emb2 t j d (by omega))) (congrFun (V_main_arg2 m c) _)

/-- What the kernel's launch leaves. -/
theorem arr : (dats m 0 c).arrAt 5 cfg0.N = (out D (m ((c.tc : Thread nD τ).loc main_arg2)) : S2048x1024.Idx → EReal) := by
  refine Dat.arrAt_eq_of_cover _ 5 _ ?_ ?_
  · intro t _
    rw [Value.flushed5]
    funext y
    obtain ⟨r, d, rfl⟩ : ∃ (r : Fin 2048) (d : Fin 128), y = ix2 r d := ⟨y 0, y 1, by funext a; fin_cases a <;> rfl⟩
    have h : t.val * 128 + d < 1024 := by have := (point0 t).2; omega
    refine (out_at t hD r d h).trans ?_
    rw [← emb5 t r d h]; rfl
  · intro i
    have h1 : (i 1).val < 1024 := (i 1).isLt
    have hN : (i 1).val / 128 < cfg0.N := by show _ < 8; omega
    refine ⟨⟨(i 1).val / 128, hN⟩, flush0_5 _, ?_⟩
    have e := emb5 ⟨(i 1).val / 128, hN⟩ (i 0) ⟨(i 1).val % 128, by omega⟩ (by show (i 1).val / 128 * 128 + (i 1).val % 128 < 1024; omega)
    have : i = ((cfg0.win 5).blk ⟨(i 1).val / 128, hN⟩).view.emb (ix2 (i 0) ⟨(i 1).val % 128, by omega⟩) := by
      rw [e]; funext a
      match a with
      | ⟨0, _⟩ => rfl
      | ⟨1, _⟩ => exact Fin.ext (by show (i 1).val = (i 1).val / 128 * 128 + (i 1).val % 128; omega)
    exact Eq.mpr (congrArg (· ∈ ((cfg0.win 5).blk ⟨(i 1).val / 128, hN⟩).view.set) this) (View.emb_mem_set _ _)

end

end Cert.FoxFIdeal.Mlp

end
-- ==== Proof.Pieces.lean ====
/- The pieces the printed body leaves are the lists of Tiles.lean, by unfolding. -/
module

public import proofs.«01_k».proof.Proof.Tiles

@[expose] public section

noncomputable section

namespace Cert.KernelIdeal.Fox

open Idealize.ShloMosaic Idealize.ShloMosaic.TcCoe Idealize.ShloMosaic.Tactic
open Cert.KernelIdeal Cert.KernelIdeal.Gen

variable {F : FTy → Type} [FloatOps F]

section
variable (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S1x1x2048 .f32) (harg5 : arg5.IsWhole) (arg6 : Memref sig .tc .vmem S2048x128 .f32) (harg6 : arg6.IsWhole)
  (arg7 : Memref sig .tc .vmem S2048x128 .f32) (harg7 : arg7.IsWhole) (arg8 : Memref sig .tc .vmem S2048x128 .f32) (harg8 : arg8.IsWhole)
  (arg9 : Memref sig .tc .vmem S2048x128 .bf16) (harg9 : arg9.IsWhole) (arg10 : Memref sig .tc .vmem S2048x128 .f32) (harg10 : arg10.IsWhole)
  (arg11 : Memref sig .tc .vmem S1x1x2048 .f32) (harg11 : arg11.IsWhole) (arg12 : Memref sig .tc .vmem S2048x128 .bf16) (harg12 : arg12.IsWhole)
  (arg13 : Memref sig .tc .vmem S2048x128 .bf16) (harg13 : arg13.IsWhole) (arg14 : Memref sig .tc .vmem S2048x128 .f32) (harg14 : arg14.IsWhole)
  (x0 x1 x2 x3 : Vec F S2048x128 .f32) (x4 : Vec F S1x1x2048 .f32) (x5 : Vec F S2048x128 .f32) (xo9 : Vec F S2048x128 .f32)

/-- What a run is given, bundled. -/
abbrev ins : Ins F := ⟨BitVec.ofNat 32 (i 0), arg1, harg1, arg2, harg2, arg3, harg3, arg4, harg4, arg5, harg5, arg6, harg6, arg12, arg13, x0, x1, x2, x3, x4, x5⟩

theorem runB_dq (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo9).1 = Ins.dqL (ins i arg1 harg1 arg2 harg2 arg3 harg3 arg4 harg4 arg5 harg5 arg6 harg6 arg12 arg13 x0 x1 x2 x3 x4 x5) 16 le_rfl := by sl_kernel_rfl

theorem runB_dk (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo9).2.1 = Ins.dkL (ins i arg1 harg1 arg2 harg2 arg3 harg3 arg4 harg4 arg5 harg5 arg6 harg6 arg12 arg13 x0 x1 x2 x3 x4 x5) arg8 16 le_rfl := by sl_kernel_rfl

theorem runB_dv (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo9).2.2.1 =
    [⟨Rect.unit (s := S2048x128) ![0, 0] S2048x128.size inb_S2048x128_S2048x128_0_0,
      k0_pay2 (arg14.view.readCov (Ins.dvL (ins i arg1 harg1 arg2 harg2 arg3 harg3 arg4 harg4 arg5 harg5 arg6 harg6 arg12 arg13 x0 x1 x2 x3 x4 x5) arg14 16 le_rfl)
        (Rect.unit (s := S2048x128) ![0, 0] S2048x128.size inb_S2048x128_S2048x128_0_0).toLoadRect)⟩] := by sl_kernel_rfl

theorem runB_dfq (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo9).2.2.2.1 = Ins.dfqLB (ins i arg1 harg1 arg2 harg2 arg3 harg3 arg4 harg4 arg5 harg5 arg6 harg6 arg12 arg13 x0 x1 x2 x3 x4 x5) arg10 harg10 xo9 16 le_rfl := by sl_kernel_rfl

theorem runB_dfk (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo9).2.2.2.2.1 = Ins.dfkL (ins i arg1 harg1 arg2 harg2 arg3 harg3 arg4 harg4 arg5 harg5 arg6 harg6 arg12 arg13 x0 x1 x2 x3 x4 x5) arg11 16 le_rfl := by sl_kernel_rfl

theorem runA_dq (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 = Ins.dqL (ins i arg1 harg1 arg2 harg2 arg3 harg3 arg4 harg4 arg5 harg5 arg6 harg6 arg12 arg13 x0 x1 x2 x3 x4 x5) 16 le_rfl := by sl_kernel_rfl

theorem runA_dk (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 = Ins.dkL (ins i arg1 harg1 arg2 harg2 arg3 harg3 arg4 harg4 arg5 harg5 arg6 harg6 arg12 arg13 x0 x1 x2 x3 x4 x5) arg8 16 le_rfl := by sl_kernel_rfl

theorem runA_dv (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1 =
    [⟨Rect.unit (s := S2048x128) ![0, 0] S2048x128.size inb_S2048x128_S2048x128_0_0,
      k0_pay2 (arg14.view.readCov (Ins.dvL (ins i arg1 harg1 arg2 harg2 arg3 harg3 arg4 harg4 arg5 harg5 arg6 harg6 arg12 arg13 x0 x1 x2 x3 x4 x5) arg14 16 le_rfl)
        (Rect.unit (s := S2048x128) ![0, 0] S2048x128.size inb_S2048x128_S2048x128_0_0).toLoadRect)⟩] := by sl_kernel_rfl

theorem runA_dfq (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1 = Ins.dfqLA (ins i arg1 harg1 arg2 harg2 arg3 harg3 arg4 harg4 arg5 harg5 arg6 harg6 arg12 arg13 x0 x1 x2 x3 x4 x5) arg10 16 le_rfl := by sl_kernel_rfl

theorem runA_dfk (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1 = Ins.dfkL (ins i arg1 harg1 arg2 harg2 arg3 harg3 arg4 harg4 arg5 harg5 arg6 harg6 arg12 arg13 x0 x1 x2 x3 x4 x5) arg11 16 le_rfl := by sl_kernel_rfl

end

end Cert.KernelIdeal.Fox

end
-- ==== Proof.Arrays.lean ====
/- The arrays the launch leaves, over the exact numbers. -/
module

public import proofs.«01_k».proof.Proof.Body
public import proofs.«01_k».proof.Proof.Data
public import proofs.«01_k».proof.Proof.Pieces
public import proofs.«01_k».proof.Proof.Gen.KernelIdeal.Value

@[expose] public section

noncomputable section

namespace Cert.KernelIdeal.Fox

open Idealize.ShloMosaic Idealize.ShloMosaic.TcCoe
open Cert.KernelIdeal Cert.KernelIdeal.Gen
open scoped BigOperators

/-! ## Which block a point reads and writes -/

theorem point0 : ∀ t : Fin grid0.N, (grid0.coords t 0).val = t.val ∧ t.val < 8 := by decide +kernel

theorem i0 : ∀ t : Fin grid0.N, win0_0.index t 0 = 0 ∧ win0_0.index t 1 = t.val := by decide +kernel
theorem i1 : ∀ t : Fin grid0.N, win0_1.index t 0 = 0 ∧ win0_1.index t 1 = t.val := by decide +kernel
theorem i2 : ∀ t : Fin grid0.N, win0_2.index t 0 = 0 ∧ win0_2.index t 1 = 16 + t.val := by decide +kernel
theorem i3 : ∀ t : Fin grid0.N, win0_3.index t 0 = 0 ∧ win0_3.index t 1 = 0 := by decide +kernel
theorem i4 : ∀ t : Fin grid0.N, win0_4.index t 0 = t.val ∧ win0_4.index t 1 = 0 ∧ win0_4.index t 2 = 0 := by decide +kernel
theorem i5 : ∀ t : Fin grid0.N, win0_5.index t 0 = 0 ∧ win0_5.index t 1 = t.val := by decide +kernel
theorem i6 : ∀ t : Fin grid0.N, win0_6.index t 0 = 0 ∧ win0_6.index t 1 = t.val := by decide +kernel
theorem i7 : ∀ t : Fin grid0.N, win0_7.index t 0 = 0 ∧ win0_7.index t 1 = t.val := by decide +kernel
theorem i8 : ∀ t : Fin grid0.N, win0_8.index t 0 = 0 ∧ win0_8.index t 1 = t.val := by decide +kernel
theorem i9 : ∀ t : Fin grid0.N, win0_9.index t 0 = 0 ∧ win0_9.index t 1 = 0 := by decide +kernel
theorem i10 : ∀ t : Fin grid0.N, win0_10.index t 0 = t.val ∧ win0_10.index t 1 = 0 ∧ win0_10.index t 2 = 0 := by decide +kernel

/-- A block of 2048 rows and 128 columns sits at its column offset. -/
theorem emb_cols (w : Fin cfg0.W) (t : Fin cfg0.N) (y : ((cfg0.win w).xblock (cfg0.grid.coords t)).Idx) (a : Fin (cfg0.win w).shape.rank)
    (hk : (cfg0.win w).kind = .blocked) :
    ((((cfg0.win w).rect t).emb y a : Fin _) : ℕ) = (cfg0.win w).index t a * (cfg0.win w).size a + y a :=
  Pipeline.Window.rect_emb_val (cfg0.win w) t y a hk

theorem emb0 (t : Fin cfg0.N) (r : Fin 2048) (d : Fin 128) (h : t.val * 128 + d < 1024) :
    ((cfg0.win 0).blk t).view.emb (ix2 r d) = (ix2 r ⟨t.val * 128 + d, h⟩ : S2048x1024.Idx) := by
  funext a; apply Fin.ext
  refine (emb_cols 0 t _ a rfl).trans ?_
  match a with
  | ⟨0, _⟩ => show win0_0.index t 0 * 2048 + r.val = r.val; rw [(i0 t).1]; omega
  | ⟨1, _⟩ => show win0_0.index t 1 * 128 + d.val = t.val * 128 + d; rw [(i0 t).2]
theorem emb1 (t : Fin cfg0.N) (r : Fin 2048) (d : Fin 128) (h : t.val * 128 + d < 1024) :
    ((cfg0.win 1).blk t).view.emb (ix2 r d) = (ix2 r ⟨t.val * 128 + d, h⟩ : S2048x1024.Idx) := by
  funext a; apply Fin.ext
  refine (emb_cols 1 t _ a rfl).trans ?_
  match a with
  | ⟨0, _⟩ => show win0_1.index t 0 * 2048 + r.val = r.val; rw [(i1 t).1]; omega
  | ⟨1, _⟩ => show win0_1.index t 1 * 128 + d.val = t.val * 128 + d; rw [(i1 t).2]
theorem emb2 (t : Fin cfg0.N) (r : Fin 2048) (d : Fin 128) (h : 2048 + (t.val * 128 + d) < 4608) :
    ((cfg0.win 2).blk t).view.emb (ix2 r d) = (ix2 r ⟨2048 + (t.val * 128 + d), h⟩ : S2048x4608.Idx) := by
  funext a; apply Fin.ext
  refine (emb_cols 2 t _ a rfl).trans ?_
  match a with
  | ⟨0, _⟩ => show win0_2.index t 0 * 2048 + r.val = r.val; rw [(i2 t).1]; omega
  | ⟨1, _⟩ => show win0_2.index t 1 * 128 + d.val = 2048 + (t.val * 128 + d); rw [(i2 t).2]; omega
theorem emb3 (t : Fin cfg0.N) (r : Fin 2048) (d : Fin 128) :
    ((cfg0.win 3).blk t).view.emb (ix2 r d) = (ix2 r d : S2048x128.Idx) := by
  funext a; apply Fin.ext
  refine (emb_cols 3 t _ a rfl).trans ?_
  match a with
  | ⟨0, _⟩ => show win0_3.index t 0 * 2048 + r.val = r.val; rw [(i3 t).1]; omega
  | ⟨1, _⟩ => show win0_3.index t 1 * 128 + d.val = d.val; rw [(i3 t).2]; omega
theorem emb4 (t : Fin cfg0.N) (j : Fin 2048) (h : t.val < 8) :
    ((cfg0.win 4).blk t).view.emb (ix3 0 0 j) = (ix3 ⟨t.val, h⟩ 0 j : S8x1x2048.Idx) := by
  funext a; apply Fin.ext
  refine (emb_cols 4 t _ a rfl).trans ?_
  match a with
  | ⟨0, _⟩ => show win0_4.index t 0 * 1 + 0 = t.val; rw [(i4 t).1]; omega
  | ⟨1, _⟩ => show win0_4.index t 1 * 1 + 0 = 0; rw [(i4 t).2.1]
  | ⟨2, _⟩ => show win0_4.index t 2 * 2048 + j.val = j.val; rw [(i4 t).2.2]; omega
theorem emb5 (t : Fin cfg0.N) (r : Fin 2048) (d : Fin 128) (h : t.val * 128 + d < 1024) :
    ((cfg0.win 5).blk t).view.emb (ix2 r d) = (ix2 r ⟨t.val * 128 + d, h⟩ : S2048x1024.Idx) := by
  funext a; apply Fin.ext
  refine (emb_cols 5 t _ a rfl).trans ?_
  match a with
  | ⟨0, _⟩ => show win0_5.index t 0 * 2048 + r.val = r.val; rw [(i5 t).1]; omega
  | ⟨1, _⟩ => show win0_5.index t 1 * 128 + d.val = t.val * 128 + d; rw [(i5 t).2]
theorem emb6 (t : Fin cfg0.N) (r : Fin 2048) (d : Fin 128) (h : t.val * 128 + d < 1024) :
    ((cfg0.win 6).blk t).view.emb (ix2 r d) = (ix2 r ⟨t.val * 128 + d, h⟩ : S2048x1024.Idx) := by
  funext a; apply Fin.ext
  refine (emb_cols 6 t _ a rfl).trans ?_
  match a with
  | ⟨0, _⟩ => show win0_6.index t 0 * 2048 + r.val = r.val; rw [(i6 t).1]; omega
  | ⟨1, _⟩ => show win0_6.index t 1 * 128 + d.val = t.val * 128 + d; rw [(i6 t).2]
theorem emb7 (t : Fin cfg0.N) (r : Fin 2048) (d : Fin 128) (h : t.val * 128 + d < 1024) :
    ((cfg0.win 7).blk t).view.emb (ix2 r d) = (ix2 r ⟨t.val * 128 + d, h⟩ : S2048x1024.Idx) := by
  funext a; apply Fin.ext
  refine (emb_cols 7 t _ a rfl).trans ?_
  match a with
  | ⟨0, _⟩ => show win0_7.index t 0 * 2048 + r.val = r.val; rw [(i7 t).1]; omega
  | ⟨1, _⟩ => show win0_7.index t 1 * 128 + d.val = t.val * 128 + d; rw [(i7 t).2]
theorem emb8 (t : Fin cfg0.N) (r : Fin 2048) (d : Fin 128) (h : t.val * 128 + d < 1024) :
    ((cfg0.win 8).blk t).view.emb (ix2 r d) = (ix2 r ⟨t.val * 128 + d, h⟩ : S2048x1024.Idx) := by
  funext a; apply Fin.ext
  refine (emb_cols 8 t _ a rfl).trans ?_
  match a with
  | ⟨0, _⟩ => show win0_8.index t 0 * 2048 + r.val = r.val; rw [(i8 t).1]; omega
  | ⟨1, _⟩ => show win0_8.index t 1 * 128 + d.val = t.val * 128 + d; rw [(i8 t).2]
theorem emb9 (t : Fin cfg0.N) (r : Fin 2048) (d : Fin 128) :
    ((cfg0.win 9).blk t).view.emb (ix2 r d) = (ix2 r d : S2048x128.Idx) := by
  funext a; apply Fin.ext
  refine (emb_cols 9 t _ a rfl).trans ?_
  match a with
  | ⟨0, _⟩ => show win0_9.index t 0 * 2048 + r.val = r.val; rw [(i9 t).1]; omega
  | ⟨1, _⟩ => show win0_9.index t 1 * 128 + d.val = d.val; rw [(i9 t).2]; omega
theorem emb10 (t : Fin cfg0.N) (j : Fin 2048) (h : t.val < 8) :
    ((cfg0.win 10).blk t).view.emb (ix3 0 0 j) = (ix3 ⟨t.val, h⟩ 0 j : S8x1x2048.Idx) := by
  funext a; apply Fin.ext
  refine (emb_cols 10 t _ a rfl).trans ?_
  match a with
  | ⟨0, _⟩ => show win0_10.index t 0 * 1 + 0 = t.val; rw [(i10 t).1]; omega
  | ⟨1, _⟩ => show win0_10.index t 1 * 1 + 0 = 0; rw [(i10 t).2.1]
  | ⟨2, _⟩ => show win0_10.index t 2 * 2048 + j.val = j.val; rw [(i10 t).2.2]; omega

/-! ## What each point leaves, as the lists of pieces -/

section
variable {F : FTy → Type} [FloatOps F] (m : (ℓ : Loc nD τ sig) → Buf (Elt F) ℓ) (c : Dev nD) (t : Fin cfg0.N)

/-- What the run at point `t` is given. -/
abbrev insAt : Ins F :=
  ins (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 scM0_1 (iblk m c 0 t) (iblk m c 1 t) (iblk m c 2 t) (iblk m c 3 t) (iblk m c 4 t) (iblk m c 5 t)

theorem out_dq : (outsAt0 m c t.val t.isLt).1 = View.canon (Ins.dqL (insAt m c t) 16 le_rfl) := by
  by_cases h0 : t.val % 8 = 0
  · rw [outsAt0_A m c t h0]
    dsimp only
    unfold out0_A_6
    rw [View.read_writes_junk_eq_canon, runA_dq]
  · rw [outsAt0_B m c t h0]
    dsimp only
    unfold out0_B_6
    rw [View.read_writes_junk_eq_canon, runB_dq]

theorem out_dk : (outsAt0 m c t.val t.isLt).2.1 = View.canon (Ins.dkL (insAt m c t) (ms0_7 t) 16 le_rfl) := by
  by_cases h0 : t.val % 8 = 0
  · rw [outsAt0_A m c t h0]
    dsimp only
    unfold out0_A_7
    rw [View.read_writes_junk_eq_canon, runA_dk]
  · rw [outsAt0_B m c t h0]
    dsimp only
    unfold out0_B_7
    rw [View.read_writes_junk_eq_canon, runB_dk]

theorem out_dv : (outsAt0 m c t.val t.isLt).2.2.1 = k0_pay2 (View.canon (Ins.dvL (insAt m c t) scM0_2 16 le_rfl)) := by
  by_cases h0 : t.val % 8 = 0
  · rw [outsAt0_A m c t h0]
    dsimp only
    unfold out0_A_8
    rw [View.read_writes_junk_eq_canon, runA_dv, View.canon_unit_zero (by funext a; fin_cases a <;> rfl), View.readCov_eq_canon']
    exact congrArg k0_pay2 (View.ld_unit_zero (by funext a; fin_cases a <;> rfl) _ _)
  · rw [outsAt0_B m c t h0]
    dsimp only
    unfold out0_B_8
    rw [View.read_writes_junk_eq_canon, runB_dv, View.canon_unit_zero (by funext a; fin_cases a <;> rfl), View.readCov_eq_canon']
    exact congrArg k0_pay2 (View.ld_unit_zero (by funext a; fin_cases a <;> rfl) _ _)

theorem out_dfk : (outsAt0 m c t.val t.isLt).2.2.2.2 = View.canon (Ins.dfkL (insAt m c t) (ms0_10 t) 16 le_rfl) := by
  by_cases h0 : t.val % 8 = 0
  · rw [outsAt0_A m c t h0]
    dsimp only
    unfold out0_A_10
    rw [View.read_writes_junk_eq_canon, runA_dfk]
  · rw [outsAt0_B m c t h0]
    dsimp only
    unfold out0_B_10
    rw [View.read_writes_junk_eq_canon, runB_dfk]

theorem out_dfqA (h0 : t.val % 8 = 0) :
    (outsAt0 m c t.val t.isLt).2.2.2.1 = View.canon (Ins.dfqLA (insAt m c t) (ms0_9 t) 16 le_rfl) := by
  rw [outsAt0_A m c t h0]
  dsimp only
  unfold out0_A_9
  rw [View.read_writes_junk_eq_canon, runA_dfq]

theorem out_dfqB (h0 : ¬t.val % 8 = 0) :
    (outsAt0 m c t.val t.isLt).2.2.2.1
      = View.canon (Ins.dfqLB (insAt m c t) (ms0_9 t) (hs0_9 t)
          (outsAt0 m c (t.val - 1) (lt_of_le_of_lt (Nat.sub_le _ _) t.isLt)).2.2.2.1 16 le_rfl) := by
  rw [outsAt0_B m c t h0]
  dsimp only
  unfold out0_B_9
  rw [View.read_writes_junk_eq_canon, runB_dfq]

end

end Cert.KernelIdeal.Fox

end
-- ==== Proof.Launch.lean ====
/- The five arrays the launch leaves hold the real gradient of the data its arguments hold. -/
module

public import proofs.«01_k».proof.Proof.Arrays

@[expose] public section

noncomputable section

namespace Cert.KernelIdeal.Fox

open Idealize.ShloMosaic Idealize.ShloMosaic.TcCoe
open Cert.KernelIdeal Cert.KernelIdeal.Gen Cert.Fox Cert.KernelIdeal.Fox.Ins
open Idealize.ShloMosaic.Pipeline (Dat)
open scoped BigOperators

variable (m : (ℓ : Loc nD τ sig) → Buf (Elt Ideal) ℓ) (c : Dev nD) (t : Fin cfg0.N)

/-- The arguments hold the data. -/
abbrev HoldsMem (D : Data) : Prop :=
  Given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) D

/-- The row vector of the keys' sums the host cuts out before the launch. -/
theorem V_fk (h : Fin 8) (j : Fin 2048) :
    (V m c main_v2 : S8x1x2048.Idx → EReal) (ix3 h 0 j) = (m ((c.tc : Thread nD τ).loc main_arg3) : S2048x128.Idx → EReal) (ix2 j ⟨h, by omega⟩) := by
  have e : V m c main_v2 = broadcastInDim S8x1x2048 ![0, 2] bcast_S8x2048_S8x1x2048_0_2 (transpose S8x2048 [1, 0]
      (extractStridedSlice S2048x8 ![0, 0] (m ((c.tc : Thread nD τ).loc main_arg3)) slices_S2048x128_S2048x8_0_0) transposes_S2048x8_S8x2048_1_0) := by
    unfold_abbrev_sides
    after_results
  rw [e]
  pointwise

variable {m c} {D : Data} (hD : HoldsMem m c D)
include hD

theorem holds_insAt : Ins.Holds (insAt m c t) (D.head t.val) t.val where
  lt := lt_of_lt_of_le (point0 t).2 (by decide)
  word := by
    show BitVec.ofNat 32 (grid0.coords t 0).val = _
    rw [(point0 t).1]
  q r d := by
    have h : t.val * 128 + d < 1024 := by have := (point0 t).2; omega
    show iblk m c 0 t (ix2 r d) = _
    refine Eq.trans (b := (m ((c.tc : Thread nD τ).loc main_arg0) : S2048x1024.Idx → EReal) (ix2 r ⟨t.val * 128 + d, h⟩)) ?_ (hD.q r ⟨_, h⟩)
    rw [← emb0 t r d h, ← V_main_arg0 m c]; rfl
  k r d := by
    have h : t.val * 128 + d < 1024 := by have := (point0 t).2; omega
    show iblk m c 1 t (ix2 r d) = _
    refine Eq.trans (b := (m ((c.tc : Thread nD τ).loc main_arg1) : S2048x1024.Idx → EReal) (ix2 r ⟨t.val * 128 + d, h⟩)) ?_ (hD.k r ⟨_, h⟩)
    rw [← emb1 t r d h, ← V_main_arg1 m c]; rfl
  v r d := by
    have h : t.val * 128 + d < 1024 := by have := (point0 t).2; omega
    show iblk m c 2 t (ix2 r d) = _
    refine Eq.trans (b := (m ((c.tc : Thread nD τ).loc main_arg2) : S2048x4608.Idx → EReal) (ix2 r ⟨2048 + (t.val * 128 + d), by omega⟩)) ?_ (hD.v r ⟨_, h⟩)
    rw [← emb2 t r d (by omega), ← V_main_arg2 m c]; rfl
  fq r := by
    have h := (point0 t).2
    show iblk m c 3 t (ix2 r ⟨t.val, _⟩) = _
    refine Eq.trans (b := (m ((c.tc : Thread nD τ).loc main_arg3) : S2048x128.Idx → EReal) (ix2 r ⟨t.val, by omega⟩)) ?_ (hD.f r ⟨_, h⟩)
    exact Eq.trans (congrArg (V m c main_arg3) (emb3 t r ⟨t.val, by omega⟩)) (congrFun (V_main_arg3 m c) _)
  fk j := by
    have h := (point0 t).2
    show iblk m c 4 t (ix3 0 0 j) = _
    refine Eq.trans (b := (V m c main_v2 : S8x1x2048.Idx → EReal) (ix3 ⟨t.val, h⟩ 0 j)) ?_ ((V_fk m c ⟨_, h⟩ j).trans (hD.f j ⟨_, h⟩))
    rw [← emb4 t j h]; rfl
  dO r d := by
    have h : t.val * 128 + d < 1024 := by have := (point0 t).2; omega
    show iblk m c 5 t (ix2 r d) = _
    refine Eq.trans (b := (m ((c.tc : Thread nD τ).loc main_arg4) : S2048x1024.Idx → EReal) (ix2 r ⟨t.val * 128 + d, h⟩)) ?_ (hD.g r ⟨_, h⟩)
    rw [← emb5 t r d h, ← V_main_arg4 m c]; rfl

/-! ## The blocks the points leave -/

theorem dq_at (r : Fin 2048) (d : Fin 128) : (outsAt0 m c t.val t.isLt).1 (ix2 r d) = (((D.head t.val).dq r d : ℝ) : EReal) := by
  rw [out_dq]
  exact (holds_insAt t hD).dq 16 le_rfl r d (by omega)

theorem dk_at (j : Fin 2048) (d : Fin 128) : (outsAt0 m c t.val t.isLt).2.1 (ix2 j d) = (((D.head t.val).dk j d : ℝ) : EReal) := by
  rw [out_dk]
  exact (holds_insAt t hD).dk (ms0_7 t) 16 le_rfl j d

theorem dv_at (j : Fin 2048) (d : Fin 128) : (outsAt0 m c t.val t.isLt).2.2.1 (ix2 j d) = (((D.head t.val).dv j d : ℝ) : EReal) := by
  rw [out_dv]
  refine Eq.trans ?_ ((holds_insAt t hD).dv scM0_2 16 le_rfl j d)
  generalize View.canon (Ins.dvL (insAt m c t) scM0_2 16 le_rfl) = x
  unfold k0_pay2
  pointwise

theorem dfk_at (j : Fin 2048) : (outsAt0 m c t.val t.isLt).2.2.2.2 (ix3 0 0 j) = (((D.head t.val).dfk j : ℝ) : EReal) := by
  rw [out_dfk]
  exact (holds_insAt t hD).dfk (ms0_10 t) 16 le_rfl j

/-- The sums over the keys pile up lane by lane: after point `t` the lanes up to `t` hold their heads' sums. -/
theorem dfq_at (n : ℕ) (hn : n < cfg0.N) (r : Fin 2048) (x : Fin 128) :
    (outsAt0 m c n hn).2.2.2.1 (ix2 r x) = ((if x.val ≤ n then (D.head x.val).dfq r else 0 : ℝ) : EReal) := by
  induction n with
  | zero =>
    rw [out_dfqA m c ⟨0, hn⟩ rfl, (holds_insAt ⟨0, hn⟩ hD).dfqA (ms0_9 ⟨0, hn⟩) 16 le_rfl r x, if_pos (by omega)]
    unfold laneOf
    by_cases hx : x.val = 0
    · rw [if_pos hx, if_pos (by omega), hx]
    · rw [if_neg hx, if_neg (by omega)]
  | succ n ih =>
    have h8 := (point0 ⟨n + 1, hn⟩).2
    have h8' : n + 1 < 8 := h8
    have h := out_dfqB m c ⟨n + 1, hn⟩ (by show ¬ (n + 1) % 8 = 0; omega)
    refine (congrFun h _).trans ?_
    rw [(holds_insAt ⟨n + 1, hn⟩ hD).dfqB (ms0_9 ⟨n + 1, hn⟩) (hs0_9 ⟨n + 1, hn⟩) _ 16 le_rfl r x (by omega)]
    refine (congrArg (· + _) (ih (Nat.lt_of_succ_lt hn))).trans ?_
    rw [← EReal.coe_add]
    congr 1
    unfold laneOf
    by_cases hx : x.val = n + 1
    · rw [if_neg (by omega), if_pos hx, if_pos (by omega), zero_add, hx]
    · rw [if_neg hx, add_zero]
      by_cases hx' : x.val ≤ n
      · rw [if_pos hx', if_pos (by omega)]
      · rw [if_neg hx', if_neg (by omega)]

/-! ## The arrays -/

theorem arr_dq : (dats m 0 c).arrAt 6 cfg0.N = (D.dq : S2048x1024.Idx → EReal) := by
  refine Dat.arrAt_eq_of_cover _ 6 _ ?_ ?_
  · intro t _
    rw [Value.flushed6]
    funext y
    obtain ⟨r, d, rfl⟩ : ∃ (r : Fin 2048) (d : Fin 128), y = ix2 r d := ⟨y 0, y 1, by funext a; fin_cases a <;> rfl⟩
    have h : t.val * 128 + d < 1024 := by have := (point0 t).2; omega
    refine (dq_at t hD r d).trans ?_
    refine (D.dq_apply r t.val d h).symm.trans ?_
    rw [← emb6 t r d h]; rfl
  · intro i
    have h1 : (i 1).val < 1024 := (i 1).isLt
    have hN : (i 1).val / 128 < cfg0.N := by show _ < 8; omega
    refine ⟨⟨(i 1).val / 128, hN⟩, flush0_6 _, ?_⟩
    have e := emb6 ⟨(i 1).val / 128, hN⟩ (i 0) ⟨(i 1).val % 128, by omega⟩ (by show (i 1).val / 128 * 128 + (i 1).val % 128 < 1024; omega)
    have : i = ((cfg0.win 6).blk ⟨(i 1).val / 128, hN⟩).view.emb (ix2 (i 0) ⟨(i 1).val % 128, by omega⟩) := by
      rw [e]; funext a
      match a with
      | ⟨0, _⟩ => rfl
      | ⟨1, _⟩ => exact Fin.ext (by show (i 1).val = (i 1).val / 128 * 128 + (i 1).val % 128; omega)
    exact Eq.mpr (congrArg (· ∈ ((cfg0.win 6).blk ⟨(i 1).val / 128, hN⟩).view.set) this) (View.emb_mem_set _ _)

theorem arr_dk : (dats m 0 c).arrAt 7 cfg0.N = (D.dk : S2048x1024.Idx → EReal) := by
  refine Dat.arrAt_eq_of_cover _ 7 _ ?_ ?_
  · intro t _
    rw [Value.flushed7]
    funext y
    obtain ⟨r, d, rfl⟩ : ∃ (r : Fin 2048) (d : Fin 128), y = ix2 r d := ⟨y 0, y 1, by funext a; fin_cases a <;> rfl⟩
    have h : t.val * 128 + d < 1024 := by have := (point0 t).2; omega
    refine (dk_at t hD r d).trans ?_
    refine (D.dk_apply r t.val d h).symm.trans ?_
    rw [← emb7 t r d h]; rfl
  · intro i
    have h1 : (i 1).val < 1024 := (i 1).isLt
    have hN : (i 1).val / 128 < cfg0.N := by show _ < 8; omega
    refine ⟨⟨(i 1).val / 128, hN⟩, flush0_7 _, ?_⟩
    have e := emb7 ⟨(i 1).val / 128, hN⟩ (i 0) ⟨(i 1).val % 128, by omega⟩ (by show (i 1).val / 128 * 128 + (i 1).val % 128 < 1024; omega)
    have : i = ((cfg0.win 7).blk ⟨(i 1).val / 128, hN⟩).view.emb (ix2 (i 0) ⟨(i 1).val % 128, by omega⟩) := by
      rw [e]; funext a
      match a with
      | ⟨0, _⟩ => rfl
      | ⟨1, _⟩ => exact Fin.ext (by show (i 1).val = (i 1).val / 128 * 128 + (i 1).val % 128; omega)
    exact Eq.mpr (congrArg (· ∈ ((cfg0.win 7).blk ⟨(i 1).val / 128, hN⟩).view.set) this) (View.emb_mem_set _ _)

theorem arr_dv : (dats m 0 c).arrAt 8 cfg0.N = (D.dv : S2048x1024.Idx → EReal) := by
  refine Dat.arrAt_eq_of_cover _ 8 _ ?_ ?_
  · intro t _
    rw [Value.flushed8]
    funext y
    obtain ⟨r, d, rfl⟩ : ∃ (r : Fin 2048) (d : Fin 128), y = ix2 r d := ⟨y 0, y 1, by funext a; fin_cases a <;> rfl⟩
    have h : t.val * 128 + d < 1024 := by have := (point0 t).2; omega
    refine (dv_at t hD r d).trans ?_
    refine (D.dv_apply r t.val d h).symm.trans ?_
    rw [← emb8 t r d h]; rfl
  · intro i
    have h1 : (i 1).val < 1024 := (i 1).isLt
    have hN : (i 1).val / 128 < cfg0.N := by show _ < 8; omega
    refine ⟨⟨(i 1).val / 128, hN⟩, flush0_8 _, ?_⟩
    have e := emb8 ⟨(i 1).val / 128, hN⟩ (i 0) ⟨(i 1).val % 128, by omega⟩ (by show (i 1).val / 128 * 128 + (i 1).val % 128 < 1024; omega)
    have : i = ((cfg0.win 8).blk ⟨(i 1).val / 128, hN⟩).view.emb (ix2 (i 0) ⟨(i 1).val % 128, by omega⟩) := by
      rw [e]; funext a
      match a with
      | ⟨0, _⟩ => rfl
      | ⟨1, _⟩ => exact Fin.ext (by show (i 1).val = (i 1).val / 128 * 128 + (i 1).val % 128; omega)
    exact Eq.mpr (congrArg (· ∈ ((cfg0.win 8).blk ⟨(i 1).val / 128, hN⟩).view.set) this) (View.emb_mem_set _ _)

theorem arr_dfq : (dats m 0 c).arrAt 9 cfg0.N = (D.dfq : S2048x128.Idx → EReal) := by
  refine Dat.arrAt_eq_of_cover _ 9 _ ?_ ?_
  · intro t ht
    have h7 : t.val % 8 = 7 := (flush0_9 t).mp ht
    have h8 := (point0 t).2
    rw [Value.flushed9]
    funext y
    obtain ⟨r, x, rfl⟩ : ∃ (r : Fin 2048) (x : Fin 128), y = ix2 r x := ⟨y 0, y 1, by funext a; fin_cases a <;> rfl⟩
    refine (dfq_at hD t.val t.isLt r x).trans ?_
    have e : ((if x.val ≤ t.val then (D.head x.val).dfq r else 0 : ℝ) : EReal) = D.dfq (ix2 r x) := by
      show _ = ((if x.val < 8 then (D.head x.val).dfq r.val else 0 : ℝ) : EReal)
      congr 1
      by_cases hx : x.val < 8
      · rw [if_pos hx, if_pos (by omega)]
      · rw [if_neg hx, if_neg (by omega)]
    exact e.trans (congrArg (D.dfq : S2048x128.Idx → EReal) (emb9 t r x)).symm
  · intro i
    have hN : 7 < cfg0.N := by decide
    refine ⟨⟨7, hN⟩, (flush0_9 _).mpr rfl, ?_⟩
    have e := emb9 ⟨7, hN⟩ (i 0) (i 1)
    have : i = ((cfg0.win 9).blk ⟨7, hN⟩).view.emb (ix2 (i 0) (i 1)) := by
      rw [e]; funext a
      match a with
      | ⟨0, _⟩ => rfl
      | ⟨1, _⟩ => rfl
    exact Eq.mpr (congrArg (· ∈ ((cfg0.win 9).blk ⟨7, hN⟩).view.set) this) (View.emb_mem_set _ _)

theorem arr_dfk : (dats m 0 c).arrAt 10 cfg0.N = (D.dfk : S8x1x2048.Idx → EReal) := by
  refine Dat.arrAt_eq_of_cover _ 10 _ ?_ ?_
  · intro t _
    rw [Value.flushed10]
    funext y
    obtain ⟨j, rfl⟩ : ∃ j : Fin 2048, y = ix3 0 0 j :=
      ⟨y 2, by
        funext a
        match a with
        | ⟨0, _⟩ => exact Fin.ext (by have : (y 0).val < 1 := (y 0).isLt; show (y 0).val = 0; omega)
        | ⟨1, _⟩ => exact Fin.ext (by have : (y 1).val < 1 := (y 1).isLt; show (y 1).val = 0; omega)
        | ⟨2, _⟩ => rfl⟩
    have h8 := (point0 t).2
    refine (dfk_at t hD j).trans ?_
    exact (congrArg (D.dfk : S8x1x2048.Idx → EReal) (emb10 t j h8)).symm
  · intro i
    have h0 : (i 0).val < 8 := (i 0).isLt
    have hN : (i 0).val < cfg0.N := h0
    refine ⟨⟨(i 0).val, hN⟩, flush0_10 _, ?_⟩
    have e := emb10 ⟨(i 0).val, hN⟩ (i 2) h0
    have : i = ((cfg0.win 10).blk ⟨(i 0).val, hN⟩).view.emb (ix3 0 0 (i 2)) := by
      rw [e]; funext a
      match a with
      | ⟨0, _⟩ => rfl
      | ⟨1, _⟩ => exact Fin.ext (by have : (i 1).val < 1 := (i 1).isLt; show (i 1).val = 0; omega)
      | ⟨2, _⟩ => rfl
    exact Eq.mpr (congrArg (· ∈ ((cfg0.win 10).blk ⟨(i 0).val, hN⟩).view.set) this) (View.emb_mem_set _ _)

end Cert.KernelIdeal.Fox

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.DownX.Frame
public import proofs.«01_k».proof.Proof.Gen.DownXIdeal.Frame
public import proofs.«01_k».proof.Proof.Gen.DownXIdeal.Value
public import proofs.«01_k».proof.Proof.Gen.DownXRefIdeal
public import proofs.«01_k».proof.Proof.Gen.DownXRefIdeal.Run
public import proofs.«01_k».proof.Proof.Gen.DownXRefIdeal.Read
public import proofs.«01_k».proof.Proof.Gen.DownW.Frame
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Gen.DownWRefIdeal.Read
public import proofs.«01_k».proof.Proof.Gen.UpX.Frame
public import proofs.«01_k».proof.Proof.Gen.UpXIdeal.Frame
public import proofs.«01_k».proof.Proof.Gen.UpXIdeal.Value
public import proofs.«01_k».proof.Proof.Gen.UpXRefIdeal
public import proofs.«01_k».proof.Proof.Gen.UpXRefIdeal.Run
public import proofs.«01_k».proof.Proof.Gen.UpXRefIdeal.Read
public import proofs.«01_k».proof.Proof.Gen.UpW.Frame
public import proofs.«01_k».proof.Proof.Gen.UpWIdeal.Frame
public import proofs.«01_k».proof.Proof.Gen.UpWIdeal.Value
public import proofs.«01_k».proof.Proof.Gen.UpWRefIdeal
public import proofs.«01_k».proof.Proof.Gen.UpWRefIdeal.Run
public import proofs.«01_k».proof.Proof.Gen.UpWRefIdeal.Read
public import proofs.«01_k».proof.Proof.Gen.InM.Frame
public import proofs.«01_k».proof.Proof.Gen.InMIdeal.Frame
public import proofs.«01_k».proof.Proof.Gen.InMIdeal.Value
public import proofs.«01_k».proof.Proof.Gen.InMRefIdeal
public import proofs.«01_k».proof.Proof.Gen.InMRefIdeal.Run
public import proofs.«01_k».proof.Proof.Gen.InMRefIdeal.Read
public import proofs.«01_k».proof.Proof.Gen.InX.Frame
public import proofs.«01_k».proof.Proof.Gen.InXIdeal.Frame
public import proofs.«01_k».proof.Proof.Gen.InXIdeal.Value
public import proofs.«01_k».proof.Proof.Gen.InXRefIdeal
public import proofs.«01_k».proof.Proof.Gen.InXRefIdeal.Run
public import proofs.«01_k».proof.Proof.Gen.InXRefIdeal.Read
public import proofs.«01_k».proof.Proof.Gen.InW.Frame
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.InWRefIdeal.Read
public import proofs.«01_k».proof.Proof.Gen.InS.Frame
public import proofs.«01_k».proof.Proof.Gen.InSIdeal.Frame
public import proofs.«01_k».proof.Proof.Gen.InSIdeal.Value
public import proofs.«01_k».proof.Proof.Gen.InSRefIdeal
public import proofs.«01_k».proof.Proof.Gen.InSRefIdeal.Run
public import proofs.«01_k».proof.Proof.Gen.InSRefIdeal.Read
public import proofs.«01_k».proof.Proof.Gen.OutX.Frame
public import proofs.«01_k».proof.Proof.Gen.OutXIdeal.Frame
public import proofs.«01_k».proof.Proof.Gen.OutXIdeal.Value
public import proofs.«01_k».proof.Proof.Gen.OutXRefIdeal
public import proofs.«01_k».proof.Proof.Gen.OutXRefIdeal.Run
public import proofs.«01_k».proof.Proof.Gen.OutXRefIdeal.Read
public import proofs.«01_k».proof.Proof.Gen.OutW.Frame
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.OutWRefIdeal.Read
public import proofs.«01_k».proof.Proof.Gen.UpF.Frame
public import proofs.«01_k».proof.Proof.Gen.UpFIdeal.Frame
public import proofs.«01_k».proof.Proof.Gen.UpFIdeal.Value
public import proofs.«01_k».proof.Proof.Gen.UpFRefIdeal
public import proofs.«01_k».proof.Proof.Gen.UpFRefIdeal.Run
public import proofs.«01_k».proof.Proof.Gen.UpFRefIdeal.Read
public import proofs.«01_k».proof.Proof.Gen.DownN.Frame
public import proofs.«01_k».proof.Proof.Gen.DownNIdeal.Frame
public import proofs.«01_k».proof.Proof.Gen.DownNIdeal.Value
public import proofs.«01_k».proof.Proof.Gen.DownNRefIdeal
public import proofs.«01_k».proof.Proof.Gen.DownNRefIdeal.Run
public import proofs.«01_k».proof.Proof.Gen.DownNRefIdeal.Read
public import proofs.«01_k».proof.Proof.Gen.DownF.Frame
public import proofs.«01_k».proof.Proof.Gen.DownFIdeal.Frame
public import proofs.«01_k».proof.Proof.Gen.DownFIdeal.Value
public import proofs.«01_k».proof.Proof.Gen.DownFRefIdeal
public import proofs.«01_k».proof.Proof.Gen.DownFRefIdeal.Run
public import proofs.«01_k».proof.Proof.Gen.DownFRefIdeal.Read
public import proofs.«01_k».proof.Proof.Gen.InF.Frame
public import proofs.«01_k».proof.Proof.Gen.InFIdeal.Frame
public import proofs.«01_k».proof.Proof.Gen.InFIdeal.Value
public import proofs.«01_k».proof.Proof.Gen.InFRefIdeal
public import proofs.«01_k».proof.Proof.Gen.InFRefIdeal.Run
public import proofs.«01_k».proof.Proof.Gen.InFRefIdeal.Read
public import proofs.«01_k».proof.Proof.Gen.InG.Frame
public import proofs.«01_k».proof.Proof.Gen.InGIdeal.Frame
public import proofs.«01_k».proof.Proof.Gen.InGIdeal.Value
public import proofs.«01_k».proof.Proof.Gen.InGRefIdeal
public import proofs.«01_k».proof.Proof.Gen.InGRefIdeal.Run
public import proofs.«01_k».proof.Proof.Gen.InGRefIdeal.Read
public import proofs.«01_k».proof.Proof.Gen.OutF.Frame
public import proofs.«01_k».proof.Proof.Gen.OutFIdeal.Frame
public import proofs.«01_k».proof.Proof.Gen.OutFIdeal.Value
public import proofs.«01_k».proof.Proof.Gen.OutFRefIdeal
public import proofs.«01_k».proof.Proof.Gen.OutFRefIdeal.Run
public import proofs.«01_k».proof.Proof.Gen.OutFRefIdeal.Read
public import proofs.«01_k».proof.Proof.Gen.FoxF.Frame
public import proofs.«01_k».proof.Proof.Gen.FoxFIdeal.Frame
public import proofs.«01_k».proof.Proof.Gen.FoxFIdeal.Value
public import proofs.«01_k».proof.Proof.Gen.FoxFRefIdeal
public import proofs.«01_k».proof.Proof.Gen.FoxFRefIdeal.Run
public import proofs.«01_k».proof.Proof.Gen.FoxFRefIdeal.Read
public import proofs.«01_k».proof.Proof.Gen.Pre_finite_fwd
public import proofs.«01_k».proof.Proof.DownX
public import proofs.«01_k».proof.Proof.DownW
public import proofs.«01_k».proof.Proof.UpX
public import proofs.«01_k».proof.Proof.UpW
public import proofs.«01_k».proof.Proof.InM
public import proofs.«01_k».proof.Proof.InX
public import proofs.«01_k».proof.Proof.InW
public import proofs.«01_k».proof.Proof.InS
public import proofs.«01_k».proof.Proof.OutX
public import proofs.«01_k».proof.Proof.OutW
public import proofs.«01_k».proof.Proof.UpF
public import proofs.«01_k».proof.Proof.DownN
public import proofs.«01_k».proof.Proof.DownF
public import proofs.«01_k».proof.Proof.InF
public import proofs.«01_k».proof.Proof.InG
public import proofs.«01_k».proof.Proof.OutF
public import proofs.«01_k».proof.Proof.FoxF
public import proofs.«01_k».proof.Proof.Launch
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m g)

theorem algebraic : Cert.algebraic_KernelIdeal_ReferenceIdeal_pre_finite := by
  intro m g m' g' hpre hagree
  have hD : ∀ c : Dev Cert.KernelIdeal.nD, ∃ D, Cert.KernelIdeal.Fox.HoldsMem m c D := fun c =>
    Cert.Pre_finite.Fox.given _ _ _ _ _ (hpre c).1 (hpre c).2.1 (hpre c).2.2.1 (hpre c).2.2.2.1 (hpre c).2.2.2.2
  choose D hD using hD
  refine ⟨fun c => (D c).dq, fun c => (D c).dk, fun c => (D c).dv, fun c => (D c).dfq, fun c => (D c).dfk, ?_, ?_⟩
  · refine (θ_run Cert.KernelIdeal.defs _ _).mono (fun r h c => ?_) (Cert.KernelIdeal.Value.run_blocks (F := Ideal) m g)
    obtain ⟨e0, e1, e2, e3, e4, k⟩ := h c
    exact ⟨e0.trans (Cert.KernelIdeal.Fox.arr_dq (hD c)), e1.trans (Cert.KernelIdeal.Fox.arr_dk (hD c)), e2.trans (Cert.KernelIdeal.Fox.arr_dv (hD c)),
      e3.trans (Cert.KernelIdeal.Fox.arr_dfq (hD c)), e4.trans (Cert.KernelIdeal.Fox.arr_dfk (hD c)), k⟩
  · refine (θ_run Cert.ReferenceIdeal.defs _ _).mono (fun r h c => ?_) (Cert.ReferenceIdeal.Value.run (F := Ideal) m' g')
    obtain ⟨e0, e1, e2, e3, e4, k⟩ := h c
    obtain ⟨q0, q1, q2, q3, q4⟩ := hagree c
    have hD' : Cert.Fox.Given (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (D c) := by
      rw [q0, q1, q2, q3, q4]
      exact hD c
    exact ⟨e0.trans ((Cert.ReferenceIdeal.Read.val_main_v84_eq m' c).trans (Cert.ReferenceIdeal.Fox.dq_eq hD')),
      e1.trans ((Cert.ReferenceIdeal.Read.val_main_v83_eq m' c).trans (Cert.ReferenceIdeal.Fox.dk_eq hD')),
      e2.trans ((Cert.ReferenceIdeal.Read.val_main_v85_eq m' c).trans (Cert.ReferenceIdeal.Fox.dv_eq hD')),
      e3.trans ((Cert.ReferenceIdeal.Read.val_main_v86_eq m' c).trans (Cert.ReferenceIdeal.Fox.dfq_eq hD')),
      e4.trans ((Cert.ReferenceIdeal.Read.val_main_v87_eq m' c).trans (Cert.ReferenceIdeal.Fox.dfk_eq hD')), k⟩

theorem frame_DownX (m : (ℓ : Loc Cert.DownXRefIdeal.nD Cert.DownXRefIdeal.τ Cert.DownXRefIdeal.sig) → Buf (Elt Ideal) ℓ) (g : Dev Cert.DownXRefIdeal.nD → PrngReg) :
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1)
      ∧ r.2.mem ((c.tc : Thread Cert.DownXRefIdeal.nD Cert.DownXRefIdeal.τ).loc Cert.DownXRefIdeal.main_arg2) = m ((c.tc : Thread Cert.DownXRefIdeal.nD Cert.DownXRefIdeal.τ).loc Cert.DownXRefIdeal.main_arg2))
      ∧ r.2.sem = fun _ => 0) :=
  (θ_run Cert.DownXRefIdeal.defs _ _).mono (fun r h => ⟨fun c => (h c).2, sem_eq_zero_of_no_sems (by decide) r.2⟩)
    (Cert.DownXRefIdeal.Value.run (F := Ideal) m g)

theorem algebraic_DownX : Cert.algebraic_DownXIdeal_DownXRefIdeal := by
  intro m g m' g' _ hagree
  refine ⟨fun c => Cert.DownXIdeal.Mlp.grad (m ((c.tc : Thread Cert.DownXIdeal.nD Cert.DownXIdeal.τ).loc Cert.DownXIdeal.main_arg0)) (m ((c.tc : Thread Cert.DownXIdeal.nD Cert.DownXIdeal.τ).loc Cert.DownXIdeal.main_arg1)) (m ((c.tc : Thread Cert.DownXIdeal.nD Cert.DownXIdeal.τ).loc Cert.DownXIdeal.main_arg2)), ?_, ?_⟩
  · refine (θ_run Cert.DownXIdeal.defs _ _).mono (fun r h c => ?_) (Cert.DownXIdeal.Value.run_blocks (F := Ideal) m g)
    obtain ⟨e0, k⟩ := h c
    exact ⟨e0.trans (Cert.DownXIdeal.Mlp.arr m c), k⟩
  · refine (θ_run Cert.DownXRefIdeal.defs _ _).mono (fun r h c => ?_) (Cert.DownXRefIdeal.Value.run (F := Ideal) m' g')
    obtain ⟨e0, k⟩ := h c
    obtain ⟨q0, q1, q2⟩ := hagree c
    exact ⟨(e0.trans ((Cert.DownXRefIdeal.Read.val_main_v12_eq _ _ _).trans ((Cert.DownXIdeal.Mlp.ref _ _ _).trans (by rw [q0, q1, q2])))), k⟩

theorem frame_DownW (m : (ℓ : Loc Cert.DownWRefIdeal.nD Cert.DownWRefIdeal.τ Cert.DownWRefIdeal.sig) → Buf (Elt Ideal) ℓ) (g : Dev Cert.DownWRefIdeal.nD → PrngReg) :
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0) :=
  (θ_run Cert.DownWRefIdeal.defs _ _).mono (fun r h => ⟨fun c => (h c).2, sem_eq_zero_of_no_sems (by decide) r.2⟩)
    (Cert.DownWRefIdeal.Value.run (F := Ideal) m g)

theorem algebraic_DownW : Cert.algebraic_DownWIdeal_DownWRefIdeal := by
  intro m g m' g' _ hagree
  refine ⟨fun c => Cert.DownWIdeal.Mlp.grad (m ((c.tc : Thread Cert.DownWIdeal.nD Cert.DownWIdeal.τ).loc Cert.DownWIdeal.main_arg0)) (m ((c.tc : Thread Cert.DownWIdeal.nD Cert.DownWIdeal.τ).loc Cert.DownWIdeal.main_arg2)), ?_, ?_⟩
  · refine (θ_run Cert.DownWIdeal.defs _ _).mono (fun r h c => ?_) (Cert.DownWIdeal.Value.run_blocks (F := Ideal) m g)
    obtain ⟨e0, k⟩ := h c
    exact ⟨e0.trans (Cert.DownWIdeal.Mlp.arr m c), k⟩
  · refine (θ_run Cert.DownWRefIdeal.defs _ _).mono (fun r h c => ?_) (Cert.DownWRefIdeal.Value.run (F := Ideal) m' g')
    obtain ⟨e0, k⟩ := h c
    obtain ⟨q0, q1, q2⟩ := hagree c
    exact ⟨(e0.trans ((Cert.DownWRefIdeal.Read.val_main_v6_eq _ _).trans ((Cert.DownWIdeal.Mlp.ref _ _).trans (by rw [q0, q2])))), k⟩

theorem frame_UpX (m : (ℓ : Loc Cert.UpXRefIdeal.nD Cert.UpXRefIdeal.τ Cert.UpXRefIdeal.sig) → Buf (Elt Ideal) ℓ) (g : Dev Cert.UpXRefIdeal.nD → PrngReg) :
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3)
      ∧ r.2.mem ((c.tc : Thread Cert.UpXRefIdeal.nD Cert.UpXRefIdeal.τ).loc Cert.UpXRefIdeal.main_arg4) = m ((c.tc : Thread Cert.UpXRefIdeal.nD Cert.UpXRefIdeal.τ).loc Cert.UpXRefIdeal.main_arg4))
      ∧ r.2.sem = fun _ => 0) :=
  (θ_run Cert.UpXRefIdeal.defs _ _).mono (fun r h => ⟨fun c => (h c).2.2, sem_eq_zero_of_no_sems (by decide) r.2⟩)
    (Cert.UpXRefIdeal.Value.run (F := Ideal) m g)

theorem algebraic_UpX : Cert.algebraic_UpXIdeal_UpXRefIdeal := by
  intro m g m' g' _ hagree
  refine ⟨fun c => Cert.UpXIdeal.Mlp.gradX (m ((c.tc : Thread Cert.UpXIdeal.nD Cert.UpXIdeal.τ).loc Cert.UpXIdeal.main_arg0)) (m ((c.tc : Thread Cert.UpXIdeal.nD Cert.UpXIdeal.τ).loc Cert.UpXIdeal.main_arg1)) (m ((c.tc : Thread Cert.UpXIdeal.nD Cert.UpXIdeal.τ).loc Cert.UpXIdeal.main_arg2)) (m ((c.tc : Thread Cert.UpXIdeal.nD Cert.UpXIdeal.τ).loc Cert.UpXIdeal.main_arg3)) (m ((c.tc : Thread Cert.UpXIdeal.nD Cert.UpXIdeal.τ).loc Cert.UpXIdeal.main_arg4)), fun c => Cert.UpXIdeal.Mlp.gradW (m ((c.tc : Thread Cert.UpXIdeal.nD Cert.UpXIdeal.τ).loc Cert.UpXIdeal.main_arg0)) (m ((c.tc : Thread Cert.UpXIdeal.nD Cert.UpXIdeal.τ).loc Cert.UpXIdeal.main_arg2)) (m ((c.tc : Thread Cert.UpXIdeal.nD Cert.UpXIdeal.τ).loc Cert.UpXIdeal.main_arg3)), ?_, ?_⟩
  · refine (θ_run Cert.UpXIdeal.defs _ _).mono (fun r h c => ?_) (Cert.UpXIdeal.Value.run_blocks (F := Ideal) m g)
    obtain ⟨e0, e1, k⟩ := h c
    exact ⟨e0.trans (Cert.UpXIdeal.Mlp.arr_x m c), e1.trans (Cert.UpXIdeal.Mlp.arr_w m c), k⟩
  · refine (θ_run Cert.UpXRefIdeal.defs _ _).mono (fun r h c => ?_) (Cert.UpXRefIdeal.Value.run (F := Ideal) m' g')
    obtain ⟨e0, e1, k⟩ := h c
    obtain ⟨q0, q1, q2, q3, q4⟩ := hagree c
    exact ⟨(e0.trans ((Cert.UpXRefIdeal.Read.val_main_v38_eq m' c).trans ((Cert.UpXIdeal.Mlp.ref_x _ _ _ _ _).trans (by rw [q0, q1, q2, q3, q4])))), (e1.trans ((Cert.UpXRefIdeal.Read.val_main_v39_eq _ _ _).trans ((Cert.UpXIdeal.Mlp.ref_w _ _ _).trans (by rw [q0, q2, q3])))), k⟩

theorem frame_UpW (m : (ℓ : Loc Cert.UpWRefIdeal.nD Cert.UpWRefIdeal.τ Cert.UpWRefIdeal.sig) → Buf (Elt Ideal) ℓ) (g : Dev Cert.UpWRefIdeal.nD → PrngReg) :
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2)
      ∧ r.2.mem ((c.tc : Thread Cert.UpWRefIdeal.nD Cert.UpWRefIdeal.τ).loc Cert.UpWRefIdeal.main_arg3) = m ((c.tc : Thread Cert.UpWRefIdeal.nD Cert.UpWRefIdeal.τ).loc Cert.UpWRefIdeal.main_arg3))
      ∧ r.2.sem = fun _ => 0) :=
  (θ_run Cert.UpWRefIdeal.defs _ _).mono (fun r h => ⟨fun c => (h c).2, sem_eq_zero_of_no_sems (by decide) r.2⟩)
    (Cert.UpWRefIdeal.Value.run (F := Ideal) m g)

theorem algebraic_UpW : Cert.algebraic_UpWIdeal_UpWRefIdeal := by
  intro m g m' g' _ hagree
  refine ⟨fun c => Cert.UpWIdeal.Mlp.grad (Cert.UpWIdeal.Mlp.rows (m ((c.tc : Thread Cert.UpWIdeal.nD Cert.UpWIdeal.τ).loc Cert.UpWIdeal.main_arg0)) (m ((c.tc : Thread Cert.UpWIdeal.nD Cert.UpWIdeal.τ).loc Cert.UpWIdeal.main_arg1))) (m ((c.tc : Thread Cert.UpWIdeal.nD Cert.UpWIdeal.τ).loc Cert.UpWIdeal.main_arg3)), ?_, ?_⟩
  · refine (θ_run Cert.UpWIdeal.defs _ _).mono (fun r h c => ?_) (Cert.UpWIdeal.Value.run_blocks (F := Ideal) m g)
    obtain ⟨e0, k⟩ := h c
    exact ⟨e0.trans (Cert.UpWIdeal.Mlp.arr m c), k⟩
  · refine (θ_run Cert.UpWRefIdeal.defs _ _).mono (fun r h c => ?_) (Cert.UpWRefIdeal.Value.run (F := Ideal) m' g')
    obtain ⟨e0, k⟩ := h c
    obtain ⟨q0, q1, q2, q3⟩ := hagree c
    exact ⟨(e0.trans ((Cert.UpWRefIdeal.Read.val_main_v18_eq _ _ _).trans ((Cert.UpWIdeal.Mlp.ref _ _ _).trans (by rw [q0, q1, q3])))), k⟩

theorem frame_InM (m : (ℓ : Loc Cert.InMRefIdeal.nD Cert.InMRefIdeal.τ Cert.InMRefIdeal.sig) → Buf (Elt Ideal) ℓ) (g : Dev Cert.InMRefIdeal.nD → PrngReg) :
    θ_run (Cert.InMRefIdeal.defs (F := Ideal)) (onTc (τ := Cert.InMRefIdeal.τ) (Cert.InMRefIdeal.main (F := Ideal))) ⟨m, fun _ => 0, g⟩ (fun r => (∀ c : Dev Cert.InMRefIdeal.nD,
      r.2.mem ((c.tc : Thread Cert.InMRefIdeal.nD Cert.InMRefIdeal.τ).loc Cert.InMRefIdeal.main_arg0) = m ((c.tc : Thread Cert.InMRefIdeal.nD Cert.InMRefIdeal.τ).loc Cert.InMRefIdeal.main_arg0)
      ∧ r.2.mem ((c.tc : Thread Cert.InMRefIdeal.nD Cert.InMRefIdeal.τ).loc Cert.InMRefIdeal.main_arg1) = m ((c.tc : Thread Cert.InMRefIdeal.nD Cert.InMRefIdeal.τ).loc Cert.InMRefIdeal.main_arg1)
      ∧ r.2.mem ((c.tc : Thread Cert.InMRefIdeal.nD Cert.InMRefIdeal.τ).loc Cert.InMRefIdeal.main_arg2) = m ((c.tc : Thread Cert.InMRefIdeal.nD Cert.InMRefIdeal.τ).loc Cert.InMRefIdeal.main_arg2))
      ∧ r.2.sem = fun _ => 0) :=
  (θ_run Cert.InMRefIdeal.defs _ _).mono (fun r h => ⟨fun c => (h c).2, sem_eq_zero_of_no_sems (by decide) r.2⟩)
    (Cert.InMRefIdeal.Value.run (F := Ideal) m g)

theorem algebraic_InM : Cert.algebraic_InMIdeal_InMRefIdeal := by
  intro m g m' g' _ hagree
  refine ⟨fun c => Cert.InMIdeal.Mlp.grad (m ((c.tc : Thread Cert.InMIdeal.nD Cert.InMIdeal.τ).loc Cert.InMIdeal.main_arg1)) (m ((c.tc : Thread Cert.InMIdeal.nD Cert.InMIdeal.τ).loc Cert.InMIdeal.main_arg2)), ?_, ?_⟩
  · refine (θ_run Cert.InMIdeal.defs _ _).mono (fun r h c => ?_) (Cert.InMIdeal.Value.run_blocks (F := Ideal) m g)
    obtain ⟨e0, k⟩ := h c
    exact ⟨e0.trans (Cert.InMIdeal.Mlp.arr m c), k⟩
  · refine (θ_run Cert.InMRefIdeal.defs _ _).mono (fun r h c => ?_) (Cert.InMRefIdeal.Value.run (F := Ideal) m' g')
    obtain ⟨e0, k⟩ := h c
    obtain ⟨q0, q1, q2⟩ := hagree c
    exact ⟨(e0.trans ((Cert.InMRefIdeal.Read.val_main_v1_eq _ _).trans ((Cert.InMIdeal.Mlp.ref _ _).trans (by rw [q1, q2])))), k⟩

theorem frame_InX (m : (ℓ : Loc Cert.InXRefIdeal.nD Cert.InXRefIdeal.τ Cert.InXRefIdeal.sig) → Buf (Elt Ideal) ℓ) (g : Dev Cert.InXRefIdeal.nD → PrngReg) :
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5))
      ∧ r.2.sem = fun _ => 0) :=
  (θ_run Cert.InXRefIdeal.defs _ _).mono (fun r h => ⟨fun c => (h c).2.2, sem_eq_zero_of_no_sems (by decide) r.2⟩)
    (Cert.InXRefIdeal.Value.run (F := Ideal) m g)

theorem algebraic_InX : Cert.algebraic_InXIdeal_InXRefIdeal := by
  intro m g m' g' _ hagree
  refine ⟨fun c => Cert.InXIdeal.Mlp.gradX (m ((c.tc : Thread Cert.InXIdeal.nD Cert.InXIdeal.τ).loc Cert.InXIdeal.main_arg0)) (m ((c.tc : Thread Cert.InXIdeal.nD Cert.InXIdeal.τ).loc Cert.InXIdeal.main_arg1)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)) (m ((c.tc : Thread Cert.InXIdeal.nD Cert.InXIdeal.τ).loc Cert.InXIdeal.main_arg5)), fun c => Cert.InXIdeal.Mlp.gradW (m ((c.tc : Thread Cert.InXIdeal.nD Cert.InXIdeal.τ).loc Cert.InXIdeal.main_arg0)) (m ((c.tc : Thread Cert.InXIdeal.nD Cert.InXIdeal.τ).loc Cert.InXIdeal.main_arg2)) (m ((c.tc : Thread Cert.InXIdeal.nD Cert.InXIdeal.τ).loc Cert.InXIdeal.main_arg3)) (m ((c.tc : Thread Cert.InXIdeal.nD Cert.InXIdeal.τ).loc Cert.InXIdeal.main_arg4)), ?_, ?_⟩
  · refine (θ_run Cert.InXIdeal.defs _ _).mono (fun r h c => ?_) (Cert.InXIdeal.Value.run_blocks (F := Ideal) m g)
    obtain ⟨e0, e1, k⟩ := h c
    exact ⟨e0.trans (Cert.InXIdeal.Mlp.arr_x m c), e1.trans (Cert.InXIdeal.Mlp.arr_w m c), k⟩
  · refine (θ_run Cert.InXRefIdeal.defs _ _).mono (fun r h c => ?_) (Cert.InXRefIdeal.Value.run (F := Ideal) m' g')
    obtain ⟨e0, e1, k⟩ := h c
    obtain ⟨q0, q1, q2, q3, q4, q5⟩ := hagree c
    exact ⟨(e0.trans ((Cert.InXRefIdeal.Read.val_main_v39_eq m' c).trans ((Cert.InXIdeal.Mlp.ref_x _ _ _ _ _ _).trans (by rw [q0, q1, q2, q3, q4, q5])))), (e1.trans ((Cert.InXRefIdeal.Read.val_main_v40_eq _ _ _ _).trans ((Cert.InXIdeal.Mlp.ref_w _ _ _ _).trans (by rw [q0, q2, q3, q4])))), k⟩

theorem frame_InW (m : (ℓ : Loc Cert.InWRefIdeal.nD Cert.InWRefIdeal.τ Cert.InWRefIdeal.sig) → Buf (Elt Ideal) ℓ) (g : Dev Cert.InWRefIdeal.nD → PrngReg) :
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3))
      ∧ r.2.sem = fun _ => 0) :=
  (θ_run Cert.InWRefIdeal.defs _ _).mono (fun r h => ⟨fun c => (h c).2, sem_eq_zero_of_no_sems (by decide) r.2⟩)
    (Cert.InWRefIdeal.Value.run (F := Ideal) m g)

theorem algebraic_InW : Cert.algebraic_InWIdeal_InWRefIdeal := by
  intro m g m' g' _ hagree
  refine ⟨fun c => Cert.InWIdeal.Mlp.grad (Cert.InWIdeal.Mlp.rows (m ((c.tc : Thread Cert.InWIdeal.nD Cert.InWIdeal.τ).loc Cert.InWIdeal.main_arg0)) (m ((c.tc : Thread Cert.InWIdeal.nD Cert.InWIdeal.τ).loc Cert.InWIdeal.main_arg1))) (m ((c.tc : Thread Cert.InWIdeal.nD Cert.InWIdeal.τ).loc Cert.InWIdeal.main_arg3)), ?_, ?_⟩
  · refine (θ_run Cert.InWIdeal.defs _ _).mono (fun r h c => ?_) (Cert.InWIdeal.Value.run_blocks (F := Ideal) m g)
    obtain ⟨e0, k⟩ := h c
    exact ⟨e0.trans (Cert.InWIdeal.Mlp.arr m c), k⟩
  · refine (θ_run Cert.InWRefIdeal.defs _ _).mono (fun r h c => ?_) (Cert.InWRefIdeal.Value.run (F := Ideal) m' g')
    obtain ⟨e0, k⟩ := h c
    obtain ⟨q0, q1, q2, q3⟩ := hagree c
    exact ⟨(e0.trans ((Cert.InWRefIdeal.Read.val_main_v16_eq _ _ _).trans ((Cert.InWIdeal.Mlp.ref _ _ _).trans (by rw [q0, q1, q3])))), k⟩

theorem frame_InS (m : (ℓ : Loc Cert.InSRefIdeal.nD Cert.InSRefIdeal.τ Cert.InSRefIdeal.sig) → Buf (Elt Ideal) ℓ) (g : Dev Cert.InSRefIdeal.nD → PrngReg) :
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3))
      ∧ r.2.sem = fun _ => 0) :=
  (θ_run Cert.InSRefIdeal.defs _ _).mono (fun r h => ⟨fun c => (h c).2, sem_eq_zero_of_no_sems (by decide) r.2⟩)
    (Cert.InSRefIdeal.Value.run (F := Ideal) m g)

theorem algebraic_InS : Cert.algebraic_InSIdeal_InSRefIdeal := by
  intro m g m' g' _ hagree
  refine ⟨fun c => Cert.InSIdeal.Mlp.grad (Cert.InSIdeal.Mlp.rows (m ((c.tc : Thread Cert.InSIdeal.nD Cert.InSIdeal.τ).loc Cert.InSIdeal.main_arg0)) (m ((c.tc : Thread Cert.InSIdeal.nD Cert.InSIdeal.τ).loc Cert.InSIdeal.main_arg1))) (m ((c.tc : Thread Cert.InSIdeal.nD Cert.InSIdeal.τ).loc Cert.InSIdeal.main_arg3)), ?_, ?_⟩
  · refine (θ_run Cert.InSIdeal.defs _ _).mono (fun r h c => ?_) (Cert.InSIdeal.Value.run_blocks (F := Ideal) m g)
    obtain ⟨e0, k⟩ := h c
    exact ⟨e0.trans (Cert.InSIdeal.Mlp.arr m c), k⟩
  · refine (θ_run Cert.InSRefIdeal.defs _ _).mono (fun r h c => ?_) (Cert.InSRefIdeal.Value.run (F := Ideal) m' g')
    obtain ⟨e0, k⟩ := h c
    obtain ⟨q0, q1, q2, q3⟩ := hagree c
    exact ⟨(e0.trans ((Cert.InSRefIdeal.Read.val_main_v16_eq _ _ _).trans ((Cert.InSIdeal.Mlp.ref _ _ _).trans (by rw [q0, q1, q3])))), k⟩

theorem frame_OutX (m : (ℓ : Loc Cert.OutXRefIdeal.nD Cert.OutXRefIdeal.τ Cert.OutXRefIdeal.sig) → Buf (Elt Ideal) ℓ) (g : Dev Cert.OutXRefIdeal.nD → PrngReg) :
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0) :=
  (θ_run Cert.OutXRefIdeal.defs _ _).mono (fun r h => ⟨fun c => (h c).2, sem_eq_zero_of_no_sems (by decide) r.2⟩)
    (Cert.OutXRefIdeal.Value.run (F := Ideal) m g)

theorem algebraic_OutX : Cert.algebraic_OutXIdeal_OutXRefIdeal := by
  intro m g m' g' _ hagree
  refine ⟨fun c => Cert.OutXIdeal.Mlp.grad (m ((c.tc : Thread Cert.OutXIdeal.nD Cert.OutXIdeal.τ).loc Cert.OutXIdeal.main_arg2)) (m ((c.tc : Thread Cert.OutXIdeal.nD Cert.OutXIdeal.τ).loc Cert.OutXIdeal.main_arg1)), ?_, ?_⟩
  · refine (θ_run Cert.OutXIdeal.defs _ _).mono (fun r h c => ?_) (Cert.OutXIdeal.Value.run_blocks (F := Ideal) m g)
    obtain ⟨e0, k⟩ := h c
    exact ⟨e0.trans (Cert.OutXIdeal.Mlp.arr m c), k⟩
  · refine (θ_run Cert.OutXRefIdeal.defs _ _).mono (fun r h c => ?_) (Cert.OutXRefIdeal.Value.run (F := Ideal) m' g')
    obtain ⟨e0, k⟩ := h c
    obtain ⟨q0, q1, q2⟩ := hagree c
    exact ⟨(e0.trans ((Cert.OutXRefIdeal.Read.val_main_v1_eq _ _).trans ((Cert.OutXIdeal.Mlp.ref _ _).trans (by rw [q1, q2])))), k⟩

theorem frame_OutW (m : (ℓ : Loc Cert.OutWRefIdeal.nD Cert.OutWRefIdeal.τ Cert.OutWRefIdeal.sig) → Buf (Elt Ideal) ℓ) (g : Dev Cert.OutWRefIdeal.nD → PrngReg) :
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0) :=
  (θ_run Cert.OutWRefIdeal.defs _ _).mono (fun r h => ⟨fun c => (h c).2, sem_eq_zero_of_no_sems (by decide) r.2⟩)
    (Cert.OutWRefIdeal.Value.run (F := Ideal) m g)

theorem algebraic_OutW : Cert.algebraic_OutWIdeal_OutWRefIdeal := by
  intro m g m' g' _ hagree
  refine ⟨fun c => Cert.OutWIdeal.Mlp.grad (m ((c.tc : Thread Cert.OutWIdeal.nD Cert.OutWIdeal.τ).loc Cert.OutWIdeal.main_arg0)) (m ((c.tc : Thread Cert.OutWIdeal.nD Cert.OutWIdeal.τ).loc Cert.OutWIdeal.main_arg2)), ?_, ?_⟩
  · refine (θ_run Cert.OutWIdeal.defs _ _).mono (fun r h c => ?_) (Cert.OutWIdeal.Value.run_blocks (F := Ideal) m g)
    obtain ⟨e0, k⟩ := h c
    exact ⟨e0.trans (Cert.OutWIdeal.Mlp.arr m c), k⟩
  · refine (θ_run Cert.OutWRefIdeal.defs _ _).mono (fun r h c => ?_) (Cert.OutWRefIdeal.Value.run (F := Ideal) m' g')
    obtain ⟨e0, k⟩ := h c
    obtain ⟨q0, q1, q2⟩ := hagree c
    exact ⟨(e0.trans ((Cert.OutWRefIdeal.Read.val_main_v3_eq _ _).trans ((Cert.OutWIdeal.Mlp.ref _ _).trans (by rw [q0, q2])))), k⟩

theorem frame_UpF (m : (ℓ : Loc Cert.UpFRefIdeal.nD Cert.UpFRefIdeal.τ Cert.UpFRefIdeal.sig) → Buf (Elt Ideal) ℓ) (g : Dev Cert.UpFRefIdeal.nD → PrngReg) :
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1)
      ∧ r.2.mem ((c.tc : Thread Cert.UpFRefIdeal.nD Cert.UpFRefIdeal.τ).loc Cert.UpFRefIdeal.main_arg2) = m ((c.tc : Thread Cert.UpFRefIdeal.nD Cert.UpFRefIdeal.τ).loc Cert.UpFRefIdeal.main_arg2))
      ∧ r.2.sem = fun _ => 0) :=
  (θ_run Cert.UpFRefIdeal.defs _ _).mono (fun r h => ⟨fun c => (h c).2.2, sem_eq_zero_of_no_sems (by decide) r.2⟩)
    (Cert.UpFRefIdeal.Value.run (F := Ideal) m g)

theorem algebraic_UpF : Cert.algebraic_UpFIdeal_UpFRefIdeal := by
  intro m g m' g' _ hagree
  refine ⟨fun c => Cert.UpFIdeal.Mlp.hid (Cert.UpFIdeal.Mlp.rows (m ((c.tc : Thread Cert.UpFIdeal.nD Cert.UpFIdeal.τ).loc Cert.UpFIdeal.main_arg0)) (m ((c.tc : Thread Cert.UpFIdeal.nD Cert.UpFIdeal.τ).loc Cert.UpFIdeal.main_arg1))) (m ((c.tc : Thread Cert.UpFIdeal.nD Cert.UpFIdeal.τ).loc Cert.UpFIdeal.main_arg2)), fun c => Cert.UpFIdeal.Mlp.act (Cert.UpFIdeal.Mlp.rows (m ((c.tc : Thread Cert.UpFIdeal.nD Cert.UpFIdeal.τ).loc Cert.UpFIdeal.main_arg0)) (m ((c.tc : Thread Cert.UpFIdeal.nD Cert.UpFIdeal.τ).loc Cert.UpFIdeal.main_arg1))) (m ((c.tc : Thread Cert.UpFIdeal.nD Cert.UpFIdeal.τ).loc Cert.UpFIdeal.main_arg2)), ?_, ?_⟩
  · refine (θ_run Cert.UpFIdeal.defs _ _).mono (fun r h c => ?_) (Cert.UpFIdeal.Value.run_blocks (F := Ideal) m g)
    obtain ⟨e0, e1, k⟩ := h c
    exact ⟨e0.trans (Cert.UpFIdeal.Mlp.arr_u m c), e1.trans (Cert.UpFIdeal.Mlp.arr_a m c), k⟩
  · refine (θ_run Cert.UpFRefIdeal.defs _ _).mono (fun r h c => ?_) (Cert.UpFRefIdeal.Value.run (F := Ideal) m' g')
    obtain ⟨e0, e1, k⟩ := h c
    obtain ⟨q0, q1, q2⟩ := hagree c
    exact ⟨(e0.trans ((Cert.UpFRefIdeal.Read.val_main_v13_eq _ _ _).trans ((Cert.UpFIdeal.Mlp.ref_u _ _ _).trans (by rw [q0, q1, q2])))), (e1.trans ((Cert.UpFRefIdeal.Read.val_main_v16_eq _ _ _).trans ((Cert.UpFIdeal.Mlp.ref_a _ _ _).trans (by rw [q0, q1, q2])))), k⟩

theorem frame_DownN (m : (ℓ : Loc Cert.DownNRefIdeal.nD Cert.DownNRefIdeal.τ Cert.DownNRefIdeal.sig) → Buf (Elt Ideal) ℓ) (g : Dev Cert.DownNRefIdeal.nD → PrngReg) :
    θ_run (Cert.DownNRefIdeal.defs (F := Ideal)) (onTc (τ := Cert.DownNRefIdeal.τ) (Cert.DownNRefIdeal.main (F := Ideal))) ⟨m, fun _ => 0, g⟩ (fun r => (∀ c : Dev Cert.DownNRefIdeal.nD,
      r.2.mem ((c.tc : Thread Cert.DownNRefIdeal.nD Cert.DownNRefIdeal.τ).loc Cert.DownNRefIdeal.main_arg0) = m ((c.tc : Thread Cert.DownNRefIdeal.nD Cert.DownNRefIdeal.τ).loc Cert.DownNRefIdeal.main_arg0)
      ∧ r.2.mem ((c.tc : Thread Cert.DownNRefIdeal.nD Cert.DownNRefIdeal.τ).loc Cert.DownNRefIdeal.main_arg1) = m ((c.tc : Thread Cert.DownNRefIdeal.nD Cert.DownNRefIdeal.τ).loc Cert.DownNRefIdeal.main_arg1)
      ∧ r.2.mem ((c.tc : Thread Cert.DownNRefIdeal.nD Cert.DownNRefIdeal.τ).loc Cert.DownNRefIdeal.main_arg2) = m ((c.tc : Thread Cert.DownNRefIdeal.nD Cert.DownNRefIdeal.τ).loc Cert.DownNRefIdeal.main_arg2)
      ∧ r.2.mem ((c.tc : Thread Cert.DownNRefIdeal.nD Cert.DownNRefIdeal.τ).loc Cert.DownNRefIdeal.main_arg3) = m ((c.tc : Thread Cert.DownNRefIdeal.nD Cert.DownNRefIdeal.τ).loc Cert.DownNRefIdeal.main_arg3))
      ∧ r.2.sem = fun _ => 0) :=
  (θ_run Cert.DownNRefIdeal.defs _ _).mono (fun r h => ⟨fun c => (h c).2.2, sem_eq_zero_of_no_sems (by decide) r.2⟩)
    (Cert.DownNRefIdeal.Value.run (F := Ideal) m g)

theorem algebraic_DownN : Cert.algebraic_DownNIdeal_DownNRefIdeal := by
  intro m g m' g' _ hagree
  refine ⟨fun c => Cert.DownNIdeal.Mlp.total (Cert.DownNIdeal.Mlp.rows (m ((c.tc : Thread Cert.DownNIdeal.nD Cert.DownNIdeal.τ).loc Cert.DownNIdeal.main_arg0))) (m ((c.tc : Thread Cert.DownNIdeal.nD Cert.DownNIdeal.τ).loc Cert.DownNIdeal.main_arg1)) (m ((c.tc : Thread Cert.DownNIdeal.nD Cert.DownNIdeal.τ).loc Cert.DownNIdeal.main_arg2)), fun c => Cert.DownNIdeal.Mlp.normed (Cert.DownNIdeal.Mlp.rows (m ((c.tc : Thread Cert.DownNIdeal.nD Cert.DownNIdeal.τ).loc Cert.DownNIdeal.main_arg0))) (m ((c.tc : Thread Cert.DownNIdeal.nD Cert.DownNIdeal.τ).loc Cert.DownNIdeal.main_arg1)) (m ((c.tc : Thread Cert.DownNIdeal.nD Cert.DownNIdeal.τ).loc Cert.DownNIdeal.main_arg2)) (m ((c.tc : Thread Cert.DownNIdeal.nD Cert.DownNIdeal.τ).loc Cert.DownNIdeal.main_arg3)), ?_, ?_⟩
  · refine (θ_run Cert.DownNIdeal.defs _ _).mono (fun r h c => ?_) (Cert.DownNIdeal.Value.run_blocks (F := Ideal) m g)
    obtain ⟨e0, e1, k⟩ := h c
    exact ⟨e0.trans (Cert.DownNIdeal.Mlp.arr_y m c), e1.trans (Cert.DownNIdeal.Mlp.arr_h m c), k⟩
  · refine (θ_run Cert.DownNRefIdeal.defs _ _).mono (fun r h c => ?_) (Cert.DownNRefIdeal.Value.run (F := Ideal) m' g')
    obtain ⟨e0, e1, k⟩ := h c
    obtain ⟨q0, q1, q2, q3⟩ := hagree c
    exact ⟨(e0.trans ((Cert.DownNRefIdeal.Read.val_main_v3_eq _ _ _).trans ((Cert.DownNIdeal.Mlp.ref_y _ _ _).trans (by rw [q0, q1, q2])))), (e1.trans ((Cert.DownNRefIdeal.Read.val_main_v17_eq _ _ _ _).trans ((Cert.DownNIdeal.Mlp.ref_h _ _ _ _).trans (by rw [q0, q1, q2, q3])))), k⟩

theorem frame_DownF (m : (ℓ : Loc Cert.DownFRefIdeal.nD Cert.DownFRefIdeal.τ Cert.DownFRefIdeal.sig) → Buf (Elt Ideal) ℓ) (g : Dev Cert.DownFRefIdeal.nD → PrngReg) :
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2)
      ∧ r.2.mem ((c.tc : Thread Cert.DownFRefIdeal.nD Cert.DownFRefIdeal.τ).loc Cert.DownFRefIdeal.main_arg3) = m ((c.tc : Thread Cert.DownFRefIdeal.nD Cert.DownFRefIdeal.τ).loc Cert.DownFRefIdeal.main_arg3))
      ∧ r.2.sem = fun _ => 0) :=
  (θ_run Cert.DownFRefIdeal.defs _ _).mono (fun r h => ⟨fun c => (h c).2.2, sem_eq_zero_of_no_sems (by decide) r.2⟩)
    (Cert.DownFRefIdeal.Value.run (F := Ideal) m g)

theorem algebraic_DownF : Cert.algebraic_DownFIdeal_DownFRefIdeal := by
  intro m g m' g' _ hagree
  refine ⟨fun c => Cert.DownFIdeal.Mlp.grad (Cert.DownFIdeal.Mlp.rows (m ((c.tc : Thread Cert.DownFIdeal.nD Cert.DownFIdeal.τ).loc Cert.DownFIdeal.main_arg0))) (m ((c.tc : Thread Cert.DownFIdeal.nD Cert.DownFIdeal.τ).loc Cert.DownFIdeal.main_arg1)) (m ((c.tc : Thread Cert.DownFIdeal.nD Cert.DownFIdeal.τ).loc Cert.DownFIdeal.main_arg2)) (m ((c.tc : Thread Cert.DownFIdeal.nD Cert.DownFIdeal.τ).loc Cert.DownFIdeal.main_arg3)), fun c => Cert.DownFIdeal.Mlp.squares (Cert.DownFIdeal.Mlp.rows (m ((c.tc : Thread Cert.DownFIdeal.nD Cert.DownFIdeal.τ).loc Cert.DownFIdeal.main_arg0))) (m ((c.tc : Thread Cert.DownFIdeal.nD Cert.DownFIdeal.τ).loc Cert.DownFIdeal.main_arg1)) (m ((c.tc : Thread Cert.DownFIdeal.nD Cert.DownFIdeal.τ).loc Cert.DownFIdeal.main_arg2)) (m ((c.tc : Thread Cert.DownFIdeal.nD Cert.DownFIdeal.τ).loc Cert.DownFIdeal.main_arg3)), ?_, ?_⟩
  · refine (θ_run Cert.DownFIdeal.defs _ _).mono (fun r h c => ?_) (Cert.DownFIdeal.Value.run_blocks (F := Ideal) m g)
    obtain ⟨e0, e1, k⟩ := h c
    exact ⟨e0.trans (Cert.DownFIdeal.Mlp.arr_dy m c), e1.trans (Cert.DownFIdeal.Mlp.arr_sq m c), k⟩
  · refine (θ_run Cert.DownFRefIdeal.defs _ _).mono (fun r h c => ?_) (Cert.DownFRefIdeal.Value.run (F := Ideal) m' g')
    obtain ⟨e0, e1, k⟩ := h c
    obtain ⟨q0, q1, q2, q3⟩ := hagree c
    exact ⟨(e0.trans ((Cert.DownFRefIdeal.Read.val_main_v18_eq _ _ _ _).trans ((Cert.DownFIdeal.Mlp.ref_dy _ _ _ _).trans (by rw [q0, q1, q2, q3])))), (e1.trans ((Cert.DownFRefIdeal.Read.val_main_v22_eq _ _ _ _).trans ((Cert.DownFIdeal.Mlp.ref_sq _ _ _ _).trans (by rw [q0, q1, q2, q3])))), k⟩

theorem frame_InF (m : (ℓ : Loc Cert.InFRefIdeal.nD Cert.InFRefIdeal.τ Cert.InFRefIdeal.sig) → Buf (Elt Ideal) ℓ) (g : Dev Cert.InFRefIdeal.nD → PrngReg) :
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0) :=
  (θ_run Cert.InFRefIdeal.defs _ _).mono (fun r h => ⟨fun c => (h c).2, sem_eq_zero_of_no_sems (by decide) r.2⟩)
    (Cert.InFRefIdeal.Value.run (F := Ideal) m g)

theorem algebraic_InF : Cert.algebraic_InFIdeal_InFRefIdeal := by
  intro m g m' g' _ hagree
  refine ⟨fun c => Cert.InFIdeal.Mlp.prod (Cert.InFIdeal.Mlp.rows (m ((c.tc : Thread Cert.InFIdeal.nD Cert.InFIdeal.τ).loc Cert.InFIdeal.main_arg0)) (m ((c.tc : Thread Cert.InFIdeal.nD Cert.InFIdeal.τ).loc Cert.InFIdeal.main_arg1))) (m ((c.tc : Thread Cert.InFIdeal.nD Cert.InFIdeal.τ).loc Cert.InFIdeal.main_arg2)), ?_, ?_⟩
  · refine (θ_run Cert.InFIdeal.defs _ _).mono (fun r h c => ?_) (Cert.InFIdeal.Value.run_blocks (F := Ideal) m g)
    obtain ⟨e0, k⟩ := h c
    exact ⟨e0.trans (Cert.InFIdeal.Mlp.arr m c), k⟩
  · refine (θ_run Cert.InFRefIdeal.defs _ _).mono (fun r h c => ?_) (Cert.InFRefIdeal.Value.run (F := Ideal) m' g')
    obtain ⟨e0, k⟩ := h c
    obtain ⟨q0, q1, q2⟩ := hagree c
    exact ⟨(e0.trans ((Cert.InFRefIdeal.Read.val_main_v13_eq _ _ _).trans ((Cert.InFIdeal.Mlp.ref _ _ _).trans (by rw [q0, q1, q2])))), k⟩

theorem frame_InG (m : (ℓ : Loc Cert.InGRefIdeal.nD Cert.InGRefIdeal.τ Cert.InGRefIdeal.sig) → Buf (Elt Ideal) ℓ) (g : Dev Cert.InGRefIdeal.nD → PrngReg) :
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1)
      ∧ r.2.mem ((c.tc : Thread Cert.InGRefIdeal.nD Cert.InGRefIdeal.τ).loc Cert.InGRefIdeal.main_arg2) = m ((c.tc : Thread Cert.InGRefIdeal.nD Cert.InGRefIdeal.τ).loc Cert.InGRefIdeal.main_arg2))
      ∧ r.2.sem = fun _ => 0) :=
  (θ_run Cert.InGRefIdeal.defs _ _).mono (fun r h => ⟨fun c => (h c).2, sem_eq_zero_of_no_sems (by decide) r.2⟩)
    (Cert.InGRefIdeal.Value.run (F := Ideal) m g)

theorem algebraic_InG : Cert.algebraic_InGIdeal_InGRefIdeal := by
  intro m g m' g' _ hagree
  refine ⟨fun c => Cert.InGIdeal.Mlp.prod (Cert.InGIdeal.Mlp.rows (m ((c.tc : Thread Cert.InGIdeal.nD Cert.InGIdeal.τ).loc Cert.InGIdeal.main_arg0)) (m ((c.tc : Thread Cert.InGIdeal.nD Cert.InGIdeal.τ).loc Cert.InGIdeal.main_arg1))) (m ((c.tc : Thread Cert.InGIdeal.nD Cert.InGIdeal.τ).loc Cert.InGIdeal.main_arg2)), ?_, ?_⟩
  · refine (θ_run Cert.InGIdeal.defs _ _).mono (fun r h c => ?_) (Cert.InGIdeal.Value.run_blocks (F := Ideal) m g)
    obtain ⟨e0, k⟩ := h c
    exact ⟨e0.trans (Cert.InGIdeal.Mlp.arr m c), k⟩
  · refine (θ_run Cert.InGRefIdeal.defs _ _).mono (fun r h c => ?_) (Cert.InGRefIdeal.Value.run (F := Ideal) m' g')
    obtain ⟨e0, k⟩ := h c
    obtain ⟨q0, q1, q2⟩ := hagree c
    exact ⟨(e0.trans ((Cert.InGRefIdeal.Read.val_main_v13_eq _ _ _).trans ((Cert.InGIdeal.Mlp.ref _ _ _).trans (by rw [q0, q1, q2])))), k⟩

theorem frame_OutF (m : (ℓ : Loc Cert.OutFRefIdeal.nD Cert.OutFRefIdeal.τ Cert.OutFRefIdeal.sig) → Buf (Elt Ideal) ℓ) (g : Dev Cert.OutFRefIdeal.nD → PrngReg) :
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3))
      ∧ r.2.sem = fun _ => 0) :=
  (θ_run Cert.OutFRefIdeal.defs _ _).mono (fun r h => ⟨fun c => (h c).2.2, sem_eq_zero_of_no_sems (by decide) r.2⟩)
    (Cert.OutFRefIdeal.Value.run (F := Ideal) m g)

theorem algebraic_OutF : Cert.algebraic_OutFIdeal_OutFRefIdeal := by
  intro m g m' g' _ hagree
  refine ⟨fun c => Cert.OutFIdeal.Mlp.total (m ((c.tc : Thread Cert.OutFIdeal.nD Cert.OutFIdeal.τ).loc Cert.OutFIdeal.main_arg0)) (m ((c.tc : Thread Cert.OutFIdeal.nD Cert.OutFIdeal.τ).loc Cert.OutFIdeal.main_arg1)) (m ((c.tc : Thread Cert.OutFIdeal.nD Cert.OutFIdeal.τ).loc Cert.OutFIdeal.main_arg2)), fun c => Cert.OutFIdeal.Mlp.normed (m ((c.tc : Thread Cert.OutFIdeal.nD Cert.OutFIdeal.τ).loc Cert.OutFIdeal.main_arg0)) (m ((c.tc : Thread Cert.OutFIdeal.nD Cert.OutFIdeal.τ).loc Cert.OutFIdeal.main_arg1)) (m ((c.tc : Thread Cert.OutFIdeal.nD Cert.OutFIdeal.τ).loc Cert.OutFIdeal.main_arg2)) (m ((c.tc : Thread Cert.OutFIdeal.nD Cert.OutFIdeal.τ).loc Cert.OutFIdeal.main_arg3)), ?_, ?_⟩
  · refine (θ_run Cert.OutFIdeal.defs _ _).mono (fun r h c => ?_) (Cert.OutFIdeal.Value.run_blocks (F := Ideal) m g)
    obtain ⟨e0, e1, k⟩ := h c
    exact ⟨e0.trans (Cert.OutFIdeal.Mlp.arr_y m c), e1.trans (Cert.OutFIdeal.Mlp.arr_h m c), k⟩
  · refine (θ_run Cert.OutFRefIdeal.defs _ _).mono (fun r h c => ?_) (Cert.OutFRefIdeal.Value.run (F := Ideal) m' g')
    obtain ⟨e0, e1, k⟩ := h c
    obtain ⟨q0, q1, q2, q3⟩ := hagree c
    exact ⟨(e0.trans ((Cert.OutFRefIdeal.Read.val_main_v1_eq _ _ _).trans ((Cert.OutFIdeal.Mlp.ref_y _ _ _).trans (by rw [q0, q1, q2])))), (e1.trans ((Cert.OutFRefIdeal.Read.val_main_v15_eq _ _ _ _).trans ((Cert.OutFIdeal.Mlp.ref_h _ _ _ _).trans (by rw [q0, q1, q2, q3])))), k⟩

theorem frame_FoxF (m : (ℓ : Loc Cert.FoxFRefIdeal.nD Cert.FoxFRefIdeal.τ Cert.FoxFRefIdeal.sig) → Buf (Elt Ideal) ℓ) (g : Dev Cert.FoxFRefIdeal.nD → PrngReg) :
    θ_run (Cert.FoxFRefIdeal.defs (F := Ideal)) (onTc (τ := Cert.FoxFRefIdeal.τ) (Cert.FoxFRefIdeal.main (F := Ideal))) ⟨m, fun _ => 0, g⟩ (fun r => (∀ c : Dev Cert.FoxFRefIdeal.nD,
      r.2.mem ((c.tc : Thread Cert.FoxFRefIdeal.nD Cert.FoxFRefIdeal.τ).loc Cert.FoxFRefIdeal.main_arg0) = m ((c.tc : Thread Cert.FoxFRefIdeal.nD Cert.FoxFRefIdeal.τ).loc Cert.FoxFRefIdeal.main_arg0)
      ∧ r.2.mem ((c.tc : Thread Cert.FoxFRefIdeal.nD Cert.FoxFRefIdeal.τ).loc Cert.FoxFRefIdeal.main_arg1) = m ((c.tc : Thread Cert.FoxFRefIdeal.nD Cert.FoxFRefIdeal.τ).loc Cert.FoxFRefIdeal.main_arg1)
      ∧ r.2.mem ((c.tc : Thread Cert.FoxFRefIdeal.nD Cert.FoxFRefIdeal.τ).loc Cert.FoxFRefIdeal.main_arg2) = m ((c.tc : Thread Cert.FoxFRefIdeal.nD Cert.FoxFRefIdeal.τ).loc Cert.FoxFRefIdeal.main_arg2)
      ∧ r.2.mem ((c.tc : Thread Cert.FoxFRefIdeal.nD Cert.FoxFRefIdeal.τ).loc Cert.FoxFRefIdeal.main_arg3) = m ((c.tc : Thread Cert.FoxFRefIdeal.nD Cert.FoxFRefIdeal.τ).loc Cert.FoxFRefIdeal.main_arg3))
      ∧ r.2.sem = fun _ => 0) :=
  (θ_run Cert.FoxFRefIdeal.defs _ _).mono (fun r h => ⟨fun c => (h c).2, sem_eq_zero_of_no_sems (by decide) r.2⟩)
    (Cert.FoxFRefIdeal.Value.run (F := Ideal) m g)

theorem algebraic_FoxF : Cert.algebraic_FoxFIdeal_FoxFRefIdeal_pre_finite_fwd := by
  intro m g m' g' hpre hagree
  have hD : ∀ c : Dev Cert.FoxFIdeal.nD, ∃ D, Cert.FoxFIdeal.Mlp.HoldsMem m c D := fun c => Cert.FoxFRefIdeal.Fox.known _ _ _ _ (hpre c).1 (hpre c).2.1 (hpre c).2.2
  choose D hD using hD
  refine ⟨fun c => Cert.FoxFRefIdeal.Fox.out (D c) (m ((c.tc : Thread Cert.FoxFIdeal.nD Cert.FoxFIdeal.τ).loc Cert.FoxFIdeal.main_arg2)), ?_, ?_⟩
  · refine (θ_run Cert.FoxFIdeal.defs _ _).mono (fun r h c => ?_) (Cert.FoxFIdeal.Value.run_blocks (F := Ideal) m g)
    obtain ⟨e0, k⟩ := h c
    exact ⟨e0.trans (Cert.FoxFIdeal.Mlp.arr (hD c)), k⟩
  · refine (θ_run Cert.FoxFRefIdeal.defs _ _).mono (fun r h c => ?_) (Cert.FoxFRefIdeal.Value.run (F := Ideal) m' g')
    obtain ⟨e0, k⟩ := h c
    obtain ⟨q0, q1, q2, q3⟩ := hagree c
    have hD' : Cert.FoxFRefIdeal.Fox.Known (m' ((c.tc : Thread Cert.FoxFRefIdeal.nD Cert.FoxFRefIdeal.τ).loc Cert.FoxFRefIdeal.main_arg0)) (m' ((c.tc : Thread Cert.FoxFRefIdeal.nD Cert.FoxFRefIdeal.τ).loc Cert.FoxFRefIdeal.main_arg1)) (m' ((c.tc : Thread Cert.FoxFRefIdeal.nD Cert.FoxFRefIdeal.τ).loc Cert.FoxFRefIdeal.main_arg3)) (D c) := by
      rw [q0, q1, q3]
      exact hD c
    exact ⟨e0.trans ((Cert.FoxFRefIdeal.Read.val_main_v34_eq m' c).trans ((Cert.FoxFRefIdeal.Fox.ref hD').trans (congrArg (Cert.FoxFRefIdeal.Fox.out (D c)) q2))), k⟩

theorem claim : Cert.Claim :=
  ⟨Cert.Kernel.Gen.facts, Cert.KernelIdeal.Gen.facts, Cert.ReferenceIdeal.Gen.facts,
    Cert.DownX.Gen.facts, Cert.DownXIdeal.Gen.facts, Cert.DownXRefIdeal.Gen.facts,
    Cert.DownW.Gen.facts, Cert.DownWIdeal.Gen.facts, Cert.DownWRefIdeal.Gen.facts,
    Cert.UpX.Gen.facts, Cert.UpXIdeal.Gen.facts, Cert.UpXRefIdeal.Gen.facts,
    Cert.UpW.Gen.facts, Cert.UpWIdeal.Gen.facts, Cert.UpWRefIdeal.Gen.facts,
    Cert.InM.Gen.facts, Cert.InMIdeal.Gen.facts, Cert.InMRefIdeal.Gen.facts,
    Cert.InX.Gen.facts, Cert.InXIdeal.Gen.facts, Cert.InXRefIdeal.Gen.facts,
    Cert.InW.Gen.facts, Cert.InWIdeal.Gen.facts, Cert.InWRefIdeal.Gen.facts,
    Cert.InS.Gen.facts, Cert.InSIdeal.Gen.facts, Cert.InSRefIdeal.Gen.facts,
    Cert.OutX.Gen.facts, Cert.OutXIdeal.Gen.facts, Cert.OutXRefIdeal.Gen.facts,
    Cert.OutW.Gen.facts, Cert.OutWIdeal.Gen.facts, Cert.OutWRefIdeal.Gen.facts,
    Cert.UpF.Gen.facts, Cert.UpFIdeal.Gen.facts, Cert.UpFRefIdeal.Gen.facts,
    Cert.DownN.Gen.facts, Cert.DownNIdeal.Gen.facts, Cert.DownNRefIdeal.Gen.facts,
    Cert.DownF.Gen.facts, Cert.DownFIdeal.Gen.facts, Cert.DownFRefIdeal.Gen.facts,
    Cert.InF.Gen.facts, Cert.InFIdeal.Gen.facts, Cert.InFRefIdeal.Gen.facts,
    Cert.InG.Gen.facts, Cert.InGIdeal.Gen.facts, Cert.InGRefIdeal.Gen.facts,
    Cert.OutF.Gen.facts, Cert.OutFIdeal.Gen.facts, Cert.OutFRefIdeal.Gen.facts,
    Cert.FoxF.Gen.facts, Cert.FoxFIdeal.Gen.facts, Cert.FoxFRefIdeal.Gen.facts, Cert.Pre_finite.Gen.facts, Cert.Pre_finite_fwd.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.DownX.Gen.frame m g, fun m g _ => Cert.DownXIdeal.Gen.frame m g, fun m g _ => frame_DownX m g,
    fun m g _ => Cert.DownW.Gen.frame m g, fun m g _ => Cert.DownWIdeal.Gen.frame m g, fun m g _ => frame_DownW m g,
    fun m g _ => Cert.UpX.Gen.frame m g, fun m g _ => Cert.UpXIdeal.Gen.frame m g, fun m g _ => frame_UpX m g,
    fun m g _ => Cert.UpW.Gen.frame m g, fun m g _ => Cert.UpWIdeal.Gen.frame m g, fun m g _ => frame_UpW m g,
    fun m g _ => Cert.InM.Gen.frame m g, fun m g _ => Cert.InMIdeal.Gen.frame m g, fun m g _ => frame_InM m g,
    fun m g _ => Cert.InX.Gen.frame m g, fun m g _ => Cert.InXIdeal.Gen.frame m g, fun m g _ => frame_InX m g,
    fun m g _ => Cert.InW.Gen.frame m g, fun m g _ => Cert.InWIdeal.Gen.frame m g, fun m g _ => frame_InW m g,
    fun m g _ => Cert.InS.Gen.frame m g, fun m g _ => Cert.InSIdeal.Gen.frame m g, fun m g _ => frame_InS m g,
    fun m g _ => Cert.OutX.Gen.frame m g, fun m g _ => Cert.OutXIdeal.Gen.frame m g, fun m g _ => frame_OutX m g,
    fun m g _ => Cert.OutW.Gen.frame m g, fun m g _ => Cert.OutWIdeal.Gen.frame m g, fun m g _ => frame_OutW m g,
    fun m g _ => Cert.UpF.Gen.frame m g, fun m g _ => Cert.UpFIdeal.Gen.frame m g, fun m g _ => frame_UpF m g,
    fun m g _ => Cert.DownN.Gen.frame m g, fun m g _ => Cert.DownNIdeal.Gen.frame m g, fun m g _ => frame_DownN m g,
    fun m g _ => Cert.DownF.Gen.frame m g, fun m g _ => Cert.DownFIdeal.Gen.frame m g, fun m g _ => frame_DownF m g,
    fun m g _ => Cert.InF.Gen.frame m g, fun m g _ => Cert.InFIdeal.Gen.frame m g, fun m g _ => frame_InF m g,
    fun m g _ => Cert.InG.Gen.frame m g, fun m g _ => Cert.InGIdeal.Gen.frame m g, fun m g _ => frame_InG m g,
    fun m g _ => Cert.OutF.Gen.frame m g, fun m g _ => Cert.OutFIdeal.Gen.frame m g, fun m g _ => frame_OutF m g,
    fun m g _ => Cert.FoxF.Gen.frame m g, fun m g _ => Cert.FoxFIdeal.Gen.frame m g, fun m g _ => Cert.FoxFIdeal.Gen.frame m g, fun m g _ => frame_FoxF m g, fun m g _ => frame_FoxF m g,
    trivial, algebraic, trivial, algebraic_DownX, trivial, algebraic_DownW, trivial, algebraic_UpX, trivial, algebraic_UpW, trivial, algebraic_InM, trivial, algebraic_InX, trivial, algebraic_InW, trivial, algebraic_InS, trivial, algebraic_OutX, trivial, algebraic_OutW, trivial, algebraic_UpF, trivial, algebraic_DownN, trivial, algebraic_DownF, trivial, algebraic_InF, trivial, algebraic_InG, trivial, algebraic_OutF, trivial, algebraic_FoxF⟩

end Cert.Proof

end
